-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S16x4x64x128x128 : Shape := ⟨5, ![16, 4, 64, 128, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16x4x64x128x128 : S_.BroadcastsInDim S16x4x64x128x128 (![] : Fin 0 → Fin S16x4x64x128x128.rank)
  reducesTo_S16x4x64x128x128_S_d0_1_2_3_4 : S16x4x64x128x128.ReducesTo [0, 1, 2, 3, 4] S_

variable [Facts]

def fn {F : FTy → Type} [FloatOps F] (main_arg0 : FVec F S1x256x1024 .f32) (main_arg1 : FVec F S1024x1024 .f32) (main_arg2 : FVec F S16x4x64x128x128 .f32) (main_arg3 : FVec F S16x4x64x128x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S16x4x64x128x128 .f32 := Host.absf main_arg2
  let main_cst_2 : FVec F S_ .f32 := constant S_ .f32 0x7F800000#32
  let main_v10 : FVec F S16x4x64x128x128 .f32 := broadcastInDim S16x4x64x128x128 ![] bcast_S_S16x4x64x128x128 main_cst_2
  let main_v11 : IVec S16x4x64x128x128 1 := cmpf .olt main_v9 main_v10
  let main_c_3 : IVec S_ 1 := constantI S_ 1 1#1
  let main_v12 : IVec S_ 1 := (fun x v => Host.reduce IntOp.andi x v reducesTo_S16x4x64x128x128_S_d0_1_2_3_4 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x16384 : Shape := ⟨2, ![1024, 16384]⟩
abbrev S16x4x64x128x128 : Shape := ⟨5, ![16, 4, 64, 128, 128]⟩
abbrev S16384x1024 : Shape := ⟨2, ![16384, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S16x4x64x128x128 : S_.BroadcastsInDim S16x4x64x128x128 (![] : Fin 0 → Fin S16x4x64x128x128.rank)
  reducesTo_S16x4x64x128x128_S_d0_1_2_3_4 : S16x4x64x128x128.ReducesTo [0, 1, 2, 3, 4] S_

variable [Facts]

def fn {F : FTy → Type} [FloatOps F] (main_arg0 : FVec F S1x256x1024 .f32) (main_arg1 : FVec F S1024x16384 .f32) (main_arg2 : FVec F S16x4x64x128x128 .f32) (main_arg3 : FVec F S16x4x64x128x128 .f32) (main_arg4 : FVec F S16384x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S16x4x64x128x128 .f32 := Host.absf main_arg2
  let main_cst_2 : FVec F S_ .f32 := constant S_ .f32 0x7F800000#32
  let main_v10 : FVec F S16x4x64x128x128 .f32 := broadcastInDim S16x4x64x128x128 ![] bcast_S_S16x4x64x128x128 main_cst_2
  let main_v11 : IVec S16x4x64x128x128 1 := cmpf .olt main_v9 main_v10
  let main_c_3 : IVec S_ 1 := constantI S_ 1 1#1
  let main_v12 : IVec S_ 1 := (fun x v => Host.reduce IntOp.andi x v reducesTo_S16x4x64x128x128_S_d0_1_2_3_4 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S16x4x64x128x128 : Shape := ⟨5, ![16, 4, 64, 128, 128]⟩
abbrev S2x8x16x64x128 : Shape := ⟨5, ![2, 8, 16, 64, 128]⟩
abbrev S256x1024 : Shape := ⟨2, ![256, 1024]⟩
abbrev S16x16x1024 : Shape := ⟨3, ![16, 16, 1024]⟩
abbrev S2x2 : Shape := ⟨2, ![2, 2]⟩
abbrev S16 : Shape := ⟨1, ![16]⟩
abbrev S_ : Shape := ⟨0, ![]⟩
abbrev S1x1 : Shape := ⟨2, ![1, 1]⟩
abbrev S1x1x16x64x128 : Shape := ⟨5, ![1, 1, 16, 64, 128]⟩
abbrev S16x64x128 : Shape := ⟨3, ![16, 64, 128]⟩
abbrev S16x1x64x1x128 : Shape := ⟨5, ![16, 1, 64, 1, 128]⟩
abbrev S64x128 : Shape := ⟨2, ![64, 128]⟩
abbrev S1024x128 : Shape := ⟨2, ![1024, 128]⟩
abbrev S64x1024 : Shape := ⟨2, ![64, 1024]⟩
abbrev S64 : Shape := ⟨1, ![64]⟩
abbrev S64x1 : Shape := ⟨2, ![64, 1]⟩
abbrev S1 : Shape := ⟨1, ![1]⟩
abbrev S1x16x1024 : Shape := ⟨3, ![1, 16, 1024]⟩
abbrev S16x1024 : Shape := ⟨2, ![16, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S16x4x64x128x128, .f32⟩
  | .hbm, ⟨3, _⟩ => ⟨S16x4x64x128x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S2x8x16x64x128, .f32⟩
  | .local _ .vmem, ⟨5, _⟩ => ⟨S2x8x16x64x128, .f32⟩
  | .local _ .vmem, ⟨6, _⟩ => ⟨S256x1024, .bf16⟩
  | .local _ .vmem, ⟨7, _⟩ => ⟨S16x16x1024, .bf16⟩
  | .local _ .vmem, ⟨8, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.addi v2 c1_i32_0
  let c16_i32_1 : BitVec 32 := 16#32
  let c0_i32 : BitVec 32 := 0#32
  let v6 : BitVec 1 := Scalar.cmpi .eq c16_i32_1 c0_i32
  let c1_i32_2 : BitVec 32 := 1#32
  let v7 : BitVec 32 := Scalar.select v6 c1_i32_2 c16_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_7 : BitVec 32 := 1#32
  let v16 : BitVec 32 := Scalar.muli v15 c1_i32_7
  let v17 : BitVec 32 := Scalar.addi c0_i32_8 v16
  v17.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v18 : BitVec 32 := Scalar.addi v2 c2_i32
  let c16_i32_9 : BitVec 32 := 16#32
  let c0_i32_10 : BitVec 32 := 0#32
  let v19 : BitVec 1 := Scalar.cmpi .eq c16_i32_9 c0_i32_10
  let c1_i32_11 : BitVec 32 := 1#32
  let v20 : BitVec 32 := Scalar.select v19 c1_i32_11 c16_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_16 : BitVec 32 := 1#32
  let v29 : BitVec 32 := Scalar.muli v28 c1_i32_16
  let v30 : BitVec 32 := Scalar.addi c0_i32_17 v29
  v30.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v31 : BitVec 32 := Scalar.addi v2 c3_i32
  let c16_i32_18 : BitVec 32 := 16#32
  let c0_i32_19 : BitVec 32 := 0#32
  let v32 : BitVec 1 := Scalar.cmpi .eq c16_i32_18 c0_i32_19
  let c1_i32_20 : BitVec 32 := 1#32
  let v33 : BitVec 32 := Scalar.select v32 c1_i32_20 c16_i32_18
  let v34 : BitVec 32 := Scalar.remsi v31 v33
  let c0_i32_22 : BitVec 32 := 0#32
  let v36 : BitVec 1 := Scalar.cmpi .slt v34 c0_i32_22
  let c0_i32_23 : BitVec 32 := 0#32
  let v37 : BitVec 1 := Scalar.cmpi .slt v33 c0_i32_23
  let v38 : BitVec 1 := Scalar.xori v36 v37
  let c0_i32_21 : BitVec 32 := 0#32
  let v35 : BitVec 1 := Scalar.cmpi .ne v34 c0_i32_21
  let v39 : BitVec 1 := Scalar.andi v38 v35
  let v40 : BitVec 32 := Scalar.addi v34 v33
  let v41 : BitVec 32 := Scalar.select v39 v40 v34
  let c1_i32_25 : BitVec 32 := 1#32
  let v42 : BitVec 32 := Scalar.muli v41 c1_i32_25
  let v43 : BitVec 32 := Scalar.addi c0_i32_26 v42
  v43.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v44 : BitVec 32 := Scalar.addi v2 c4_i32
  let c16_i32_27 : BitVec 32 := 16#32
  let c0_i32_28 : BitVec 32 := 0#32
  let v45 : BitVec 1 := Scalar.cmpi .eq c16_i32_27 c0_i32_28
  let c1_i32_29 : BitVec 32 := 1#32
  let v46 : BitVec 32 := Scalar.select v45 c1_i32_29 c16_i32_27
  let v47 : BitVec 32 := Scalar.remsi v44 v46
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let c0_i32_30 : BitVec 32 := 0#32
  let v48 : BitVec 1 := Scalar.cmpi .ne v47 c0_i32_30
  let v52 : BitVec 1 := Scalar.andi v51 v48
  let v53 : BitVec 32 := Scalar.addi v47 v46
  let v54 : BitVec 32 := Scalar.select v52 v53 v47
  let c1_i32_34 : BitVec 32 := 1#32
  let v55 : BitVec 32 := Scalar.muli v54 c1_i32_34
  let v56 : BitVec 32 := Scalar.addi c0_i32_35 v55
  v56.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v57 : BitVec 32 := Scalar.addi v2 c5_i32
  let c16_i32_36 : BitVec 32 := 16#32
  let c0_i32_37 : BitVec 32 := 0#32
  let v58 : BitVec 1 := Scalar.cmpi .eq c16_i32_36 c0_i32_37
  let c1_i32_38 : BitVec 32 := 1#32
  let v59 : BitVec 32 := Scalar.select v58 c1_i32_38 c16_i32_36
  let v60 : BitVec 32 := Scalar.remsi v57 v59
  let c0_i32_40 : BitVec 32 := 0#32
  let v62 : BitVec 1 := Scalar.cmpi .slt v60 c0_i32_40
  let c0_i32_41 : BitVec 32 := 0#32
  let v63 : BitVec 1 := Scalar.cmpi .slt v59 c0_i32_41
  let v64 : BitVec 1 := Scalar.xori v62 v63
  let c0_i32_39 : BitVec 32 := 0#32
  let v61 : BitVec 1 := Scalar.cmpi .ne v60 c0_i32_39
  let v65 : BitVec 1 := Scalar.andi v64 v61
  let v66 : BitVec 32 := Scalar.addi v60 v59
  let v67 : BitVec 32 := Scalar.select v65 v66 v60
  let c1_i32_43 : BitVec 32 := 1#32
  let v68 : BitVec 32 := Scalar.muli v67 c1_i32_43
  let v69 : BitVec 32 := Scalar.addi c0_i32_44 v68
  v69.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v70 : BitVec 32 := Scalar.addi v2 c6_i32
  let c16_i32_45 : BitVec 32 := 16#32
  let c0_i32_46 : BitVec 32 := 0#32
  let v71 : BitVec 1 := Scalar.cmpi .eq c16_i32_45 c0_i32_46
  let c1_i32_47 : BitVec 32 := 1#32
  let v72 : BitVec 32 := Scalar.select v71 c1_i32_47 c16_i32_45
  let v73 : BitVec 32 := Scalar.remsi v70 v72
  let c0_i32_49 : BitVec 32 := 0#32
  let v75 : BitVec 1 := Scalar.cmpi .slt v73 c0_i32_49
  let c0_i32_50 : BitVec 32 := 0#32
  let v76 : BitVec 1 := Scalar.cmpi .slt v72 c0_i32_50
  let v77 : BitVec 1 := Scalar.xori v75 v76
  let c0_i32_48 : BitVec 32 := 0#32
  let v74 : BitVec 1 := Scalar.cmpi .ne v73 c0_i32_48
  let v78 : BitVec 1 := Scalar.andi v77 v74
  let v79 : BitVec 32 := Scalar.addi v73 v72
  let v80 : BitVec 32 := Scalar.select v78 v79 v73
  let c1_i32_52 : BitVec 32 := 1#32
  let v81 : BitVec 32 := Scalar.muli v80 c1_i32_52
  let v82 : BitVec 32 := Scalar.addi c0_i32_53 v81
  v82.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v83 : BitVec 32 := Scalar.addi v2 c7_i32
  let c16_i32_54 : BitVec 32 := 16#32
  let c0_i32_55 : BitVec 32 := 0#32
  let v84 : BitVec 1 := Scalar.cmpi .eq c16_i32_54 c0_i32_55
  let c1_i32_56 : BitVec 32 := 1#32
  let v85 : BitVec 32 := Scalar.select v84 c1_i32_56 c16_i32_54
  let v86 : BitVec 32 := Scalar.remsi v83 v85
  let c0_i32_58 : BitVec 32 := 0#32
  let v88 : BitVec 1 := Scalar.cmpi .slt v86 c0_i32_58
  let c0_i32_59 : BitVec 32 := 0#32
  let v89 : BitVec 1 := Scalar.cmpi .slt v85 c0_i32_59
  let v90 : BitVec 1 := Scalar.xori v88 v89
  let c0_i32_57 : BitVec 32 := 0#32
  let v87 : BitVec 1 := Scalar.cmpi .ne v86 c0_i32_57
  let v91 : BitVec 1 := Scalar.andi v90 v87
  let v92 : BitVec 32 := Scalar.addi v86 v85
  let v93 : BitVec 32 := Scalar.select v91 v92 v86
  let c1_i32_61 : BitVec 32 := 1#32
  let v94 : BitVec 32 := Scalar.muli v93 c1_i32_61
  let v95 : BitVec 32 := Scalar.addi c0_i32_62 v94
  v95.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_63 : BitVec 32 := 8#32
  let v96 : BitVec 32 := Scalar.addi v2 c8_i32_63
  let c16_i32_64 : BitVec 32 := 16#32
  let c0_i32_65 : BitVec 32 := 0#32
  let v97 : BitVec 1 := Scalar.cmpi .eq c16_i32_64 c0_i32_65
  let c1_i32_66 : BitVec 32 := 1#32
  let v98 : BitVec 32 := Scalar.select v97 c1_i32_66 c16_i32_64
  let v99 : BitVec 32 := Scalar.remsi v96 v98
  let c0_i32_68 : BitVec 32 := 0#32
  let v101 : BitVec 1 := Scalar.cmpi .slt v99 c0_i32_68
  let c0_i32_69 : BitVec 32 := 0#32
  let v102 : BitVec 1 := Scalar.cmpi .slt v98 c0_i32_69
  let v103 : BitVec 1 := Scalar.xori v101 v102
  let c0_i32_67 : BitVec 32 := 0#32
  let v100 : BitVec 1 := Scalar.cmpi .ne v99 c0_i32_67
  let v104 : BitVec 1 := Scalar.andi v103 v100
  let v105 : BitVec 32 := Scalar.addi v99 v98
  let v106 : BitVec 32 := Scalar.select v104 v105 v99
  let c1_i32_71 : BitVec 32 := 1#32
  let v107 : BitVec 32 := Scalar.muli v106 c1_i32_71
  let v108 : BitVec 32 := Scalar.addi c0_i32_72 v107
  v108.toNat
def k0_dev9 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v109 : BitVec 32 := Scalar.addi v2 c9_i32
  let c16_i32_73 : BitVec 32 := 16#32
  let c0_i32_74 : BitVec 32 := 0#32
  let v110 : BitVec 1 := Scalar.cmpi .eq c16_i32_73 c0_i32_74
  let c1_i32_75 : BitVec 32 := 1#32
  let v111 : BitVec 32 := Scalar.select v110 c1_i32_75 c16_i32_73
  let v112 : BitVec 32 := Scalar.remsi v109 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let c1_i32_80 : BitVec 32 := 1#32
  let v120 : BitVec 32 := Scalar.muli v119 c1_i32_80
  let v121 : BitVec 32 := Scalar.addi c0_i32_81 v120
  v121.toNat
def k0_dev10 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v122 : BitVec 32 := Scalar.addi v2 c10_i32
  let c16_i32_82 : BitVec 32 := 16#32
  let c0_i32_83 : BitVec 32 := 0#32
  let v123 : BitVec 1 := Scalar.cmpi .eq c16_i32_82 c0_i32_83
  let c1_i32_84 : BitVec 32 := 1#32
  let v124 : BitVec 32 := Scalar.select v123 c1_i32_84 c16_i32_82
  let v125 : BitVec 32 := Scalar.remsi v122 v124
  let c0_i32_86 : BitVec 32 := 0#32
  let v127 : BitVec 1 := Scalar.cmpi .slt v125 c0_i32_86
  let c0_i32_87 : BitVec 32 := 0#32
  let v128 : BitVec 1 := Scalar.cmpi .slt v124 c0_i32_87
  let v129 : BitVec 1 := Scalar.xori v127 v128
  let c0_i32_85 : BitVec 32 := 0#32
  let v126 : BitVec 1 := Scalar.cmpi .ne v125 c0_i32_85
  let v130 : BitVec 1 := Scalar.andi v129 v126
  let v131 : BitVec 32 := Scalar.addi v125 v124
  let v132 : BitVec 32 := Scalar.select v130 v131 v125
  let c1_i32_89 : BitVec 32 := 1#32
  let v133 : BitVec 32 := Scalar.muli v132 c1_i32_89
  let v134 : BitVec 32 := Scalar.addi c0_i32_90 v133
  v134.toNat
def k0_dev11 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v135 : BitVec 32 := Scalar.addi v2 c11_i32
  let c16_i32_91 : BitVec 32 := 16#32
  let c0_i32_92 : BitVec 32 := 0#32
  let v136 : BitVec 1 := Scalar.cmpi .eq c16_i32_91 c0_i32_92
  let c1_i32_93 : BitVec 32 := 1#32
  let v137 : BitVec 32 := Scalar.select v136 c1_i32_93 c16_i32_91
  let v138 : BitVec 32 := Scalar.remsi v135 v137
  let c0_i32_95 : BitVec 32 := 0#32
  let v140 : BitVec 1 := Scalar.cmpi .slt v138 c0_i32_95
  let c0_i32_96 : BitVec 32 := 0#32
  let v141 : BitVec 1 := Scalar.cmpi .slt v137 c0_i32_96
  let v142 : BitVec 1 := Scalar.xori v140 v141
  let c0_i32_94 : BitVec 32 := 0#32
  let v139 : BitVec 1 := Scalar.cmpi .ne v138 c0_i32_94
  let v143 : BitVec 1 := Scalar.andi v142 v139
  let v144 : BitVec 32 := Scalar.addi v138 v137
  let v145 : BitVec 32 := Scalar.select v143 v144 v138
  let c1_i32_98 : BitVec 32 := 1#32
  let v146 : BitVec 32 := Scalar.muli v145 c1_i32_98
  let v147 : BitVec 32 := Scalar.addi c0_i32_99 v146
  v147.toNat
def k0_dev12 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v148 : BitVec 32 := Scalar.addi v2 c12_i32
  let c16_i32_100 : BitVec 32 := 16#32
  let c0_i32_101 : BitVec 32 := 0#32
  let v149 : BitVec 1 := Scalar.cmpi .eq c16_i32_100 c0_i32_101
  let c1_i32_102 : BitVec 32 := 1#32
  let v150 : BitVec 32 := Scalar.select v149 c1_i32_102 c16_i32_100
  let v151 : BitVec 32 := Scalar.remsi v148 v150
  let c0_i32_104 : BitVec 32 := 0#32
  let v153 : BitVec 1 := Scalar.cmpi .slt v151 c0_i32_104
  let c0_i32_105 : BitVec 32 := 0#32
  let v154 : BitVec 1 := Scalar.cmpi .slt v150 c0_i32_105
  let v155 : BitVec 1 := Scalar.xori v153 v154
  let c0_i32_103 : BitVec 32 := 0#32
  let v152 : BitVec 1 := Scalar.cmpi .ne v151 c0_i32_103
  let v156 : BitVec 1 := Scalar.andi v155 v152
  let v157 : BitVec 32 := Scalar.addi v151 v150
  let v158 : BitVec 32 := Scalar.select v156 v157 v151
  let c1_i32_107 : BitVec 32 := 1#32
  let v159 : BitVec 32 := Scalar.muli v158 c1_i32_107
  let v160 : BitVec 32 := Scalar.addi c0_i32_108 v159
  v160.toNat
def k0_dev13 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v161 : BitVec 32 := Scalar.addi v2 c13_i32
  let c16_i32_109 : BitVec 32 := 16#32
  let c0_i32_110 : BitVec 32 := 0#32
  let v162 : BitVec 1 := Scalar.cmpi .eq c16_i32_109 c0_i32_110
  let c1_i32_111 : BitVec 32 := 1#32
  let v163 : BitVec 32 := Scalar.select v162 c1_i32_111 c16_i32_109
  let v164 : BitVec 32 := Scalar.remsi v161 v163
  let c0_i32_113 : BitVec 32 := 0#32
  let v166 : BitVec 1 := Scalar.cmpi .slt v164 c0_i32_113
  let c0_i32_114 : BitVec 32 := 0#32
  let v167 : BitVec 1 := Scalar.cmpi .slt v163 c0_i32_114
  let v168 : BitVec 1 := Scalar.xori v166 v167
  let c0_i32_112 : BitVec 32 := 0#32
  let v165 : BitVec 1 := Scalar.cmpi .ne v164 c0_i32_112
  let v169 : BitVec 1 := Scalar.andi v168 v165
  let v170 : BitVec 32 := Scalar.addi v164 v163
  let v171 : BitVec 32 := Scalar.select v169 v170 v164
  let c1_i32_116 : BitVec 32 := 1#32
  let v172 : BitVec 32 := Scalar.muli v171 c1_i32_116
  let v173 : BitVec 32 := Scalar.addi c0_i32_117 v172
  v173.toNat
def k0_dev14 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v174 : BitVec 32 := Scalar.addi v2 c14_i32
  let c16_i32_118 : BitVec 32 := 16#32
  let c0_i32_119 : BitVec 32 := 0#32
  let v175 : BitVec 1 := Scalar.cmpi .eq c16_i32_118 c0_i32_119
  let c1_i32_120 : BitVec 32 := 1#32
  let v176 : BitVec 32 := Scalar.select v175 c1_i32_120 c16_i32_118
  let v177 : BitVec 32 := Scalar.remsi v174 v176
  let c0_i32_122 : BitVec 32 := 0#32
  let v179 : BitVec 1 := Scalar.cmpi .slt v177 c0_i32_122
  let c0_i32_123 : BitVec 32 := 0#32
  let v180 : BitVec 1 := Scalar.cmpi .slt v176 c0_i32_123
  let v181 : BitVec 1 := Scalar.xori v179 v180
  let c0_i32_121 : BitVec 32 := 0#32
  let v178 : BitVec 1 := Scalar.cmpi .ne v177 c0_i32_121
  let v182 : BitVec 1 := Scalar.andi v181 v178
  let v183 : BitVec 32 := Scalar.addi v177 v176
  let v184 : BitVec 32 := Scalar.select v182 v183 v177
  let c1_i32_125 : BitVec 32 := 1#32
  let v185 : BitVec 32 := Scalar.muli v184 c1_i32_125
  let v186 : BitVec 32 := Scalar.addi c0_i32_126 v185
  v186.toNat
def k0_dev15 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v187 : BitVec 32 := Scalar.addi v2 c15_i32
  let c16_i32_127 : BitVec 32 := 16#32
  let c0_i32_128 : BitVec 32 := 0#32
  let v188 : BitVec 1 := Scalar.cmpi .eq c16_i32_127 c0_i32_128
  let c1_i32_129 : BitVec 32 := 1#32
  let v189 : BitVec 32 := Scalar.select v188 c1_i32_129 c16_i32_127
  let v190 : BitVec 32 := Scalar.remsi v187 v189
  let c0_i32_131 : BitVec 32 := 0#32
  let v192 : BitVec 1 := Scalar.cmpi .slt v190 c0_i32_131
  let c0_i32_132 : BitVec 32 := 0#32
  let v193 : BitVec 1 := Scalar.cmpi .slt v189 c0_i32_132
  let v194 : BitVec 1 := Scalar.xori v192 v193
  let c0_i32_130 : BitVec 32 := 0#32
  let v191 : BitVec 1 := Scalar.cmpi .ne v190 c0_i32_130
  let v195 : BitVec 1 := Scalar.andi v194 v191
  let v196 : BitVec 32 := Scalar.addi v190 v189
  let v197 : BitVec 32 := Scalar.select v195 v196 v190
  let c1_i32_134 : BitVec 32 := 1#32
  let v198 : BitVec 32 := Scalar.muli v197 c1_i32_134
  let v199 : BitVec 32 := Scalar.addi c0_i32_135 v198
  v199.toNat
def k0_off1 (d0 : Dev nD) (c0_i32_137 : BitVec 32) : Fin 5 → Nat :=
  let c0_i32_146 : BitVec 32 := 0#32
  let c0_i32_138 : BitVec 32 := 0#32
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_148 : BitVec 32 := 0#32
  ![0, 0, 0, v200.toNat, 0]
def k0_off2 (d0 : Dev nD) (c0_i32_335 : BitVec 32) : Fin 5 → Nat :=
  let c0_i32_344 : BitVec 32 := 0#32
  let c1_i32_336 : BitVec 32 := 1#32
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v323 : BitVec 32 := Scalar.addi v3 c0_i32_335
  let c0_i32_346 : BitVec 32 := 0#32
  ![0, 1, 0, v323.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_834 : BitVec 32 := 0#32
  let c0_i32_827 : BitVec 32 := 0#32
  let v706 : BitVec 32 := Scalar.addi v2 c0_i32_827
  let c4_i32_828 : BitVec 32 := 4#32
  let c0_i32_829 : BitVec 32 := 0#32
  let v707 : BitVec 1 := Scalar.cmpi .eq c4_i32_828 c0_i32_829
  let c1_i32_830 : BitVec 32 := 1#32
  let v708 : BitVec 32 := Scalar.select v707 c1_i32_830 c4_i32_828
  let v709 : BitVec 32 := Scalar.remsi v706 v708
  let c0_i32_832 : BitVec 32 := 0#32
  let v711 : BitVec 1 := Scalar.cmpi .slt v709 c0_i32_832
  let c0_i32_833 : BitVec 32 := 0#32
  let v712 : BitVec 1 := Scalar.cmpi .slt v708 c0_i32_833
  let v713 : BitVec 1 := Scalar.xori v711 v712
  let c0_i32_831 : BitVec 32 := 0#32
  let v710 : BitVec 1 := Scalar.cmpi .ne v709 c0_i32_831
  let v714 : BitVec 1 := Scalar.andi v713 v710
  let v715 : BitVec 32 := Scalar.addi v709 v708
  let v716 : BitVec 32 := Scalar.select v714 v715 v709
  let v717 : BitVec 32 := Scalar.addi c0_i32_834 v716
  let v718 : BitVec 1 := Scalar.cmpi .ne v2 v717
  let v719 : BitVec 32 := Scalar.extui v718
  let c0_i32_835 : BitVec 32 := 0#32
  let v720 : BitVec 1 := Scalar.cmpi .ne v719 c0_i32_835
  v720

def k0_off3 (d0 : Dev nD) : Fin 1 → Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_827 : BitVec 32 := 0#32
  let v706 : BitVec 32 := Scalar.addi v2 c0_i32_827
  let c4_i32_828 : BitVec 32 := 4#32
  let c0_i32_829 : BitVec 32 := 0#32
  let v707 : BitVec 1 := Scalar.cmpi .eq c4_i32_828 c0_i32_829
  let c1_i32_830 : BitVec 32 := 1#32
  let v708 : BitVec 32 := Scalar.select v707 c1_i32_830 c4_i32_828
  let v709 : BitVec 32 := Scalar.remsi v706 v708
  let c0_i32_832 : BitVec 32 := 0#32
  let v711 : BitVec 1 := Scalar.cmpi .slt v709 c0_i32_832
  let c0_i32_833 : BitVec 32 := 0#32
  let v712 : BitVec 1 := Scalar.cmpi .slt v708 c0_i32_833
  let v713 : BitVec 1 := Scalar.xori v711 v712
  let c0_i32_831 : BitVec 32 := 0#32
  let v710 : BitVec 1 := Scalar.cmpi .ne v709 c0_i32_831
  let v714 : BitVec 1 := Scalar.andi v713 v710
  let v715 : BitVec 32 := Scalar.addi v709 v708
  let v716 : BitVec 32 := Scalar.select v714 v715 v709
  let v717 : BitVec 32 := Scalar.addi c0_i32_834 v716
  ![v717.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off6 (d0 : Dev nD) : Fin 2 → Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_827 : BitVec 32 := 0#32
  let v706 : BitVec 32 := Scalar.addi v2 c0_i32_827
  let c4_i32_828 : BitVec 32 := 4#32
  let c0_i32_829 : BitVec 32 := 0#32
  let v707 : BitVec 1 := Scalar.cmpi .eq c4_i32_828 c0_i32_829
  let c1_i32_830 : BitVec 32 := 1#32
  let v708 : BitVec 32 := Scalar.select v707 c1_i32_830 c4_i32_828
  let v709 : BitVec 32 := Scalar.remsi v706 v708
  let c0_i32_832 : BitVec 32 := 0#32
  let v711 : BitVec 1 := Scalar.cmpi .slt v709 c0_i32_832
  let c0_i32_833 : BitVec 32 := 0#32
  let v712 : BitVec 1 := Scalar.cmpi .slt v708 c0_i32_833
  let v713 : BitVec 1 := Scalar.xori v711 v712
  let c0_i32_831 : BitVec 32 := 0#32
  let v710 : BitVec 1 := Scalar.cmpi .ne v709 c0_i32_831
  let v714 : BitVec 1 := Scalar.andi v713 v710
  let v715 : BitVec 32 := Scalar.addi v709 v708
  let v716 : BitVec 32 := Scalar.select v714 v715 v709
  let v717 : BitVec 32 := Scalar.addi c0_i32_834 v716
  let c16_i32_3109 : BitVec 32 := 16#32
  let v3246 : BitVec 32 := Scalar.muli v717 c16_i32_3109
  let c0_i32_3114 : BitVec 32 := 0#32
  ![v3246.toNat, 0]
def k0_dev16 (d0 : Dev nD) : Nat :=
  let c0_i32_3111 : BitVec 32 := 0#32
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_827 : BitVec 32 := 0#32
  let v706 : BitVec 32 := Scalar.addi v2 c0_i32_827
  let c4_i32_828 : BitVec 32 := 4#32
  let c0_i32_829 : BitVec 32 := 0#32
  let v707 : BitVec 1 := Scalar.cmpi .eq c4_i32_828 c0_i32_829
  let c1_i32_830 : BitVec 32 := 1#32
  let v708 : BitVec 32 := Scalar.select v707 c1_i32_830 c4_i32_828
  let v709 : BitVec 32 := Scalar.remsi v706 v708
  let c0_i32_832 : BitVec 32 := 0#32
  let v711 : BitVec 1 := Scalar.cmpi .slt v709 c0_i32_832
  let c0_i32_833 : BitVec 32 := 0#32
  let v712 : BitVec 1 := Scalar.cmpi .slt v708 c0_i32_833
  let v713 : BitVec 1 := Scalar.xori v711 v712
  let c0_i32_831 : BitVec 32 := 0#32
  let v710 : BitVec 1 := Scalar.cmpi .ne v709 c0_i32_831
  let v714 : BitVec 1 := Scalar.andi v713 v710
  let v715 : BitVec 32 := Scalar.addi v709 v708
  let v716 : BitVec 32 := Scalar.select v714 v715 v709
  let v717 : BitVec 32 := Scalar.addi c0_i32_834 v716
  let c1_i32_3110 : BitVec 32 := 1#32
  let v3247 : BitVec 32 := Scalar.muli v717 c1_i32_3110
  let v3248 : BitVec 32 := Scalar.addi c0_i32_3111 v3247
  v3248.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_843 : BitVec 32 := 0#32
  let c1_i32_836 : BitVec 32 := 1#32
  let v721 : BitVec 32 := Scalar.addi v2 c1_i32_836
  let c4_i32_837 : BitVec 32 := 4#32
  let c0_i32_838 : BitVec 32 := 0#32
  let v722 : BitVec 1 := Scalar.cmpi .eq c4_i32_837 c0_i32_838
  let c1_i32_839 : BitVec 32 := 1#32
  let v723 : BitVec 32 := Scalar.select v722 c1_i32_839 c4_i32_837
  let v724 : BitVec 32 := Scalar.remsi v721 v723
  let c0_i32_841 : BitVec 32 := 0#32
  let v726 : BitVec 1 := Scalar.cmpi .slt v724 c0_i32_841
  let c0_i32_842 : BitVec 32 := 0#32
  let v727 : BitVec 1 := Scalar.cmpi .slt v723 c0_i32_842
  let v728 : BitVec 1 := Scalar.xori v726 v727
  let c0_i32_840 : BitVec 32 := 0#32
  let v725 : BitVec 1 := Scalar.cmpi .ne v724 c0_i32_840
  let v729 : BitVec 1 := Scalar.andi v728 v725
  let v730 : BitVec 32 := Scalar.addi v724 v723
  let v731 : BitVec 32 := Scalar.select v729 v730 v724
  let v732 : BitVec 32 := Scalar.addi c0_i32_843 v731
  let v733 : BitVec 1 := Scalar.cmpi .ne v2 v732
  let v734 : BitVec 32 := Scalar.extui v733
  let c0_i32_844 : BitVec 32 := 0#32
  let v735 : BitVec 1 := Scalar.cmpi .ne v734 c0_i32_844
  v735

def k0_off7 (d0 : Dev nD) : Fin 1 → Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_836 : BitVec 32 := 1#32
  let v721 : BitVec 32 := Scalar.addi v2 c1_i32_836
  let c4_i32_837 : BitVec 32 := 4#32
  let c0_i32_838 : BitVec 32 := 0#32
  let v722 : BitVec 1 := Scalar.cmpi .eq c4_i32_837 c0_i32_838
  let c1_i32_839 : BitVec 32 := 1#32
  let v723 : BitVec 32 := Scalar.select v722 c1_i32_839 c4_i32_837
  let v724 : BitVec 32 := Scalar.remsi v721 v723
  let c0_i32_841 : BitVec 32 := 0#32
  let v726 : BitVec 1 := Scalar.cmpi .slt v724 c0_i32_841
  let c0_i32_842 : BitVec 32 := 0#32
  let v727 : BitVec 1 := Scalar.cmpi .slt v723 c0_i32_842
  let v728 : BitVec 1 := Scalar.xori v726 v727
  let c0_i32_840 : BitVec 32 := 0#32
  let v725 : BitVec 1 := Scalar.cmpi .ne v724 c0_i32_840
  let v729 : BitVec 1 := Scalar.andi v728 v725
  let v730 : BitVec 32 := Scalar.addi v724 v723
  let v731 : BitVec 32 := Scalar.select v729 v730 v724
  let v732 : BitVec 32 := Scalar.addi c0_i32_843 v731
  ![v732.toNat]
def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off10 (d0 : Dev nD) : Fin 2 → Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_836 : BitVec 32 := 1#32
  let v721 : BitVec 32 := Scalar.addi v2 c1_i32_836
  let c4_i32_837 : BitVec 32 := 4#32
  let c0_i32_838 : BitVec 32 := 0#32
  let v722 : BitVec 1 := Scalar.cmpi .eq c4_i32_837 c0_i32_838
  let c1_i32_839 : BitVec 32 := 1#32
  let v723 : BitVec 32 := Scalar.select v722 c1_i32_839 c4_i32_837
  let v724 : BitVec 32 := Scalar.remsi v721 v723
  let c0_i32_841 : BitVec 32 := 0#32
  let v726 : BitVec 1 := Scalar.cmpi .slt v724 c0_i32_841
  let c0_i32_842 : BitVec 32 := 0#32
  let v727 : BitVec 1 := Scalar.cmpi .slt v723 c0_i32_842
  let v728 : BitVec 1 := Scalar.xori v726 v727
  let c0_i32_840 : BitVec 32 := 0#32
  let v725 : BitVec 1 := Scalar.cmpi .ne v724 c0_i32_840
  let v729 : BitVec 1 := Scalar.andi v728 v725
  let v730 : BitVec 32 := Scalar.addi v724 v723
  let v731 : BitVec 32 := Scalar.select v729 v730 v724
  let v732 : BitVec 32 := Scalar.addi c0_i32_843 v731
  let c16_i32_3109 : BitVec 32 := 16#32
  let v3246 : BitVec 32 := Scalar.muli v732 c16_i32_3109
  let c0_i32_3114 : BitVec 32 := 0#32
  ![v3246.toNat, 0]
def k0_dev17 (d0 : Dev nD) : Nat :=
  let c0_i32_3111 : BitVec 32 := 0#32
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_836 : BitVec 32 := 1#32
  let v721 : BitVec 32 := Scalar.addi v2 c1_i32_836
  let c4_i32_837 : BitVec 32 := 4#32
  let c0_i32_838 : BitVec 32 := 0#32
  let v722 : BitVec 1 := Scalar.cmpi .eq c4_i32_837 c0_i32_838
  let c1_i32_839 : BitVec 32 := 1#32
  let v723 : BitVec 32 := Scalar.select v722 c1_i32_839 c4_i32_837
  let v724 : BitVec 32 := Scalar.remsi v721 v723
  let c0_i32_841 : BitVec 32 := 0#32
  let v726 : BitVec 1 := Scalar.cmpi .slt v724 c0_i32_841
  let c0_i32_842 : BitVec 32 := 0#32
  let v727 : BitVec 1 := Scalar.cmpi .slt v723 c0_i32_842
  let v728 : BitVec 1 := Scalar.xori v726 v727
  let c0_i32_840 : BitVec 32 := 0#32
  let v725 : BitVec 1 := Scalar.cmpi .ne v724 c0_i32_840
  let v729 : BitVec 1 := Scalar.andi v728 v725
  let v730 : BitVec 32 := Scalar.addi v724 v723
  let v731 : BitVec 32 := Scalar.select v729 v730 v724
  let v732 : BitVec 32 := Scalar.addi c0_i32_843 v731
  let c1_i32_3110 : BitVec 32 := 1#32
  let v3247 : BitVec 32 := Scalar.muli v732 c1_i32_3110
  let v3248 : BitVec 32 := Scalar.addi c0_i32_3111 v3247
  v3248.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_852 : BitVec 32 := 0#32
  let c2_i32_845 : BitVec 32 := 2#32
  let v736 : BitVec 32 := Scalar.addi v2 c2_i32_845
  let c4_i32_846 : BitVec 32 := 4#32
  let c0_i32_847 : BitVec 32 := 0#32
  let v737 : BitVec 1 := Scalar.cmpi .eq c4_i32_846 c0_i32_847
  let c1_i32_848 : BitVec 32 := 1#32
  let v738 : BitVec 32 := Scalar.select v737 c1_i32_848 c4_i32_846
  let v739 : BitVec 32 := Scalar.remsi v736 v738
  let c0_i32_850 : BitVec 32 := 0#32
  let v741 : BitVec 1 := Scalar.cmpi .slt v739 c0_i32_850
  let c0_i32_851 : BitVec 32 := 0#32
  let v742 : BitVec 1 := Scalar.cmpi .slt v738 c0_i32_851
  let v743 : BitVec 1 := Scalar.xori v741 v742
  let c0_i32_849 : BitVec 32 := 0#32
  let v740 : BitVec 1 := Scalar.cmpi .ne v739 c0_i32_849
  let v744 : BitVec 1 := Scalar.andi v743 v740
  let v745 : BitVec 32 := Scalar.addi v739 v738
  let v746 : BitVec 32 := Scalar.select v744 v745 v739
  let v747 : BitVec 32 := Scalar.addi c0_i32_852 v746
  let v748 : BitVec 1 := Scalar.cmpi .ne v2 v747
  let v749 : BitVec 32 := Scalar.extui v748
  let c0_i32_853 : BitVec 32 := 0#32
  let v750 : BitVec 1 := Scalar.cmpi .ne v749 c0_i32_853
  v750

def k0_off11 (d0 : Dev nD) : Fin 1 → Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_845 : BitVec 32 := 2#32
  let v736 : BitVec 32 := Scalar.addi v2 c2_i32_845
  let c4_i32_846 : BitVec 32 := 4#32
  let c0_i32_847 : BitVec 32 := 0#32
  let v737 : BitVec 1 := Scalar.cmpi .eq c4_i32_846 c0_i32_847
  let c1_i32_848 : BitVec 32 := 1#32
  let v738 : BitVec 32 := Scalar.select v737 c1_i32_848 c4_i32_846
  let v739 : BitVec 32 := Scalar.remsi v736 v738
  let c0_i32_850 : BitVec 32 := 0#32
  let v741 : BitVec 1 := Scalar.cmpi .slt v739 c0_i32_850
  let c0_i32_851 : BitVec 32 := 0#32
  let v742 : BitVec 1 := Scalar.cmpi .slt v738 c0_i32_851
  let v743 : BitVec 1 := Scalar.xori v741 v742
  let c0_i32_849 : BitVec 32 := 0#32
  let v740 : BitVec 1 := Scalar.cmpi .ne v739 c0_i32_849
  let v744 : BitVec 1 := Scalar.andi v743 v740
  let v745 : BitVec 32 := Scalar.addi v739 v738
  let v746 : BitVec 32 := Scalar.select v744 v745 v739
  let v747 : BitVec 32 := Scalar.addi c0_i32_852 v746
  ![v747.toNat]
def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off14 (d0 : Dev nD) : Fin 2 → Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_845 : BitVec 32 := 2#32
  let v736 : BitVec 32 := Scalar.addi v2 c2_i32_845
  let c4_i32_846 : BitVec 32 := 4#32
  let c0_i32_847 : BitVec 32 := 0#32
  let v737 : BitVec 1 := Scalar.cmpi .eq c4_i32_846 c0_i32_847
  let c1_i32_848 : BitVec 32 := 1#32
  let v738 : BitVec 32 := Scalar.select v737 c1_i32_848 c4_i32_846
  let v739 : BitVec 32 := Scalar.remsi v736 v738
  let c0_i32_850 : BitVec 32 := 0#32
  let v741 : BitVec 1 := Scalar.cmpi .slt v739 c0_i32_850
  let c0_i32_851 : BitVec 32 := 0#32
  let v742 : BitVec 1 := Scalar.cmpi .slt v738 c0_i32_851
  let v743 : BitVec 1 := Scalar.xori v741 v742
  let c0_i32_849 : BitVec 32 := 0#32
  let v740 : BitVec 1 := Scalar.cmpi .ne v739 c0_i32_849
  let v744 : BitVec 1 := Scalar.andi v743 v740
  let v745 : BitVec 32 := Scalar.addi v739 v738
  let v746 : BitVec 32 := Scalar.select v744 v745 v739
  let v747 : BitVec 32 := Scalar.addi c0_i32_852 v746
  let c16_i32_3109 : BitVec 32 := 16#32
  let v3246 : BitVec 32 := Scalar.muli v747 c16_i32_3109
  let c0_i32_3114 : BitVec 32 := 0#32
  ![v3246.toNat, 0]
def k0_dev18 (d0 : Dev nD) : Nat :=
  let c0_i32_3111 : BitVec 32 := 0#32
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_845 : BitVec 32 := 2#32
  let v736 : BitVec 32 := Scalar.addi v2 c2_i32_845
  let c4_i32_846 : BitVec 32 := 4#32
  let c0_i32_847 : BitVec 32 := 0#32
  let v737 : BitVec 1 := Scalar.cmpi .eq c4_i32_846 c0_i32_847
  let c1_i32_848 : BitVec 32 := 1#32
  let v738 : BitVec 32 := Scalar.select v737 c1_i32_848 c4_i32_846
  let v739 : BitVec 32 := Scalar.remsi v736 v738
  let c0_i32_850 : BitVec 32 := 0#32
  let v741 : BitVec 1 := Scalar.cmpi .slt v739 c0_i32_850
  let c0_i32_851 : BitVec 32 := 0#32
  let v742 : BitVec 1 := Scalar.cmpi .slt v738 c0_i32_851
  let v743 : BitVec 1 := Scalar.xori v741 v742
  let c0_i32_849 : BitVec 32 := 0#32
  let v740 : BitVec 1 := Scalar.cmpi .ne v739 c0_i32_849
  let v744 : BitVec 1 := Scalar.andi v743 v740
  let v745 : BitVec 32 := Scalar.addi v739 v738
  let v746 : BitVec 32 := Scalar.select v744 v745 v739
  let v747 : BitVec 32 := Scalar.addi c0_i32_852 v746
  let c1_i32_3110 : BitVec 32 := 1#32
  let v3247 : BitVec 32 := Scalar.muli v747 c1_i32_3110
  let v3248 : BitVec 32 := Scalar.addi c0_i32_3111 v3247
  v3248.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_861 : BitVec 32 := 0#32
  let c3_i32_854 : BitVec 32 := 3#32
  let v751 : BitVec 32 := Scalar.addi v2 c3_i32_854
  let c4_i32_855 : BitVec 32 := 4#32
  let c0_i32_856 : BitVec 32 := 0#32
  let v752 : BitVec 1 := Scalar.cmpi .eq c4_i32_855 c0_i32_856
  let c1_i32_857 : BitVec 32 := 1#32
  let v753 : BitVec 32 := Scalar.select v752 c1_i32_857 c4_i32_855
  let v754 : BitVec 32 := Scalar.remsi v751 v753
  let c0_i32_859 : BitVec 32 := 0#32
  let v756 : BitVec 1 := Scalar.cmpi .slt v754 c0_i32_859
  let c0_i32_860 : BitVec 32 := 0#32
  let v757 : BitVec 1 := Scalar.cmpi .slt v753 c0_i32_860
  let v758 : BitVec 1 := Scalar.xori v756 v757
  let c0_i32_858 : BitVec 32 := 0#32
  let v755 : BitVec 1 := Scalar.cmpi .ne v754 c0_i32_858
  let v759 : BitVec 1 := Scalar.andi v758 v755
  let v760 : BitVec 32 := Scalar.addi v754 v753
  let v761 : BitVec 32 := Scalar.select v759 v760 v754
  let v762 : BitVec 32 := Scalar.addi c0_i32_861 v761
  let v763 : BitVec 1 := Scalar.cmpi .ne v2 v762
  let v764 : BitVec 32 := Scalar.extui v763
  let c0_i32_862 : BitVec 32 := 0#32
  let v765 : BitVec 1 := Scalar.cmpi .ne v764 c0_i32_862
  v765

def k0_off15 (d0 : Dev nD) : Fin 1 → Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_854 : BitVec 32 := 3#32
  let v751 : BitVec 32 := Scalar.addi v2 c3_i32_854
  let c4_i32_855 : BitVec 32 := 4#32
  let c0_i32_856 : BitVec 32 := 0#32
  let v752 : BitVec 1 := Scalar.cmpi .eq c4_i32_855 c0_i32_856
  let c1_i32_857 : BitVec 32 := 1#32
  let v753 : BitVec 32 := Scalar.select v752 c1_i32_857 c4_i32_855
  let v754 : BitVec 32 := Scalar.remsi v751 v753
  let c0_i32_859 : BitVec 32 := 0#32
  let v756 : BitVec 1 := Scalar.cmpi .slt v754 c0_i32_859
  let c0_i32_860 : BitVec 32 := 0#32
  let v757 : BitVec 1 := Scalar.cmpi .slt v753 c0_i32_860
  let v758 : BitVec 1 := Scalar.xori v756 v757
  let c0_i32_858 : BitVec 32 := 0#32
  let v755 : BitVec 1 := Scalar.cmpi .ne v754 c0_i32_858
  let v759 : BitVec 1 := Scalar.andi v758 v755
  let v760 : BitVec 32 := Scalar.addi v754 v753
  let v761 : BitVec 32 := Scalar.select v759 v760 v754
  let v762 : BitVec 32 := Scalar.addi c0_i32_861 v761
  ![v762.toNat]
def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off18 (d0 : Dev nD) : Fin 2 → Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_854 : BitVec 32 := 3#32
  let v751 : BitVec 32 := Scalar.addi v2 c3_i32_854
  let c4_i32_855 : BitVec 32 := 4#32
  let c0_i32_856 : BitVec 32 := 0#32
  let v752 : BitVec 1 := Scalar.cmpi .eq c4_i32_855 c0_i32_856
  let c1_i32_857 : BitVec 32 := 1#32
  let v753 : BitVec 32 := Scalar.select v752 c1_i32_857 c4_i32_855
  let v754 : BitVec 32 := Scalar.remsi v751 v753
  let c0_i32_859 : BitVec 32 := 0#32
  let v756 : BitVec 1 := Scalar.cmpi .slt v754 c0_i32_859
  let c0_i32_860 : BitVec 32 := 0#32
  let v757 : BitVec 1 := Scalar.cmpi .slt v753 c0_i32_860
  let v758 : BitVec 1 := Scalar.xori v756 v757
  let c0_i32_858 : BitVec 32 := 0#32
  let v755 : BitVec 1 := Scalar.cmpi .ne v754 c0_i32_858
  let v759 : BitVec 1 := Scalar.andi v758 v755
  let v760 : BitVec 32 := Scalar.addi v754 v753
  let v761 : BitVec 32 := Scalar.select v759 v760 v754
  let v762 : BitVec 32 := Scalar.addi c0_i32_861 v761
  let c16_i32_3109 : BitVec 32 := 16#32
  let v3246 : BitVec 32 := Scalar.muli v762 c16_i32_3109
  let c0_i32_3114 : BitVec 32 := 0#32
  ![v3246.toNat, 0]
def k0_dev19 (d0 : Dev nD) : Nat :=
  let c0_i32_3111 : BitVec 32 := 0#32
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_854 : BitVec 32 := 3#32
  let v751 : BitVec 32 := Scalar.addi v2 c3_i32_854
  let c4_i32_855 : BitVec 32 := 4#32
  let c0_i32_856 : BitVec 32 := 0#32
  let v752 : BitVec 1 := Scalar.cmpi .eq c4_i32_855 c0_i32_856
  let c1_i32_857 : BitVec 32 := 1#32
  let v753 : BitVec 32 := Scalar.select v752 c1_i32_857 c4_i32_855
  let v754 : BitVec 32 := Scalar.remsi v751 v753
  let c0_i32_859 : BitVec 32 := 0#32
  let v756 : BitVec 1 := Scalar.cmpi .slt v754 c0_i32_859
  let c0_i32_860 : BitVec 32 := 0#32
  let v757 : BitVec 1 := Scalar.cmpi .slt v753 c0_i32_860
  let v758 : BitVec 1 := Scalar.xori v756 v757
  let c0_i32_858 : BitVec 32 := 0#32
  let v755 : BitVec 1 := Scalar.cmpi .ne v754 c0_i32_858
  let v759 : BitVec 1 := Scalar.andi v758 v755
  let v760 : BitVec 32 := Scalar.addi v754 v753
  let v761 : BitVec 32 := Scalar.select v759 v760 v754
  let v762 : BitVec 32 := Scalar.addi c0_i32_861 v761
  let c1_i32_3110 : BitVec 32 := 1#32
  let v3247 : BitVec 32 := Scalar.muli v762 c1_i32_3110
  let v3248 : BitVec 32 := Scalar.addi c0_i32_3111 v3247
  v3248.toNat
def k0_off19 (d0 : Dev nD) (c0_i32_863 : BitVec 32) : Fin 5 → Nat :=
  let c0_i32_872 : BitVec 32 := 0#32
  let c2_i32_864 : BitVec 32 := 2#32
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v766 : BitVec 32 := Scalar.addi v3 c0_i32_863
  let c0_i32_874 : BitVec 32 := 0#32
  ![0, 2, 0, v766.toNat, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1368 : BitVec 32 := 4#32
  let c0_i32_1361 : BitVec 32 := 0#32
  let v1149 : BitVec 32 := Scalar.addi v2 c0_i32_1361
  let c4_i32_1362 : BitVec 32 := 4#32
  let c0_i32_1363 : BitVec 32 := 0#32
  let v1150 : BitVec 1 := Scalar.cmpi .eq c4_i32_1362 c0_i32_1363
  let c1_i32_1364 : BitVec 32 := 1#32
  let v1151 : BitVec 32 := Scalar.select v1150 c1_i32_1364 c4_i32_1362
  let v1152 : BitVec 32 := Scalar.remsi v1149 v1151
  let c0_i32_1366 : BitVec 32 := 0#32
  let v1154 : BitVec 1 := Scalar.cmpi .slt v1152 c0_i32_1366
  let c0_i32_1367 : BitVec 32 := 0#32
  let v1155 : BitVec 1 := Scalar.cmpi .slt v1151 c0_i32_1367
  let v1156 : BitVec 1 := Scalar.xori v1154 v1155
  let c0_i32_1365 : BitVec 32 := 0#32
  let v1153 : BitVec 1 := Scalar.cmpi .ne v1152 c0_i32_1365
  let v1157 : BitVec 1 := Scalar.andi v1156 v1153
  let v1158 : BitVec 32 := Scalar.addi v1152 v1151
  let v1159 : BitVec 32 := Scalar.select v1157 v1158 v1152
  let v1160 : BitVec 32 := Scalar.addi c4_i32_1368 v1159
  let v1161 : BitVec 1 := Scalar.cmpi .ne v2 v1160
  let v1162 : BitVec 32 := Scalar.extui v1161
  let c0_i32_1369 : BitVec 32 := 0#32
  let v1163 : BitVec 1 := Scalar.cmpi .ne v1162 c0_i32_1369
  v1163

def k0_off20 (d0 : Dev nD) : Fin 1 → Nat :=
  let c4_i32_1368 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1361 : BitVec 32 := 0#32
  let v1149 : BitVec 32 := Scalar.addi v2 c0_i32_1361
  let c4_i32_1362 : BitVec 32 := 4#32
  let c0_i32_1363 : BitVec 32 := 0#32
  let v1150 : BitVec 1 := Scalar.cmpi .eq c4_i32_1362 c0_i32_1363
  let c1_i32_1364 : BitVec 32 := 1#32
  let v1151 : BitVec 32 := Scalar.select v1150 c1_i32_1364 c4_i32_1362
  let v1152 : BitVec 32 := Scalar.remsi v1149 v1151
  let c0_i32_1366 : BitVec 32 := 0#32
  let v1154 : BitVec 1 := Scalar.cmpi .slt v1152 c0_i32_1366
  let c0_i32_1367 : BitVec 32 := 0#32
  let v1155 : BitVec 1 := Scalar.cmpi .slt v1151 c0_i32_1367
  let v1156 : BitVec 1 := Scalar.xori v1154 v1155
  let c0_i32_1365 : BitVec 32 := 0#32
  let v1153 : BitVec 1 := Scalar.cmpi .ne v1152 c0_i32_1365
  let v1157 : BitVec 1 := Scalar.andi v1156 v1153
  let v1158 : BitVec 32 := Scalar.addi v1152 v1151
  let v1159 : BitVec 32 := Scalar.select v1157 v1158 v1152
  let v1160 : BitVec 32 := Scalar.addi c4_i32_1368 v1159
  ![v1160.toNat]
def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off23 (d0 : Dev nD) : Fin 2 → Nat :=
  let c4_i32_1368 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1361 : BitVec 32 := 0#32
  let v1149 : BitVec 32 := Scalar.addi v2 c0_i32_1361
  let c4_i32_1362 : BitVec 32 := 4#32
  let c0_i32_1363 : BitVec 32 := 0#32
  let v1150 : BitVec 1 := Scalar.cmpi .eq c4_i32_1362 c0_i32_1363
  let c1_i32_1364 : BitVec 32 := 1#32
  let v1151 : BitVec 32 := Scalar.select v1150 c1_i32_1364 c4_i32_1362
  let v1152 : BitVec 32 := Scalar.remsi v1149 v1151
  let c0_i32_1366 : BitVec 32 := 0#32
  let v1154 : BitVec 1 := Scalar.cmpi .slt v1152 c0_i32_1366
  let c0_i32_1367 : BitVec 32 := 0#32
  let v1155 : BitVec 1 := Scalar.cmpi .slt v1151 c0_i32_1367
  let v1156 : BitVec 1 := Scalar.xori v1154 v1155
  let c0_i32_1365 : BitVec 32 := 0#32
  let v1153 : BitVec 1 := Scalar.cmpi .ne v1152 c0_i32_1365
  let v1157 : BitVec 1 := Scalar.andi v1156 v1153
  let v1158 : BitVec 32 := Scalar.addi v1152 v1151
  let v1159 : BitVec 32 := Scalar.select v1157 v1158 v1152
  let v1160 : BitVec 32 := Scalar.addi c4_i32_1368 v1159
  let c16_i32_3109 : BitVec 32 := 16#32
  let v3246 : BitVec 32 := Scalar.muli v1160 c16_i32_3109
  let c0_i32_3114 : BitVec 32 := 0#32
  ![v3246.toNat, 0]
def k0_dev20 (d0 : Dev nD) : Nat :=
  let c0_i32_3111 : BitVec 32 := 0#32
  let c4_i32_1368 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1361 : BitVec 32 := 0#32
  let v1149 : BitVec 32 := Scalar.addi v2 c0_i32_1361
  let c4_i32_1362 : BitVec 32 := 4#32
  let c0_i32_1363 : BitVec 32 := 0#32
  let v1150 : BitVec 1 := Scalar.cmpi .eq c4_i32_1362 c0_i32_1363
  let c1_i32_1364 : BitVec 32 := 1#32
  let v1151 : BitVec 32 := Scalar.select v1150 c1_i32_1364 c4_i32_1362
  let v1152 : BitVec 32 := Scalar.remsi v1149 v1151
  let c0_i32_1366 : BitVec 32 := 0#32
  let v1154 : BitVec 1 := Scalar.cmpi .slt v1152 c0_i32_1366
  let c0_i32_1367 : BitVec 32 := 0#32
  let v1155 : BitVec 1 := Scalar.cmpi .slt v1151 c0_i32_1367
  let v1156 : BitVec 1 := Scalar.xori v1154 v1155
  let c0_i32_1365 : BitVec 32 := 0#32
  let v1153 : BitVec 1 := Scalar.cmpi .ne v1152 c0_i32_1365
  let v1157 : BitVec 1 := Scalar.andi v1156 v1153
  let v1158 : BitVec 32 := Scalar.addi v1152 v1151
  let v1159 : BitVec 32 := Scalar.select v1157 v1158 v1152
  let v1160 : BitVec 32 := Scalar.addi c4_i32_1368 v1159
  let c1_i32_3110 : BitVec 32 := 1#32
  let v3247 : BitVec 32 := Scalar.muli v1160 c1_i32_3110
  let v3248 : BitVec 32 := Scalar.addi c0_i32_3111 v3247
  v3248.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1377 : BitVec 32 := 4#32
  let c1_i32_1370 : BitVec 32 := 1#32
  let v1164 : BitVec 32 := Scalar.addi v2 c1_i32_1370
  let c4_i32_1371 : BitVec 32 := 4#32
  let c0_i32_1372 : BitVec 32 := 0#32
  let v1165 : BitVec 1 := Scalar.cmpi .eq c4_i32_1371 c0_i32_1372
  let c1_i32_1373 : BitVec 32 := 1#32
  let v1166 : BitVec 32 := Scalar.select v1165 c1_i32_1373 c4_i32_1371
  let v1167 : BitVec 32 := Scalar.remsi v1164 v1166
  let c0_i32_1375 : BitVec 32 := 0#32
  let v1169 : BitVec 1 := Scalar.cmpi .slt v1167 c0_i32_1375
  let c0_i32_1376 : BitVec 32 := 0#32
  let v1170 : BitVec 1 := Scalar.cmpi .slt v1166 c0_i32_1376
  let v1171 : BitVec 1 := Scalar.xori v1169 v1170
  let c0_i32_1374 : BitVec 32 := 0#32
  let v1168 : BitVec 1 := Scalar.cmpi .ne v1167 c0_i32_1374
  let v1172 : BitVec 1 := Scalar.andi v1171 v1168
  let v1173 : BitVec 32 := Scalar.addi v1167 v1166
  let v1174 : BitVec 32 := Scalar.select v1172 v1173 v1167
  let v1175 : BitVec 32 := Scalar.addi c4_i32_1377 v1174
  let v1176 : BitVec 1 := Scalar.cmpi .ne v2 v1175
  let v1177 : BitVec 32 := Scalar.extui v1176
  let c0_i32_1378 : BitVec 32 := 0#32
  let v1178 : BitVec 1 := Scalar.cmpi .ne v1177 c0_i32_1378
  v1178

def k0_off24 (d0 : Dev nD) : Fin 1 → Nat :=
  let c4_i32_1377 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1370 : BitVec 32 := 1#32
  let v1164 : BitVec 32 := Scalar.addi v2 c1_i32_1370
  let c4_i32_1371 : BitVec 32 := 4#32
  let c0_i32_1372 : BitVec 32 := 0#32
  let v1165 : BitVec 1 := Scalar.cmpi .eq c4_i32_1371 c0_i32_1372
  let c1_i32_1373 : BitVec 32 := 1#32
  let v1166 : BitVec 32 := Scalar.select v1165 c1_i32_1373 c4_i32_1371
  let v1167 : BitVec 32 := Scalar.remsi v1164 v1166
  let c0_i32_1375 : BitVec 32 := 0#32
  let v1169 : BitVec 1 := Scalar.cmpi .slt v1167 c0_i32_1375
  let c0_i32_1376 : BitVec 32 := 0#32
  let v1170 : BitVec 1 := Scalar.cmpi .slt v1166 c0_i32_1376
  let v1171 : BitVec 1 := Scalar.xori v1169 v1170
  let c0_i32_1374 : BitVec 32 := 0#32
  let v1168 : BitVec 1 := Scalar.cmpi .ne v1167 c0_i32_1374
  let v1172 : BitVec 1 := Scalar.andi v1171 v1168
  let v1173 : BitVec 32 := Scalar.addi v1167 v1166
  let v1174 : BitVec 32 := Scalar.select v1172 v1173 v1167
  let v1175 : BitVec 32 := Scalar.addi c4_i32_1377 v1174
  ![v1175.toNat]
def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off27 (d0 : Dev nD) : Fin 2 → Nat :=
  let c4_i32_1377 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1370 : BitVec 32 := 1#32
  let v1164 : BitVec 32 := Scalar.addi v2 c1_i32_1370
  let c4_i32_1371 : BitVec 32 := 4#32
  let c0_i32_1372 : BitVec 32 := 0#32
  let v1165 : BitVec 1 := Scalar.cmpi .eq c4_i32_1371 c0_i32_1372
  let c1_i32_1373 : BitVec 32 := 1#32
  let v1166 : BitVec 32 := Scalar.select v1165 c1_i32_1373 c4_i32_1371
  let v1167 : BitVec 32 := Scalar.remsi v1164 v1166
  let c0_i32_1375 : BitVec 32 := 0#32
  let v1169 : BitVec 1 := Scalar.cmpi .slt v1167 c0_i32_1375
  let c0_i32_1376 : BitVec 32 := 0#32
  let v1170 : BitVec 1 := Scalar.cmpi .slt v1166 c0_i32_1376
  let v1171 : BitVec 1 := Scalar.xori v1169 v1170
  let c0_i32_1374 : BitVec 32 := 0#32
  let v1168 : BitVec 1 := Scalar.cmpi .ne v1167 c0_i32_1374
  let v1172 : BitVec 1 := Scalar.andi v1171 v1168
  let v1173 : BitVec 32 := Scalar.addi v1167 v1166
  let v1174 : BitVec 32 := Scalar.select v1172 v1173 v1167
  let v1175 : BitVec 32 := Scalar.addi c4_i32_1377 v1174
  let c16_i32_3109 : BitVec 32 := 16#32
  let v3246 : BitVec 32 := Scalar.muli v1175 c16_i32_3109
  let c0_i32_3114 : BitVec 32 := 0#32
  ![v3246.toNat, 0]
def k0_dev21 (d0 : Dev nD) : Nat :=
  let c0_i32_3111 : BitVec 32 := 0#32
  let c4_i32_1377 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1370 : BitVec 32 := 1#32
  let v1164 : BitVec 32 := Scalar.addi v2 c1_i32_1370
  let c4_i32_1371 : BitVec 32 := 4#32
  let c0_i32_1372 : BitVec 32 := 0#32
  let v1165 : BitVec 1 := Scalar.cmpi .eq c4_i32_1371 c0_i32_1372
  let c1_i32_1373 : BitVec 32 := 1#32
  let v1166 : BitVec 32 := Scalar.select v1165 c1_i32_1373 c4_i32_1371
  let v1167 : BitVec 32 := Scalar.remsi v1164 v1166
  let c0_i32_1375 : BitVec 32 := 0#32
  let v1169 : BitVec 1 := Scalar.cmpi .slt v1167 c0_i32_1375
  let c0_i32_1376 : BitVec 32 := 0#32
  let v1170 : BitVec 1 := Scalar.cmpi .slt v1166 c0_i32_1376
  let v1171 : BitVec 1 := Scalar.xori v1169 v1170
  let c0_i32_1374 : BitVec 32 := 0#32
  let v1168 : BitVec 1 := Scalar.cmpi .ne v1167 c0_i32_1374
  let v1172 : BitVec 1 := Scalar.andi v1171 v1168
  let v1173 : BitVec 32 := Scalar.addi v1167 v1166
  let v1174 : BitVec 32 := Scalar.select v1172 v1173 v1167
  let v1175 : BitVec 32 := Scalar.addi c4_i32_1377 v1174
  let c1_i32_3110 : BitVec 32 := 1#32
  let v3247 : BitVec 32 := Scalar.muli v1175 c1_i32_3110
  let v3248 : BitVec 32 := Scalar.addi c0_i32_3111 v3247
  v3248.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1386 : BitVec 32 := 4#32
  let c2_i32_1379 : BitVec 32 := 2#32
  let v1179 : BitVec 32 := Scalar.addi v2 c2_i32_1379
  let c4_i32_1380 : BitVec 32 := 4#32
  let c0_i32_1381 : BitVec 32 := 0#32
  let v1180 : BitVec 1 := Scalar.cmpi .eq c4_i32_1380 c0_i32_1381
  let c1_i32_1382 : BitVec 32 := 1#32
  let v1181 : BitVec 32 := Scalar.select v1180 c1_i32_1382 c4_i32_1380
  let v1182 : BitVec 32 := Scalar.remsi v1179 v1181
  let c0_i32_1384 : BitVec 32 := 0#32
  let v1184 : BitVec 1 := Scalar.cmpi .slt v1182 c0_i32_1384
  let c0_i32_1385 : BitVec 32 := 0#32
  let v1185 : BitVec 1 := Scalar.cmpi .slt v1181 c0_i32_1385
  let v1186 : BitVec 1 := Scalar.xori v1184 v1185
  let c0_i32_1383 : BitVec 32 := 0#32
  let v1183 : BitVec 1 := Scalar.cmpi .ne v1182 c0_i32_1383
  let v1187 : BitVec 1 := Scalar.andi v1186 v1183
  let v1188 : BitVec 32 := Scalar.addi v1182 v1181
  let v1189 : BitVec 32 := Scalar.select v1187 v1188 v1182
  let v1190 : BitVec 32 := Scalar.addi c4_i32_1386 v1189
  let v1191 : BitVec 1 := Scalar.cmpi .ne v2 v1190
  let v1192 : BitVec 32 := Scalar.extui v1191
  let c0_i32_1387 : BitVec 32 := 0#32
  let v1193 : BitVec 1 := Scalar.cmpi .ne v1192 c0_i32_1387
  v1193

def k0_off28 (d0 : Dev nD) : Fin 1 → Nat :=
  let c4_i32_1386 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1379 : BitVec 32 := 2#32
  let v1179 : BitVec 32 := Scalar.addi v2 c2_i32_1379
  let c4_i32_1380 : BitVec 32 := 4#32
  let c0_i32_1381 : BitVec 32 := 0#32
  let v1180 : BitVec 1 := Scalar.cmpi .eq c4_i32_1380 c0_i32_1381
  let c1_i32_1382 : BitVec 32 := 1#32
  let v1181 : BitVec 32 := Scalar.select v1180 c1_i32_1382 c4_i32_1380
  let v1182 : BitVec 32 := Scalar.remsi v1179 v1181
  let c0_i32_1384 : BitVec 32 := 0#32
  let v1184 : BitVec 1 := Scalar.cmpi .slt v1182 c0_i32_1384
  let c0_i32_1385 : BitVec 32 := 0#32
  let v1185 : BitVec 1 := Scalar.cmpi .slt v1181 c0_i32_1385
  let v1186 : BitVec 1 := Scalar.xori v1184 v1185
  let c0_i32_1383 : BitVec 32 := 0#32
  let v1183 : BitVec 1 := Scalar.cmpi .ne v1182 c0_i32_1383
  let v1187 : BitVec 1 := Scalar.andi v1186 v1183
  let v1188 : BitVec 32 := Scalar.addi v1182 v1181
  let v1189 : BitVec 32 := Scalar.select v1187 v1188 v1182
  let v1190 : BitVec 32 := Scalar.addi c4_i32_1386 v1189
  ![v1190.toNat]
def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off31 (d0 : Dev nD) : Fin 2 → Nat :=
  let c4_i32_1386 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1379 : BitVec 32 := 2#32
  let v1179 : BitVec 32 := Scalar.addi v2 c2_i32_1379
  let c4_i32_1380 : BitVec 32 := 4#32
  let c0_i32_1381 : BitVec 32 := 0#32
  let v1180 : BitVec 1 := Scalar.cmpi .eq c4_i32_1380 c0_i32_1381
  let c1_i32_1382 : BitVec 32 := 1#32
  let v1181 : BitVec 32 := Scalar.select v1180 c1_i32_1382 c4_i32_1380
  let v1182 : BitVec 32 := Scalar.remsi v1179 v1181
  let c0_i32_1384 : BitVec 32 := 0#32
  let v1184 : BitVec 1 := Scalar.cmpi .slt v1182 c0_i32_1384
  let c0_i32_1385 : BitVec 32 := 0#32
  let v1185 : BitVec 1 := Scalar.cmpi .slt v1181 c0_i32_1385
  let v1186 : BitVec 1 := Scalar.xori v1184 v1185
  let c0_i32_1383 : BitVec 32 := 0#32
  let v1183 : BitVec 1 := Scalar.cmpi .ne v1182 c0_i32_1383
  let v1187 : BitVec 1 := Scalar.andi v1186 v1183
  let v1188 : BitVec 32 := Scalar.addi v1182 v1181
  let v1189 : BitVec 32 := Scalar.select v1187 v1188 v1182
  let v1190 : BitVec 32 := Scalar.addi c4_i32_1386 v1189
  let c16_i32_3109 : BitVec 32 := 16#32
  let v3246 : BitVec 32 := Scalar.muli v1190 c16_i32_3109
  let c0_i32_3114 : BitVec 32 := 0#32
  ![v3246.toNat, 0]
def k0_dev22 (d0 : Dev nD) : Nat :=
  let c0_i32_3111 : BitVec 32 := 0#32
  let c4_i32_1386 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1379 : BitVec 32 := 2#32
  let v1179 : BitVec 32 := Scalar.addi v2 c2_i32_1379
  let c4_i32_1380 : BitVec 32 := 4#32
  let c0_i32_1381 : BitVec 32 := 0#32
  let v1180 : BitVec 1 := Scalar.cmpi .eq c4_i32_1380 c0_i32_1381
  let c1_i32_1382 : BitVec 32 := 1#32
  let v1181 : BitVec 32 := Scalar.select v1180 c1_i32_1382 c4_i32_1380
  let v1182 : BitVec 32 := Scalar.remsi v1179 v1181
  let c0_i32_1384 : BitVec 32 := 0#32
  let v1184 : BitVec 1 := Scalar.cmpi .slt v1182 c0_i32_1384
  let c0_i32_1385 : BitVec 32 := 0#32
  let v1185 : BitVec 1 := Scalar.cmpi .slt v1181 c0_i32_1385
  let v1186 : BitVec 1 := Scalar.xori v1184 v1185
  let c0_i32_1383 : BitVec 32 := 0#32
  let v1183 : BitVec 1 := Scalar.cmpi .ne v1182 c0_i32_1383
  let v1187 : BitVec 1 := Scalar.andi v1186 v1183
  let v1188 : BitVec 32 := Scalar.addi v1182 v1181
  let v1189 : BitVec 32 := Scalar.select v1187 v1188 v1182
  let v1190 : BitVec 32 := Scalar.addi c4_i32_1386 v1189
  let c1_i32_3110 : BitVec 32 := 1#32
  let v3247 : BitVec 32 := Scalar.muli v1190 c1_i32_3110
  let v3248 : BitVec 32 := Scalar.addi c0_i32_3111 v3247
  v3248.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1395 : BitVec 32 := 4#32
  let c3_i32_1388 : BitVec 32 := 3#32
  let v1194 : BitVec 32 := Scalar.addi v2 c3_i32_1388
  let c4_i32_1389 : BitVec 32 := 4#32
  let c0_i32_1390 : BitVec 32 := 0#32
  let v1195 : BitVec 1 := Scalar.cmpi .eq c4_i32_1389 c0_i32_1390
  let c1_i32_1391 : BitVec 32 := 1#32
  let v1196 : BitVec 32 := Scalar.select v1195 c1_i32_1391 c4_i32_1389
  let v1197 : BitVec 32 := Scalar.remsi v1194 v1196
  let c0_i32_1393 : BitVec 32 := 0#32
  let v1199 : BitVec 1 := Scalar.cmpi .slt v1197 c0_i32_1393
  let c0_i32_1394 : BitVec 32 := 0#32
  let v1200 : BitVec 1 := Scalar.cmpi .slt v1196 c0_i32_1394
  let v1201 : BitVec 1 := Scalar.xori v1199 v1200
  let c0_i32_1392 : BitVec 32 := 0#32
  let v1198 : BitVec 1 := Scalar.cmpi .ne v1197 c0_i32_1392
  let v1202 : BitVec 1 := Scalar.andi v1201 v1198
  let v1203 : BitVec 32 := Scalar.addi v1197 v1196
  let v1204 : BitVec 32 := Scalar.select v1202 v1203 v1197
  let v1205 : BitVec 32 := Scalar.addi c4_i32_1395 v1204
  let v1206 : BitVec 1 := Scalar.cmpi .ne v2 v1205
  let v1207 : BitVec 32 := Scalar.extui v1206
  let c0_i32_1396 : BitVec 32 := 0#32
  let v1208 : BitVec 1 := Scalar.cmpi .ne v1207 c0_i32_1396
  v1208

def k0_off32 (d0 : Dev nD) : Fin 1 → Nat :=
  let c4_i32_1395 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1388 : BitVec 32 := 3#32
  let v1194 : BitVec 32 := Scalar.addi v2 c3_i32_1388
  let c4_i32_1389 : BitVec 32 := 4#32
  let c0_i32_1390 : BitVec 32 := 0#32
  let v1195 : BitVec 1 := Scalar.cmpi .eq c4_i32_1389 c0_i32_1390
  let c1_i32_1391 : BitVec 32 := 1#32
  let v1196 : BitVec 32 := Scalar.select v1195 c1_i32_1391 c4_i32_1389
  let v1197 : BitVec 32 := Scalar.remsi v1194 v1196
  let c0_i32_1393 : BitVec 32 := 0#32
  let v1199 : BitVec 1 := Scalar.cmpi .slt v1197 c0_i32_1393
  let c0_i32_1394 : BitVec 32 := 0#32
  let v1200 : BitVec 1 := Scalar.cmpi .slt v1196 c0_i32_1394
  let v1201 : BitVec 1 := Scalar.xori v1199 v1200
  let c0_i32_1392 : BitVec 32 := 0#32
  let v1198 : BitVec 1 := Scalar.cmpi .ne v1197 c0_i32_1392
  let v1202 : BitVec 1 := Scalar.andi v1201 v1198
  let v1203 : BitVec 32 := Scalar.addi v1197 v1196
  let v1204 : BitVec 32 := Scalar.select v1202 v1203 v1197
  let v1205 : BitVec 32 := Scalar.addi c4_i32_1395 v1204
  ![v1205.toNat]
def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off35 (d0 : Dev nD) : Fin 2 → Nat :=
  let c4_i32_1395 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1388 : BitVec 32 := 3#32
  let v1194 : BitVec 32 := Scalar.addi v2 c3_i32_1388
  let c4_i32_1389 : BitVec 32 := 4#32
  let c0_i32_1390 : BitVec 32 := 0#32
  let v1195 : BitVec 1 := Scalar.cmpi .eq c4_i32_1389 c0_i32_1390
  let c1_i32_1391 : BitVec 32 := 1#32
  let v1196 : BitVec 32 := Scalar.select v1195 c1_i32_1391 c4_i32_1389
  let v1197 : BitVec 32 := Scalar.remsi v1194 v1196
  let c0_i32_1393 : BitVec 32 := 0#32
  let v1199 : BitVec 1 := Scalar.cmpi .slt v1197 c0_i32_1393
  let c0_i32_1394 : BitVec 32 := 0#32
  let v1200 : BitVec 1 := Scalar.cmpi .slt v1196 c0_i32_1394
  let v1201 : BitVec 1 := Scalar.xori v1199 v1200
  let c0_i32_1392 : BitVec 32 := 0#32
  let v1198 : BitVec 1 := Scalar.cmpi .ne v1197 c0_i32_1392
  let v1202 : BitVec 1 := Scalar.andi v1201 v1198
  let v1203 : BitVec 32 := Scalar.addi v1197 v1196
  let v1204 : BitVec 32 := Scalar.select v1202 v1203 v1197
  let v1205 : BitVec 32 := Scalar.addi c4_i32_1395 v1204
  let c16_i32_3109 : BitVec 32 := 16#32
  let v3246 : BitVec 32 := Scalar.muli v1205 c16_i32_3109
  let c0_i32_3114 : BitVec 32 := 0#32
  ![v3246.toNat, 0]
def k0_dev23 (d0 : Dev nD) : Nat :=
  let c0_i32_3111 : BitVec 32 := 0#32
  let c4_i32_1395 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1388 : BitVec 32 := 3#32
  let v1194 : BitVec 32 := Scalar.addi v2 c3_i32_1388
  let c4_i32_1389 : BitVec 32 := 4#32
  let c0_i32_1390 : BitVec 32 := 0#32
  let v1195 : BitVec 1 := Scalar.cmpi .eq c4_i32_1389 c0_i32_1390
  let c1_i32_1391 : BitVec 32 := 1#32
  let v1196 : BitVec 32 := Scalar.select v1195 c1_i32_1391 c4_i32_1389
  let v1197 : BitVec 32 := Scalar.remsi v1194 v1196
  let c0_i32_1393 : BitVec 32 := 0#32
  let v1199 : BitVec 1 := Scalar.cmpi .slt v1197 c0_i32_1393
  let c0_i32_1394 : BitVec 32 := 0#32
  let v1200 : BitVec 1 := Scalar.cmpi .slt v1196 c0_i32_1394
  let v1201 : BitVec 1 := Scalar.xori v1199 v1200
  let c0_i32_1392 : BitVec 32 := 0#32
  let v1198 : BitVec 1 := Scalar.cmpi .ne v1197 c0_i32_1392
  let v1202 : BitVec 1 := Scalar.andi v1201 v1198
  let v1203 : BitVec 32 := Scalar.addi v1197 v1196
  let v1204 : BitVec 32 := Scalar.select v1202 v1203 v1197
  let v1205 : BitVec 32 := Scalar.addi c4_i32_1395 v1204
  let c1_i32_3110 : BitVec 32 := 1#32
  let v3247 : BitVec 32 := Scalar.muli v1205 c1_i32_3110
  let v3248 : BitVec 32 := Scalar.addi c0_i32_3111 v3247
  v3248.toNat
def k0_off36 (d0 : Dev nD) (c0_i32_1397 : BitVec 32) : Fin 5 → Nat :=
  let c0_i32_1406 : BitVec 32 := 0#32
  let c3_i32_1398 : BitVec 32 := 3#32
  let c0_i32_1407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v1209 : BitVec 32 := Scalar.addi v3 c0_i32_1397
  let c0_i32_1408 : BitVec 32 := 0#32
  ![0, 3, 0, v1209.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1902 : BitVec 32 := 8#32
  let c0_i32_1895 : BitVec 32 := 0#32
  let v1592 : BitVec 32 := Scalar.addi v2 c0_i32_1895
  let c4_i32_1896 : BitVec 32 := 4#32
  let c0_i32_1897 : BitVec 32 := 0#32
  let v1593 : BitVec 1 := Scalar.cmpi .eq c4_i32_1896 c0_i32_1897
  let c1_i32_1898 : BitVec 32 := 1#32
  let v1594 : BitVec 32 := Scalar.select v1593 c1_i32_1898 c4_i32_1896
  let v1595 : BitVec 32 := Scalar.remsi v1592 v1594
  let c0_i32_1900 : BitVec 32 := 0#32
  let v1597 : BitVec 1 := Scalar.cmpi .slt v1595 c0_i32_1900
  let c0_i32_1901 : BitVec 32 := 0#32
  let v1598 : BitVec 1 := Scalar.cmpi .slt v1594 c0_i32_1901
  let v1599 : BitVec 1 := Scalar.xori v1597 v1598
  let c0_i32_1899 : BitVec 32 := 0#32
  let v1596 : BitVec 1 := Scalar.cmpi .ne v1595 c0_i32_1899
  let v1600 : BitVec 1 := Scalar.andi v1599 v1596
  let v1601 : BitVec 32 := Scalar.addi v1595 v1594
  let v1602 : BitVec 32 := Scalar.select v1600 v1601 v1595
  let v1603 : BitVec 32 := Scalar.addi c8_i32_1902 v1602
  let v1604 : BitVec 1 := Scalar.cmpi .ne v2 v1603
  let v1605 : BitVec 32 := Scalar.extui v1604
  let c0_i32_1903 : BitVec 32 := 0#32
  let v1606 : BitVec 1 := Scalar.cmpi .ne v1605 c0_i32_1903
  v1606

def k0_off37 (d0 : Dev nD) : Fin 1 → Nat :=
  let c8_i32_1902 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1895 : BitVec 32 := 0#32
  let v1592 : BitVec 32 := Scalar.addi v2 c0_i32_1895
  let c4_i32_1896 : BitVec 32 := 4#32
  let c0_i32_1897 : BitVec 32 := 0#32
  let v1593 : BitVec 1 := Scalar.cmpi .eq c4_i32_1896 c0_i32_1897
  let c1_i32_1898 : BitVec 32 := 1#32
  let v1594 : BitVec 32 := Scalar.select v1593 c1_i32_1898 c4_i32_1896
  let v1595 : BitVec 32 := Scalar.remsi v1592 v1594
  let c0_i32_1900 : BitVec 32 := 0#32
  let v1597 : BitVec 1 := Scalar.cmpi .slt v1595 c0_i32_1900
  let c0_i32_1901 : BitVec 32 := 0#32
  let v1598 : BitVec 1 := Scalar.cmpi .slt v1594 c0_i32_1901
  let v1599 : BitVec 1 := Scalar.xori v1597 v1598
  let c0_i32_1899 : BitVec 32 := 0#32
  let v1596 : BitVec 1 := Scalar.cmpi .ne v1595 c0_i32_1899
  let v1600 : BitVec 1 := Scalar.andi v1599 v1596
  let v1601 : BitVec 32 := Scalar.addi v1595 v1594
  let v1602 : BitVec 32 := Scalar.select v1600 v1601 v1595
  let v1603 : BitVec 32 := Scalar.addi c8_i32_1902 v1602
  ![v1603.toNat]
def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off40 (d0 : Dev nD) : Fin 2 → Nat :=
  let c8_i32_1902 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1895 : BitVec 32 := 0#32
  let v1592 : BitVec 32 := Scalar.addi v2 c0_i32_1895
  let c4_i32_1896 : BitVec 32 := 4#32
  let c0_i32_1897 : BitVec 32 := 0#32
  let v1593 : BitVec 1 := Scalar.cmpi .eq c4_i32_1896 c0_i32_1897
  let c1_i32_1898 : BitVec 32 := 1#32
  let v1594 : BitVec 32 := Scalar.select v1593 c1_i32_1898 c4_i32_1896
  let v1595 : BitVec 32 := Scalar.remsi v1592 v1594
  let c0_i32_1900 : BitVec 32 := 0#32
  let v1597 : BitVec 1 := Scalar.cmpi .slt v1595 c0_i32_1900
  let c0_i32_1901 : BitVec 32 := 0#32
  let v1598 : BitVec 1 := Scalar.cmpi .slt v1594 c0_i32_1901
  let v1599 : BitVec 1 := Scalar.xori v1597 v1598
  let c0_i32_1899 : BitVec 32 := 0#32
  let v1596 : BitVec 1 := Scalar.cmpi .ne v1595 c0_i32_1899
  let v1600 : BitVec 1 := Scalar.andi v1599 v1596
  let v1601 : BitVec 32 := Scalar.addi v1595 v1594
  let v1602 : BitVec 32 := Scalar.select v1600 v1601 v1595
  let v1603 : BitVec 32 := Scalar.addi c8_i32_1902 v1602
  let c16_i32_3109 : BitVec 32 := 16#32
  let v3246 : BitVec 32 := Scalar.muli v1603 c16_i32_3109
  let c0_i32_3114 : BitVec 32 := 0#32
  ![v3246.toNat, 0]
def k0_dev24 (d0 : Dev nD) : Nat :=
  let c0_i32_3111 : BitVec 32 := 0#32
  let c8_i32_1902 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1895 : BitVec 32 := 0#32
  let v1592 : BitVec 32 := Scalar.addi v2 c0_i32_1895
  let c4_i32_1896 : BitVec 32 := 4#32
  let c0_i32_1897 : BitVec 32 := 0#32
  let v1593 : BitVec 1 := Scalar.cmpi .eq c4_i32_1896 c0_i32_1897
  let c1_i32_1898 : BitVec 32 := 1#32
  let v1594 : BitVec 32 := Scalar.select v1593 c1_i32_1898 c4_i32_1896
  let v1595 : BitVec 32 := Scalar.remsi v1592 v1594
  let c0_i32_1900 : BitVec 32 := 0#32
  let v1597 : BitVec 1 := Scalar.cmpi .slt v1595 c0_i32_1900
  let c0_i32_1901 : BitVec 32 := 0#32
  let v1598 : BitVec 1 := Scalar.cmpi .slt v1594 c0_i32_1901
  let v1599 : BitVec 1 := Scalar.xori v1597 v1598
  let c0_i32_1899 : BitVec 32 := 0#32
  let v1596 : BitVec 1 := Scalar.cmpi .ne v1595 c0_i32_1899
  let v1600 : BitVec 1 := Scalar.andi v1599 v1596
  let v1601 : BitVec 32 := Scalar.addi v1595 v1594
  let v1602 : BitVec 32 := Scalar.select v1600 v1601 v1595
  let v1603 : BitVec 32 := Scalar.addi c8_i32_1902 v1602
  let c1_i32_3110 : BitVec 32 := 1#32
  let v3247 : BitVec 32 := Scalar.muli v1603 c1_i32_3110
  let v3248 : BitVec 32 := Scalar.addi c0_i32_3111 v3247
  v3248.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1911 : BitVec 32 := 8#32
  let c1_i32_1904 : BitVec 32 := 1#32
  let v1607 : BitVec 32 := Scalar.addi v2 c1_i32_1904
  let c4_i32_1905 : BitVec 32 := 4#32
  let c0_i32_1906 : BitVec 32 := 0#32
  let v1608 : BitVec 1 := Scalar.cmpi .eq c4_i32_1905 c0_i32_1906
  let c1_i32_1907 : BitVec 32 := 1#32
  let v1609 : BitVec 32 := Scalar.select v1608 c1_i32_1907 c4_i32_1905
  let v1610 : BitVec 32 := Scalar.remsi v1607 v1609
  let c0_i32_1909 : BitVec 32 := 0#32
  let v1612 : BitVec 1 := Scalar.cmpi .slt v1610 c0_i32_1909
  let c0_i32_1910 : BitVec 32 := 0#32
  let v1613 : BitVec 1 := Scalar.cmpi .slt v1609 c0_i32_1910
  let v1614 : BitVec 1 := Scalar.xori v1612 v1613
  let c0_i32_1908 : BitVec 32 := 0#32
  let v1611 : BitVec 1 := Scalar.cmpi .ne v1610 c0_i32_1908
  let v1615 : BitVec 1 := Scalar.andi v1614 v1611
  let v1616 : BitVec 32 := Scalar.addi v1610 v1609
  let v1617 : BitVec 32 := Scalar.select v1615 v1616 v1610
  let v1618 : BitVec 32 := Scalar.addi c8_i32_1911 v1617
  let v1619 : BitVec 1 := Scalar.cmpi .ne v2 v1618
  let v1620 : BitVec 32 := Scalar.extui v1619
  let c0_i32_1912 : BitVec 32 := 0#32
  let v1621 : BitVec 1 := Scalar.cmpi .ne v1620 c0_i32_1912
  v1621

def k0_off41 (d0 : Dev nD) : Fin 1 → Nat :=
  let c8_i32_1911 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1904 : BitVec 32 := 1#32
  let v1607 : BitVec 32 := Scalar.addi v2 c1_i32_1904
  let c4_i32_1905 : BitVec 32 := 4#32
  let c0_i32_1906 : BitVec 32 := 0#32
  let v1608 : BitVec 1 := Scalar.cmpi .eq c4_i32_1905 c0_i32_1906
  let c1_i32_1907 : BitVec 32 := 1#32
  let v1609 : BitVec 32 := Scalar.select v1608 c1_i32_1907 c4_i32_1905
  let v1610 : BitVec 32 := Scalar.remsi v1607 v1609
  let c0_i32_1909 : BitVec 32 := 0#32
  let v1612 : BitVec 1 := Scalar.cmpi .slt v1610 c0_i32_1909
  let c0_i32_1910 : BitVec 32 := 0#32
  let v1613 : BitVec 1 := Scalar.cmpi .slt v1609 c0_i32_1910
  let v1614 : BitVec 1 := Scalar.xori v1612 v1613
  let c0_i32_1908 : BitVec 32 := 0#32
  let v1611 : BitVec 1 := Scalar.cmpi .ne v1610 c0_i32_1908
  let v1615 : BitVec 1 := Scalar.andi v1614 v1611
  let v1616 : BitVec 32 := Scalar.addi v1610 v1609
  let v1617 : BitVec 32 := Scalar.select v1615 v1616 v1610
  let v1618 : BitVec 32 := Scalar.addi c8_i32_1911 v1617
  ![v1618.toNat]
def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off44 (d0 : Dev nD) : Fin 2 → Nat :=
  let c8_i32_1911 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1904 : BitVec 32 := 1#32
  let v1607 : BitVec 32 := Scalar.addi v2 c1_i32_1904
  let c4_i32_1905 : BitVec 32 := 4#32
  let c0_i32_1906 : BitVec 32 := 0#32
  let v1608 : BitVec 1 := Scalar.cmpi .eq c4_i32_1905 c0_i32_1906
  let c1_i32_1907 : BitVec 32 := 1#32
  let v1609 : BitVec 32 := Scalar.select v1608 c1_i32_1907 c4_i32_1905
  let v1610 : BitVec 32 := Scalar.remsi v1607 v1609
  let c0_i32_1909 : BitVec 32 := 0#32
  let v1612 : BitVec 1 := Scalar.cmpi .slt v1610 c0_i32_1909
  let c0_i32_1910 : BitVec 32 := 0#32
  let v1613 : BitVec 1 := Scalar.cmpi .slt v1609 c0_i32_1910
  let v1614 : BitVec 1 := Scalar.xori v1612 v1613
  let c0_i32_1908 : BitVec 32 := 0#32
  let v1611 : BitVec 1 := Scalar.cmpi .ne v1610 c0_i32_1908
  let v1615 : BitVec 1 := Scalar.andi v1614 v1611
  let v1616 : BitVec 32 := Scalar.addi v1610 v1609
  let v1617 : BitVec 32 := Scalar.select v1615 v1616 v1610
  let v1618 : BitVec 32 := Scalar.addi c8_i32_1911 v1617
  let c16_i32_3109 : BitVec 32 := 16#32
  let v3246 : BitVec 32 := Scalar.muli v1618 c16_i32_3109
  let c0_i32_3114 : BitVec 32 := 0#32
  ![v3246.toNat, 0]
def k0_dev25 (d0 : Dev nD) : Nat :=
  let c0_i32_3111 : BitVec 32 := 0#32
  let c8_i32_1911 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1904 : BitVec 32 := 1#32
  let v1607 : BitVec 32 := Scalar.addi v2 c1_i32_1904
  let c4_i32_1905 : BitVec 32 := 4#32
  let c0_i32_1906 : BitVec 32 := 0#32
  let v1608 : BitVec 1 := Scalar.cmpi .eq c4_i32_1905 c0_i32_1906
  let c1_i32_1907 : BitVec 32 := 1#32
  let v1609 : BitVec 32 := Scalar.select v1608 c1_i32_1907 c4_i32_1905
  let v1610 : BitVec 32 := Scalar.remsi v1607 v1609
  let c0_i32_1909 : BitVec 32 := 0#32
  let v1612 : BitVec 1 := Scalar.cmpi .slt v1610 c0_i32_1909
  let c0_i32_1910 : BitVec 32 := 0#32
  let v1613 : BitVec 1 := Scalar.cmpi .slt v1609 c0_i32_1910
  let v1614 : BitVec 1 := Scalar.xori v1612 v1613
  let c0_i32_1908 : BitVec 32 := 0#32
  let v1611 : BitVec 1 := Scalar.cmpi .ne v1610 c0_i32_1908
  let v1615 : BitVec 1 := Scalar.andi v1614 v1611
  let v1616 : BitVec 32 := Scalar.addi v1610 v1609
  let v1617 : BitVec 32 := Scalar.select v1615 v1616 v1610
  let v1618 : BitVec 32 := Scalar.addi c8_i32_1911 v1617
  let c1_i32_3110 : BitVec 32 := 1#32
  let v3247 : BitVec 32 := Scalar.muli v1618 c1_i32_3110
  let v3248 : BitVec 32 := Scalar.addi c0_i32_3111 v3247
  v3248.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1920 : BitVec 32 := 8#32
  let c2_i32_1913 : BitVec 32 := 2#32
  let v1622 : BitVec 32 := Scalar.addi v2 c2_i32_1913
  let c4_i32_1914 : BitVec 32 := 4#32
  let c0_i32_1915 : BitVec 32 := 0#32
  let v1623 : BitVec 1 := Scalar.cmpi .eq c4_i32_1914 c0_i32_1915
  let c1_i32_1916 : BitVec 32 := 1#32
  let v1624 : BitVec 32 := Scalar.select v1623 c1_i32_1916 c4_i32_1914
  let v1625 : BitVec 32 := Scalar.remsi v1622 v1624
  let c0_i32_1918 : BitVec 32 := 0#32
  let v1627 : BitVec 1 := Scalar.cmpi .slt v1625 c0_i32_1918
  let c0_i32_1919 : BitVec 32 := 0#32
  let v1628 : BitVec 1 := Scalar.cmpi .slt v1624 c0_i32_1919
  let v1629 : BitVec 1 := Scalar.xori v1627 v1628
  let c0_i32_1917 : BitVec 32 := 0#32
  let v1626 : BitVec 1 := Scalar.cmpi .ne v1625 c0_i32_1917
  let v1630 : BitVec 1 := Scalar.andi v1629 v1626
  let v1631 : BitVec 32 := Scalar.addi v1625 v1624
  let v1632 : BitVec 32 := Scalar.select v1630 v1631 v1625
  let v1633 : BitVec 32 := Scalar.addi c8_i32_1920 v1632
  let v1634 : BitVec 1 := Scalar.cmpi .ne v2 v1633
  let v1635 : BitVec 32 := Scalar.extui v1634
  let c0_i32_1921 : BitVec 32 := 0#32
  let v1636 : BitVec 1 := Scalar.cmpi .ne v1635 c0_i32_1921
  v1636

def k0_off45 (d0 : Dev nD) : Fin 1 → Nat :=
  let c8_i32_1920 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1913 : BitVec 32 := 2#32
  let v1622 : BitVec 32 := Scalar.addi v2 c2_i32_1913
  let c4_i32_1914 : BitVec 32 := 4#32
  let c0_i32_1915 : BitVec 32 := 0#32
  let v1623 : BitVec 1 := Scalar.cmpi .eq c4_i32_1914 c0_i32_1915
  let c1_i32_1916 : BitVec 32 := 1#32
  let v1624 : BitVec 32 := Scalar.select v1623 c1_i32_1916 c4_i32_1914
  let v1625 : BitVec 32 := Scalar.remsi v1622 v1624
  let c0_i32_1918 : BitVec 32 := 0#32
  let v1627 : BitVec 1 := Scalar.cmpi .slt v1625 c0_i32_1918
  let c0_i32_1919 : BitVec 32 := 0#32
  let v1628 : BitVec 1 := Scalar.cmpi .slt v1624 c0_i32_1919
  let v1629 : BitVec 1 := Scalar.xori v1627 v1628
  let c0_i32_1917 : BitVec 32 := 0#32
  let v1626 : BitVec 1 := Scalar.cmpi .ne v1625 c0_i32_1917
  let v1630 : BitVec 1 := Scalar.andi v1629 v1626
  let v1631 : BitVec 32 := Scalar.addi v1625 v1624
  let v1632 : BitVec 32 := Scalar.select v1630 v1631 v1625
  let v1633 : BitVec 32 := Scalar.addi c8_i32_1920 v1632
  ![v1633.toNat]
def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off48 (d0 : Dev nD) : Fin 2 → Nat :=
  let c8_i32_1920 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1913 : BitVec 32 := 2#32
  let v1622 : BitVec 32 := Scalar.addi v2 c2_i32_1913
  let c4_i32_1914 : BitVec 32 := 4#32
  let c0_i32_1915 : BitVec 32 := 0#32
  let v1623 : BitVec 1 := Scalar.cmpi .eq c4_i32_1914 c0_i32_1915
  let c1_i32_1916 : BitVec 32 := 1#32
  let v1624 : BitVec 32 := Scalar.select v1623 c1_i32_1916 c4_i32_1914
  let v1625 : BitVec 32 := Scalar.remsi v1622 v1624
  let c0_i32_1918 : BitVec 32 := 0#32
  let v1627 : BitVec 1 := Scalar.cmpi .slt v1625 c0_i32_1918
  let c0_i32_1919 : BitVec 32 := 0#32
  let v1628 : BitVec 1 := Scalar.cmpi .slt v1624 c0_i32_1919
  let v1629 : BitVec 1 := Scalar.xori v1627 v1628
  let c0_i32_1917 : BitVec 32 := 0#32
  let v1626 : BitVec 1 := Scalar.cmpi .ne v1625 c0_i32_1917
  let v1630 : BitVec 1 := Scalar.andi v1629 v1626
  let v1631 : BitVec 32 := Scalar.addi v1625 v1624
  let v1632 : BitVec 32 := Scalar.select v1630 v1631 v1625
  let v1633 : BitVec 32 := Scalar.addi c8_i32_1920 v1632
  let c16_i32_3109 : BitVec 32 := 16#32
  let v3246 : BitVec 32 := Scalar.muli v1633 c16_i32_3109
  let c0_i32_3114 : BitVec 32 := 0#32
  ![v3246.toNat, 0]
def k0_dev26 (d0 : Dev nD) : Nat :=
  let c0_i32_3111 : BitVec 32 := 0#32
  let c8_i32_1920 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1913 : BitVec 32 := 2#32
  let v1622 : BitVec 32 := Scalar.addi v2 c2_i32_1913
  let c4_i32_1914 : BitVec 32 := 4#32
  let c0_i32_1915 : BitVec 32 := 0#32
  let v1623 : BitVec 1 := Scalar.cmpi .eq c4_i32_1914 c0_i32_1915
  let c1_i32_1916 : BitVec 32 := 1#32
  let v1624 : BitVec 32 := Scalar.select v1623 c1_i32_1916 c4_i32_1914
  let v1625 : BitVec 32 := Scalar.remsi v1622 v1624
  let c0_i32_1918 : BitVec 32 := 0#32
  let v1627 : BitVec 1 := Scalar.cmpi .slt v1625 c0_i32_1918
  let c0_i32_1919 : BitVec 32 := 0#32
  let v1628 : BitVec 1 := Scalar.cmpi .slt v1624 c0_i32_1919
  let v1629 : BitVec 1 := Scalar.xori v1627 v1628
  let c0_i32_1917 : BitVec 32 := 0#32
  let v1626 : BitVec 1 := Scalar.cmpi .ne v1625 c0_i32_1917
  let v1630 : BitVec 1 := Scalar.andi v1629 v1626
  let v1631 : BitVec 32 := Scalar.addi v1625 v1624
  let v1632 : BitVec 32 := Scalar.select v1630 v1631 v1625
  let v1633 : BitVec 32 := Scalar.addi c8_i32_1920 v1632
  let c1_i32_3110 : BitVec 32 := 1#32
  let v3247 : BitVec 32 := Scalar.muli v1633 c1_i32_3110
  let v3248 : BitVec 32 := Scalar.addi c0_i32_3111 v3247
  v3248.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1929 : BitVec 32 := 8#32
  let c3_i32_1922 : BitVec 32 := 3#32
  let v1637 : BitVec 32 := Scalar.addi v2 c3_i32_1922
  let c4_i32_1923 : BitVec 32 := 4#32
  let c0_i32_1924 : BitVec 32 := 0#32
  let v1638 : BitVec 1 := Scalar.cmpi .eq c4_i32_1923 c0_i32_1924
  let c1_i32_1925 : BitVec 32 := 1#32
  let v1639 : BitVec 32 := Scalar.select v1638 c1_i32_1925 c4_i32_1923
  let v1640 : BitVec 32 := Scalar.remsi v1637 v1639
  let c0_i32_1927 : BitVec 32 := 0#32
  let v1642 : BitVec 1 := Scalar.cmpi .slt v1640 c0_i32_1927
  let c0_i32_1928 : BitVec 32 := 0#32
  let v1643 : BitVec 1 := Scalar.cmpi .slt v1639 c0_i32_1928
  let v1644 : BitVec 1 := Scalar.xori v1642 v1643
  let c0_i32_1926 : BitVec 32 := 0#32
  let v1641 : BitVec 1 := Scalar.cmpi .ne v1640 c0_i32_1926
  let v1645 : BitVec 1 := Scalar.andi v1644 v1641
  let v1646 : BitVec 32 := Scalar.addi v1640 v1639
  let v1647 : BitVec 32 := Scalar.select v1645 v1646 v1640
  let v1648 : BitVec 32 := Scalar.addi c8_i32_1929 v1647
  let v1649 : BitVec 1 := Scalar.cmpi .ne v2 v1648
  let v1650 : BitVec 32 := Scalar.extui v1649
  let c0_i32_1930 : BitVec 32 := 0#32
  let v1651 : BitVec 1 := Scalar.cmpi .ne v1650 c0_i32_1930
  v1651

def k0_off49 (d0 : Dev nD) : Fin 1 → Nat :=
  let c8_i32_1929 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1922 : BitVec 32 := 3#32
  let v1637 : BitVec 32 := Scalar.addi v2 c3_i32_1922
  let c4_i32_1923 : BitVec 32 := 4#32
  let c0_i32_1924 : BitVec 32 := 0#32
  let v1638 : BitVec 1 := Scalar.cmpi .eq c4_i32_1923 c0_i32_1924
  let c1_i32_1925 : BitVec 32 := 1#32
  let v1639 : BitVec 32 := Scalar.select v1638 c1_i32_1925 c4_i32_1923
  let v1640 : BitVec 32 := Scalar.remsi v1637 v1639
  let c0_i32_1927 : BitVec 32 := 0#32
  let v1642 : BitVec 1 := Scalar.cmpi .slt v1640 c0_i32_1927
  let c0_i32_1928 : BitVec 32 := 0#32
  let v1643 : BitVec 1 := Scalar.cmpi .slt v1639 c0_i32_1928
  let v1644 : BitVec 1 := Scalar.xori v1642 v1643
  let c0_i32_1926 : BitVec 32 := 0#32
  let v1641 : BitVec 1 := Scalar.cmpi .ne v1640 c0_i32_1926
  let v1645 : BitVec 1 := Scalar.andi v1644 v1641
  let v1646 : BitVec 32 := Scalar.addi v1640 v1639
  let v1647 : BitVec 32 := Scalar.select v1645 v1646 v1640
  let v1648 : BitVec 32 := Scalar.addi c8_i32_1929 v1647
  ![v1648.toNat]
def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off52 (d0 : Dev nD) : Fin 2 → Nat :=
  let c8_i32_1929 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1922 : BitVec 32 := 3#32
  let v1637 : BitVec 32 := Scalar.addi v2 c3_i32_1922
  let c4_i32_1923 : BitVec 32 := 4#32
  let c0_i32_1924 : BitVec 32 := 0#32
  let v1638 : BitVec 1 := Scalar.cmpi .eq c4_i32_1923 c0_i32_1924
  let c1_i32_1925 : BitVec 32 := 1#32
  let v1639 : BitVec 32 := Scalar.select v1638 c1_i32_1925 c4_i32_1923
  let v1640 : BitVec 32 := Scalar.remsi v1637 v1639
  let c0_i32_1927 : BitVec 32 := 0#32
  let v1642 : BitVec 1 := Scalar.cmpi .slt v1640 c0_i32_1927
  let c0_i32_1928 : BitVec 32 := 0#32
  let v1643 : BitVec 1 := Scalar.cmpi .slt v1639 c0_i32_1928
  let v1644 : BitVec 1 := Scalar.xori v1642 v1643
  let c0_i32_1926 : BitVec 32 := 0#32
  let v1641 : BitVec 1 := Scalar.cmpi .ne v1640 c0_i32_1926
  let v1645 : BitVec 1 := Scalar.andi v1644 v1641
  let v1646 : BitVec 32 := Scalar.addi v1640 v1639
  let v1647 : BitVec 32 := Scalar.select v1645 v1646 v1640
  let v1648 : BitVec 32 := Scalar.addi c8_i32_1929 v1647
  let c16_i32_3109 : BitVec 32 := 16#32
  let v3246 : BitVec 32 := Scalar.muli v1648 c16_i32_3109
  let c0_i32_3114 : BitVec 32 := 0#32
  ![v3246.toNat, 0]
def k0_dev27 (d0 : Dev nD) : Nat :=
  let c0_i32_3111 : BitVec 32 := 0#32
  let c8_i32_1929 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1922 : BitVec 32 := 3#32
  let v1637 : BitVec 32 := Scalar.addi v2 c3_i32_1922
  let c4_i32_1923 : BitVec 32 := 4#32
  let c0_i32_1924 : BitVec 32 := 0#32
  let v1638 : BitVec 1 := Scalar.cmpi .eq c4_i32_1923 c0_i32_1924
  let c1_i32_1925 : BitVec 32 := 1#32
  let v1639 : BitVec 32 := Scalar.select v1638 c1_i32_1925 c4_i32_1923
  let v1640 : BitVec 32 := Scalar.remsi v1637 v1639
  let c0_i32_1927 : BitVec 32 := 0#32
  let v1642 : BitVec 1 := Scalar.cmpi .slt v1640 c0_i32_1927
  let c0_i32_1928 : BitVec 32 := 0#32
  let v1643 : BitVec 1 := Scalar.cmpi .slt v1639 c0_i32_1928
  let v1644 : BitVec 1 := Scalar.xori v1642 v1643
  let c0_i32_1926 : BitVec 32 := 0#32
  let v1641 : BitVec 1 := Scalar.cmpi .ne v1640 c0_i32_1926
  let v1645 : BitVec 1 := Scalar.andi v1644 v1641
  let v1646 : BitVec 32 := Scalar.addi v1640 v1639
  let v1647 : BitVec 32 := Scalar.select v1645 v1646 v1640
  let v1648 : BitVec 32 := Scalar.addi c8_i32_1929 v1647
  let c1_i32_3110 : BitVec 32 := 1#32
  let v3247 : BitVec 32 := Scalar.muli v1648 c1_i32_3110
  let v3248 : BitVec 32 := Scalar.addi c0_i32_3111 v3247
  v3248.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2244 : BitVec 32 := 12#32
  let c0_i32_2237 : BitVec 32 := 0#32
  let v1923 : BitVec 32 := Scalar.addi v2 c0_i32_2237
  let c4_i32_2238 : BitVec 32 := 4#32
  let c0_i32_2239 : BitVec 32 := 0#32
  let v1924 : BitVec 1 := Scalar.cmpi .eq c4_i32_2238 c0_i32_2239
  let c1_i32_2240 : BitVec 32 := 1#32
  let v1925 : BitVec 32 := Scalar.select v1924 c1_i32_2240 c4_i32_2238
  let v1926 : BitVec 32 := Scalar.remsi v1923 v1925
  let c0_i32_2242 : BitVec 32 := 0#32
  let v1928 : BitVec 1 := Scalar.cmpi .slt v1926 c0_i32_2242
  let c0_i32_2243 : BitVec 32 := 0#32
  let v1929 : BitVec 1 := Scalar.cmpi .slt v1925 c0_i32_2243
  let v1930 : BitVec 1 := Scalar.xori v1928 v1929
  let c0_i32_2241 : BitVec 32 := 0#32
  let v1927 : BitVec 1 := Scalar.cmpi .ne v1926 c0_i32_2241
  let v1931 : BitVec 1 := Scalar.andi v1930 v1927
  let v1932 : BitVec 32 := Scalar.addi v1926 v1925
  let v1933 : BitVec 32 := Scalar.select v1931 v1932 v1926
  let v1934 : BitVec 32 := Scalar.addi c12_i32_2244 v1933
  let v1935 : BitVec 1 := Scalar.cmpi .ne v2 v1934
  let v1936 : BitVec 32 := Scalar.extui v1935
  let c0_i32_2245 : BitVec 32 := 0#32
  let v1937 : BitVec 1 := Scalar.cmpi .ne v1936 c0_i32_2245
  v1937

def k0_off53 (d0 : Dev nD) : Fin 1 → Nat :=
  let c12_i32_2244 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2237 : BitVec 32 := 0#32
  let v1923 : BitVec 32 := Scalar.addi v2 c0_i32_2237
  let c4_i32_2238 : BitVec 32 := 4#32
  let c0_i32_2239 : BitVec 32 := 0#32
  let v1924 : BitVec 1 := Scalar.cmpi .eq c4_i32_2238 c0_i32_2239
  let c1_i32_2240 : BitVec 32 := 1#32
  let v1925 : BitVec 32 := Scalar.select v1924 c1_i32_2240 c4_i32_2238
  let v1926 : BitVec 32 := Scalar.remsi v1923 v1925
  let c0_i32_2242 : BitVec 32 := 0#32
  let v1928 : BitVec 1 := Scalar.cmpi .slt v1926 c0_i32_2242
  let c0_i32_2243 : BitVec 32 := 0#32
  let v1929 : BitVec 1 := Scalar.cmpi .slt v1925 c0_i32_2243
  let v1930 : BitVec 1 := Scalar.xori v1928 v1929
  let c0_i32_2241 : BitVec 32 := 0#32
  let v1927 : BitVec 1 := Scalar.cmpi .ne v1926 c0_i32_2241
  let v1931 : BitVec 1 := Scalar.andi v1930 v1927
  let v1932 : BitVec 32 := Scalar.addi v1926 v1925
  let v1933 : BitVec 32 := Scalar.select v1931 v1932 v1926
  let v1934 : BitVec 32 := Scalar.addi c12_i32_2244 v1933
  ![v1934.toNat]
def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off56 (d0 : Dev nD) : Fin 2 → Nat :=
  let c12_i32_2244 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2237 : BitVec 32 := 0#32
  let v1923 : BitVec 32 := Scalar.addi v2 c0_i32_2237
  let c4_i32_2238 : BitVec 32 := 4#32
  let c0_i32_2239 : BitVec 32 := 0#32
  let v1924 : BitVec 1 := Scalar.cmpi .eq c4_i32_2238 c0_i32_2239
  let c1_i32_2240 : BitVec 32 := 1#32
  let v1925 : BitVec 32 := Scalar.select v1924 c1_i32_2240 c4_i32_2238
  let v1926 : BitVec 32 := Scalar.remsi v1923 v1925
  let c0_i32_2242 : BitVec 32 := 0#32
  let v1928 : BitVec 1 := Scalar.cmpi .slt v1926 c0_i32_2242
  let c0_i32_2243 : BitVec 32 := 0#32
  let v1929 : BitVec 1 := Scalar.cmpi .slt v1925 c0_i32_2243
  let v1930 : BitVec 1 := Scalar.xori v1928 v1929
  let c0_i32_2241 : BitVec 32 := 0#32
  let v1927 : BitVec 1 := Scalar.cmpi .ne v1926 c0_i32_2241
  let v1931 : BitVec 1 := Scalar.andi v1930 v1927
  let v1932 : BitVec 32 := Scalar.addi v1926 v1925
  let v1933 : BitVec 32 := Scalar.select v1931 v1932 v1926
  let v1934 : BitVec 32 := Scalar.addi c12_i32_2244 v1933
  let c16_i32_3109 : BitVec 32 := 16#32
  let v3246 : BitVec 32 := Scalar.muli v1934 c16_i32_3109
  let c0_i32_3114 : BitVec 32 := 0#32
  ![v3246.toNat, 0]
def k0_dev28 (d0 : Dev nD) : Nat :=
  let c0_i32_3111 : BitVec 32 := 0#32
  let c12_i32_2244 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2237 : BitVec 32 := 0#32
  let v1923 : BitVec 32 := Scalar.addi v2 c0_i32_2237
  let c4_i32_2238 : BitVec 32 := 4#32
  let c0_i32_2239 : BitVec 32 := 0#32
  let v1924 : BitVec 1 := Scalar.cmpi .eq c4_i32_2238 c0_i32_2239
  let c1_i32_2240 : BitVec 32 := 1#32
  let v1925 : BitVec 32 := Scalar.select v1924 c1_i32_2240 c4_i32_2238
  let v1926 : BitVec 32 := Scalar.remsi v1923 v1925
  let c0_i32_2242 : BitVec 32 := 0#32
  let v1928 : BitVec 1 := Scalar.cmpi .slt v1926 c0_i32_2242
  let c0_i32_2243 : BitVec 32 := 0#32
  let v1929 : BitVec 1 := Scalar.cmpi .slt v1925 c0_i32_2243
  let v1930 : BitVec 1 := Scalar.xori v1928 v1929
  let c0_i32_2241 : BitVec 32 := 0#32
  let v1927 : BitVec 1 := Scalar.cmpi .ne v1926 c0_i32_2241
  let v1931 : BitVec 1 := Scalar.andi v1930 v1927
  let v1932 : BitVec 32 := Scalar.addi v1926 v1925
  let v1933 : BitVec 32 := Scalar.select v1931 v1932 v1926
  let v1934 : BitVec 32 := Scalar.addi c12_i32_2244 v1933
  let c1_i32_3110 : BitVec 32 := 1#32
  let v3247 : BitVec 32 := Scalar.muli v1934 c1_i32_3110
  let v3248 : BitVec 32 := Scalar.addi c0_i32_3111 v3247
  v3248.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2253 : BitVec 32 := 12#32
  let c1_i32_2246 : BitVec 32 := 1#32
  let v1938 : BitVec 32 := Scalar.addi v2 c1_i32_2246
  let c4_i32_2247 : BitVec 32 := 4#32
  let c0_i32_2248 : BitVec 32 := 0#32
  let v1939 : BitVec 1 := Scalar.cmpi .eq c4_i32_2247 c0_i32_2248
  let c1_i32_2249 : BitVec 32 := 1#32
  let v1940 : BitVec 32 := Scalar.select v1939 c1_i32_2249 c4_i32_2247
  let v1941 : BitVec 32 := Scalar.remsi v1938 v1940
  let c0_i32_2251 : BitVec 32 := 0#32
  let v1943 : BitVec 1 := Scalar.cmpi .slt v1941 c0_i32_2251
  let c0_i32_2252 : BitVec 32 := 0#32
  let v1944 : BitVec 1 := Scalar.cmpi .slt v1940 c0_i32_2252
  let v1945 : BitVec 1 := Scalar.xori v1943 v1944
  let c0_i32_2250 : BitVec 32 := 0#32
  let v1942 : BitVec 1 := Scalar.cmpi .ne v1941 c0_i32_2250
  let v1946 : BitVec 1 := Scalar.andi v1945 v1942
  let v1947 : BitVec 32 := Scalar.addi v1941 v1940
  let v1948 : BitVec 32 := Scalar.select v1946 v1947 v1941
  let v1949 : BitVec 32 := Scalar.addi c12_i32_2253 v1948
  let v1950 : BitVec 1 := Scalar.cmpi .ne v2 v1949
  let v1951 : BitVec 32 := Scalar.extui v1950
  let c0_i32_2254 : BitVec 32 := 0#32
  let v1952 : BitVec 1 := Scalar.cmpi .ne v1951 c0_i32_2254
  v1952

def k0_off57 (d0 : Dev nD) : Fin 1 → Nat :=
  let c12_i32_2253 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2246 : BitVec 32 := 1#32
  let v1938 : BitVec 32 := Scalar.addi v2 c1_i32_2246
  let c4_i32_2247 : BitVec 32 := 4#32
  let c0_i32_2248 : BitVec 32 := 0#32
  let v1939 : BitVec 1 := Scalar.cmpi .eq c4_i32_2247 c0_i32_2248
  let c1_i32_2249 : BitVec 32 := 1#32
  let v1940 : BitVec 32 := Scalar.select v1939 c1_i32_2249 c4_i32_2247
  let v1941 : BitVec 32 := Scalar.remsi v1938 v1940
  let c0_i32_2251 : BitVec 32 := 0#32
  let v1943 : BitVec 1 := Scalar.cmpi .slt v1941 c0_i32_2251
  let c0_i32_2252 : BitVec 32 := 0#32
  let v1944 : BitVec 1 := Scalar.cmpi .slt v1940 c0_i32_2252
  let v1945 : BitVec 1 := Scalar.xori v1943 v1944
  let c0_i32_2250 : BitVec 32 := 0#32
  let v1942 : BitVec 1 := Scalar.cmpi .ne v1941 c0_i32_2250
  let v1946 : BitVec 1 := Scalar.andi v1945 v1942
  let v1947 : BitVec 32 := Scalar.addi v1941 v1940
  let v1948 : BitVec 32 := Scalar.select v1946 v1947 v1941
  let v1949 : BitVec 32 := Scalar.addi c12_i32_2253 v1948
  ![v1949.toNat]
def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off60 (d0 : Dev nD) : Fin 2 → Nat :=
  let c12_i32_2253 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2246 : BitVec 32 := 1#32
  let v1938 : BitVec 32 := Scalar.addi v2 c1_i32_2246
  let c4_i32_2247 : BitVec 32 := 4#32
  let c0_i32_2248 : BitVec 32 := 0#32
  let v1939 : BitVec 1 := Scalar.cmpi .eq c4_i32_2247 c0_i32_2248
  let c1_i32_2249 : BitVec 32 := 1#32
  let v1940 : BitVec 32 := Scalar.select v1939 c1_i32_2249 c4_i32_2247
  let v1941 : BitVec 32 := Scalar.remsi v1938 v1940
  let c0_i32_2251 : BitVec 32 := 0#32
  let v1943 : BitVec 1 := Scalar.cmpi .slt v1941 c0_i32_2251
  let c0_i32_2252 : BitVec 32 := 0#32
  let v1944 : BitVec 1 := Scalar.cmpi .slt v1940 c0_i32_2252
  let v1945 : BitVec 1 := Scalar.xori v1943 v1944
  let c0_i32_2250 : BitVec 32 := 0#32
  let v1942 : BitVec 1 := Scalar.cmpi .ne v1941 c0_i32_2250
  let v1946 : BitVec 1 := Scalar.andi v1945 v1942
  let v1947 : BitVec 32 := Scalar.addi v1941 v1940
  let v1948 : BitVec 32 := Scalar.select v1946 v1947 v1941
  let v1949 : BitVec 32 := Scalar.addi c12_i32_2253 v1948
  let c16_i32_3109 : BitVec 32 := 16#32
  let v3246 : BitVec 32 := Scalar.muli v1949 c16_i32_3109
  let c0_i32_3114 : BitVec 32 := 0#32
  ![v3246.toNat, 0]
def k0_dev29 (d0 : Dev nD) : Nat :=
  let c0_i32_3111 : BitVec 32 := 0#32
  let c12_i32_2253 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2246 : BitVec 32 := 1#32
  let v1938 : BitVec 32 := Scalar.addi v2 c1_i32_2246
  let c4_i32_2247 : BitVec 32 := 4#32
  let c0_i32_2248 : BitVec 32 := 0#32
  let v1939 : BitVec 1 := Scalar.cmpi .eq c4_i32_2247 c0_i32_2248
  let c1_i32_2249 : BitVec 32 := 1#32
  let v1940 : BitVec 32 := Scalar.select v1939 c1_i32_2249 c4_i32_2247
  let v1941 : BitVec 32 := Scalar.remsi v1938 v1940
  let c0_i32_2251 : BitVec 32 := 0#32
  let v1943 : BitVec 1 := Scalar.cmpi .slt v1941 c0_i32_2251
  let c0_i32_2252 : BitVec 32 := 0#32
  let v1944 : BitVec 1 := Scalar.cmpi .slt v1940 c0_i32_2252
  let v1945 : BitVec 1 := Scalar.xori v1943 v1944
  let c0_i32_2250 : BitVec 32 := 0#32
  let v1942 : BitVec 1 := Scalar.cmpi .ne v1941 c0_i32_2250
  let v1946 : BitVec 1 := Scalar.andi v1945 v1942
  let v1947 : BitVec 32 := Scalar.addi v1941 v1940
  let v1948 : BitVec 32 := Scalar.select v1946 v1947 v1941
  let v1949 : BitVec 32 := Scalar.addi c12_i32_2253 v1948
  let c1_i32_3110 : BitVec 32 := 1#32
  let v3247 : BitVec 32 := Scalar.muli v1949 c1_i32_3110
  let v3248 : BitVec 32 := Scalar.addi c0_i32_3111 v3247
  v3248.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2262 : BitVec 32 := 12#32
  let c2_i32_2255 : BitVec 32 := 2#32
  let v1953 : BitVec 32 := Scalar.addi v2 c2_i32_2255
  let c4_i32_2256 : BitVec 32 := 4#32
  let c0_i32_2257 : BitVec 32 := 0#32
  let v1954 : BitVec 1 := Scalar.cmpi .eq c4_i32_2256 c0_i32_2257
  let c1_i32_2258 : BitVec 32 := 1#32
  let v1955 : BitVec 32 := Scalar.select v1954 c1_i32_2258 c4_i32_2256
  let v1956 : BitVec 32 := Scalar.remsi v1953 v1955
  let c0_i32_2260 : BitVec 32 := 0#32
  let v1958 : BitVec 1 := Scalar.cmpi .slt v1956 c0_i32_2260
  let c0_i32_2261 : BitVec 32 := 0#32
  let v1959 : BitVec 1 := Scalar.cmpi .slt v1955 c0_i32_2261
  let v1960 : BitVec 1 := Scalar.xori v1958 v1959
  let c0_i32_2259 : BitVec 32 := 0#32
  let v1957 : BitVec 1 := Scalar.cmpi .ne v1956 c0_i32_2259
  let v1961 : BitVec 1 := Scalar.andi v1960 v1957
  let v1962 : BitVec 32 := Scalar.addi v1956 v1955
  let v1963 : BitVec 32 := Scalar.select v1961 v1962 v1956
  let v1964 : BitVec 32 := Scalar.addi c12_i32_2262 v1963
  let v1965 : BitVec 1 := Scalar.cmpi .ne v2 v1964
  let v1966 : BitVec 32 := Scalar.extui v1965
  let c0_i32_2263 : BitVec 32 := 0#32
  let v1967 : BitVec 1 := Scalar.cmpi .ne v1966 c0_i32_2263
  v1967

def k0_off61 (d0 : Dev nD) : Fin 1 → Nat :=
  let c12_i32_2262 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2255 : BitVec 32 := 2#32
  let v1953 : BitVec 32 := Scalar.addi v2 c2_i32_2255
  let c4_i32_2256 : BitVec 32 := 4#32
  let c0_i32_2257 : BitVec 32 := 0#32
  let v1954 : BitVec 1 := Scalar.cmpi .eq c4_i32_2256 c0_i32_2257
  let c1_i32_2258 : BitVec 32 := 1#32
  let v1955 : BitVec 32 := Scalar.select v1954 c1_i32_2258 c4_i32_2256
  let v1956 : BitVec 32 := Scalar.remsi v1953 v1955
  let c0_i32_2260 : BitVec 32 := 0#32
  let v1958 : BitVec 1 := Scalar.cmpi .slt v1956 c0_i32_2260
  let c0_i32_2261 : BitVec 32 := 0#32
  let v1959 : BitVec 1 := Scalar.cmpi .slt v1955 c0_i32_2261
  let v1960 : BitVec 1 := Scalar.xori v1958 v1959
  let c0_i32_2259 : BitVec 32 := 0#32
  let v1957 : BitVec 1 := Scalar.cmpi .ne v1956 c0_i32_2259
  let v1961 : BitVec 1 := Scalar.andi v1960 v1957
  let v1962 : BitVec 32 := Scalar.addi v1956 v1955
  let v1963 : BitVec 32 := Scalar.select v1961 v1962 v1956
  let v1964 : BitVec 32 := Scalar.addi c12_i32_2262 v1963
  ![v1964.toNat]
def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off64 (d0 : Dev nD) : Fin 2 → Nat :=
  let c12_i32_2262 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2255 : BitVec 32 := 2#32
  let v1953 : BitVec 32 := Scalar.addi v2 c2_i32_2255
  let c4_i32_2256 : BitVec 32 := 4#32
  let c0_i32_2257 : BitVec 32 := 0#32
  let v1954 : BitVec 1 := Scalar.cmpi .eq c4_i32_2256 c0_i32_2257
  let c1_i32_2258 : BitVec 32 := 1#32
  let v1955 : BitVec 32 := Scalar.select v1954 c1_i32_2258 c4_i32_2256
  let v1956 : BitVec 32 := Scalar.remsi v1953 v1955
  let c0_i32_2260 : BitVec 32 := 0#32
  let v1958 : BitVec 1 := Scalar.cmpi .slt v1956 c0_i32_2260
  let c0_i32_2261 : BitVec 32 := 0#32
  let v1959 : BitVec 1 := Scalar.cmpi .slt v1955 c0_i32_2261
  let v1960 : BitVec 1 := Scalar.xori v1958 v1959
  let c0_i32_2259 : BitVec 32 := 0#32
  let v1957 : BitVec 1 := Scalar.cmpi .ne v1956 c0_i32_2259
  let v1961 : BitVec 1 := Scalar.andi v1960 v1957
  let v1962 : BitVec 32 := Scalar.addi v1956 v1955
  let v1963 : BitVec 32 := Scalar.select v1961 v1962 v1956
  let v1964 : BitVec 32 := Scalar.addi c12_i32_2262 v1963
  let c16_i32_3109 : BitVec 32 := 16#32
  let v3246 : BitVec 32 := Scalar.muli v1964 c16_i32_3109
  let c0_i32_3114 : BitVec 32 := 0#32
  ![v3246.toNat, 0]
def k0_dev30 (d0 : Dev nD) : Nat :=
  let c0_i32_3111 : BitVec 32 := 0#32
  let c12_i32_2262 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2255 : BitVec 32 := 2#32
  let v1953 : BitVec 32 := Scalar.addi v2 c2_i32_2255
  let c4_i32_2256 : BitVec 32 := 4#32
  let c0_i32_2257 : BitVec 32 := 0#32
  let v1954 : BitVec 1 := Scalar.cmpi .eq c4_i32_2256 c0_i32_2257
  let c1_i32_2258 : BitVec 32 := 1#32
  let v1955 : BitVec 32 := Scalar.select v1954 c1_i32_2258 c4_i32_2256
  let v1956 : BitVec 32 := Scalar.remsi v1953 v1955
  let c0_i32_2260 : BitVec 32 := 0#32
  let v1958 : BitVec 1 := Scalar.cmpi .slt v1956 c0_i32_2260
  let c0_i32_2261 : BitVec 32 := 0#32
  let v1959 : BitVec 1 := Scalar.cmpi .slt v1955 c0_i32_2261
  let v1960 : BitVec 1 := Scalar.xori v1958 v1959
  let c0_i32_2259 : BitVec 32 := 0#32
  let v1957 : BitVec 1 := Scalar.cmpi .ne v1956 c0_i32_2259
  let v1961 : BitVec 1 := Scalar.andi v1960 v1957
  let v1962 : BitVec 32 := Scalar.addi v1956 v1955
  let v1963 : BitVec 32 := Scalar.select v1961 v1962 v1956
  let v1964 : BitVec 32 := Scalar.addi c12_i32_2262 v1963
  let c1_i32_3110 : BitVec 32 := 1#32
  let v3247 : BitVec 32 := Scalar.muli v1964 c1_i32_3110
  let v3248 : BitVec 32 := Scalar.addi c0_i32_3111 v3247
  v3248.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2271 : BitVec 32 := 12#32
  let c3_i32_2264 : BitVec 32 := 3#32
  let v1968 : BitVec 32 := Scalar.addi v2 c3_i32_2264
  let c4_i32_2265 : BitVec 32 := 4#32
  let c0_i32_2266 : BitVec 32 := 0#32
  let v1969 : BitVec 1 := Scalar.cmpi .eq c4_i32_2265 c0_i32_2266
  let c1_i32_2267 : BitVec 32 := 1#32
  let v1970 : BitVec 32 := Scalar.select v1969 c1_i32_2267 c4_i32_2265
  let v1971 : BitVec 32 := Scalar.remsi v1968 v1970
  let c0_i32_2269 : BitVec 32 := 0#32
  let v1973 : BitVec 1 := Scalar.cmpi .slt v1971 c0_i32_2269
  let c0_i32_2270 : BitVec 32 := 0#32
  let v1974 : BitVec 1 := Scalar.cmpi .slt v1970 c0_i32_2270
  let v1975 : BitVec 1 := Scalar.xori v1973 v1974
  let c0_i32_2268 : BitVec 32 := 0#32
  let v1972 : BitVec 1 := Scalar.cmpi .ne v1971 c0_i32_2268
  let v1976 : BitVec 1 := Scalar.andi v1975 v1972
  let v1977 : BitVec 32 := Scalar.addi v1971 v1970
  let v1978 : BitVec 32 := Scalar.select v1976 v1977 v1971
  let v1979 : BitVec 32 := Scalar.addi c12_i32_2271 v1978
  let v1980 : BitVec 1 := Scalar.cmpi .ne v2 v1979
  let v1981 : BitVec 32 := Scalar.extui v1980
  let c0_i32_2272 : BitVec 32 := 0#32
  let v1982 : BitVec 1 := Scalar.cmpi .ne v1981 c0_i32_2272
  v1982

def k0_off65 (d0 : Dev nD) : Fin 1 → Nat :=
  let c12_i32_2271 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2264 : BitVec 32 := 3#32
  let v1968 : BitVec 32 := Scalar.addi v2 c3_i32_2264
  let c4_i32_2265 : BitVec 32 := 4#32
  let c0_i32_2266 : BitVec 32 := 0#32
  let v1969 : BitVec 1 := Scalar.cmpi .eq c4_i32_2265 c0_i32_2266
  let c1_i32_2267 : BitVec 32 := 1#32
  let v1970 : BitVec 32 := Scalar.select v1969 c1_i32_2267 c4_i32_2265
  let v1971 : BitVec 32 := Scalar.remsi v1968 v1970
  let c0_i32_2269 : BitVec 32 := 0#32
  let v1973 : BitVec 1 := Scalar.cmpi .slt v1971 c0_i32_2269
  let c0_i32_2270 : BitVec 32 := 0#32
  let v1974 : BitVec 1 := Scalar.cmpi .slt v1970 c0_i32_2270
  let v1975 : BitVec 1 := Scalar.xori v1973 v1974
  let c0_i32_2268 : BitVec 32 := 0#32
  let v1972 : BitVec 1 := Scalar.cmpi .ne v1971 c0_i32_2268
  let v1976 : BitVec 1 := Scalar.andi v1975 v1972
  let v1977 : BitVec 32 := Scalar.addi v1971 v1970
  let v1978 : BitVec 32 := Scalar.select v1976 v1977 v1971
  let v1979 : BitVec 32 := Scalar.addi c12_i32_2271 v1978
  ![v1979.toNat]
def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3112 : BitVec 32 := 0#32
  let c0_i32_3113 : BitVec 32 := 0#32
  ![v2.toNat, 0, 0]
def k0_off68 (d0 : Dev nD) : Fin 2 → Nat :=
  let c12_i32_2271 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2264 : BitVec 32 := 3#32
  let v1968 : BitVec 32 := Scalar.addi v2 c3_i32_2264
  let c4_i32_2265 : BitVec 32 := 4#32
  let c0_i32_2266 : BitVec 32 := 0#32
  let v1969 : BitVec 1 := Scalar.cmpi .eq c4_i32_2265 c0_i32_2266
  let c1_i32_2267 : BitVec 32 := 1#32
  let v1970 : BitVec 32 := Scalar.select v1969 c1_i32_2267 c4_i32_2265
  let v1971 : BitVec 32 := Scalar.remsi v1968 v1970
  let c0_i32_2269 : BitVec 32 := 0#32
  let v1973 : BitVec 1 := Scalar.cmpi .slt v1971 c0_i32_2269
  let c0_i32_2270 : BitVec 32 := 0#32
  let v1974 : BitVec 1 := Scalar.cmpi .slt v1970 c0_i32_2270
  let v1975 : BitVec 1 := Scalar.xori v1973 v1974
  let c0_i32_2268 : BitVec 32 := 0#32
  let v1972 : BitVec 1 := Scalar.cmpi .ne v1971 c0_i32_2268
  let v1976 : BitVec 1 := Scalar.andi v1975 v1972
  let v1977 : BitVec 32 := Scalar.addi v1971 v1970
  let v1978 : BitVec 32 := Scalar.select v1976 v1977 v1971
  let v1979 : BitVec 32 := Scalar.addi c12_i32_2271 v1978
  let c16_i32_3109 : BitVec 32 := 16#32
  let v3246 : BitVec 32 := Scalar.muli v1979 c16_i32_3109
  let c0_i32_3114 : BitVec 32 := 0#32
  ![v3246.toNat, 0]
def k0_dev31 (d0 : Dev nD) : Nat :=
  let c0_i32_3111 : BitVec 32 := 0#32
  let c12_i32_2271 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2264 : BitVec 32 := 3#32
  let v1968 : BitVec 32 := Scalar.addi v2 c3_i32_2264
  let c4_i32_2265 : BitVec 32 := 4#32
  let c0_i32_2266 : BitVec 32 := 0#32
  let v1969 : BitVec 1 := Scalar.cmpi .eq c4_i32_2265 c0_i32_2266
  let c1_i32_2267 : BitVec 32 := 1#32
  let v1970 : BitVec 32 := Scalar.select v1969 c1_i32_2267 c4_i32_2265
  let v1971 : BitVec 32 := Scalar.remsi v1968 v1970
  let c0_i32_2269 : BitVec 32 := 0#32
  let v1973 : BitVec 1 := Scalar.cmpi .slt v1971 c0_i32_2269
  let c0_i32_2270 : BitVec 32 := 0#32
  let v1974 : BitVec 1 := Scalar.cmpi .slt v1970 c0_i32_2270
  let v1975 : BitVec 1 := Scalar.xori v1973 v1974
  let c0_i32_2268 : BitVec 32 := 0#32
  let v1972 : BitVec 1 := Scalar.cmpi .ne v1971 c0_i32_2268
  let v1976 : BitVec 1 := Scalar.andi v1975 v1972
  let v1977 : BitVec 32 := Scalar.addi v1971 v1970
  let v1978 : BitVec 32 := Scalar.select v1976 v1977 v1971
  let v1979 : BitVec 32 := Scalar.addi c12_i32_2271 v1978
  let c1_i32_3110 : BitVec 32 := 1#32
  let v3247 : BitVec 32 := Scalar.muli v1979 c1_i32_3110
  let v3248 : BitVec 32 := Scalar.addi c0_i32_3111 v3247
  v3248.toNat
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2273 : BitVec 32 := 16#32
  let v1983 : BitVec 32 := Scalar.muli v2 c16_i32_2273
  let v1984 : Index := Scalar.indexCast v1983
  let c0_2274 : Index := 0#32
  ![v1984.toNat, 0]
def k0_off70 (d0 : Dev nD) (c1_i32_2275 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1987 : BitVec 32 := Scalar.addi v2 c1_i32_2275
  let c16_i32_2276 : BitVec 32 := 16#32
  let c0_i32_2277 : BitVec 32 := 0#32
  let v1988 : BitVec 1 := Scalar.cmpi .eq c16_i32_2276 c0_i32_2277
  let c1_i32_2278 : BitVec 32 := 1#32
  let v1989 : BitVec 32 := Scalar.select v1988 c1_i32_2278 c16_i32_2276
  let v1990 : BitVec 32 := Scalar.remsi v1987 v1989
  let c0_i32_2280 : BitVec 32 := 0#32
  let v1992 : BitVec 1 := Scalar.cmpi .slt v1990 c0_i32_2280
  let c0_i32_2281 : BitVec 32 := 0#32
  let v1993 : BitVec 1 := Scalar.cmpi .slt v1989 c0_i32_2281
  let v1994 : BitVec 1 := Scalar.xori v1992 v1993
  let c0_i32_2279 : BitVec 32 := 0#32
  let v1991 : BitVec 1 := Scalar.cmpi .ne v1990 c0_i32_2279
  let v1995 : BitVec 1 := Scalar.andi v1994 v1991
  let v1996 : BitVec 32 := Scalar.addi v1990 v1989
  let v1997 : BitVec 32 := Scalar.select v1995 v1996 v1990
  ![v1997.toNat]
def k0_off71 (d0 : Dev nD) (c1_i32_2275 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1987 : BitVec 32 := Scalar.addi v2 c1_i32_2275
  let c16_i32_2276 : BitVec 32 := 16#32
  let c0_i32_2277 : BitVec 32 := 0#32
  let v1988 : BitVec 1 := Scalar.cmpi .eq c16_i32_2276 c0_i32_2277
  let c1_i32_2278 : BitVec 32 := 1#32
  let v1989 : BitVec 32 := Scalar.select v1988 c1_i32_2278 c16_i32_2276
  let v1990 : BitVec 32 := Scalar.remsi v1987 v1989
  let c0_i32_2280 : BitVec 32 := 0#32
  let v1992 : BitVec 1 := Scalar.cmpi .slt v1990 c0_i32_2280
  let c0_i32_2281 : BitVec 32 := 0#32
  let v1993 : BitVec 1 := Scalar.cmpi .slt v1989 c0_i32_2281
  let v1994 : BitVec 1 := Scalar.xori v1992 v1993
  let c0_i32_2279 : BitVec 32 := 0#32
  let v1991 : BitVec 1 := Scalar.cmpi .ne v1990 c0_i32_2279
  let v1995 : BitVec 1 := Scalar.andi v1994 v1991
  let v1996 : BitVec 32 := Scalar.addi v1990 v1989
  let v1997 : BitVec 32 := Scalar.select v1995 v1996 v1990
  let c0_i32_2284 : BitVec 32 := 0#32
  let c0_i32_2285 : BitVec 32 := 0#32
  ![v1997.toNat, 0, 0]
def k0_off72 (d0 : Dev nD) (c1_i32_2275 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1987 : BitVec 32 := Scalar.addi v2 c1_i32_2275
  let c16_i32_2276 : BitVec 32 := 16#32
  let c0_i32_2277 : BitVec 32 := 0#32
  let v1988 : BitVec 1 := Scalar.cmpi .eq c16_i32_2276 c0_i32_2277
  let c1_i32_2278 : BitVec 32 := 1#32
  let v1989 : BitVec 32 := Scalar.select v1988 c1_i32_2278 c16_i32_2276
  let v1990 : BitVec 32 := Scalar.remsi v1987 v1989
  let c0_i32_2280 : BitVec 32 := 0#32
  let v1992 : BitVec 1 := Scalar.cmpi .slt v1990 c0_i32_2280
  let c0_i32_2281 : BitVec 32 := 0#32
  let v1993 : BitVec 1 := Scalar.cmpi .slt v1989 c0_i32_2281
  let v1994 : BitVec 1 := Scalar.xori v1992 v1993
  let c0_i32_2279 : BitVec 32 := 0#32
  let v1991 : BitVec 1 := Scalar.cmpi .ne v1990 c0_i32_2279
  let v1995 : BitVec 1 := Scalar.andi v1994 v1991
  let v1996 : BitVec 32 := Scalar.addi v1990 v1989
  let v1997 : BitVec 32 := Scalar.select v1995 v1996 v1990
  let v2005 : Index := Scalar.indexCast v1997
  let c0_2288 : Index := 0#32
  let c0_2289 : Index := 0#32
  ![v2005.toNat, 0, 0]
def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2510 : BitVec 32 := 16#32
  let v2350 : BitVec 32 := Scalar.muli v2 c16_i32_2510
  let c0_i32_2513 : BitVec 32 := 0#32
  ![v2350.toNat, 0]
def k0_dev32 (d0 : Dev nD) : Nat :=
  let c0_i32_2512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2502 : BitVec 32 := 1#32
  let v2338 : BitVec 32 := Scalar.addi v2 c1_i32_2502
  let c16_i32_2503 : BitVec 32 := 16#32
  let c0_i32_2504 : BitVec 32 := 0#32
  let v2339 : BitVec 1 := Scalar.cmpi .eq c16_i32_2503 c0_i32_2504
  let c1_i32_2505 : BitVec 32 := 1#32
  let v2340 : BitVec 32 := Scalar.select v2339 c1_i32_2505 c16_i32_2503
  let v2341 : BitVec 32 := Scalar.remsi v2338 v2340
  let c0_i32_2507 : BitVec 32 := 0#32
  let v2343 : BitVec 1 := Scalar.cmpi .slt v2341 c0_i32_2507
  let c0_i32_2508 : BitVec 32 := 0#32
  let v2344 : BitVec 1 := Scalar.cmpi .slt v2340 c0_i32_2508
  let v2345 : BitVec 1 := Scalar.xori v2343 v2344
  let c0_i32_2506 : BitVec 32 := 0#32
  let v2342 : BitVec 1 := Scalar.cmpi .ne v2341 c0_i32_2506
  let v2346 : BitVec 1 := Scalar.andi v2345 v2342
  let v2347 : BitVec 32 := Scalar.addi v2341 v2340
  let v2348 : BitVec 32 := Scalar.select v2346 v2347 v2341
  let c1_i32_2511 : BitVec 32 := 1#32
  let v2351 : BitVec 32 := Scalar.muli v2348 c1_i32_2511
  let v2352 : BitVec 32 := Scalar.addi c0_i32_2512 v2351
  v2352.toNat
def k0_dev33 (d0 : Dev nD) : Nat :=
  let c0_i32_2525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2515 : BitVec 32 := 2#32
  let v2359 : BitVec 32 := Scalar.addi v2 c2_i32_2515
  let c16_i32_2516 : BitVec 32 := 16#32
  let c0_i32_2517 : BitVec 32 := 0#32
  let v2360 : BitVec 1 := Scalar.cmpi .eq c16_i32_2516 c0_i32_2517
  let c1_i32_2518 : BitVec 32 := 1#32
  let v2361 : BitVec 32 := Scalar.select v2360 c1_i32_2518 c16_i32_2516
  let v2362 : BitVec 32 := Scalar.remsi v2359 v2361
  let c0_i32_2520 : BitVec 32 := 0#32
  let v2364 : BitVec 1 := Scalar.cmpi .slt v2362 c0_i32_2520
  let c0_i32_2521 : BitVec 32 := 0#32
  let v2365 : BitVec 1 := Scalar.cmpi .slt v2361 c0_i32_2521
  let v2366 : BitVec 1 := Scalar.xori v2364 v2365
  let c0_i32_2519 : BitVec 32 := 0#32
  let v2363 : BitVec 1 := Scalar.cmpi .ne v2362 c0_i32_2519
  let v2367 : BitVec 1 := Scalar.andi v2366 v2363
  let v2368 : BitVec 32 := Scalar.addi v2362 v2361
  let v2369 : BitVec 32 := Scalar.select v2367 v2368 v2362
  let c1_i32_2524 : BitVec 32 := 1#32
  let v2372 : BitVec 32 := Scalar.muli v2369 c1_i32_2524
  let v2373 : BitVec 32 := Scalar.addi c0_i32_2525 v2372
  v2373.toNat
def k0_dev34 (d0 : Dev nD) : Nat :=
  let c0_i32_2538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2528 : BitVec 32 := 3#32
  let v2380 : BitVec 32 := Scalar.addi v2 c3_i32_2528
  let c16_i32_2529 : BitVec 32 := 16#32
  let c0_i32_2530 : BitVec 32 := 0#32
  let v2381 : BitVec 1 := Scalar.cmpi .eq c16_i32_2529 c0_i32_2530
  let c1_i32_2531 : BitVec 32 := 1#32
  let v2382 : BitVec 32 := Scalar.select v2381 c1_i32_2531 c16_i32_2529
  let v2383 : BitVec 32 := Scalar.remsi v2380 v2382
  let c0_i32_2533 : BitVec 32 := 0#32
  let v2385 : BitVec 1 := Scalar.cmpi .slt v2383 c0_i32_2533
  let c0_i32_2534 : BitVec 32 := 0#32
  let v2386 : BitVec 1 := Scalar.cmpi .slt v2382 c0_i32_2534
  let v2387 : BitVec 1 := Scalar.xori v2385 v2386
  let c0_i32_2532 : BitVec 32 := 0#32
  let v2384 : BitVec 1 := Scalar.cmpi .ne v2383 c0_i32_2532
  let v2388 : BitVec 1 := Scalar.andi v2387 v2384
  let v2389 : BitVec 32 := Scalar.addi v2383 v2382
  let v2390 : BitVec 32 := Scalar.select v2388 v2389 v2383
  let c1_i32_2537 : BitVec 32 := 1#32
  let v2393 : BitVec 32 := Scalar.muli v2390 c1_i32_2537
  let v2394 : BitVec 32 := Scalar.addi c0_i32_2538 v2393
  v2394.toNat
def k0_dev35 (d0 : Dev nD) : Nat :=
  let c0_i32_2551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2541 : BitVec 32 := 4#32
  let v2401 : BitVec 32 := Scalar.addi v2 c4_i32_2541
  let c16_i32_2542 : BitVec 32 := 16#32
  let c0_i32_2543 : BitVec 32 := 0#32
  let v2402 : BitVec 1 := Scalar.cmpi .eq c16_i32_2542 c0_i32_2543
  let c1_i32_2544 : BitVec 32 := 1#32
  let v2403 : BitVec 32 := Scalar.select v2402 c1_i32_2544 c16_i32_2542
  let v2404 : BitVec 32 := Scalar.remsi v2401 v2403
  let c0_i32_2546 : BitVec 32 := 0#32
  let v2406 : BitVec 1 := Scalar.cmpi .slt v2404 c0_i32_2546
  let c0_i32_2547 : BitVec 32 := 0#32
  let v2407 : BitVec 1 := Scalar.cmpi .slt v2403 c0_i32_2547
  let v2408 : BitVec 1 := Scalar.xori v2406 v2407
  let c0_i32_2545 : BitVec 32 := 0#32
  let v2405 : BitVec 1 := Scalar.cmpi .ne v2404 c0_i32_2545
  let v2409 : BitVec 1 := Scalar.andi v2408 v2405
  let v2410 : BitVec 32 := Scalar.addi v2404 v2403
  let v2411 : BitVec 32 := Scalar.select v2409 v2410 v2404
  let c1_i32_2550 : BitVec 32 := 1#32
  let v2414 : BitVec 32 := Scalar.muli v2411 c1_i32_2550
  let v2415 : BitVec 32 := Scalar.addi c0_i32_2551 v2414
  v2415.toNat
def k0_dev36 (d0 : Dev nD) : Nat :=
  let c0_i32_2564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2554 : BitVec 32 := 5#32
  let v2422 : BitVec 32 := Scalar.addi v2 c5_i32_2554
  let c16_i32_2555 : BitVec 32 := 16#32
  let c0_i32_2556 : BitVec 32 := 0#32
  let v2423 : BitVec 1 := Scalar.cmpi .eq c16_i32_2555 c0_i32_2556
  let c1_i32_2557 : BitVec 32 := 1#32
  let v2424 : BitVec 32 := Scalar.select v2423 c1_i32_2557 c16_i32_2555
  let v2425 : BitVec 32 := Scalar.remsi v2422 v2424
  let c0_i32_2559 : BitVec 32 := 0#32
  let v2427 : BitVec 1 := Scalar.cmpi .slt v2425 c0_i32_2559
  let c0_i32_2560 : BitVec 32 := 0#32
  let v2428 : BitVec 1 := Scalar.cmpi .slt v2424 c0_i32_2560
  let v2429 : BitVec 1 := Scalar.xori v2427 v2428
  let c0_i32_2558 : BitVec 32 := 0#32
  let v2426 : BitVec 1 := Scalar.cmpi .ne v2425 c0_i32_2558
  let v2430 : BitVec 1 := Scalar.andi v2429 v2426
  let v2431 : BitVec 32 := Scalar.addi v2425 v2424
  let v2432 : BitVec 32 := Scalar.select v2430 v2431 v2425
  let c1_i32_2563 : BitVec 32 := 1#32
  let v2435 : BitVec 32 := Scalar.muli v2432 c1_i32_2563
  let v2436 : BitVec 32 := Scalar.addi c0_i32_2564 v2435
  v2436.toNat
def k0_dev37 (d0 : Dev nD) : Nat :=
  let c0_i32_2577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2567 : BitVec 32 := 6#32
  let v2443 : BitVec 32 := Scalar.addi v2 c6_i32_2567
  let c16_i32_2568 : BitVec 32 := 16#32
  let c0_i32_2569 : BitVec 32 := 0#32
  let v2444 : BitVec 1 := Scalar.cmpi .eq c16_i32_2568 c0_i32_2569
  let c1_i32_2570 : BitVec 32 := 1#32
  let v2445 : BitVec 32 := Scalar.select v2444 c1_i32_2570 c16_i32_2568
  let v2446 : BitVec 32 := Scalar.remsi v2443 v2445
  let c0_i32_2572 : BitVec 32 := 0#32
  let v2448 : BitVec 1 := Scalar.cmpi .slt v2446 c0_i32_2572
  let c0_i32_2573 : BitVec 32 := 0#32
  let v2449 : BitVec 1 := Scalar.cmpi .slt v2445 c0_i32_2573
  let v2450 : BitVec 1 := Scalar.xori v2448 v2449
  let c0_i32_2571 : BitVec 32 := 0#32
  let v2447 : BitVec 1 := Scalar.cmpi .ne v2446 c0_i32_2571
  let v2451 : BitVec 1 := Scalar.andi v2450 v2447
  let v2452 : BitVec 32 := Scalar.addi v2446 v2445
  let v2453 : BitVec 32 := Scalar.select v2451 v2452 v2446
  let c1_i32_2576 : BitVec 32 := 1#32
  let v2456 : BitVec 32 := Scalar.muli v2453 c1_i32_2576
  let v2457 : BitVec 32 := Scalar.addi c0_i32_2577 v2456
  v2457.toNat
def k0_dev38 (d0 : Dev nD) : Nat :=
  let c0_i32_2590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2580 : BitVec 32 := 7#32
  let v2464 : BitVec 32 := Scalar.addi v2 c7_i32_2580
  let c16_i32_2581 : BitVec 32 := 16#32
  let c0_i32_2582 : BitVec 32 := 0#32
  let v2465 : BitVec 1 := Scalar.cmpi .eq c16_i32_2581 c0_i32_2582
  let c1_i32_2583 : BitVec 32 := 1#32
  let v2466 : BitVec 32 := Scalar.select v2465 c1_i32_2583 c16_i32_2581
  let v2467 : BitVec 32 := Scalar.remsi v2464 v2466
  let c0_i32_2585 : BitVec 32 := 0#32
  let v2469 : BitVec 1 := Scalar.cmpi .slt v2467 c0_i32_2585
  let c0_i32_2586 : BitVec 32 := 0#32
  let v2470 : BitVec 1 := Scalar.cmpi .slt v2466 c0_i32_2586
  let v2471 : BitVec 1 := Scalar.xori v2469 v2470
  let c0_i32_2584 : BitVec 32 := 0#32
  let v2468 : BitVec 1 := Scalar.cmpi .ne v2467 c0_i32_2584
  let v2472 : BitVec 1 := Scalar.andi v2471 v2468
  let v2473 : BitVec 32 := Scalar.addi v2467 v2466
  let v2474 : BitVec 32 := Scalar.select v2472 v2473 v2467
  let c1_i32_2589 : BitVec 32 := 1#32
  let v2477 : BitVec 32 := Scalar.muli v2474 c1_i32_2589
  let v2478 : BitVec 32 := Scalar.addi c0_i32_2590 v2477
  v2478.toNat
def k0_dev39 (d0 : Dev nD) : Nat :=
  let c0_i32_2603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2593 : BitVec 32 := 8#32
  let v2485 : BitVec 32 := Scalar.addi v2 c8_i32_2593
  let c16_i32_2594 : BitVec 32 := 16#32
  let c0_i32_2595 : BitVec 32 := 0#32
  let v2486 : BitVec 1 := Scalar.cmpi .eq c16_i32_2594 c0_i32_2595
  let c1_i32_2596 : BitVec 32 := 1#32
  let v2487 : BitVec 32 := Scalar.select v2486 c1_i32_2596 c16_i32_2594
  let v2488 : BitVec 32 := Scalar.remsi v2485 v2487
  let c0_i32_2598 : BitVec 32 := 0#32
  let v2490 : BitVec 1 := Scalar.cmpi .slt v2488 c0_i32_2598
  let c0_i32_2599 : BitVec 32 := 0#32
  let v2491 : BitVec 1 := Scalar.cmpi .slt v2487 c0_i32_2599
  let v2492 : BitVec 1 := Scalar.xori v2490 v2491
  let c0_i32_2597 : BitVec 32 := 0#32
  let v2489 : BitVec 1 := Scalar.cmpi .ne v2488 c0_i32_2597
  let v2493 : BitVec 1 := Scalar.andi v2492 v2489
  let v2494 : BitVec 32 := Scalar.addi v2488 v2487
  let v2495 : BitVec 32 := Scalar.select v2493 v2494 v2488
  let c1_i32_2602 : BitVec 32 := 1#32
  let v2498 : BitVec 32 := Scalar.muli v2495 c1_i32_2602
  let v2499 : BitVec 32 := Scalar.addi c0_i32_2603 v2498
  v2499.toNat
def k0_dev40 (d0 : Dev nD) : Nat :=
  let c0_i32_2616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2606 : BitVec 32 := 9#32
  let v2506 : BitVec 32 := Scalar.addi v2 c9_i32_2606
  let c16_i32_2607 : BitVec 32 := 16#32
  let c0_i32_2608 : BitVec 32 := 0#32
  let v2507 : BitVec 1 := Scalar.cmpi .eq c16_i32_2607 c0_i32_2608
  let c1_i32_2609 : BitVec 32 := 1#32
  let v2508 : BitVec 32 := Scalar.select v2507 c1_i32_2609 c16_i32_2607
  let v2509 : BitVec 32 := Scalar.remsi v2506 v2508
  let c0_i32_2611 : BitVec 32 := 0#32
  let v2511 : BitVec 1 := Scalar.cmpi .slt v2509 c0_i32_2611
  let c0_i32_2612 : BitVec 32 := 0#32
  let v2512 : BitVec 1 := Scalar.cmpi .slt v2508 c0_i32_2612
  let v2513 : BitVec 1 := Scalar.xori v2511 v2512
  let c0_i32_2610 : BitVec 32 := 0#32
  let v2510 : BitVec 1 := Scalar.cmpi .ne v2509 c0_i32_2610
  let v2514 : BitVec 1 := Scalar.andi v2513 v2510
  let v2515 : BitVec 32 := Scalar.addi v2509 v2508
  let v2516 : BitVec 32 := Scalar.select v2514 v2515 v2509
  let c1_i32_2615 : BitVec 32 := 1#32
  let v2519 : BitVec 32 := Scalar.muli v2516 c1_i32_2615
  let v2520 : BitVec 32 := Scalar.addi c0_i32_2616 v2519
  v2520.toNat
def k0_dev41 (d0 : Dev nD) : Nat :=
  let c0_i32_2629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2619 : BitVec 32 := 10#32
  let v2527 : BitVec 32 := Scalar.addi v2 c10_i32_2619
  let c16_i32_2620 : BitVec 32 := 16#32
  let c0_i32_2621 : BitVec 32 := 0#32
  let v2528 : BitVec 1 := Scalar.cmpi .eq c16_i32_2620 c0_i32_2621
  let c1_i32_2622 : BitVec 32 := 1#32
  let v2529 : BitVec 32 := Scalar.select v2528 c1_i32_2622 c16_i32_2620
  let v2530 : BitVec 32 := Scalar.remsi v2527 v2529
  let c0_i32_2624 : BitVec 32 := 0#32
  let v2532 : BitVec 1 := Scalar.cmpi .slt v2530 c0_i32_2624
  let c0_i32_2625 : BitVec 32 := 0#32
  let v2533 : BitVec 1 := Scalar.cmpi .slt v2529 c0_i32_2625
  let v2534 : BitVec 1 := Scalar.xori v2532 v2533
  let c0_i32_2623 : BitVec 32 := 0#32
  let v2531 : BitVec 1 := Scalar.cmpi .ne v2530 c0_i32_2623
  let v2535 : BitVec 1 := Scalar.andi v2534 v2531
  let v2536 : BitVec 32 := Scalar.addi v2530 v2529
  let v2537 : BitVec 32 := Scalar.select v2535 v2536 v2530
  let c1_i32_2628 : BitVec 32 := 1#32
  let v2540 : BitVec 32 := Scalar.muli v2537 c1_i32_2628
  let v2541 : BitVec 32 := Scalar.addi c0_i32_2629 v2540
  v2541.toNat
def k0_dev42 (d0 : Dev nD) : Nat :=
  let c0_i32_2642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2632 : BitVec 32 := 11#32
  let v2548 : BitVec 32 := Scalar.addi v2 c11_i32_2632
  let c16_i32_2633 : BitVec 32 := 16#32
  let c0_i32_2634 : BitVec 32 := 0#32
  let v2549 : BitVec 1 := Scalar.cmpi .eq c16_i32_2633 c0_i32_2634
  let c1_i32_2635 : BitVec 32 := 1#32
  let v2550 : BitVec 32 := Scalar.select v2549 c1_i32_2635 c16_i32_2633
  let v2551 : BitVec 32 := Scalar.remsi v2548 v2550
  let c0_i32_2637 : BitVec 32 := 0#32
  let v2553 : BitVec 1 := Scalar.cmpi .slt v2551 c0_i32_2637
  let c0_i32_2638 : BitVec 32 := 0#32
  let v2554 : BitVec 1 := Scalar.cmpi .slt v2550 c0_i32_2638
  let v2555 : BitVec 1 := Scalar.xori v2553 v2554
  let c0_i32_2636 : BitVec 32 := 0#32
  let v2552 : BitVec 1 := Scalar.cmpi .ne v2551 c0_i32_2636
  let v2556 : BitVec 1 := Scalar.andi v2555 v2552
  let v2557 : BitVec 32 := Scalar.addi v2551 v2550
  let v2558 : BitVec 32 := Scalar.select v2556 v2557 v2551
  let c1_i32_2641 : BitVec 32 := 1#32
  let v2561 : BitVec 32 := Scalar.muli v2558 c1_i32_2641
  let v2562 : BitVec 32 := Scalar.addi c0_i32_2642 v2561
  v2562.toNat
def k0_dev43 (d0 : Dev nD) : Nat :=
  let c0_i32_2655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2645 : BitVec 32 := 12#32
  let v2569 : BitVec 32 := Scalar.addi v2 c12_i32_2645
  let c16_i32_2646 : BitVec 32 := 16#32
  let c0_i32_2647 : BitVec 32 := 0#32
  let v2570 : BitVec 1 := Scalar.cmpi .eq c16_i32_2646 c0_i32_2647
  let c1_i32_2648 : BitVec 32 := 1#32
  let v2571 : BitVec 32 := Scalar.select v2570 c1_i32_2648 c16_i32_2646
  let v2572 : BitVec 32 := Scalar.remsi v2569 v2571
  let c0_i32_2650 : BitVec 32 := 0#32
  let v2574 : BitVec 1 := Scalar.cmpi .slt v2572 c0_i32_2650
  let c0_i32_2651 : BitVec 32 := 0#32
  let v2575 : BitVec 1 := Scalar.cmpi .slt v2571 c0_i32_2651
  let v2576 : BitVec 1 := Scalar.xori v2574 v2575
  let c0_i32_2649 : BitVec 32 := 0#32
  let v2573 : BitVec 1 := Scalar.cmpi .ne v2572 c0_i32_2649
  let v2577 : BitVec 1 := Scalar.andi v2576 v2573
  let v2578 : BitVec 32 := Scalar.addi v2572 v2571
  let v2579 : BitVec 32 := Scalar.select v2577 v2578 v2572
  let c1_i32_2654 : BitVec 32 := 1#32
  let v2582 : BitVec 32 := Scalar.muli v2579 c1_i32_2654
  let v2583 : BitVec 32 := Scalar.addi c0_i32_2655 v2582
  v2583.toNat
def k0_dev44 (d0 : Dev nD) : Nat :=
  let c0_i32_2668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2658 : BitVec 32 := 13#32
  let v2590 : BitVec 32 := Scalar.addi v2 c13_i32_2658
  let c16_i32_2659 : BitVec 32 := 16#32
  let c0_i32_2660 : BitVec 32 := 0#32
  let v2591 : BitVec 1 := Scalar.cmpi .eq c16_i32_2659 c0_i32_2660
  let c1_i32_2661 : BitVec 32 := 1#32
  let v2592 : BitVec 32 := Scalar.select v2591 c1_i32_2661 c16_i32_2659
  let v2593 : BitVec 32 := Scalar.remsi v2590 v2592
  let c0_i32_2663 : BitVec 32 := 0#32
  let v2595 : BitVec 1 := Scalar.cmpi .slt v2593 c0_i32_2663
  let c0_i32_2664 : BitVec 32 := 0#32
  let v2596 : BitVec 1 := Scalar.cmpi .slt v2592 c0_i32_2664
  let v2597 : BitVec 1 := Scalar.xori v2595 v2596
  let c0_i32_2662 : BitVec 32 := 0#32
  let v2594 : BitVec 1 := Scalar.cmpi .ne v2593 c0_i32_2662
  let v2598 : BitVec 1 := Scalar.andi v2597 v2594
  let v2599 : BitVec 32 := Scalar.addi v2593 v2592
  let v2600 : BitVec 32 := Scalar.select v2598 v2599 v2593
  let c1_i32_2667 : BitVec 32 := 1#32
  let v2603 : BitVec 32 := Scalar.muli v2600 c1_i32_2667
  let v2604 : BitVec 32 := Scalar.addi c0_i32_2668 v2603
  v2604.toNat
def k0_dev45 (d0 : Dev nD) : Nat :=
  let c0_i32_2681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2671 : BitVec 32 := 14#32
  let v2611 : BitVec 32 := Scalar.addi v2 c14_i32_2671
  let c16_i32_2672 : BitVec 32 := 16#32
  let c0_i32_2673 : BitVec 32 := 0#32
  let v2612 : BitVec 1 := Scalar.cmpi .eq c16_i32_2672 c0_i32_2673
  let c1_i32_2674 : BitVec 32 := 1#32
  let v2613 : BitVec 32 := Scalar.select v2612 c1_i32_2674 c16_i32_2672
  let v2614 : BitVec 32 := Scalar.remsi v2611 v2613
  let c0_i32_2676 : BitVec 32 := 0#32
  let v2616 : BitVec 1 := Scalar.cmpi .slt v2614 c0_i32_2676
  let c0_i32_2677 : BitVec 32 := 0#32
  let v2617 : BitVec 1 := Scalar.cmpi .slt v2613 c0_i32_2677
  let v2618 : BitVec 1 := Scalar.xori v2616 v2617
  let c0_i32_2675 : BitVec 32 := 0#32
  let v2615 : BitVec 1 := Scalar.cmpi .ne v2614 c0_i32_2675
  let v2619 : BitVec 1 := Scalar.andi v2618 v2615
  let v2620 : BitVec 32 := Scalar.addi v2614 v2613
  let v2621 : BitVec 32 := Scalar.select v2619 v2620 v2614
  let c1_i32_2680 : BitVec 32 := 1#32
  let v2624 : BitVec 32 := Scalar.muli v2621 c1_i32_2680
  let v2625 : BitVec 32 := Scalar.addi c0_i32_2681 v2624
  v2625.toNat
def k0_dev46 (d0 : Dev nD) : Nat :=
  let c0_i32_2694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2684 : BitVec 32 := 15#32
  let v2632 : BitVec 32 := Scalar.addi v2 c15_i32_2684
  let c16_i32_2685 : BitVec 32 := 16#32
  let c0_i32_2686 : BitVec 32 := 0#32
  let v2633 : BitVec 1 := Scalar.cmpi .eq c16_i32_2685 c0_i32_2686
  let c1_i32_2687 : BitVec 32 := 1#32
  let v2634 : BitVec 32 := Scalar.select v2633 c1_i32_2687 c16_i32_2685
  let v2635 : BitVec 32 := Scalar.remsi v2632 v2634
  let c0_i32_2689 : BitVec 32 := 0#32
  let v2637 : BitVec 1 := Scalar.cmpi .slt v2635 c0_i32_2689
  let c0_i32_2690 : BitVec 32 := 0#32
  let v2638 : BitVec 1 := Scalar.cmpi .slt v2634 c0_i32_2690
  let v2639 : BitVec 1 := Scalar.xori v2637 v2638
  let c0_i32_2688 : BitVec 32 := 0#32
  let v2636 : BitVec 1 := Scalar.cmpi .ne v2635 c0_i32_2688
  let v2640 : BitVec 1 := Scalar.andi v2639 v2636
  let v2641 : BitVec 32 := Scalar.addi v2635 v2634
  let v2642 : BitVec 32 := Scalar.select v2640 v2641 v2635
  let c1_i32_2693 : BitVec 32 := 1#32
  let v2645 : BitVec 32 := Scalar.muli v2642 c1_i32_2693
  let v2646 : BitVec 32 := Scalar.addi c0_i32_2694 v2645
  v2646.toNat
def k0_off75 (d0 : Dev nD) (c1_i32_2697 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2653 : BitVec 32 := Scalar.addi v2 c1_i32_2697
  let c16_i32_2698 : BitVec 32 := 16#32
  let c0_i32_2699 : BitVec 32 := 0#32
  let v2654 : BitVec 1 := Scalar.cmpi .eq c16_i32_2698 c0_i32_2699
  let c1_i32_2700 : BitVec 32 := 1#32
  let v2655 : BitVec 32 := Scalar.select v2654 c1_i32_2700 c16_i32_2698
  let v2656 : BitVec 32 := Scalar.remsi v2653 v2655
  let c0_i32_2702 : BitVec 32 := 0#32
  let v2658 : BitVec 1 := Scalar.cmpi .slt v2656 c0_i32_2702
  let c0_i32_2703 : BitVec 32 := 0#32
  let v2659 : BitVec 1 := Scalar.cmpi .slt v2655 c0_i32_2703
  let v2660 : BitVec 1 := Scalar.xori v2658 v2659
  let c0_i32_2701 : BitVec 32 := 0#32
  let v2657 : BitVec 1 := Scalar.cmpi .ne v2656 c0_i32_2701
  let v2661 : BitVec 1 := Scalar.andi v2660 v2657
  let v2662 : BitVec 32 := Scalar.addi v2656 v2655
  let v2663 : BitVec 32 := Scalar.select v2661 v2662 v2656
  let c16_i32_2705 : BitVec 32 := 16#32
  let v2665 : BitVec 32 := Scalar.muli v2663 c16_i32_2705
  let c0_i32_2708 : BitVec 32 := 0#32
  ![v2665.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2897 : BitVec 32 := 0#32
  let v2943 : BitVec 1 := Scalar.cmpi .ne v2 c0_i32_2897
  let v2944 : BitVec 32 := Scalar.extui v2943
  let c0_i32_2898 : BitVec 32 := 0#32
  let v2945 : BitVec 1 := Scalar.cmpi .ne v2944 c0_i32_2898
  v2945

def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3114 : BitVec 32 := 0#32
  let c0_i32_3115 : BitVec 32 := 0#32
  ![v2.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2899 : BitVec 32 := 1#32
  let v2946 : BitVec 1 := Scalar.cmpi .ne v2 c1_i32_2899
  let v2947 : BitVec 32 := Scalar.extui v2946
  let c0_i32_2900 : BitVec 32 := 0#32
  let v2948 : BitVec 1 := Scalar.cmpi .ne v2947 c0_i32_2900
  v2948

def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3114 : BitVec 32 := 0#32
  let c0_i32_3115 : BitVec 32 := 0#32
  ![v2.toNat, 0, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2901 : BitVec 32 := 2#32
  let v2949 : BitVec 1 := Scalar.cmpi .ne v2 c2_i32_2901
  let v2950 : BitVec 32 := Scalar.extui v2949
  let c0_i32_2902 : BitVec 32 := 0#32
  let v2951 : BitVec 1 := Scalar.cmpi .ne v2950 c0_i32_2902
  v2951

def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2903 : BitVec 32 := 3#32
  let v2952 : BitVec 1 := Scalar.cmpi .ne v2 c3_i32_2903
  let v2953 : BitVec 32 := Scalar.extui v2952
  let c0_i32_2904 : BitVec 32 := 0#32
  let v2954 : BitVec 1 := Scalar.cmpi .ne v2953 c0_i32_2904
  v2954

def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2905 : BitVec 32 := 4#32
  let v2955 : BitVec 1 := Scalar.cmpi .ne v2 c4_i32_2905
  let v2956 : BitVec 32 := Scalar.extui v2955
  let c0_i32_2906 : BitVec 32 := 0#32
  let v2957 : BitVec 1 := Scalar.cmpi .ne v2956 c0_i32_2906
  v2957

def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2907 : BitVec 32 := 5#32
  let v2958 : BitVec 1 := Scalar.cmpi .ne v2 c5_i32_2907
  let v2959 : BitVec 32 := Scalar.extui v2958
  let c0_i32_2908 : BitVec 32 := 0#32
  let v2960 : BitVec 1 := Scalar.cmpi .ne v2959 c0_i32_2908
  v2960

def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2909 : BitVec 32 := 6#32
  let v2961 : BitVec 1 := Scalar.cmpi .ne v2 c6_i32_2909
  let v2962 : BitVec 32 := Scalar.extui v2961
  let c0_i32_2910 : BitVec 32 := 0#32
  let v2963 : BitVec 1 := Scalar.cmpi .ne v2962 c0_i32_2910
  v2963

def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2911 : BitVec 32 := 7#32
  let v2964 : BitVec 1 := Scalar.cmpi .ne v2 c7_i32_2911
  let v2965 : BitVec 32 := Scalar.extui v2964
  let c0_i32_2912 : BitVec 32 := 0#32
  let v2966 : BitVec 1 := Scalar.cmpi .ne v2965 c0_i32_2912
  v2966

def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2913 : BitVec 32 := 8#32
  let v2967 : BitVec 1 := Scalar.cmpi .ne v2 c8_i32_2913
  let v2968 : BitVec 32 := Scalar.extui v2967
  let c0_i32_2914 : BitVec 32 := 0#32
  let v2969 : BitVec 1 := Scalar.cmpi .ne v2968 c0_i32_2914
  v2969

def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2915 : BitVec 32 := 9#32
  let v2970 : BitVec 1 := Scalar.cmpi .ne v2 c9_i32_2915
  let v2971 : BitVec 32 := Scalar.extui v2970
  let c0_i32_2916 : BitVec 32 := 0#32
  let v2972 : BitVec 1 := Scalar.cmpi .ne v2971 c0_i32_2916
  v2972

def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2917 : BitVec 32 := 10#32
  let v2973 : BitVec 1 := Scalar.cmpi .ne v2 c10_i32_2917
  let v2974 : BitVec 32 := Scalar.extui v2973
  let c0_i32_2918 : BitVec 32 := 0#32
  let v2975 : BitVec 1 := Scalar.cmpi .ne v2974 c0_i32_2918
  v2975

def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2919 : BitVec 32 := 11#32
  let v2976 : BitVec 1 := Scalar.cmpi .ne v2 c11_i32_2919
  let v2977 : BitVec 32 := Scalar.extui v2976
  let c0_i32_2920 : BitVec 32 := 0#32
  let v2978 : BitVec 1 := Scalar.cmpi .ne v2977 c0_i32_2920
  v2978

def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2921 : BitVec 32 := 12#32
  let v2979 : BitVec 1 := Scalar.cmpi .ne v2 c12_i32_2921
  let v2980 : BitVec 32 := Scalar.extui v2979
  let c0_i32_2922 : BitVec 32 := 0#32
  let v2981 : BitVec 1 := Scalar.cmpi .ne v2980 c0_i32_2922
  v2981

def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2923 : BitVec 32 := 13#32
  let v2982 : BitVec 1 := Scalar.cmpi .ne v2 c13_i32_2923
  let v2983 : BitVec 32 := Scalar.extui v2982
  let c0_i32_2924 : BitVec 32 := 0#32
  let v2984 : BitVec 1 := Scalar.cmpi .ne v2983 c0_i32_2924
  v2984

def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2925 : BitVec 32 := 14#32
  let v2985 : BitVec 1 := Scalar.cmpi .ne v2 c14_i32_2925
  let v2986 : BitVec 32 := Scalar.extui v2985
  let c0_i32_2926 : BitVec 32 := 0#32
  let v2987 : BitVec 1 := Scalar.cmpi .ne v2986 c0_i32_2926
  v2987

def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2927 : BitVec 32 := 15#32
  let v2988 : BitVec 1 := Scalar.cmpi .ne v2 c15_i32_2927
  let v2989 : BitVec 32 := Scalar.extui v2988
  let c0_i32_2928 : BitVec 32 := 0#32
  let v2990 : BitVec 1 := Scalar.cmpi .ne v2989 c0_i32_2928
  v2990

def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x16384 : Shape := ⟨2, ![1024, 16384]⟩
abbrev S16x4x64x128x128 : Shape := ⟨5, ![16, 4, 64, 128, 128]⟩
abbrev S16384x1024 : Shape := ⟨2, ![16384, 1024]⟩
abbrev S1x4096x128x128 : Shape := ⟨4, ![1, 4096, 128, 128]⟩
abbrev S1x256x16384 : Shape := ⟨3, ![1, 256, 16384]⟩
abbrev S1x256x128x128 : Shape := ⟨4, ![1, 256, 128, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x128x256x4096 : Shape := ⟨4, ![1, 128, 256, 4096]⟩
abbrev S1x1x256x4096 : Shape := ⟨4, ![1, 1, 256, 4096]⟩
abbrev S1x128x256 : Shape := ⟨3, ![1, 128, 256]⟩
abbrev S1x128x256x1 : Shape := ⟨4, ![1, 128, 256, 1]⟩
abbrev S1x1x256x1 : Shape := ⟨4, ![1, 1, 256, 1]⟩
abbrev S1x128x128x256 : Shape := ⟨4, ![1, 128, 128, 256]⟩

abbrev nBuf : Space → Nat
  | .hbm => 139
  | .vmem => 0
  | .smem => 0
  | _ => 0

abbrev hbmTy0_0 (i : Nat) : BufTy := match i % 128 with
  | 0 => ⟨S1x256x1024, .f32⟩
  | 1 => ⟨S1024x16384, .f32⟩
  | 2 => ⟨S16x4x64x128x128, .f32⟩
  | 3 => ⟨S16x4x64x128x128, .f32⟩
  | 4 => ⟨S16384x1024, .f32⟩
  | 5 => ⟨S1x4096x128x128, .f32⟩
  | 6 => ⟨S1x4096x128x128, .f32⟩
  | 7 => ⟨S1x256x16384, .f32⟩
  | 8 => ⟨S1x256x128x128, .f32⟩
  | 9 => ⟨S256, .i32⟩
  | 10 => ⟨S_, .i32⟩
  | 11 => ⟨S_, .i32⟩
  | 12 => ⟨S256, .i32⟩
  | 13 => ⟨S256, .i32⟩
  | 14 => ⟨S256, .i32⟩
  | 15 => ⟨S_, .i32⟩
  | 16 => ⟨S256, .i32⟩
  | 17 => ⟨S256, .i1⟩
  | 18 => ⟨S256, .i32⟩
  | 19 => ⟨S256, .i32⟩
  | 20 => ⟨S_, .i32⟩
  | 21 => ⟨S256, .i32⟩
  | 22 => ⟨S256, .i1⟩
  | 23 => ⟨S256, .i1⟩
  | 24 => ⟨S_, .i32⟩
  | 25 => ⟨S256, .i32⟩
  | 26 => ⟨S256, .i32⟩
  | 27 => ⟨S256, .i32⟩
  | 28 => ⟨S256x1, .i32⟩
  | 29 => ⟨S4096, .i32⟩
  | 30 => ⟨S_, .i32⟩
  | 31 => ⟨S_, .i32⟩
  | 32 => ⟨S4096, .i32⟩
  | 33 => ⟨S4096, .i32⟩
  | 34 => ⟨S4096, .i32⟩
  | 35 => ⟨S_, .i32⟩
  | 36 => ⟨S4096, .i32⟩
  | 37 => ⟨S4096, .i1⟩
  | 38 => ⟨S4096, .i32⟩
  | 39 => ⟨S4096, .i32⟩
  | 40 => ⟨S_, .i32⟩
  | 41 => ⟨S4096, .i32⟩
  | 42 => ⟨S4096, .i1⟩
  | 43 => ⟨S4096, .i1⟩
  | 44 => ⟨S_, .i32⟩
  | 45 => ⟨S4096, .i32⟩
  | 46 => ⟨S4096, .i32⟩
  | 47 => ⟨S4096, .i32⟩
  | 48 => ⟨S1x4096, .i32⟩
  | 49 => ⟨S256x4096, .i32⟩
  | 50 => ⟨S256x4096, .i32⟩
  | 51 => ⟨S256x4096, .i1⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S1x4096, .i32⟩
  | 59 => ⟨S1x4096, .i32⟩
  | 60 => ⟨S_, .i32⟩
  | 61 => ⟨S1x4096, .i32⟩
  | 62 => ⟨S1x4096, .i1⟩
  | 63 => ⟨S_, .i32⟩
  | 64 => ⟨S1x4096, .i32⟩
  | 65 => ⟨S1x4096, .i1⟩
  | 66 => ⟨S_, .i32⟩
  | 67 => ⟨S_, .i1⟩
  | 68 => ⟨S1x4096, .i1⟩
  | 69 => ⟨S1x4096, .i1⟩
  | 70 => ⟨S1x4096, .i1⟩
  | 71 => ⟨S1x4096, .i32⟩
  | 72 => ⟨S1x4096, .i32⟩
  | 73 => ⟨S1x4096, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S256x1, .i32⟩
  | 81 => ⟨S256x1, .i32⟩
  | 82 => ⟨S_, .i32⟩
  | 83 => ⟨S256x1, .i32⟩
  | 84 => ⟨S256x1, .i1⟩
  | 85 => ⟨S_, .i32⟩
  | 86 => ⟨S256x1, .i32⟩
  | 87 => ⟨S256x1, .i1⟩
  | 88 => ⟨S_, .i32⟩
  | 89 => ⟨S_, .i1⟩
  | 90 => ⟨S256x1, .i1⟩
  | 91 => ⟨S256x1, .i1⟩
  | 92 => ⟨S256x1, .i1⟩
  | 93 => ⟨S256x1, .i32⟩
  | 94 => ⟨S256x1, .i32⟩
  | 95 => ⟨S256x1, .i32⟩
  | 96 => ⟨S256x4096, .i32⟩
  | 97 => ⟨S256x4096, .i32⟩
  | 98 => ⟨S256x4096, .i1⟩
  | 99 => ⟨S256x4096, .i1⟩
  | 100 => ⟨S1x128x256x4096, .f32⟩
  | 101 => ⟨S_, .f32⟩
  | 102 => ⟨S1x128x256x4096, .f32⟩
  | 103 => ⟨S1x128x256x4096, .f32⟩
  | 104 => ⟨S1x1x256x4096, .i1⟩
  | 105 => ⟨S_, .f32⟩
  | 106 => ⟨S_, .f32⟩
  | 107 => ⟨S1x128x256x4096, .i1⟩
  | 108 => ⟨S1x128x256x4096, .f32⟩
  | 109 => ⟨S1x128x256x4096, .f32⟩
  | 110 => ⟨S_, .f32⟩
  | 111 => ⟨S1x128x256, .f32⟩
  | 112 => ⟨S1x128x256x1, .f32⟩
  | 113 => ⟨S1x128x256x4096, .f32⟩
  | 114 => ⟨S1x128x256x4096, .f32⟩
  | 115 => ⟨S1x128x256x4096, .f32⟩
  | 116 => ⟨S_, .i1⟩
  | 117 => ⟨S256, .i1⟩
  | 118 => ⟨S1x1x256x1, .i1⟩
  | 119 => ⟨S_, .f32⟩
  | 120 => ⟨S1x128x256, .f32⟩
  | 121 => ⟨S1x128x256x1, .f32⟩
  | 122 => ⟨S_, .f32⟩
  | 123 => ⟨S_, .f32⟩
  | 124 => ⟨S1x128x256x1, .i1⟩
  | 125 => ⟨S1x128x256x1, .f32⟩
  | 126 => ⟨S1x128x256x1, .f32⟩
  | 127 => ⟨S1x128x256x4096, .f32⟩
  | _ => ⟨S1x256x1024, .f32⟩

abbrev hbmTy0_1 (i : Nat) : BufTy := match i % 128 with
  | 0 => ⟨S1x128x256x4096, .f32⟩
  | 1 => ⟨S1x1x256x1, .i1⟩
  | 2 => ⟨S_, .f32⟩
  | 3 => ⟨S_, .f32⟩
  | 4 => ⟨S1x128x256x4096, .i1⟩
  | 5 => ⟨S1x128x256x4096, .f32⟩
  | 6 => ⟨S1x128x256x4096, .f32⟩
  | 7 => ⟨S1x128x128x256, .f32⟩
  | 8 => ⟨S1x256x128x128, .f32⟩
  | 9 => ⟨S1x256x16384, .f32⟩
  | 10 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_1 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v13 : Ref sig .tc := ⟨.hbm, 73, rfl⟩
abbrev main_c_2 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_cst_3 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v23 : Ref sig .tc := ⟨.hbm, 109, rfl⟩
abbrev main_cst_4 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_c_5 : Ref sig .tc := ⟨.hbm, 116, rfl⟩
abbrev main_v29 : Ref sig .tc := ⟨.hbm, 117, rfl⟩
abbrev main_v30 : Ref sig .tc := ⟨.hbm, 118, rfl⟩
abbrev main_cst_6 : Ref sig .tc := ⟨.hbm, 119, rfl⟩
abbrev main_v31 : Ref sig .tc := ⟨.hbm, 120, rfl⟩
abbrev main_v32 : Ref sig .tc := ⟨.hbm, 121, rfl⟩
abbrev main_cst_7 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_cst_8 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩

abbrev nD : Nat := 1
abbrev τ : Topo := Topo.v7x

variable {F : FTy → Type} [FloatOps F]
-- ==== Proof.Proto.lean ====
/-
The protocol of the kernel: its memory references and semaphore cells in uniform form, the contents every buffer
carries, the schedule of duties on the cells, and what each device owes when the kernel starts.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- Duty names: payers, heads, or the single name 0. -/
abbrev D : Type := Fin 16
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine's state at the start. -/
abbrev s₀ : MemSt nD τ sig (Elt F) := ⟨m, fun _ => 0, ρ⟩

/-! ## Devices -/

/-- The device `o` places after `c`, around the ring of 16. -/
def peer (c : Dev nD) (o : ℕ) : Dev nD := ⟨(c.val + o) % 16, Nat.mod_lt _ (by decide)⟩
/-- The owner of the chunk that device `c` sends at position `j` (query block `j / 4`, shifted by `j % 4` inside the four). -/
def tg (c : Dev nD) (j : ℕ) : Dev nD := ⟨(4 * (j / 4) + (c.val + j % 4) % 4) % 16, Nat.mod_lt _ (by decide)⟩

/-! ## Memory references -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev oM : Memref sig .tc .vmem S1x256x1024 .f32 := Memref.whole cc0_stg3_0
abbrev kM : Memref sig .tc .vmem S2x8x16x64x128 .f32 := Memref.whole cc0_scratch0
abbrev vM : Memref sig .tc .vmem S2x8x16x64x128 .f32 := Memref.whole cc0_scratch1
abbrev pM : Memref sig .tc .vmem S256x1024 .bf16 := Memref.whole cc0_scratch2
abbrev rM : Memref sig .tc .vmem S16x16x1024 .bf16 := Memref.whole cc0_scratch3
abbrev gM : Memref sig .tc .vmem S256x1024 .bf16 := Memref.whole cc0_scratch4
abbrev k5M : Memref sig .tc .hbm S16x4x64x128x128 .f32 := Memref.whole main_arg2
abbrev v5M : Memref sig .tc .hbm S16x4x64x128x128 .f32 := Memref.whole main_arg3

/-- The buffer that keys (0) or values (1) are fetched into, and the array they are fetched from. -/
def bufRef (kv : Fin 2) : Memref sig .tc .vmem S2x8x16x64x128 .f32 := match kv with | 0 => kM | 1 => vM
def arrRef (kv : Fin 2) : Memref sig .tc .hbm S16x4x64x128x128 .f32 := match kv with | 0 => k5M | 1 => v5M

theorem inbKv : ∀ (slot : Fin 2) (h : Fin 8) (a : Fin 5), (![slot.val, h.val, 0, 0, 0] : Fin 5 → Nat) a + S1x1x16x64x128.size a ≤ S2x8x16x64x128.size a := by decide
theorem inbSrc : ∀ (qb : Fin 4) (h : Fin 8) (c : Fin 16) (a : Fin 5), (![0, qb.val, 0, 8 * c.val + h.val, 0] : Fin 5 → Nat) a + S16x1x64x1x128.size a ≤ S16x4x64x128x128.size a := by decide +kernel
theorem inbRow : ∀ (t : Fin 16) (a : Fin 2), (![16 * t.val, 0] : Fin 2 → Nat) a + S16x1024.size a ≤ S256x1024.size a := by decide
theorem inbSlot : ∀ (t : Fin 16) (a : Fin 3), (![t.val, 0, 0] : Fin 3 → Nat) a + S1x16x1024.size a ≤ S16x16x1024.size a := by decide
theorem inbBlk : ∀ (q : Fin 4) (a : Fin 2), (![64 * q.val, 0] : Fin 2 → Nat) a + S64x1024.size a ≤ S256x1024.size a := by decide

/-- The rectangle of one head's keys in one slot of the fetch buffer. -/
abbrev kvR (slot : Fin 2) (h : Fin 8) : Rect S2x8x16x64x128 := Rect.unit (s := S2x8x16x64x128) ![slot.val, h.val, 0, 0, 0] S1x1x16x64x128.size (inbKv slot h)
/-- The rectangle of one head's keys for query block `qb` in the whole array. -/
abbrev srcR (qb : Fin 4) (h : Fin 8) (c : Dev nD) : Rect S16x4x64x128x128 := Rect.unit (s := S16x4x64x128x128) ![0, qb.val, 0, 8 * c.val + h.val, 0] S16x1x64x1x128.size (inbSrc qb h c)
abbrev rowR (t : Fin 16) : Rect S256x1024 := Rect.unit (s := S256x1024) ![16 * t.val, 0] S16x1024.size (inbRow t)
abbrev slotR (t : Fin 16) : Rect S16x16x1024 := Rect.unit (s := S16x16x1024) ![t.val, 0, 0] S1x16x1024.size (inbSlot t)
abbrev blkR (q : Fin 4) : Rect S256x1024 := Rect.unit (s := S256x1024) ![64 * q.val, 0] S64x1024.size (inbBlk q)

abbrev kvDst (kv slot : Fin 2) (h : Fin 8) : Memref sig .tc .vmem S16x64x128 .f32 := ((bufRef kv).slice (kvR slot h) (fun _ => rfl)).squeeze S16x64x128 squeezes_S1x1x16x64x128_S16x64x128
abbrev kvSrc (kv : Fin 2) (qb : Fin 4) (h : Fin 8) (c : Dev nD) : Memref sig .tc .hbm S16x64x128 .f32 := ((arrRef kv).slice (srcR qb h c) (fun _ => rfl)).squeeze S16x64x128 squeezes_S16x1x64x1x128_S16x64x128
abbrev pChunk (t : Fin 16) : Memref sig .tc .vmem S16x1024 .bf16 := pM.slice (rowR t) (fun _ => rfl)
abbrev rSlot (t : Fin 16) : Memref sig .tc .vmem S16x1024 .bf16 := (rM.slice (slotR t) (fun _ => rfl)).squeeze S16x1024 squeezes_S1x16x1024_S16x1024
abbrev gRows (t : Fin 16) : Memref sig .tc .vmem S16x1024 .bf16 := gM.slice (rowR t) (fun _ => rfl)

/-! ## Cells -/

abbrev barS : Sem sig := (SemArray.scalar (sig.barrier 0 rfl) : Sems sig S_).sem

/-- A cell of one device: the barrier; the fetch semaphore of a slot and kind; or one of the four arrays of sixteen
(0 first send, 1 first receive, 2 second send, 3 second receive). -/
abbrev CI : Type := Unit ⊕ (Fin 2 × Fin 2) ⊕ (Fin 4 × Fin 16)

theorem kvq_lt (s k : Fin 2) : 4 + 2 * s.val + k.val < 72 := by omega
theorem xq_lt (a : Fin 4) (t : Fin 16) : 8 + 16 * a.val + t.val < 72 := by omega
def kvQ (s k : Fin 2) : DmaSem sig := (⟨4 + 2 * s.val + k.val, kvq_lt s k⟩ : Fin 72)
def xQ (a : Fin 4) (t : Fin 16) : DmaSem sig := (⟨8 + 16 * a.val + t.val, xq_lt a t⟩ : Fin 72)

def semOf : CI → SemLoc sig
  | .inl _ => .reg barS
  | .inr (.inl p) => .dma (kvQ p.1 p.2)
  | .inr (.inr p) => .dma (xQ p.1 p.2)

def ciOfQ (q : Fin 72) : Option CI :=
  if q.val < 4 then none
  else if q.val < 8 then some (.inr (.inl (⟨((q.val - 4) / 2) % 2, Nat.mod_lt _ (by decide)⟩, ⟨q.val % 2, Nat.mod_lt _ (by decide)⟩)))
  else some (.inr (.inr (⟨((q.val - 8) / 16) % 4, Nat.mod_lt _ (by decide)⟩, ⟨(q.val - 8) % 16, Nat.mod_lt _ (by decide)⟩)))

def ciOf : SemLoc sig → Option CI
  | .reg _ => some (.inl ())
  | .dma q => ciOfQ q

theorem ciOf_kv : ∀ s k : Fin 2, ciOfQ (kvQ s k) = some (.inr (.inl (s, k))) := by decide
theorem ciOf_x : ∀ (a : Fin 4) (t : Fin 16), ciOfQ (xQ a t) = some (.inr (.inr (a, t))) := by decide +kernel
theorem ciOf_semOf : ∀ i : CI, ciOf (semOf i) = some i
  | .inl _ => rfl
  | .inr (.inl p) => ciOf_kv p.1 p.2
  | .inr (.inr p) => ciOf_x p.1 p.2

theorem semOf_inj : Function.Injective semOf := fun i j h => by
  have := (ciOf_semOf i).symm.trans ((congrArg ciOf h).trans (ciOf_semOf j)); exact Option.some.inj this

abbrev cell (c : Dev nD) (i : CI) : GSem nD τ sig := ((c : Thread nD τ), semOf i)
abbrev bI : CI := .inl ()
abbrev kvI (s k : Fin 2) : CI := .inr (.inl (s, k))
abbrev xI (a : Fin 4) (t : Fin 16) : CI := .inr (.inr (a, t))

theorem cell_inj : Function.Injective (fun p : Dev nD × CI => cell p.1 p.2) := fun p q h => by
  have h1 : p.1 = q.1 := congrArg (fun g : GSem nD τ sig => g.1.1) h
  have h2 : p.2 = q.2 := semOf_inj (congrArg (fun g : GSem nD τ sig => g.2) h)
  exact Prod.ext h1 h2

abbrev NK : ℕ := (kvDst 0 0 0).view.dmaCredit
abbrev NX : ℕ := (pChunk 0).view.dmaCredit
theorem NK_pos : 0 < NK := View.dmaCredit_pos _ (by decide)
theorem NX_pos : 0 < NX := View.dmaCredit_pos _ (by decide)

/-! ## Contents -/

/-- Query block 0's partial product as the body computes it. -/
def pRaw0 (v319 : FVec F S256x1024 .bf16) (v322 : FVec F S1024x1024 .bf16) (k v : Fin 8 → Vec F S1x1x16x64x128 .f32) : FVec F S64x1024 .bf16 :=
  let v548 := k 0
  let v552 := v 0
  let v559 := k0_pay3 v319 v548
  let v561 := k0_pay4 v319 v548 v552
  let v567 := k 1
  let v571 := v 1
  let v586 := k 2
  let v590 := v 2
  let v565 := k0_pay5 v559 v561
  let v584 := k0_pay6 v319 v567 v571
  let v593 := k0_pay7 v590
  let v594 := k0_pay8 v319 v586
  let v595 := k0_pay9 (F := F)
  let v605 := k 3
  let v609 := v 3
  let v624 := k 4
  let v628 := v 4
  let v603 := k0_pay10 v593 v594 v595
  let v622 := k0_pay11 v319 v605 v609
  let v623 := k0_pay12 v319
  let v627 := k0_pay13 v624
  let v629 := k0_pay14 v628
  let v643 := k 5
  let v647 := v 5
  let v662 := k 6
  let v641 := k0_pay15 v623 v627 v629
  let v660 := k0_pay16 v319 v643 v647
  let v661 := k0_pay17 v319
  let v665 := k0_pay18 v662
  let v666 := v 6
  let v681 := k 7
  let v685 := v 7
  let v702 := k0_pay19 v319 v322 v565 v584 v603 v622 v641 v660 v661 v665 v666 v681 v685
  k0_pay20 v702

/-- Query block 1's partial product as the body computes it. -/
def pRaw1 (v319 : FVec F S256x1024 .bf16) (v322 : FVec F S1024x1024 .bf16) (k v : Fin 8 → Vec F S1x1x16x64x128 .f32) : FVec F S64x1024 .bf16 :=
  let v991 := k 0
  let v995 := v 0
  let v1008 := k0_pay21 v319 v991 v995
  let v1009 := k0_pay22 v319
  let v1010 := k 1
  let v1014 := v 1
  let v1029 := k 2
  let v1033 := v 2
  let v1027 := k0_pay23 v1009 v1010 v1014
  let v1040 := k0_pay24 v319 v1029
  let v1042 := k0_pay25 v319 v1029 v1033
  let v1048 := k 3
  let v1052 := v 3
  let v1067 := k 4
  let v1071 := v 4
  let v1046 := k0_pay26 v1040 v1042
  let v1065 := k0_pay27 v319 v1048 v1052
  let v1074 := k0_pay28 v1071
  let v1075 := k0_pay29 v319 v1067
  let v1086 := k 5
  let v1090 := v 5
  let v1105 := k 6
  let v1109 := v 6
  let cst_1314 : F .f32 := Scalar.ofBits .f32 0x3DB504F3#32
  let v1084 := k0_pay30 v1074 v1075 cst_1314
  let v1103 := k0_pay31 v319 v1086 v1090
  let v1104 := k0_pay32 v319
  let v1108 := k0_pay33 v1105
  let v1124 := k 7
  let v1128 := v 7
  let v1148 := k0_pay34 v319 v322 v1008 v1027 v1046 v1065 v1084 v1103 v1104 v1108 v1109 v1124 v1128
  v1148

/-- Query block 2's partial product as the body computes it. -/
def pRaw2 (v319 : FVec F S256x1024 .bf16) (v322 : FVec F S1024x1024 .bf16) (k v : Fin 8 → Vec F S1x1x16x64x128 .f32) : FVec F S64x1024 .bf16 :=
  let v1434 := k 0
  let v1438 := v 0
  let v1451 := k0_pay35 v319 v1434 v1438
  let v1452 := k0_pay36 v319
  let v1453 := k 1
  let v1457 := v 1
  let v1472 := k 2
  let v1476 := v 2
  let v1470 := k0_pay37 v1452 v1453 v1457
  let v1489 := k0_pay38 v319 v1472 v1476
  let v1491 := k 3
  let v1495 := v 3
  let v1510 := k 4
  let v1514 := v 4
  let v1508 := k0_pay39 v319 v1491 v1495
  let v1517 := k0_pay40 v1514
  let v1521 := k0_pay41 v319 v1510
  let v1522 := k0_pay42 v319 v1510
  let v1529 := k 5
  let v1533 := v 5
  let v1548 := k 6
  let v1552 := v 6
  let cst_1849 : FVec F S64x128 .f32 := constant S64x128 .f32 0x00000000#32
  let v1527 := k0_pay43 v1517 v1521 v1522 cst_1849
  let v1546 := k0_pay44 v319 v1529 v1533
  let v1555 := k0_pay45 v1552
  let v1556 := k0_pay46 v319 v1548
  let v1567 := k 7
  let v1571 := v 7
  k0_pay47 v319 v322 v1451 v1470 v1489 v1508 v1527 v1546 v1555 v1556 v1567 v1571

/-- Query block 3's partial product as the body computes it. -/
def pRaw3 (v319 : FVec F S256x1024 .bf16) (v322 : FVec F S1024x1024 .bf16) (k v : Fin 8 → Vec F S1x1x16x64x128 .f32) : FVec F S64x1024 .bf16 :=
  let v1764 := k0_pay48 v319
  let v1765 := k 0
  let v1769 := v 0
  let v1784 := k 1
  let v1788 := v 1
  let v1782 := k0_pay49 v1764 v1765 v1769
  let v1797 := k0_pay51 v319 v1784 v1788
  let v1799 := k0_pay52 v319 v1784
  let v1803 := k 2
  let v1807 := v 2
  let v1822 := k 3
  let v1826 := v 3
  let v1801 := k0_pay53 v1797 v1799
  let v1820 := k0_pay54 v319 v1803 v1807
  let v1829 := k0_pay55 v1826
  let v1833 := k0_pay56 v319 v1822
  let v1841 := k 4
  let v1845 := v 4
  let v1860 := k 5
  let v1864 := v 5
  let v1839 := k0_pay57 v1829 v1833
  let v1858 := k0_pay58 v319 v1841 v1845
  let v1859 := k0_pay59 v319
  let v1863 := k0_pay60 v1860
  let v1867 := k0_pay61 v1864
  let v1879 := k 6
  let v1883 := v 6
  let v1898 := k 7
  let v1877 := k0_pay62 v1859 v1863 v1867
  let v1896 := k0_pay63 v319 v1879 v1883
  let v1897 := k0_pay64 v319
  let v1901 := k0_pay65 v1898
  let v1902 := v 7
  k0_pay66 v322 v1782 v1801 v1820 v1839 v1858 v1877 v1896 v1897 v1901 v1902

/-- The reduced chunk as the body computes it: its own rows and the fifteen received ones, in the order of arrival. -/
def gRaw (p : Vec F S16x1024 .bf16) (r : ℕ → Vec F S1x16x1024 .bf16) : FVec F S16x1024 .bf16 :=
  let v1985 := p
  let v2006 := r 1
  let v2009 := k0_pay67 v1985 v2006
  let v2029 := r 2
  let v2032 := k0_pay68 v2009 v2029
  let v2052 := r 3
  let v2075 := r 4
  let v2078 := k0_pay69 v2032 v2052 v2075
  let v2098 := r 5
  let v2101 := k0_pay70 v2078 v2098
  let v2121 := r 6
  let v2144 := r 7
  let v2147 := k0_pay71 v2101 v2121 v2144
  let v2167 := r 8
  let v2170 := k0_pay72 v2147 v2167
  let v2190 := r 9
  let v2213 := r 10
  let v2216 := k0_pay73 v2170 v2190 v2213
  let v2236 := r 11
  let v2239 := k0_pay74 v2216 v2236
  let v2259 := r 12
  let v2282 := r 13
  let v2285 := k0_pay75 v2239 v2259 v2282
  let v2305 := r 14
  let v2328 := r 15
  let v2308 := k0_pay76 v2285 v2305
  let v2329 := k0_pay77 v2328
  k0_pay78 v2308 v2329

/-- The query block's partial product, by query block. -/
def pRaw (qb : Fin 4) : FVec F S256x1024 .bf16 → FVec F S1024x1024 .bf16 → (Fin 8 → Vec F S1x1x16x64x128 .f32) → (Fin 8 → Vec F S1x1x16x64x128 .f32) → FVec F S64x1024 .bf16 :=
  match qb with | 0 => pRaw0 | 1 => pRaw1 | 2 => pRaw2 | 3 => pRaw3

/-- The staged inputs. -/
def xstg (c : Dev nD) : (cc0_stg0_0 : Ref sig .tc).ty.Contents (Elt F) :=
  (win0_0.blk (0 : Fin 1)).view.read (Elt F) (m ((c : Thread nD τ).loc main_arg0))
def wqstg (c : Dev nD) : (cc0_stg1_0 : Ref sig .tc).ty.Contents (Elt F) :=
  (win0_1.blk (0 : Fin 1)).view.read (Elt F) (m ((c : Thread nD τ).loc main_arg1))
def wostg (c : Dev nD) : (cc0_stg2_0 : Ref sig .tc).ty.Contents (Elt F) :=
  (win0_2.blk (0 : Fin 1)).view.read (Elt F) (m ((c : Thread nD τ).loc main_arg4))

/-- The query block that the fetch of round `r` into slot `s` serves. -/
def qbOf (s : Fin 2) (r : ℕ) : Fin 4 := ⟨(2 * r + s.val) % 4, Nat.mod_lt _ (by decide)⟩

/-- The fetch buffer after a head's keys (values) landed. -/
def kvC (kv slot : Fin 2) (qb : Fin 4) (h : Fin 8) (c : Dev nD) : Buf (Elt F) ((bufRef kv).view.loc (c : Thread nD τ)) :=
  (kvDst kv slot h).view.write (Elt F) (m ((kvDst kv slot h).view.loc (c : Thread nD τ))) ((kvSrc kv qb h c).view.read (Elt F) (m ((kvSrc kv qb h c).view.loc (c : Thread nD τ)))) Finset.univ

/-- One head's keys (values) as the body loads them. -/
def kvVal (kv slot : Fin 2) (qb : Fin 4) (c : Dev nD) (h : Fin 8) : Vec F S1x1x16x64x128 .f32 :=
  ((bufRef kv).access (kvR slot h)).read (Elt F) (kvC m kv slot qb h c)

def slotOf (qb : Fin 4) : Fin 2 := ⟨qb.val % 2, Nat.mod_lt _ (by decide)⟩

def xq (c : Dev nD) : FVec F S256x1024 .bf16 := k0_pay1 (xstg m c) (wqstg m c)
def wo (c : Dev nD) : FVec F S1024x1024 .bf16 := k0_pay2 (wostg m c)

/-- The 64 rows of query block `qb` that device `c` computes. -/
def pBlk (c : Dev nD) (qb : Fin 4) : FVec F S64x1024 .bf16 :=
  pRaw qb (xq m c) (wo m c) (kvVal m 0 (slotOf qb) qb c) (kvVal m 1 (slotOf qb) qb c)

/-- The partial buffer after query block `qb` was stored. -/
def pC (c : Dev nD) (qb : Fin 4) : Buf (Elt F) (pM.view.loc (c : Thread nD τ)) :=
  (pM.access (blkR qb)).write (Elt F) (m ((pM.access (blkR qb)).loc (c : Thread nD τ))) (pBlk m c qb) Finset.univ

/-- The query block a chunk of rows belongs to. -/
def qOf (t : Fin 16) : Fin 4 := ⟨t.val / 4, by omega⟩

/-- Slot `s` of device `c`'s receive buffer after device `s`'s chunk for `c` landed. -/
def rC (s c : Dev nD) : Buf (Elt F) (rM.view.loc (c : Thread nD τ)) :=
  (rSlot s).view.write (Elt F) (m ((rSlot s).view.loc (c : Thread nD τ))) ((pChunk c).view.read (Elt F) (pC m s (qOf c))) Finset.univ

def ownVal (c : Dev nD) : Vec F S16x1024 .bf16 := (pM.access (rowR c)).read (Elt F) (pC m c (qOf c))
def rVal (s c : Dev nD) : Vec F S1x16x1024 .bf16 := (rM.access (slotR s)).read (Elt F) (rC m s c)

/-- The reduced rows of device `c`. -/
def gBlk (c : Dev nD) : FVec F S16x1024 .bf16 := gRaw (ownVal m c) (fun o => rVal m (peer c o) c)

/-- Rows `s` of device `e`'s gathered buffer once they hold device `s`'s reduced rows. -/
def gC (e s : Dev nD) : Buf (Elt F) (gM.view.loc (e : Thread nD τ)) :=
  (gM.access (rowR s)).write (Elt F) (m ((gM.access (rowR s)).loc (e : Thread nD τ))) (gBlk m s) Finset.univ

/-- The gathered buffer, every row in place. -/
def gFull (e : Dev nD) : Buf (Elt F) (gM.view.loc (e : Thread nD τ)) :=
  fun (i : S256x1024.Idx) => gC m e ⟨(i 0).val / 16, by have h : (i 0).val < 256 := (i 0).isLt; show (i 0).val / 16 < 16; omega⟩ i

/-- The result on device `e`. -/
def outAt (e : Dev nD) : (cc0_stg3_0 : Ref sig .tc).ty.Contents (Elt F) := k0_pay79 (gFull m e)

/-! ## Points-to pieces -/

abbrev full : PosShare TreeShare := fullShare

def kvPts (kv slot : Fin 2) (h : Fin 8) (c : Dev nD) (f : Buf (Elt F) ((bufRef kv).view.loc (c : Thread nD τ))) : sProp 𝕄 :=
  (kvDst kv slot h).view.loc (c : Thread nD τ) ↦[(kvDst kv slot h).view.set]{full} f
def srcPts (kv : Fin 2) (qb : Fin 4) (h : Fin 8) (c : Dev nD) : sProp 𝕄 :=
  (kvSrc kv qb h c).view.loc (c : Thread nD τ) ↦[(kvSrc kv qb h c).view.set]{full} m ((kvSrc kv qb h c).view.loc (c : Thread nD τ))
def pPts (t : Fin 16) (c : Dev nD) (f : Buf (Elt F) (pM.view.loc (c : Thread nD τ))) : sProp 𝕄 :=
  (pChunk t).view.loc (c : Thread nD τ) ↦[(pChunk t).view.set]{full} f
def rPts (s : Fin 16) (c : Dev nD) (f : Buf (Elt F) (rM.view.loc (c : Thread nD τ))) : sProp 𝕄 :=
  (rSlot s).view.loc (c : Thread nD τ) ↦[(rSlot s).view.set]{full} f
def gPts (q : PosShare TreeShare) (s : Fin 16) (c : Dev nD) (f : Buf (Elt F) (gM.view.loc (c : Thread nD τ))) : sProp 𝕄 :=
  (gRows s).view.loc (c : Thread nD τ) ↦[(gRows s).view.set]{q} f

instance kvPts_storable (kv slot h c f) : BI.Storable (upEmb : UEmb _ 𝕄) (kvPts (F := F) kv slot h c f) := by unfold kvPts; infer_instance
instance srcPts_storable (kv qb h c) : BI.Storable (upEmb : UEmb _ 𝕄) (srcPts m kv qb h c) := by unfold srcPts; infer_instance
instance pPts_storable (t c f) : BI.Storable (upEmb : UEmb _ 𝕄) (pPts (F := F) t c f) := by unfold pPts; infer_instance
instance rPts_storable (t c f) : BI.Storable (upEmb : UEmb _ 𝕄) (rPts (F := F) t c f) := by unfold rPts; infer_instance
instance gPts_storable (q t c f) : BI.Storable (upEmb : UEmb _ 𝕄) (gPts (F := F) q t c f) := by unfold gPts; infer_instance

/-! ## The schedule -/

/-- The share of its own reduced rows that a device lends to its send to device `t`; the share at its own name it keeps. -/
def shr (t : Dev nD) : PosShare TreeShare := Transfers.dealOf fullShare (Finset.univ : Finset (Dev nD)) t

def hOf (d : D) : Fin 8 := ⟨d.val % 8, Nat.mod_lt _ (by decide)⟩

def dutI (c : Dev nD) (i : CI) (r : ℕ) : Finset D :=
  match i with
  | .inl _ => if r = 0 then Finset.univ.erase c else ∅
  | .inr (.inl _) => if r < 2 then Finset.univ.filter (fun h => h.val < 8) else ∅
  | .inr (.inr p) => if r = 0 ∧ p.2 ≠ c then {0} else ∅

def amtI (i : CI) : ℕ := match i with | .inl _ => 1 | .inr (.inl _) => NK | .inr (.inr _) => NX
theorem amtI_pos (i : CI) : 0 < amtI i := by
  rcases i with _ | _ | _
  · exact Nat.one_pos
  · exact NK_pos
  · exact NX_pos

/-- What a signal from device `d` to device `c`'s barrier hands over: `c`'s slot of `d`'s receive buffer and `c`'s rows of `d`'s gathered buffer. -/
def barPay (c d : Dev nD) : sProp 𝕄 := iprop((∃ f, rPts c d f) ∗ (∃ f, gPts full c d f))
def kvPay (c : Dev nD) (s k : Fin 2) (r : ℕ) (d : D) : sProp 𝕄 :=
  iprop(kvPts k s (hOf d) c (kvC m k s (qbOf s r) (hOf d) c) ∗ srcPts m k (qbOf s r) (hOf d) c)
def xPay (c : Dev nD) (a : Fin 4) (t : Fin 16) : sProp 𝕄 :=
  match a with
  | 0 => pPts t c (pC m c (qOf t))
  | 1 => rPts t c (rC m t c)
  | 2 => gPts (shr t) c c (gC m c c)
  | 3 => gPts full t c (gC m c t)

instance barPay_storable (c d) : BI.Storable (upEmb : UEmb _ 𝕄) (barPay (F := F) c d) := by unfold barPay; infer_instance
instance kvPay_storable (c s k r d) : BI.Storable (upEmb : UEmb _ 𝕄) (kvPay m c s k r d) := by unfold kvPay; infer_instance
instance xPay_storable (c a t) : BI.Storable (upEmb : UEmb _ 𝕄) (xPay m c a t) := by
  unfold xPay; split <;> infer_instance

def payI (c : Dev nD) (i : CI) (r : ℕ) (d : D) : sProp 𝕄 :=
  match i with
  | .inl _ => barPay c d
  | .inr (.inl p) => kvPay m c p.1 p.2 r d
  | .inr (.inr p) => xPay m c p.1 p.2

instance payI_storable (c i r d) : BI.Storable (upEmb : UEmb _ 𝕄) (payI m c i r d) := by
  unfold payI; split <;> infer_instance

def rd : Rounds.Schedule (GSem nD τ sig) D 𝕄 where
  duties g r := if g.1.2 = .tc then (match ciOf g.2 with | some i => dutI g.1.1 i r | none => ∅) else ∅
  unitless _ := False
  amount g _ _ := match ciOf g.2 with | some i => amtI i | none => 1
  payload g r d := match ciOf g.2 with | some i => payI m g.1.1 i r d | none => iprop(emp)
  amount_pos g _ _ _ := by
    split
    · exact amtI_pos _
    · exact Nat.one_pos

instance rd_payload_storable (g : GSem nD τ sig) (r : ℕ) (d : D) : BI.Storable (upEmb : UEmb _ 𝕄) ((rd m).payload g r d) := by
  show BI.Storable upEmb (match ciOf g.2 with | some i => payI m g.1.1 i r d | none => iprop(emp))
  split <;> infer_instance

theorem rd_duties (c : Dev nD) (i : CI) (r : ℕ) : (rd m).duties (cell c i) r = dutI c i r := by
  dsimp only [rd]; rw [if_pos rfl, ciOf_semOf]
theorem rd_amount (c : Dev nD) (i : CI) (r : ℕ) (d : D) : (rd m).amount (cell c i) r d = amtI i := by
  dsimp only [rd]; rw [ciOf_semOf]
theorem rd_payload (c : Dev nD) (i : CI) (r : ℕ) (d : D) : (rd m).payload (cell c i) r d = payI m c i r d := by
  dsimp only [rd]; rw [ciOf_semOf]
theorem rd_expect (c : Dev nD) (i : CI) (r : ℕ) : (rd m).expect (cell c i) r = (dutI c i r).card * amtI i := by
  unfold Schedule.expect Schedule.amountOf
  rw [rd_duties, Finset.sum_congr rfl fun d _ => rd_amount m c i r d, Finset.sum_const, smul_eq_mul]

/-- The last round a cell is at: how many rounds it has. -/
def lastR (c : Dev nD) (i : CI) : ℕ := match i with | .inl _ => 1 | .inr (.inl _) => 2 | .inr (.inr p) => if p.2 = c then 0 else 1
theorem dutI_last (c : Dev nD) (i : CI) : ∀ r, lastR c i ≤ r → dutI c i r = ∅ := by
  intro r hr
  rcases i with _ | _ | p
  · dsimp only [lastR, dutI] at *; rw [if_neg]; omega
  · dsimp only [lastR, dutI] at *; rw [if_neg]; omega
  · dsimp only [lastR, dutI] at *
    rw [if_neg]; rintro ⟨h0, h1⟩; rw [if_neg h1] at hr; omega

/-! ## Levels and what a device owes -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier cells at 1, first receives at 2, second receives at 3, everything a device waits for from itself at 0. -/
def lvI (i : CI) : ℕ := match i with | .inl _ => 1 | .inr (.inl _) => 0 | .inr (.inr p) => match p.1 with | 0 => 0 | 1 => 2 | 2 => 0 | 3 => 3
def lv (g : GSem nD τ sig) (_ : Unit) : ℕ := match ciOf g.2 with | some i => lvI i | none => 0
theorem lv_cell (c : Dev nD) (i : CI) : lv (cell c i) () = lvI i := by dsimp only [lv]; rw [ciOf_semOf]

abbrev CT := CellTallies nD τ sig Unit

/-- The barrier units still owed from distance `i` on. -/
def oB (c : Dev nD) (i : ℕ) : CT := ∑ o ∈ Finset.Ico i 16, tallyAt (cell (peer c o) bI) () 1
/-- The first-phase chunks still owed from position `j` on. -/
def oX (c : Dev nD) (j : ℕ) : CT := ∑ j' ∈ Finset.Ico j 16, if tg c j' = c then 0 else tallyAt (cell (tg c j') (xI 1 c)) () NX
/-- The second-phase rows still owed from distance `k` on. -/
def oG (c : Dev nD) (k : ℕ) : CT := ∑ o ∈ Finset.Ico k 16, tallyAt (cell (peer c o) (xI 3 c)) () NX
def oAll (c : Dev nD) (i j k : ℕ) : CT := oB c i + oX c j + oG c k
def O₀ (c : Dev nD) : CT := oAll c 1 0 1

theorem oB_16 (c : Dev nD) : oB c 16 = 0 := by unfold oB; rw [Finset.Ico_self, Finset.sum_empty]
theorem oX_16 (c : Dev nD) : oX c 16 = 0 := by unfold oX; rw [Finset.Ico_self, Finset.sum_empty]
theorem oG_16 (c : Dev nD) : oG c 16 = 0 := by unfold oG; rw [Finset.Ico_self, Finset.sum_empty]
theorem oAll_end (c : Dev nD) : oAll c 16 16 16 = 0 := by unfold oAll; rw [oB_16, oX_16, oG_16, add_zero, add_zero]

theorem ico_split {i : ℕ} (h : i < 16) : Finset.Ico i 16 = insert i (Finset.Ico (i + 1) 16) := by
  ext x; simp only [Finset.mem_Ico, Finset.mem_insert]; omega
theorem not_mem_ico (i : ℕ) : i ∉ Finset.Ico (i + 1) 16 := by simp

theorem oB_step (c : Dev nD) {i : ℕ} (h : i < 16) : oB c i = oB c (i + 1) + tallyAt (cell (peer c i) bI) () 1 := by
  unfold oB; rw [ico_split h, Finset.sum_insert (not_mem_ico i), add_comm]
theorem oX_step (c : Dev nD) {j : ℕ} (h : j < 16) : oX c j = oX c (j + 1) + (if tg c j = c then 0 else tallyAt (cell (tg c j) (xI 1 c)) () NX) := by
  unfold oX; rw [ico_split h, Finset.sum_insert (not_mem_ico j), add_comm]
theorem oG_step (c : Dev nD) {k : ℕ} (h : k < 16) : oG c k = oG c (k + 1) + tallyAt (cell (peer c k) (xI 3 c)) () NX := by
  unfold oG; rw [ico_split h, Finset.sum_insert (not_mem_ico k), add_comm]
theorem add_mv1 {A : Type*} [AddCommMonoid A] (x t y z : A) : x + t + y + z = x + y + z + t := by rw [add_right_comm x t y, add_right_comm (x + y) t z]
theorem add_mv2 {A : Type*} [AddCommMonoid A] (x y t z : A) : x + (y + t) + z = x + y + z + t := by rw [← add_assoc, add_right_comm (x + y) t z]
theorem add_mv3 {A : Type*} [AddCommMonoid A] (x y z t : A) : x + y + (z + t) = x + y + z + t := (add_assoc _ _ _).symm
theorem oAll_stepB (c : Dev nD) {i j k : ℕ} (h : i < 16) : oAll c i j k = oAll c (i + 1) j k + tallyAt (cell (peer c i) bI) () 1 := by
  unfold oAll; rw [oB_step c h]; exact add_mv1 _ _ _ _
theorem oAll_stepX (c : Dev nD) {i j k : ℕ} (h : j < 16) (hn : tg c j ≠ c) : oAll c i j k = oAll c i (j + 1) k + tallyAt (cell (tg c j) (xI 1 c)) () NX := by
  unfold oAll; rw [oX_step c h, if_neg hn]; exact add_mv2 _ _ _ _
theorem oAll_stepX' (c : Dev nD) {i j k : ℕ} (h : j < 16) (hn : tg c j = c) : oAll c i j k = oAll c i (j + 1) k := by
  unfold oAll; rw [oX_step c h, if_pos hn, add_zero]
theorem oAll_stepG (c : Dev nD) {i j k : ℕ} (h : k < 16) : oAll c i j k = oAll c i j (k + 1) + tallyAt (cell (peer c k) (xI 3 c)) () NX := by
  unfold oAll; rw [oG_step c h]; exact add_mv3 _ _ _ _

theorem sum_tally_pos {S : Finset ℕ} {T : ℕ → CT} {g : GSem nD τ sig} {u : Unit} (h : 0 < (∑ o ∈ S, T o) g u) : ∃ o ∈ S, 0 < T o g u := by
  rw [Finset.sum_apply, Finsupp.finset_sum_apply] at h
  by_contra hn
  push Not at hn
  rw [Finset.sum_eq_zero (fun o ho => Nat.le_zero.mp (hn o ho))] at h
  exact Nat.lt_irrefl 0 h

theorem tally_pos {g g' : GSem nD τ sig} {n : ℕ} {u : Unit} (h : 0 < (tallyAt g' () n : CT) g u) : g = g' := by
  rw [tallyAt_apply] at h
  by_contra hn
  rw [if_neg (fun h' => hn h'.1)] at h
  exact Nat.lt_irrefl 0 h

theorem oAll_pos {c : Dev nD} {i j k : ℕ} {g : GSem nD τ sig} {u : Unit} (h : 0 < oAll c i j k g u) :
    (i < 16 ∧ ∃ e, g = cell e bI) ∨ (j < 16 ∧ ∃ e, g = cell e (xI 1 c)) ∨ (k < 16 ∧ ∃ e, g = cell e (xI 3 c)) := by
  unfold oAll at h
  rw [Pi.add_apply, Finsupp.add_apply, Pi.add_apply, Finsupp.add_apply] at h
  rcases Nat.eq_zero_or_pos (oB c i g u) with h1 | h1
  · rcases Nat.eq_zero_or_pos (oX c j g u) with h2 | h2
    · rw [h1, h2] at h
      have h3 : 0 < oG c k g u := by omega
      unfold oG at h3
      obtain ⟨o, ho, hp⟩ := sum_tally_pos h3
      rw [Finset.mem_Ico] at ho
      exact .inr (.inr ⟨by omega, _, tally_pos hp⟩)
    · unfold oX at h2
      obtain ⟨o, ho, hp⟩ := sum_tally_pos h2
      rw [Finset.mem_Ico] at ho
      by_cases ht : tg c o = c
      · rw [if_pos ht] at hp; exact absurd hp (Nat.lt_irrefl 0)
      · rw [if_neg ht] at hp; exact .inr (.inl ⟨by omega, _, tally_pos hp⟩)
  · unfold oB at h1
    obtain ⟨o, ho, hp⟩ := sum_tally_pos h1
    rw [Finset.mem_Ico] at ho
    exact .inl ⟨by omega, _, tally_pos hp⟩

/-- A device may wait on a cell of level `n` of its own while what it owes lies higher. -/
theorem mayWait (c : Dev nD) (sm : SemLoc sig) (i j k n : ℕ) (hn : lv ((c : Thread nD τ), sm) () ≤ n)
    (h1 : i < 16 → n < 1) (h2 : j < 16 → n < 2) (h3 : k < 16 → n < 3) :
    (levAts L lv : sProp 𝕄) ⊢ MayWait (c : Thread nD τ) sm () (oAll c i j k) := by
  refine MayOwe.of_cut (L := L) (lev := lv) n (fun p hp => by rw [Finset.mem_singleton.mp hp, L_tc]; exact Finset.mem_singleton_self _)
    (fun g u hg => ?_) (fun p hp => by rw [Finset.mem_singleton.mp hp]; exact hn) (fun g u hg => ?_)
  · rcases oAll_pos hg with ⟨_, e, rfl⟩ | ⟨_, e, rfl⟩ | ⟨_, e, rfl⟩ <;> exact Finset.mem_singleton_self _
  · rcases oAll_pos hg with ⟨hi, e, rfl⟩ | ⟨hi, e, rfl⟩ | ⟨hi, e, rfl⟩
    · rw [show lv (cell e bI) u = 1 from lv_cell e bI]; exact h1 hi
    · rw [show lv (cell e (xI 1 c)) u = 2 from lv_cell e _]; exact h2 hi
    · rw [show lv (cell e (xI 3 c)) u = 3 from lv_cell e _]; exact h3 hi

end Cert.KProof

end
-- ==== Proof.Steps.lean ====
/-
One step of the body at a time: the rules for each kind of operation, on the state that a device carries.
-/
module

public import proofs.«01_k».proof.Proof.Proto

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What every device knows throughout: the cells' invariants, that round 0 of each is reached, and the levels. -/
def Pers (κ : Dev nD × CI → ℕ) : sProp 𝕄 :=
  iprop(bigSep Finset.univ (fun p : Dev nD × CI => cellInv ER (rd m) (κ p) (cell p.1 p.2))
    ∗ bigSep Finset.univ (fun p : Dev nD × CI => reached ER (cell p.1 p.2) 0) ∗ levAts L lv)

instance Pers_persistent (κ : Dev nD × CI → ℕ) : BI.Persistent (Pers m κ) := by unfold Pers; infer_instance

variable (κ : Dev nD × CI → ℕ)

theorem Pers_inv (c : Dev nD) (i : CI) : Pers m κ ⊢ cellInv ER (rd m) (κ (c, i)) (cell c i) := by
  unfold Pers
  iintro ⟨H, -, -⟩
  iapply (show bigSep Finset.univ (fun p : Dev nD × CI => cellInv ER (rd m) (κ p) (cell p.1 p.2)) ⊢ cellInv ER (rd m) (κ (c, i)) (cell c i) from bigSep_elim (Finset.mem_univ ((c, i) : Dev nD × CI)))
  iexact H
theorem Pers_reached (c : Dev nD) (i : CI) : Pers m κ ⊢ reached ER (cell c i) 0 := by
  unfold Pers
  iintro ⟨-, H, -⟩
  iapply (show bigSep Finset.univ (fun p : Dev nD × CI => (reached ER (cell p.1 p.2) 0 : sProp 𝕄)) ⊢ reached ER (cell c i) 0 from bigSep_elim (Finset.mem_univ ((c, i) : Dev nD × CI)))
  iexact H
theorem Pers_lev : Pers m κ ⊢ levAts L lv := by
  unfold Pers
  iintro ⟨-, -, H⟩
  iexact H

/-- What device `c` still owes: barrier units from distance `i`, first-phase chunks from position `j`, second-phase rows from distance `k`. -/
def Ow (c : Dev nD) (i j k : ℕ) : sProp 𝕄 := iprop(∃ W, owes (c : Thread nD τ) (oAll c i j k) W)

/-! ## Signals and waits -/

section Steps

/-- The signal to the device `i` places on. -/
theorem st_signal {α : Type} {Q : α → sProp 𝕄} (c : Dev nD) {R : sProp 𝕄} {i j k : ℕ} (hi : i < 16) (hi' : 1 ≤ i) (n : Dev nD) (hn : n = peer c i) (hne : c ≠ peer c i)
    {kk : PUnit → Prog (TpuEff nD τ sig (Elt F) Λ₀ .tc) α}
    (H : iprop(Pers m κ ∗ Ow c (i + 1) j k ∗ R) ⊢ WP c (kk ⟨⟩) Q) :
    iprop(Pers m κ ∗ Ow c i j k ∗ (dutyTok ER (cell (peer c i) bI) 0 c ∗ barPay (peer c i) c) ∗ R)
      ⊢ WP c (semSignalWord n barS 1#32 >>= kk) Q := by
  subst hn
  rw [show (semSignalWord (peer c i) barS 1#32 >>= kk : Prog (TpuEff nD τ sig (Elt F) Λ₀ .tc) α) = .op (.semSignal ((peer c i : Dev nD), .tc) barS 1) kk from rfl]
  unfold Ow
  iintro ⟨#HP, ⟨%W, HO⟩, ⟨Htok, Hpay⟩, HR⟩
  iapply (Rounds.wp_signal 𝒱₀ ER (rd m) (c : Thread nD τ) none (dst := (peer c i : Thread nD τ)) (κ := κ (peer c i, bI)) (r := 0)
      (d := c) (by rw [show ((peer c i : Thread nD τ), SemLoc.reg barS) = cell (peer c i) bI from rfl, rd_duties]; exact Finset.mem_erase.mpr ⟨hne, Finset.mem_univ _⟩)
      (rd_amount m (peer c i) bI 0 c) () (oAll c (i + 1) j k) (oAll_stepB c hi)) $$ [HO Htok Hpay]
  · isplitr; · iapply (Pers_inv m κ (peer c i) bI); iexact HP
    isplitl [HO]; · iexact HO
    isplitl [Htok]; · iexact Htok
    isplitl [Hpay]; · rw [show (rd m).payload ((peer c i : Thread nD τ), SemLoc.reg barS) 0 c = barPay (peer c i) c from rd_payload m (peer c i) bI 0 c]; iexact Hpay
    iapply (Pers_reached m κ (peer c i) bI); iexact HP
  iintro HO
  iapply H
  isplitr; · iexact HP
  isplitl [HO]; · unfold Ow; iexists W; iexact HO
  iexact HR

/-- A wait for a whole round of one of the device's own cells. -/
theorem st_wait {α : Type} {Q : α → sProp 𝕄} (c : Dev nD) {R : sProp 𝕄} (i' : CI) {i j k r : ℕ} {w : TpuEff nD τ sig (Elt F) Λ₀ .tc PUnit} {k' : ℕ}
    (hw : ∀ K : PUnit → sProp 𝕄, wpE' (defs₀ (F := F)) 𝒱₀ (c : Thread nD τ) none PendingWaitsCtx.empty Set.univ w K = waitSpec (c : Thread nD τ) Set.univ (semOf i') k' K)
    (hk : k' = (dutI c i' r).card * amtI i') (n : ℕ) (hn : lvI i' ≤ n) (h1 : i < 16 → n < 1) (h2 : j < 16 → n < 2) (h3 : k < 16 → n < 3)
    {kk : PUnit → Prog (TpuEff nD τ sig (Elt F) Λ₀ .tc) α}
    (H : iprop(Pers m κ ∗ Ow c i j k ∗ (atPos ER (cell c i') (r + 1) ∅ 0 ∗ reached ER (cell c i') (r + 1) ∗ bigSep (dutI c i' r) (fun d => payI m c i' r d)) ∗ R) ⊢ WP c (kk ⟨⟩) Q) :
    iprop(Pers m κ ∗ Ow c i j k ∗ (cred (tallyAt (cell c i') () k') ∗ atPos ER (cell c i') r ∅ 0) ∗ R)
      ⊢ WP c (.op w kk) Q := by
  unfold Ow
  iintro ⟨#HP, ⟨%W, HO⟩, ⟨Hc, Hat⟩, HR⟩
  iapply (Rounds.wp_wait_rest_token 𝒱₀ ER (rd m) (c : Thread nD τ) none (κ := κ (c, i')) hw (Set.mem_univ _) () (O := oAll c i j k) (W := W) (R := r) (m := 0) (T := ∅)
      (by rw [Nat.zero_add, rd_expect]; exact hk)) $$ [HO Hc Hat]
  · isplitr; · iapply (Pers_inv m κ c i'); iexact HP
    isplitl [Hc]; · iexact Hc
    isplitl [HO]; · iexact HO
    isplitr
    · iapply (mayWait c (semOf i') i j k n ((lv_cell c i').trans_le hn) h1 h2 h3)
      iapply (Pers_lev m κ); iexact HP
    iexact Hat
  iintro ⟨HO, Hat, Hr, Hpay⟩
  iapply H
  isplitr; · iexact HP
  isplitl [HO]; · unfold Ow; iexists _; iexact HO
  isplitr [HR]
  · isplitl [Hat]; · iexact Hat
    isplitl [Hr]; · iexact Hr
    rw [Finset.sdiff_empty, rd_duties, show (fun d => (rd m).payload (cell c i') r d) = (fun d => payI m c i' r d) from funext (rd_payload m c i' r)]
    iexact Hpay
  iexact HR

end Steps

end Cert.KProof

end
-- ==== Proof.StepsKV.lean ====
/-
The steps on the fetch buffers: starting a fetch, waiting for it, loading what landed.
-/
module

public import proofs.«01_k».proof.Proof.Steps

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (κ : Dev nD × CI → ℕ)

def h8 (n : ℕ) : Fin 8 := ⟨n % 8, Nat.mod_lt _ (by decide)⟩
def d16 (n : ℕ) : D := ⟨n % 16, Nat.mod_lt _ (by decide)⟩
def q4 (n : ℕ) : Fin 4 := ⟨n % 4, Nat.mod_lt _ (by decide)⟩

theorem hOf_d16 : ∀ n : Fin 8, hOf (d16 n.val) = h8 n.val := by decide

/-! ## Fetching a head's keys or values -/

/-- The fetches into slot `s` of kind `kv` for its round `r`: heads from `h` on still to start, the earlier ones in flight; `Z` is set aside. -/
def KF (c : Dev nD) (s kv : Fin 2) (r h : ℕ) (Z : sProp 𝕄) : sProp 𝕄 :=
  iprop(bigSep (Finset.Ico h 8) (fun h' => iprop((∃ f, kvPts kv s (h8 h') c f) ∗ srcPts m kv (qbOf s r) (h8 h') c ∗ dutyTok ER (cell c (kvI s kv)) r (d16 h')))
    ∗ bigSep (Finset.range h) (fun _ => cred (tallyAt (cell c (kvI s kv)) () NK))
    ∗ atPos ER (cell c (kvI s kv)) r ∅ 0 ∗ reached ER (cell c (kvI s kv)) r ∗ Z)

/-- The same once all are in flight and `h` waits are done. -/
def KW (c : Dev nD) (s kv : Fin 2) (r h : ℕ) (Z : sProp 𝕄) : sProp 𝕄 :=
  iprop(bigSep (Finset.Ico h 8) (fun _ => cred (tallyAt (cell c (kvI s kv)) () NK))
    ∗ (∃ T : Finset D, ⌜T ⊆ dutI c (kvI s kv) r⌝ ∗ atPos ER (cell c (kvI s kv)) r T (h * NK) ∗ bigSep T (fun d => payI m c (kvI s kv) r d)) ∗ Z)

/-- All eight landed. -/
def KL (c : Dev nD) (s kv : Fin 2) (r : ℕ) (Z : sProp 𝕄) : sProp 𝕄 :=
  iprop(bigSep (dutI c (kvI s kv) r) (fun d => payI m c (kvI s kv) r d)
    ∗ atPos ER (cell c (kvI s kv)) (r + 1) ∅ 0 ∗ reached ER (cell c (kvI s kv)) (r + 1) ∗ Z)

theorem ico8 {h : ℕ} (hh : h < 8) : Finset.Ico h 8 = insert h (Finset.Ico (h + 1) 8) := by
  ext x; simp only [Finset.mem_Ico, Finset.mem_insert]; omega
theorem not_mem_ico8 (i n : ℕ) : i ∉ Finset.Ico (i + 1) n := by simp

theorem bigSep_ico8 {h : ℕ} (hh : h < 8) (Φ : ℕ → sProp 𝕄) : bigSep (Finset.Ico h 8) Φ = iprop(Φ h ∗ bigSep (Finset.Ico (h + 1) 8) Φ) := by
  rw [ico8 hh]; exact bigSep_insert (not_mem_ico8 h 8)
theorem bigSep_ico16 {h : ℕ} (hh : h < 16) (Φ : ℕ → sProp 𝕄) : bigSep (Finset.Ico h 16) Φ = iprop(Φ h ∗ bigSep (Finset.Ico (h + 1) 16) Φ) := by
  rw [ico_split hh]; exact bigSep_insert (not_mem_ico8 h 16)
theorem bigSep_range_succ' (h : ℕ) (Φ : ℕ → sProp 𝕄) : bigSep (Finset.range (h + 1)) Φ = iprop(Φ h ∗ bigSep (Finset.range h) Φ) := by
  rw [Finset.range_add_one]; exact bigSep_insert Finset.notMem_range_self
theorem bigSep_ico1_succ {h : ℕ} (h1 : 1 ≤ h) (Φ : ℕ → sProp 𝕄) : bigSep (Finset.Ico 1 (h + 1)) Φ = iprop(Φ h ∗ bigSep (Finset.Ico 1 h) Φ) := by
  rw [show Finset.Ico 1 (h + 1) = insert h (Finset.Ico 1 h) from by ext x; simp only [Finset.mem_Ico, Finset.mem_insert]; omega]
  exact bigSep_insert (by simp)

theorem duty_kv (c : Dev nD) (s kv : Fin 2) {r h : ℕ} (hr : r < 2) (hh : h < 8) : d16 h ∈ (rd m).duties (cell c (kvI s kv)) r := by
  rw [rd_duties]; dsimp only [dutI]; rw [if_pos hr, Finset.mem_filter]
  refine ⟨Finset.mem_univ _, ?_⟩
  show h % 16 < 8
  omega

theorem hOf_d16' {h : ℕ} (hh : h < 8) : hOf (d16 h) = h8 h := hOf_d16 ⟨h, hh⟩

theorem bigSep_un {I : Type} [DecidableEq I] {s t : Finset I} (h : Disjoint s t) (Φ : I → sProp 𝕄) : bigSep (s ∪ t) Φ = iprop(bigSep s Φ ∗ bigSep t Φ) := BI.bigSep_union h
theorem bigSep_er {I : Type} [DecidableEq I] {s : Finset I} {i : I} (h : i ∈ s) (Φ : I → sProp 𝕄) : bigSep s Φ = iprop(Φ i ∗ bigSep (s.erase i) Φ) := BI.bigSep_erase h

section Steps

/-- What a landed fetch hands back. -/
theorem pay_kv (c : Dev nD) (s kv : Fin 2) (r : ℕ) {h : ℕ} (hh : h < 8) (f : Buf (Elt F) ((kvDst kv s (h8 h)).view.loc (c : Thread nD τ))) :
    iprop(((kvDst kv s (h8 h)).view.loc (c : Thread nD τ) ↦[(kvDst kv s (h8 h)).view.set]{full}
        ((kvDst kv s (h8 h)).view.write (Elt F) f ((kvSrc kv (qbOf s r) (h8 h) c).view.read (Elt F) (m ((kvSrc kv (qbOf s r) (h8 h) c).view.loc (c : Thread nD τ)))) Finset.univ))
      ∗ ((kvSrc kv (qbOf s r) (h8 h) c).view.loc (c : Thread nD τ) ↦[(kvSrc kv (qbOf s r) (h8 h) c).view.set]{full} (m ((kvSrc kv (qbOf s r) (h8 h) c).view.loc (c : Thread nD τ)))))
      ⊢ (rd m).payload (cell c (kvI s kv)) r (d16 h) := by
  rw [rd_payload]
  show _ ⊢ kvPay m c s kv r (d16 h)
  unfold kvPay kvPts srcPts kvC
  rw [hOf_d16' hh]
  rw [View.pointsTo_write_univ_congr (c : Thread nD τ) (kvDst kv s (h8 h)).view full f (m ((kvDst kv s (h8 h)).view.loc (c : Thread nD τ)))]

/-- Starting the fetch of head `h`. -/
theorem st_start {α : Type} {Q : α → sProp 𝕄} (c : Dev nD) {R : sProp 𝕄} (s kv : Fin 2) {i j k r h : ℕ} {Z : sProp 𝕄} (hr : r < 2) (hh : h < 8)
    {src : Memref sig .tc .hbm S16x64x128 .f32} {dst : Memref sig .tc .vmem S16x64x128 .f32} {q : DmaSem sig}
    (hs : src = kvSrc kv (qbOf s r) (h8 h) c) (hd : dst = kvDst kv s (h8 h)) (hq : q = kvQ s kv)
    {p1 : src.view.WordExact} {p2 : dst.view.WordExact} {p3 : DmaTarget.Typed (nD := nD) .hbm (.dma q) (DmaTarget.here (nD := nD) (τ := τ) (p := Proc.tc) dst)}
    {kk : PUnit → Prog (TpuEff nD τ sig (Elt F) Λ₀ .tc) α}
    (H : iprop(Pers m κ ∗ Ow c i j k ∗ KF m c s kv r (h + 1) Z ∗ R) ⊢ WP c (kk ⟨⟩) Q) :
    iprop(Pers m κ ∗ Ow c i j k ∗ KF m c s kv r h Z ∗ R)
      ⊢ WP c (Prog.lift (.enqueueDma src (.here dst) (.dma q) p1 p2 p3) >>= kk) Q := by
  subst hs hd hq
  rw [show (Prog.lift (.enqueueDma (kvSrc kv (qbOf s r) (h8 h) c) (.here (kvDst kv s (h8 h))) (.dma (kvQ s kv)) p1 p2 p3) >>= kk : Prog (TpuEff nD τ sig (Elt F) Λ₀ .tc) α)
    = .op (.enqueueDma (kvSrc kv (qbOf s r) (h8 h) c) (.here (kvDst kv s (h8 h))) (.dma (kvQ s kv)) p1 p2 p3) kk from rfl]
  unfold KF
  rw [bigSep_ico8 hh]
  iintro ⟨#HP, HO, ⟨⟨⟨⟨%f, Hd⟩, Hs, Htok⟩, Hrest⟩, Hcr, Hat, #Hre, HZ⟩, HR⟩
  unfold kvPts srcPts
  iapply (Rounds.wp_copy_pointsTo 𝒱₀ ER (rd m) (c : Thread nD τ) none (κ := κ (c, kvI s kv)) (r := r) (d := d16 h)
      (duty_kv m c s kv hr hh) () NK (by show _ = NK; rfl) (rd_amount m c (kvI s kv) r (d16 h))
      (pay_kv m c s kv r hh f)) $$ [Hd Hs Htok]
  · isplitr; · iapply (Pers_inv m κ c (kvI s kv)); iexact HP
    isplitl [Hs]; · iexact Hs
    isplitl [Hd]; · iexact Hd
    isplitl [Htok]; · iexact Htok
    iexact Hre
  iintro Hc
  iapply H
  isplitr; · iexact HP
  isplitl [HO]; · iexact HO
  isplitr [HR]
  · unfold KF
    rw [bigSep_range_succ']
    isplitl [Hrest]; · iexact Hrest
    isplitl [Hc Hcr]
    · isplitl [Hc]; · iexact Hc
      iexact Hcr
    isplitl [Hat]; · iexact Hat
    isplitr; · iexact Hre
    iexact HZ
  iexact HR

/-- All eight fetches are in flight. -/
theorem KF_KW (c : Dev nD) (s kv : Fin 2) (r : ℕ) (Z : sProp 𝕄) : KF m c s kv r 8 Z ⊢ KW m c s kv r 0 Z := by
  unfold KF KW
  rw [Finset.Ico_self, bigSep_empty, Nat.zero_mul, ← Nat.Ico_zero_eq_range]
  iintro ⟨-, Hcr, Hat, -, HZ⟩
  isplitl [Hcr]; · iexact Hcr
  isplitr [HZ]
  · iexists ∅
    isplitr; · ipureintro; exact Finset.empty_subset _
    isplitl [Hat]; · iexact Hat
    rw [bigSep_empty]; iempintro
  iexact HZ

theorem card_kv (c : Dev nD) (s kv : Fin 2) {r : ℕ} (hr : r < 2) : (dutI c (kvI s kv) r).card = 8 := by
  dsimp only [dutI]; rw [if_pos hr]; decide

/-- The wait for one head's fetch, not the last. -/
theorem st_waitK {α : Type} {Q : α → sProp 𝕄} (c : Dev nD) {R : sProp 𝕄} (s kv : Fin 2) {i j k r h : ℕ} {Z : sProp 𝕄} (hr : r < 2) (hh : h < 7)
    (hi : 16 ≤ i)
    {sp sp' : Space} {s1 s2 : Shape} {e1 e2 : EltTy}
    {src : Memref sig .tc sp s1 e1} {dst : Memref sig .tc sp' s2 e2} {q : DmaSem sig} (hq : q = kvQ s kv) (hN : dst.view.dmaCredit = NK)
    {p1 : src.view.WordExact} {p2 : dst.view.WordExact}
    {kk : PUnit → Prog (TpuEff nD τ sig (Elt F) Λ₀ .tc) α}
    (H : iprop(Pers m κ ∗ Ow c i j k ∗ KW m c s kv r (h + 1) Z ∗ R) ⊢ WP c (kk ⟨⟩) Q) :
    iprop(Pers m κ ∗ Ow c i j k ∗ KW m c s kv r h Z ∗ R)
      ⊢ WP c (Prog.lift (.waitDma2 q src dst p1 p2) >>= kk) Q := by
  subst hq
  rw [show (Prog.lift (.waitDma2 (kvQ s kv) src dst p1 p2) >>= kk : Prog (TpuEff nD τ sig (Elt F) Λ₀ .tc) α)
    = .op (.waitDma2 (kvQ s kv) src dst p1 p2) kk from rfl]
  unfold KW
  rw [bigSep_ico8 (by omega : h < 8)]
  unfold Ow
  iintro ⟨#HP, ⟨%W, HO⟩, ⟨⟨Hc, Hcr⟩, ⟨%T, %hT, Hat, Hpay⟩, HZ⟩, HR⟩
  iapply (Rounds.wp_wait 𝒱₀ ER (rd m) (c : Thread nD τ) none (κ := κ (c, kvI s kv)) (w := .waitDma2 (kvQ s kv) src dst p1 p2) (sm := .dma (kvQ s kv)) (k' := NK)
      (fun K => by rw [← hN]; exact wpE_waitDma2_eq 𝒱₀ (c : Thread nD τ) none Set.univ K) (Set.mem_univ _)
      (cr := Finsupp.single () NK) (O := oAll c i j k) (W := W) {(SemLoc.dma (kvQ s kv), ())} (R := r) (m := h * NK) (T := T)
      (by rw [Util.total_single]) (image_single_subset _ () NK)) $$ [HO Hc Hat]
  · isplitr; · iapply (Pers_inv m κ c (kvI s kv)); iexact HP
    isplitl [Hc]; · iexact Hc
    isplitl [HO]; · iexact HO
    isplitr
    · iapply (mayWait c (semOf (kvI s kv)) i j k 0 ((lv_cell c (kvI s kv)).trans_le (le_refl _)) (fun h => by omega) (fun _ => by omega) (fun _ => by omega))
      iapply (Pers_lev m κ); iexact HP
    iexact Hat
  iintro %S ⟨%hS, HO, Hat, Hpay'⟩
  iapply H
  isplitr; · iexact HP
  isplitl [HO]; · unfold Ow; iexists _; iexact HO
  isplitr [HR]
  · unfold KW
    isplitl [Hcr]; · iexact Hcr
    isplitr [HZ]
    · iexists S
      isplitr; · ipureintro; rw [← rd_duties m c (kvI s kv) r]; exact hS.2.1
      isplitl [Hat]; · rw [Nat.succ_mul]; iexact Hat
      rw [show S = T ∪ (S \ T) from (Finset.union_sdiff_of_subset hS.1).symm, bigSep_un Finset.disjoint_sdiff]
      isplitl [Hpay]; · iexact Hpay
      rw [show (fun d => (rd m).payload ((c : Thread nD τ), SemLoc.dma (kvQ s kv)) r d) = (fun d => payI m c (kvI s kv) r d) from funext (rd_payload m c (kvI s kv) r)]
      rw [Finset.union_sdiff_of_subset hS.1]
      iexact Hpay'
    iexact HZ
  iexact HR

/-- The last wait of a round. -/
theorem st_waitK7 {α : Type} {Q : α → sProp 𝕄} (c : Dev nD) {R : sProp 𝕄} (s kv : Fin 2) {i j k r : ℕ} {Z : sProp 𝕄} (hr : r < 2)
    (hi : 16 ≤ i)
    {sp sp' : Space} {s1 s2 : Shape} {e1 e2 : EltTy}
    {src : Memref sig .tc sp s1 e1} {dst : Memref sig .tc sp' s2 e2} {q : DmaSem sig} (hq : q = kvQ s kv) (hN : dst.view.dmaCredit = NK)
    {p1 : src.view.WordExact} {p2 : dst.view.WordExact}
    {kk : PUnit → Prog (TpuEff nD τ sig (Elt F) Λ₀ .tc) α}
    (H : iprop(Pers m κ ∗ Ow c i j k ∗ KL m c s kv r Z ∗ R) ⊢ WP c (kk ⟨⟩) Q) :
    iprop(Pers m κ ∗ Ow c i j k ∗ KW m c s kv r 7 Z ∗ R)
      ⊢ WP c (Prog.lift (.waitDma2 q src dst p1 p2) >>= kk) Q := by
  subst hq
  rw [show (Prog.lift (.waitDma2 (kvQ s kv) src dst p1 p2) >>= kk : Prog (TpuEff nD τ sig (Elt F) Λ₀ .tc) α)
    = .op (.waitDma2 (kvQ s kv) src dst p1 p2) kk from rfl]
  unfold KW
  rw [bigSep_ico8 (by omega : 7 < 8)]
  unfold Ow
  iintro ⟨#HP, ⟨%W, HO⟩, ⟨⟨Hc, -⟩, ⟨%T, %hT, Hat, Hpay⟩, HZ⟩, HR⟩
  iapply (Rounds.wp_wait_rest_token 𝒱₀ ER (rd m) (c : Thread nD τ) none (κ := κ (c, kvI s kv)) (w := .waitDma2 (kvQ s kv) src dst p1 p2) (sm := .dma (kvQ s kv)) (k' := NK)
      (fun K => by rw [← hN]; exact wpE_waitDma2_eq 𝒱₀ (c : Thread nD τ) none Set.univ K) (Set.mem_univ _) ()
      (O := oAll c i j k) (W := W) (R := r) (m := 7 * NK) (T := T)
      (by rw [show (rd m).expect ((c : Thread nD τ), SemLoc.dma (kvQ s kv)) r = 8 * NK from (rd_expect m c (kvI s kv) r).trans (by rw [card_kv c s kv hr]; rfl)]; omega)) $$ [HO Hc Hat]
  · isplitr; · iapply (Pers_inv m κ c (kvI s kv)); iexact HP
    isplitl [Hc]; · iexact Hc
    isplitl [HO]; · iexact HO
    isplitr
    · iapply (mayWait c (semOf (kvI s kv)) i j k 0 ((lv_cell c (kvI s kv)).trans_le (le_refl _)) (fun h => by omega) (fun _ => by omega) (fun _ => by omega))
      iapply (Pers_lev m κ); iexact HP
    iexact Hat
  iintro ⟨HO, Hat, Hre, Hpay'⟩
  iapply H
  isplitr; · iexact HP
  isplitl [HO]; · unfold Ow; iexists _; iexact HO
  isplitr [HR]
  · unfold KL
    isplitl [Hpay Hpay']
    · rw [show dutI c (kvI s kv) r = T ∪ (dutI c (kvI s kv) r \ T) from (Finset.union_sdiff_of_subset hT).symm, bigSep_un Finset.disjoint_sdiff]
      isplitl [Hpay]; · iexact Hpay
      rw [show (fun d => (rd m).payload ((c : Thread nD τ), SemLoc.dma (kvQ s kv)) r d) = (fun d => payI m c (kvI s kv) r d) from funext (rd_payload m c (kvI s kv) r),
        show (rd m).duties ((c : Thread nD τ), SemLoc.dma (kvQ s kv)) r = dutI c (kvI s kv) r from rd_duties m c (kvI s kv) r]
      iexact Hpay'
    isplitl [Hat]; · iexact Hat
    isplitl [Hre]; · iexact Hre
    iexact HZ
  iexact HR

/-- Loading a head's keys (values) once they landed. -/
theorem st_loadK {α : Type} {Q : α → sProp 𝕄} (c : Dev nD) {R : sProp 𝕄} (s kv : Fin 2) {i j k r h : ℕ} {Z : sProp 𝕄} (hr : r < 2) (hh : h < 8)
    {hl : (bufRef kv).view.LoadsAt (kvR s (h8 h)).toLoadRect}
    {kk : Vec F S1x1x16x64x128 .f32 → Prog (TpuEff nD τ sig (Elt F) Λ₀ .tc) α}
    (H : iprop(Pers m κ ∗ Ow c i j k ∗ KL m c s kv r Z ∗ R) ⊢ WP c (kk (kvVal m kv s (qbOf s r) c (h8 h))) Q) :
    iprop(Pers m κ ∗ Ow c i j k ∗ KL m c s kv r Z ∗ R)
      ⊢ WP c (Prog.lift (.load (bufRef kv) (kvR s (h8 h)).toLoadRect hl) >>= kk) Q := by
  rw [show (Prog.lift (.load (bufRef kv) (kvR s (h8 h)).toLoadRect hl) >>= kk : Prog (TpuEff nD τ sig (Elt F) Λ₀ .tc) α)
    = .op (.load (bufRef kv) (kvR s (h8 h)).toLoadRect hl) kk from rfl]
  unfold KL
  have hmem : d16 h ∈ dutI c (kvI s kv) r := by rw [← rd_duties m c (kvI s kv) r]; exact duty_kv m c s kv hr hh
  rw [bigSep_er hmem]
  rw [show payI m c (kvI s kv) r (d16 h) = iprop(kvPts kv s (h8 h) c (kvC m kv s (qbOf s r) (h8 h) c) ∗ srcPts m kv (qbOf s r) (h8 h) c) from by
    show kvPay m c s kv r (d16 h) = _
    unfold kvPay; rw [hOf_d16' hh]]
  iintro ⟨#HP, HO, ⟨⟨⟨Hk, Hs⟩, Hrest⟩, Hat, Hre, HZ⟩, HR⟩
  unfold kvPts
  iapply (wp_load_rect 𝒱₀ (c : Thread nD τ) none Set.univ (m := bufRef kv) (r := kvR s (h8 h)) (S := (kvDst kv s (h8 h)).view.set) (by rw [View.set_reshape])) $$ Hk
  iintro Hk
  iapply H
  isplitr; · iexact HP
  isplitl [HO]; · iexact HO
  isplitr [HR]
  · unfold KL
    rw [bigSep_er hmem]
    rw [show payI m c (kvI s kv) r (d16 h) = iprop(kvPts kv s (h8 h) c (kvC m kv s (qbOf s r) (h8 h) c) ∗ srcPts m kv (qbOf s r) (h8 h) c) from by
      show kvPay m c s kv r (d16 h) = _
      unfold kvPay; rw [hOf_d16' hh]]
    isplitr [Hat Hre HZ]
    · isplitl [Hk Hs]
      · isplitl [Hk]; · unfold kvPts; iexact Hk
        iexact Hs
      iexact Hrest
    isplitl [Hat]; · iexact Hat
    isplitl [Hre]; · iexact Hre
    iexact HZ
  iexact HR

end Steps

end Cert.KProof

end
-- ==== Proof.StepsX.lean ====
/-
The steps of the exchange of partial rows: conditional sends, receives, and the waits for the sends.
-/
module

public import proofs.«01_k».proof.Proof.StepsKV

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (κ : Dev nD × CI → ℕ)

/-! ## The exchange of partial rows -/

/-- The region of one query block in the partial buffer. -/
abbrev blkPts (q : Fin 4) (c : Dev nD) (f : Buf (Elt F) (pM.view.loc (c : Thread nD τ))) : sProp 𝕄 :=
  (pM.access (blkR q)).loc (c : Thread nD τ) ↦[(pM.access (blkR q)).set]{full} f

/-- What sending device `t` its chunk takes, and where it is to land. -/
def tk (c t : Dev nD) : sProp 𝕄 :=
  iprop(atPos ER (cell c (xI 0 t)) 0 ∅ 0 ∗ if t = c then iprop(emp) else iprop(dutyTok ER (cell c (xI 0 t)) 0 0 ∗ dutyTok ER (cell t (xI 1 c)) 0 0 ∗ ∃ f, rPts c t f))
/-- Device `t`'s chunk once its turn passed: in flight, or kept if it is the device's own. -/
def sent (c t : Dev nD) : sProp 𝕄 :=
  iprop(atPos ER (cell c (xI 0 t)) 0 ∅ 0 ∗ if t = c then pPts t c (pC m c (qOf t)) else cred (tallyAt (cell c (xI 0 t)) () NX))
/-- Device `t`'s chunk once it is back. -/
def sdone (c t : Dev nD) : sProp 𝕄 := iprop(atPos ER (cell c (xI 0 t)) (lastR c (xI 0 t)) ∅ 0 ∗ pPts t c (pC m c (qOf t)))

/-- The partial buffer with `q` query blocks stored and `j` chunks passed. -/
def PS (c : Dev nD) (j q : ℕ) : sProp 𝕄 :=
  iprop(bigSep (Finset.Ico q 4) (fun q' => iprop(∃ f, blkPts (q4 q') c f))
    ∗ bigSep (Finset.Ico j (4 * q)) (fun j' => pPts (tg c j') c (pC m c (qOf (tg c j'))))
    ∗ bigSep (Finset.Ico j 16) (fun j' => tk c (tg c j'))
    ∗ bigSep (Finset.range j) (fun j' => sent m c (tg c j')))

/-- The receives: waited for up to distance `o`. -/
def RW (c : Dev nD) (o : ℕ) : sProp 𝕄 :=
  iprop(bigSep (Finset.Ico o 16) (fun o' => iprop(cred (tallyAt (cell c (xI 1 (peer c o'))) () NX) ∗ atPos ER (cell c (xI 1 (peer c o'))) 0 ∅ 0))
    ∗ bigSep (Finset.Ico 1 o) (fun o' => iprop(rPts (peer c o') c (rC m (peer c o') c) ∗ atPos ER (cell c (xI 1 (peer c o'))) 1 ∅ 0)))

/-- The first sends' waits, up to device `t`. -/
def KS (c : Dev nD) (t : ℕ) : sProp 𝕄 :=
  iprop(bigSep (Finset.Ico t 16) (fun t' => sent m c (d16 t')) ∗ bigSep (Finset.range t) (fun t' => sdone m c (d16 t')))

theorem ico_sub {j n : ℕ} (h : j < n) : Finset.Ico j n = insert j (Finset.Ico (j + 1) n) := by
  ext x; simp only [Finset.mem_Ico, Finset.mem_insert]; omega
theorem bigSep_ico {j n : ℕ} (hh : j < n) (Φ : ℕ → sProp 𝕄) : bigSep (Finset.Ico j n) Φ = iprop(Φ j ∗ bigSep (Finset.Ico (j + 1) n) Φ) := by
  rw [ico_sub hh]; exact bigSep_insert (not_mem_ico8 j n)

theorem duty_x (c : Dev nD) (a : Fin 4) (t : Dev nD) (h : t ≠ c) : (0 : D) ∈ (rd m).duties (cell c (xI a t)) 0 := by
  rw [rd_duties]; show (0 : D) ∈ dutI c (.inr (.inr (a, t))) 0
  dsimp only [dutI]; rw [if_pos ⟨rfl, h⟩]; exact Finset.mem_singleton_self _

theorem pay_rC (s t : Dev nD) (f : Buf (Elt F) ((rSlot s).view.loc (t : Thread nD τ))) :
    ((rSlot s).view.loc (t : Thread nD τ) ↦[(rSlot s).view.set]{full} ((rSlot s).view.write (Elt F) f ((pChunk t).view.read (Elt F) (pC m s (qOf t))) Finset.univ) : sProp 𝕄)
      ⊢ (rd m).payload (cell t (xI 1 s)) 0 0 := by
  rw [rd_payload]
  show _ ⊢ xPay m t 1 s
  dsimp only [xPay]
  unfold rPts rC
  rw [View.pointsTo_write_univ_congr (t : Thread nD τ) (rSlot s).view full f (m ((rSlot s).view.loc (t : Thread nD τ)))]

theorem pay_gC (s e : Dev nD) (f : Buf (Elt F) ((gRows s).view.loc (e : Thread nD τ))) :
    ((gRows s).view.loc (e : Thread nD τ) ↦[(gRows s).view.set]{full} ((gRows s).view.write (Elt F) f ((gRows s).view.read (Elt F) (gC m s s)) Finset.univ) : sProp 𝕄)
      ⊢ (rd m).payload (cell e (xI 3 s)) 0 0 := by
  rw [rd_payload]
  show _ ⊢ gPts full s e (gC m e s)
  have hr : (gRows s).view.read (Elt F) (gC m s s) = gBlk m s := View.read_write_univ _ _
  have h := View.pointsTo_write_univ_congr (Ix := Unit) (Name := ℕ) (U := UU) (Lvl := ℕ) (e : Thread nD τ) (gRows s).view full f (m ((gRows s).view.loc (e : Thread nD τ))) (gBlk m s)
  rw [hr, h]
  exact Entails.refl _

theorem pay_pC (c t : Dev nD) : (pPts t c (pC m c (qOf t)) : sProp 𝕄) ⊢ (rd m).payload (cell c (xI 0 t)) 0 0 := by
  rw [rd_payload]
  exact Entails.refl _

theorem ent_trans {P Q R : sProp 𝕄} (h1 : P ⊢ Q) (h2 : Q ⊢ R) : P ⊢ R := h1.trans h2
theorem wp_pure (c : Dev nD) (Q : PUnit → sProp 𝕄) : Q ⟨⟩ ⊢ WP (F := F) c (pure ⟨⟩) Q := le_wp_ret _ _ _ _ _

section Steps

/-- The send of a chunk to another device. -/
theorem st_sendX {α : Type} {Q : α → sProp 𝕄} (c : Dev nD) {R : sProp 𝕄} {i j k q : ℕ} (hj : j < 4 * q) (hq : q ≤ 4) (hne : tg c j ≠ c)
    {n : Dev nD} {src dst : Memref sig .tc .vmem S16x1024 .bf16} {q1 q2 : DmaSem sig} (hn : n = tg c j)
    (hs : src = pChunk (tg c j)) (hd : dst = rSlot c) (hq1 : q1 = xQ 0 (tg c j)) (hq2 : q2 = xQ 1 c)
    {p0 : dst.view.ref.isScScratch = false}
    {p1 : src.view.WordExact} {p2 : dst.view.WordExact} {p3 : DmaTarget.Typed .vmem (.dma q2) (DmaTarget.remote (nD := nD) (τ := τ) (p := Proc.tc) (Dev.tc n) dst (.dma q1) p0)}
    {kk : PUnit → Prog (TpuEff nD τ sig (Elt F) Λ₀ .tc) α}
    (H : iprop(Pers m κ ∗ Ow c i (j + 1) k ∗ PS m c (j + 1) q ∗ R) ⊢ WP c (kk ⟨⟩) Q) :
    iprop(Pers m κ ∗ Ow c i j k ∗ PS m c j q ∗ R)
      ⊢ WP c (Prog.lift (.enqueueDma src (.remote (Dev.tc n) dst (.dma q1) p0) (.dma q2) p1 p2 p3) >>= kk) Q := by
  subst hn hs hd hq1 hq2
  rw [show (Prog.lift (.enqueueDma (pChunk (tg c j)) (.remote (Dev.tc (tg c j)) (rSlot c) (.dma (xQ 0 (tg c j))) p0) (.dma (xQ 1 c)) p1 p2 p3) >>= kk : Prog (TpuEff nD τ sig (Elt F) Λ₀ .tc) α)
    = .op (.enqueueDma (pChunk (tg c j)) (.remote (Dev.tc (tg c j)) (rSlot c) (.dma (xQ 0 (tg c j))) p0) (.dma (xQ 1 c)) p1 p2 p3) kk from rfl]
  unfold PS
  rw [bigSep_ico hj, bigSep_ico16 (by omega : j < 16)]
  unfold Ow
  rw [show tk (F := F) c (tg c j) = iprop(atPos ER (cell c (xI 0 (tg c j))) 0 ∅ 0 ∗ dutyTok ER (cell c (xI 0 (tg c j))) 0 0 ∗ dutyTok ER (cell (tg c j) (xI 1 c)) 0 0 ∗ ∃ f, rPts c (tg c j) f) from by unfold tk; rw [if_neg hne]]
  iintro ⟨#HP, ⟨%W, HO⟩, ⟨Hbl, ⟨Hp, Hch⟩, ⟨⟨Hat, Ht1, Ht2, ⟨%f, Hr⟩⟩, Htk⟩, Hsent⟩, HR⟩
  unfold pPts rPts
  iapply (Rounds.wp_send_pointsTo 𝒱₀ ER (rd m) (c : Thread nD τ) none (c' := (tg c j : Thread nD τ)) (κ₁ := κ (c, xI 0 (tg c j))) (κ₂ := κ (tg c j, xI 1 c)) (r₁ := 0) (r₂ := 0) (d₁ := 0) (d₂ := 0)
      (duty_x m c 0 (tg c j) hne) (duty_x m (tg c j) 1 c (Ne.symm hne)) () () NX (by show _ = NX; rfl) (rd_amount m c (xI 0 (tg c j)) 0 0) (rd_amount m (tg c j) (xI 1 c) 0 0)
      (oAll c i (j + 1) k) (oAll_stepX c (by omega) hne)
      (pay_pC m c (tg c j))
      (pay_rC m c (tg c j) f)) $$ [Hp Hr HO Ht1 Ht2]
  · isplitr; · iapply (Pers_inv m κ c (xI 0 (tg c j))); iexact HP
    isplitr; · iapply (Pers_inv m κ (tg c j) (xI 1 c)); iexact HP
    isplitl [Hp]; · iexact Hp
    isplitl [Hr]; · iexact Hr
    isplitl [HO]; · iexact HO
    isplitl [Ht1]; · iexact Ht1
    isplitr; · iapply (Pers_reached m κ c (xI 0 (tg c j))); iexact HP
    isplitl [Ht2]; · iexact Ht2
    iapply (Pers_reached m κ (tg c j) (xI 1 c)); iexact HP
  iintro ⟨Hc, HO⟩
  iapply H
  isplitr; · iexact HP
  isplitl [HO]; · unfold Ow; iexists W; iexact HO
  isplitr [HR]
  · unfold PS
    rw [bigSep_range_succ' j (fun j' => sent m c (tg c j')), show sent m c (tg c j) = iprop(atPos ER (cell c (xI 0 (tg c j))) 0 ∅ 0 ∗ cred (tallyAt (cell c (xI 0 (tg c j))) () NX)) from by unfold sent; rw [if_neg hne]]
    isplitl [Hbl]; · iexact Hbl
    isplitl [Hch]; · iexact Hch
    isplitl [Htk]; · iexact Htk
    isplitl [Hat Hc]
    · isplitl [Hat]; · iexact Hat
      iexact Hc
    iexact Hsent
  iexact HR

/-- The turn of the device's own chunk: nothing is sent. -/
theorem PS_skip (c : Dev nD) {i j k q : ℕ} (hj : j < 4 * q) (hq : q ≤ 4) (he : tg c j = c) :
    iprop(Ow c i j k ∗ PS m c j q) ⊢ iprop(Ow c i (j + 1) k ∗ PS m c (j + 1) q) := by
  unfold PS
  rw [bigSep_ico hj, bigSep_ico16 (by omega : j < 16)]
  unfold Ow
  rw [oAll_stepX' c (by omega : j < 16) he]
  rw [show tk (F := F) c (tg c j) = iprop(atPos ER (cell c (xI 0 (tg c j))) 0 ∅ 0 ∗ emp) from by unfold tk; rw [if_pos he]]
  rw [bigSep_range_succ' j (fun j' => sent m c (tg c j')), show sent m c (tg c j) = iprop(atPos ER (cell c (xI 0 (tg c j))) 0 ∅ 0 ∗ pPts (tg c j) c (pC m c (qOf (tg c j)))) from by unfold sent; rw [if_pos he]]
  iintro ⟨HO, ⟨Hbl, ⟨Hp, Hch⟩, ⟨⟨Hat, -⟩, Htk⟩, Hsent⟩⟩
  isplitl [HO]; · iexact HO
  isplitl [Hbl]; · iexact Hbl
  isplitl [Hch]; · iexact Hch
  isplitl [Htk]; · iexact Htk
  isplitl [Hat Hp]
  · isplitl [Hat]; · iexact Hat
    iexact Hp
  iexact Hsent

/-- A send behind its condition. -/
theorem st_condSend {α : Type} {Q : α → sProp 𝕄} (c : Dev nD) {R : sProp 𝕄} {i j k q : ℕ} (hj : j < 4 * q) (hq : q ≤ 4)
    {cnd : Prop} [Decidable cnd] (hc : cnd ↔ tg c j ≠ c)
    {A : cnd → Prog (TpuEff nD τ sig (Elt F) Λ₀ .tc) α} {B : ¬cnd → Prog (TpuEff nD τ sig (Elt F) Λ₀ .tc) α}
    {kk : Prog (TpuEff nD τ sig (Elt F) Λ₀ .tc) α}
    (hA : ∀ h : cnd, ∃ (n : Dev nD) (src dst : Memref sig .tc .vmem S16x1024 .bf16) (q1 q2 : DmaSem sig) (p0 : dst.view.ref.isScScratch = false)
      (p1 : src.view.WordExact) (p2 : dst.view.WordExact) (p3 : DmaTarget.Typed .vmem (.dma q2) (DmaTarget.remote (nD := nD) (τ := τ) (p := Proc.tc) (Dev.tc n) dst (.dma q1) p0)),
      A h = (Prog.lift (.enqueueDma src (.remote (Dev.tc n) dst (.dma q1) p0) (.dma q2) p1 p2 p3) >>= fun _ => kk)
        ∧ n = tg c j ∧ src = pChunk (tg c j) ∧ dst = rSlot c ∧ q1 = xQ 0 (tg c j) ∧ q2 = xQ 1 c)
    (hB : ∀ h, B h = kk)
    (H : iprop(Pers m κ ∗ Ow c i (j + 1) k ∗ PS m c (j + 1) q ∗ R) ⊢ WP c kk Q) :
    iprop(Pers m κ ∗ Ow c i j k ∗ PS m c j q ∗ R) ⊢ WP c (dite cnd A B) Q := by
  by_cases h : cnd
  · rw [dif_pos h]
    obtain ⟨n, src, dst, q1, q2, p0, p1, p2, p3, hA, h1, h2, h3, h4, h5⟩ := hA h
    rw [hA]
    exact st_sendX m κ c hj hq (hc.mp h) h1 h2 h3 h4 h5 H
  · rw [dif_neg h, hB h]
    refine ent_trans ?_ H
    iintro ⟨HP, HO, HS, HR⟩
    isplitl [HP]; · iexact HP
    ihave ⟨HO, HS⟩ := (PS_skip m c (i := i) (k := k) hj hq (not_not.mp (fun h' => h (hc.mpr h')))) $$ [HO HS]
    · isplitl [HO]; · iexact HO
      iexact HS
    isplitl [HO]; · iexact HO
    isplitl [HS]; · iexact HS
    iexact HR

/-- A wait for one of the semaphores the exchange uses. -/
theorem st_waitX {α : Type} {Q : α → sProp 𝕄} (c : Dev nD) {R : sProp 𝕄} (a : Fin 4) (t : Dev nD) (ht : t ≠ c) {i j k : ℕ}
    (h1 : i < 16 → False) (h2 : j < 16 → False) (h3 : k < 16 → a ≠ 3)
    {sp sp' : Space} {s1 s2 : Shape} {e1 e2 : EltTy}
    {src : Memref sig .tc sp s1 e1} {dst : Memref sig .tc sp' s2 e2} {q : DmaSem sig} (hq : q = xQ a t) (hN : dst.view.dmaCredit = NX)
    {p1 : src.view.WordExact} {p2 : dst.view.WordExact}
    {kk : PUnit → Prog (TpuEff nD τ sig (Elt F) Λ₀ .tc) α}
    (H : iprop(Pers m κ ∗ Ow c i j k ∗ (atPos ER (cell c (xI a t)) 1 ∅ 0 ∗ xPay m c a t) ∗ R) ⊢ WP c (kk ⟨⟩) Q) :
    iprop(Pers m κ ∗ Ow c i j k ∗ (cred (tallyAt (cell c (xI a t)) () NX) ∗ atPos ER (cell c (xI a t)) 0 ∅ 0) ∗ R)
      ⊢ WP c (Prog.lift (.waitDma2 q src dst p1 p2) >>= kk) Q := by
  subst hq
  have hd : dutI c (xI a t) 0 = {0} := by show dutI c (.inr (.inr (a, t))) 0 = _; dsimp only [dutI]; rw [if_pos ⟨rfl, ht⟩]
  have hlv : lvI (xI a t) ≤ 3 ∧ (a ≠ 3 → lvI (xI a t) ≤ 2) := by
    show lvI (.inr (.inr (a, t))) ≤ 3 ∧ (a ≠ 3 → lvI (.inr (.inr (a, t))) ≤ 2)
    fin_cases a <;> simp [lvI]
  refine st_wait m κ c (xI a t) (r := 0) (w := .waitDma2 (xQ a t) src dst p1 p2) (k' := NX)
    (fun K => by rw [← hN]; exact wpE_waitDma2_eq 𝒱₀ (c : Thread nD τ) none Set.univ K)
    (by rw [hd]; exact (Nat.one_mul NX).symm) (if a = 3 then 3 else 2) (by split_ifs with h; exacts [hlv.1, hlv.2 h]) (fun h => (h1 h).elim) (fun h => (h2 h).elim)
    (fun h => by rw [if_neg (h3 h)]; decide) (ent_trans ?_ H)
  rw [hd, bigSep_singleton, show payI m c (xI a t) 0 0 = xPay m c a t from rfl]
  iintro ⟨HP, HO, ⟨Hat, -, Hpay⟩, HR⟩
  isplitl [HP]; · iexact HP
  isplitl [HO]; · iexact HO
  isplitr [HR]
  · isplitl [Hat]; · iexact Hat
    iexact Hpay
  iexact HR

theorem peer_ne (c : Dev nD) {o : ℕ} (h1 : 1 ≤ o) (h2 : o < 16) : peer c o ≠ c := by
  intro h
  have := congrArg Fin.val h
  have hc := c.isLt
  simp only [peer] at this
  have hn : nD = 16 := rfl
  omega

/-- The wait for the chunk of the device `o` places on. -/
theorem st_waitR {α : Type} {Q : α → sProp 𝕄} (c : Dev nD) {R : sProp 𝕄} {o k : ℕ} (ho : o < 16) (ho' : 1 ≤ o)
    {sp sp' : Space} {s1 s2 : Shape} {e1 e2 : EltTy}
    {src : Memref sig .tc sp s1 e1} {dst : Memref sig .tc sp' s2 e2} {q : DmaSem sig} (hq : q = xQ 1 (peer c o)) (hN : dst.view.dmaCredit = NX)
    {p1 : src.view.WordExact} {p2 : dst.view.WordExact}
    {kk : PUnit → Prog (TpuEff nD τ sig (Elt F) Λ₀ .tc) α}
    (H : iprop(Pers m κ ∗ Ow c 16 16 k ∗ RW m c (o + 1) ∗ R) ⊢ WP c (kk ⟨⟩) Q) :
    iprop(Pers m κ ∗ Ow c 16 16 k ∗ RW m c o ∗ R)
      ⊢ WP c (Prog.lift (.waitDma2 q src dst p1 p2) >>= kk) Q := by
  have hc := st_waitX m κ c (R := iprop(bigSep (Finset.Ico (o + 1) 16) (fun o' => iprop(cred (tallyAt (cell c (xI 1 (peer c o'))) () NX) ∗ atPos ER (cell c (xI 1 (peer c o'))) 0 ∅ 0))
    ∗ bigSep (Finset.Ico 1 o) (fun o' => iprop(rPts (peer c o') c (rC m (peer c o') c) ∗ atPos ER (cell c (xI 1 (peer c o'))) 1 ∅ 0)) ∗ R))
    1 (peer c o) (peer_ne c ho' ho) (i := 16) (j := 16) (k := k) (fun h => absurd h (by decide)) (fun h => absurd h (by decide)) (fun _ => by decide) (src := src) (dst := dst) hq hN (p1 := p1) (p2 := p2) (kk := kk) (Q := Q)
  unfold RW
  rw [bigSep_ico16 ho]
  refine ent_trans ?_ (hc (ent_trans ?_ H))
  · iintro ⟨HP, HO, ⟨⟨Hh, Ha⟩, Hb⟩, HR⟩
    isplitl [HP]; · iexact HP
    isplitl [HO]; · iexact HO
    isplitl [Hh]; · iexact Hh
    isplitl [Ha]; · iexact Ha
    isplitl [Hb]; · iexact Hb
    iexact HR
  · unfold RW
    rw [bigSep_ico1_succ ho']
    dsimp only [xPay]
    iintro ⟨HP, HO, ⟨Hat, Hpay⟩, Ha, Hb, HR⟩
    isplitl [HP]; · iexact HP
    isplitl [HO]; · iexact HO
    isplitr [HR]
    · isplitl [Ha]; · iexact Ha
      isplitl [Hat Hpay]
      · isplitl [Hpay]; · iexact Hpay
        iexact Hat
      iexact Hb
    iexact HR

/-- A load of a received chunk. -/
theorem st_loadR {α : Type} {Q : α → sProp 𝕄} (c : Dev nD) {R : sProp 𝕄} {o k : ℕ} (ho' : 1 ≤ o)
    {off : Fin 3 → ℕ} {inb : ∀ a, off a + S1x16x1024.size a ≤ S16x16x1024.size a} (hoff : off = ![(peer c o).val, 0, 0])
    {hl : rM.view.LoadsAt (Rect.unit (s := S16x16x1024) off S1x16x1024.size inb).toLoadRect}
    {kk : Vec F S1x16x1024 .bf16 → Prog (TpuEff nD τ sig (Elt F) Λ₀ .tc) α}
    (H : iprop(Pers m κ ∗ Ow c 16 16 k ∗ RW m c (o + 1) ∗ R) ⊢ WP c (kk (rVal m (peer c o) c)) Q) :
    iprop(Pers m κ ∗ Ow c 16 16 k ∗ RW m c (o + 1) ∗ R)
      ⊢ WP c (Prog.lift (.load rM (Rect.unit (s := S16x16x1024) off S1x16x1024.size inb).toLoadRect hl) >>= kk) Q := by
  subst hoff
  rw [show (Prog.lift (.load rM (slotR (peer c o)).toLoadRect hl) >>= kk : Prog (TpuEff nD τ sig (Elt F) Λ₀ .tc) α)
    = .op (.load rM (slotR (peer c o)).toLoadRect hl) kk from rfl]
  unfold RW
  rw [bigSep_ico1_succ ho']
  unfold rPts
  iintro ⟨HP, HO, ⟨Ha, ⟨Hp, Hat⟩, Hb⟩, HR⟩
  iapply (wp_load_rect 𝒱₀ (c : Thread nD τ) none Set.univ (m := rM) (r := slotR (peer c o)) (S := (rSlot (peer c o)).view.set) (by rw [View.set_reshape])) $$ Hp
  iintro Hp
  iapply H
  isplitl [HP]; · iexact HP
  isplitl [HO]; · iexact HO
  isplitr [HR]
  · unfold RW
    rw [bigSep_ico1_succ ho']
    unfold rPts
    isplitl [Ha]; · iexact Ha
    isplitl [Hp Hat]
    · isplitl [Hp]; · iexact Hp
      iexact Hat
    iexact Hb
  iexact HR

theorem d16_self : ∀ c : Fin 16, d16 c.val = c := by decide

/-- A load of the device's own chunk of the partial rows. -/
theorem st_loadOwn {α : Type} {Q : α → sProp 𝕄} (c : Dev nD) {R : sProp 𝕄} {k : ℕ}
    {off : Fin 2 → ℕ} {inb : ∀ a, off a + S16x1024.size a ≤ S256x1024.size a} (hoff : off = ![16 * c.val, 0])
    {hl : pM.view.LoadsAt (Rect.unit (s := S256x1024) off S16x1024.size inb).toLoadRect}
    {kk : Vec F S16x1024 .bf16 → Prog (TpuEff nD τ sig (Elt F) Λ₀ .tc) α}
    (H : iprop(Pers m κ ∗ Ow c 16 16 k ∗ KS m c 0 ∗ R) ⊢ WP c (kk (ownVal m c)) Q) :
    iprop(Pers m κ ∗ Ow c 16 16 k ∗ KS m c 0 ∗ R)
      ⊢ WP c (Prog.lift (.load pM (Rect.unit (s := S256x1024) off S16x1024.size inb).toLoadRect hl) >>= kk) Q := by
  subst hoff
  rw [show (Prog.lift (.load pM (rowR c).toLoadRect hl) >>= kk : Prog (TpuEff nD τ sig (Elt F) Λ₀ .tc) α)
    = .op (.load pM (rowR c).toLoadRect hl) kk from rfl]
  have hsp : KS m c 0 = iprop(((atPos ER (cell c (xI 0 c)) 0 ∅ 0 ∗ pPts c c (pC m c (qOf c))) ∗ bigSep ((Finset.Ico 0 16).erase c.val) (fun t' => sent m c (d16 t'))) ∗ bigSep (Finset.range 0) (fun t' => sdone m c (d16 t'))) := by
    have h : sent m c (d16 c.val) = iprop(atPos ER (cell c (xI 0 c)) 0 ∅ 0 ∗ pPts c c (pC m c (qOf c))) := by
      rw [d16_self c]; unfold sent; rw [if_pos rfl]
    unfold KS
    rw [bigSep_er (show c.val ∈ Finset.Ico 0 16 from Finset.mem_Ico.mpr ⟨Nat.zero_le _, c.isLt⟩), h]
  rw [hsp] at H ⊢
  unfold pPts at H ⊢
  iintro ⟨HP, HO, ⟨⟨⟨Hat, Hp⟩, Hb⟩, He⟩, HR⟩
  iapply (wp_load_rect 𝒱₀ (c : Thread nD τ) none Set.univ (m := pM) (r := rowR c) (S := (pChunk c).view.set) (Finset.Subset.refl _)) $$ Hp
  iintro Hp
  iapply H
  isplitl [HP]; · iexact HP
  isplitl [HO]; · iexact HO
  isplitr [HR]
  · isplitr [He]
    · isplitr [Hb]
      · isplitl [Hat]; · iexact Hat
        iexact Hp
      iexact Hb
    iexact He
  iexact HR

/-- A send's wait behind its condition. -/
theorem st_condWait {α : Type} {Q : α → sProp 𝕄} (c : Dev nD) {R : sProp 𝕄} {t : ℕ} (ht : t < 16)
    {cnd : Prop} [Decidable cnd] (hc : cnd ↔ d16 t ≠ c)
    {A : cnd → Prog (TpuEff nD τ sig (Elt F) Λ₀ .tc) α} {B : ¬cnd → Prog (TpuEff nD τ sig (Elt F) Λ₀ .tc) α}
    {kk : Prog (TpuEff nD τ sig (Elt F) Λ₀ .tc) α}
    (hA : ∀ h : cnd, ∃ (src dst : Memref sig .tc .vmem S16x1024 .bf16) (q : DmaSem sig)
      (p1 : src.view.WordExact) (p2 : dst.view.WordExact),
      A h = (Prog.lift (.waitDma2 q src dst p1 p2) >>= fun _ => kk) ∧ q = xQ 0 (d16 t) ∧ dst.view.dmaCredit = NX)
    (hB : ∀ h, B h = kk)
    (H : iprop(Pers m κ ∗ Ow c 16 16 16 ∗ KS m c (t + 1) ∗ R) ⊢ WP c kk Q) :
    iprop(Pers m κ ∗ Ow c 16 16 16 ∗ KS m c t ∗ R) ⊢ WP c (dite cnd A B) Q := by
  unfold KS
  rw [bigSep_ico16 ht]
  by_cases h : cnd
  · rw [dif_pos h]
    obtain ⟨src, dst, q, p1, p2, hA, h1, h2⟩ := hA h
    rw [hA]
    have hne := hc.mp h
    refine ent_trans ?_ (st_waitX m κ c (R := iprop(bigSep (Finset.Ico (t + 1) 16) (fun t' => sent m c (d16 t')) ∗ bigSep (Finset.range t) (fun t' => sdone m c (d16 t')) ∗ R))
      0 (d16 t) hne (i := 16) (j := 16) (k := 16) (fun h => absurd h (by decide)) (fun h => absurd h (by decide)) (fun _ => by decide) h1 h2 (ent_trans ?_ H))
    · rw [show sent m c (d16 t) = iprop(atPos ER (cell c (xI 0 (d16 t))) 0 ∅ 0 ∗ cred (tallyAt (cell c (xI 0 (d16 t))) () NX)) from by unfold sent; rw [if_neg hne]]
      iintro ⟨HP, HO, ⟨⟨⟨Hat, Hc⟩, Ha⟩, Hb⟩, HR⟩
      isplitl [HP]; · iexact HP
      isplitl [HO]; · iexact HO
      isplitl [Hat Hc]
      · isplitl [Hc]; · iexact Hc
        iexact Hat
      isplitl [Ha]; · iexact Ha
      isplitl [Hb]; · iexact Hb
      iexact HR
    · unfold KS
      rw [bigSep_range_succ' t (fun t' => sdone m c (d16 t'))]
      rw [show sdone m c (d16 t) = iprop(atPos ER (cell c (xI 0 (d16 t))) 1 ∅ 0 ∗ xPay m c 0 (d16 t)) from by
        unfold sdone; rw [show lastR c (xI 0 (d16 t)) = 1 from if_neg hne]; rfl]
      iintro ⟨HP, HO, Hd, Ha, Hb, HR⟩
      isplitl [HP]; · iexact HP
      isplitl [HO]; · iexact HO
      isplitr [HR]
      · isplitl [Ha]; · iexact Ha
        isplitl [Hd]; · iexact Hd
        iexact Hb
      iexact HR
  · rw [dif_neg h, hB h]
    refine ent_trans ?_ H
    have he : d16 t = c := not_not.mp (fun h' => h (hc.mpr h'))
    unfold KS
    rw [bigSep_range_succ' t (fun t' => sdone m c (d16 t'))]
    rw [show sent m c (d16 t) = sdone m c (d16 t) from by unfold sent sdone; rw [if_pos he, show lastR c (xI 0 (d16 t)) = 0 from if_pos he]]
    iintro ⟨HP, HO, ⟨⟨Hh, Ha⟩, Hb⟩, HR⟩
    isplitl [HP]; · iexact HP
    isplitl [HO]; · iexact HO
    isplitr [HR]
    · isplitl [Ha]; · iexact Ha
      isplitl [Hh]; · iexact Hh
      iexact Hb
    iexact HR

end Steps

end Cert.KProof

end
-- ==== Proof.StepsM.lean ====
/-
The steps on memory held whole: the stored query blocks, the staged operands, the result.
-/
module

public import proofs.«01_k».proof.Proof.StepsX

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (κ : Dev nD × CI → ℕ)

/-! ## Where the pieces of a buffer lie -/

theorem mem_rowR (t : Fin 16) (i : S256x1024.Idx) : i ∈ (rowR t).set ↔ (i 0).val / 16 = t.val := by
  rw [Rect.mem_set_unit]
  have h1 : (i 1).val < 1024 := (i 1).isLt
  have h0 : (i 0).val < 256 := (i 0).isLt
  constructor
  · intro h
    have := h 0
    simp only [Matrix.cons_val_zero] at this
    have h2 : 16 * t.val ≤ (i 0).val ∧ (i 0).val < 16 * t.val + 16 := this
    omega
  · intro h a
    fin_cases a
    · show 16 * t.val ≤ (i 0).val ∧ (i 0).val < 16 * t.val + 16
      omega
    · show 0 ≤ (i 1).val ∧ (i 1).val < 0 + 1024
      omega

theorem mem_blkR (q : Fin 4) (i : S256x1024.Idx) : i ∈ (blkR q).set ↔ (i 0).val / 64 = q.val := by
  rw [Rect.mem_set_unit]
  have h1 : (i 1).val < 1024 := (i 1).isLt
  have h0 : (i 0).val < 256 := (i 0).isLt
  constructor
  · intro h
    have := h 0
    simp only [Matrix.cons_val_zero] at this
    have h2 : 64 * q.val ≤ (i 0).val ∧ (i 0).val < 64 * q.val + 64 := this
    omega
  · intro h a
    fin_cases a
    · show 64 * q.val ≤ (i 0).val ∧ (i 0).val < 64 * q.val + 64
      omega
    · show 0 ≤ (i 1).val ∧ (i 1).val < 0 + 1024
      omega

theorem rowR_disj {s t : Fin 16} (h : s ≠ t) : Disjoint (rowR s).set (rowR t).set := by
  rw [Finset.disjoint_left]
  intro i h1 h2
  rw [mem_rowR] at h1 h2
  exact h (Fin.ext (h1.symm.trans h2))

theorem gRows_set (t : Fin 16) : (gRows t).view.set = (rowR t).set := View.set_slice_whole _ _
theorem pChunk_set (t : Fin 16) : (pChunk t).view.set = (rowR t).set := View.set_slice_whole _ _
theorem blk_set (q : Fin 4) : (pM.access (blkR q)).set = (blkR q).set := View.set_slice_whole _ _

theorem rows_univ : (Finset.univ : Finset (Fin 16)).biUnion (fun t => (rowR t).set) = Finset.univ := by
  ext i
  simp only [Finset.mem_biUnion, Finset.mem_univ, true_and, iff_true]
  have h0 : (i 0).val < 256 := (i 0).isLt
  exact ⟨⟨(i 0).val / 16, by omega⟩, (mem_rowR _ i).mpr rfl⟩

theorem tg_div : ∀ (c : Fin 16) (q : Fin 4) (r : Fin 4), (tg c (4 * q.val + r.val)).val / 4 = q.val := by decide
theorem tg_surj : ∀ (c : Fin 16) (t : Fin 16), ∃ r : Fin 4, tg c (4 * (t.val / 4) + r.val) = t := by decide
theorem tg_inj : ∀ (c : Fin 16) (j k : Fin 16), tg c j.val = tg c k.val → j = k := by decide +kernel

theorem blk_chunks (c : Dev nD) {q : ℕ} (hq : q < 4) :
    (Finset.Ico (4 * q) (4 * (q + 1))).biUnion (fun j => (rowR (tg c j)).set) = (blkR (q4 q)).set := by
  have hqv : (q4 q).val = q := Nat.mod_eq_of_lt hq
  ext i
  rw [mem_blkR, Finset.mem_biUnion, hqv]
  constructor
  · rintro ⟨j, hj, hi⟩
    rw [Finset.mem_Ico] at hj
    rw [mem_rowR] at hi
    have := tg_div c ⟨q, hq⟩ ⟨j - 4 * q, by omega⟩
    simp only at this
    rw [show 4 * q + (j - 4 * q) = j by omega] at this
    omega
  · intro h
    have h0 : (i 0).val < 256 := (i 0).isLt
    obtain ⟨r, hr⟩ := tg_surj c ⟨(i 0).val / 16, by omega⟩
    simp only at hr
    rw [show (i 0).val / 16 / 4 = q by omega] at hr
    refine ⟨4 * q + r.val, ?_, ?_⟩
    · rw [Finset.mem_Ico]; omega
    · rw [mem_rowR, hr]

theorem qOf_tg (c : Dev nD) {q j : ℕ} (hq : q < 4) (hj : j ∈ Finset.Ico (4 * q) (4 * (q + 1))) : qOf (tg c j) = q4 q := by
  rw [Finset.mem_Ico] at hj
  have := tg_div c ⟨q, hq⟩ ⟨j - 4 * q, by omega⟩
  simp only at this
  rw [show 4 * q + (j - 4 * q) = j by omega] at this
  exact Fin.ext (this.trans (Nat.mod_eq_of_lt hq).symm)

/-- A stored query block is held chunk by chunk. -/
theorem blk_split (c : Dev nD) {q : ℕ} (hq : q < 4) :
    (blkPts (q4 q) c (pC m c (q4 q)) : sProp 𝕄) = bigSep (Finset.Ico (4 * q) (4 * (q + 1))) (fun j' => pPts (tg c j') c (pC m c (qOf (tg c j')))) := by
  have h : (blkPts (q4 q) c (pC m c (q4 q)) : sProp 𝕄) = bigSep (Finset.Ico (4 * q) (4 * (q + 1))) (fun j' => pM.view.loc (c : Thread nD τ) ↦[(rowR (tg c j')).set]{full} pC m c (q4 q)) := by
    show (pM.view.loc (c : Thread nD τ) ↦[(pM.access (blkR (q4 q))).set]{full} pC m c (q4 q) : sProp 𝕄) = _
    rw [blk_set, ← blk_chunks c hq]
    refine pointsTo_biUnion _ _ (fun j hj k hk hne => rowR_disj (fun h => hne ?_))
    rw [Finset.mem_Ico] at hj hk
    exact congrArg Fin.val (tg_inj c ⟨j, by omega⟩ ⟨k, by omega⟩ h)
  rw [h]
  refine bigSep_congr (fun j hj => ?_)
  unfold pPts
  rw [pChunk_set, qOf_tg c hq hj]

/-! ## Loads and stores of whole pieces -/

section Steps

/-- A load of something a part of the state holds. -/
theorem st_loadAny {α : Type} {Q : α → sProp 𝕄} (c : Dev nD) {P O X X' B R : sProp 𝕄} {s : Shape} {e : EltTy} {mm : Memref sig .tc .vmem s e} {r : LoadRect s} {hl : mm.view.LoadsAt r}
    {S : Finset (Idx (mm.view.loc (c : Thread nD τ)))} {q : PosShare TreeShare} {f : Buf (Elt F) (mm.view.loc (c : Thread nD τ))}
    (hS : mm.view.setOn r.set ⊆ S) {v : r.shape.Idx → Elt F e} (hv : mm.view.readAt (Elt F) r f = v)
    (hX : X ⊢ iprop((mm.view.loc (c : Thread nD τ) ↦[S]{q} f) ∗ B)) (hX' : iprop((mm.view.loc (c : Thread nD τ) ↦[S]{q} f) ∗ B) ⊢ X')
    {kk : (r.shape.Idx → Elt F e) → Prog (TpuEff nD τ sig (Elt F) Λ₀ .tc) α}
    (H : iprop(P ∗ O ∗ X' ∗ R) ⊢ WP c (kk v) Q) :
    iprop(P ∗ O ∗ X ∗ R) ⊢ WP c (Prog.lift (.load mm r hl) >>= kk) Q := by
  rw [show (Prog.lift (.load mm r hl) >>= kk : Prog (TpuEff nD τ sig (Elt F) Λ₀ .tc) α) = .op (.load mm r hl) kk from rfl]
  iintro ⟨HP, HO, HX, HR⟩
  ihave ⟨Hp, HB⟩ := hX $$ HX
  iapply (wp_load 𝒱₀ (c : Thread nD τ) none Set.univ (m := mm) (r := r) hS) $$ Hp
  iintro Hp
  rw [hv]
  iapply H
  isplitl [HP]; · iexact HP
  isplitl [HO]; · iexact HO
  isplitr [HR]
  · iapply hX'
    isplitl [Hp]; · iexact Hp
    iexact HB
  iexact HR

/-- A load whose result goes unused, from contents that aren't known. -/
theorem st_loadDead {α : Type} {Q : α → sProp 𝕄} (c : Dev nD) {P O X B R : sProp 𝕄} {s : Shape} {e : EltTy} {mm : Memref sig .tc .vmem s e} {r : LoadRect s} {hl : mm.view.LoadsAt r}
    {S : Finset (Idx (mm.view.loc (c : Thread nD τ)))} {q : PosShare TreeShare}
    (hS : mm.view.setOn r.set ⊆ S)
    (hX : X ⊢ iprop((∃ f, mm.view.loc (c : Thread nD τ) ↦[S]{q} f) ∗ B)) (hX' : iprop((∃ f, mm.view.loc (c : Thread nD τ) ↦[S]{q} f) ∗ B) ⊢ X)
    {kk : (r.shape.Idx → Elt F e) → Prog (TpuEff nD τ sig (Elt F) Λ₀ .tc) α}
    (H : ∀ v, iprop(P ∗ O ∗ X ∗ R) ⊢ WP c (kk v) Q) :
    iprop(P ∗ O ∗ X ∗ R) ⊢ WP c (Prog.lift (.load mm r hl) >>= kk) Q := by
  rw [show (Prog.lift (.load mm r hl) >>= kk : Prog (TpuEff nD τ sig (Elt F) Λ₀ .tc) α) = .op (.load mm r hl) kk from rfl]
  iintro ⟨HP, HO, HX, HR⟩
  ihave ⟨⟨%f, Hp⟩, HB⟩ := hX $$ HX
  iapply (wp_load 𝒱₀ (c : Thread nD τ) none Set.univ (m := mm) (r := r) hS) $$ Hp
  iintro Hp
  iapply (H _)
  isplitl [HP]; · iexact HP
  isplitl [HO]; · iexact HO
  isplitr [HR]
  · iapply hX'
    isplitl [Hp]; · iexists f; iexact Hp
    iexact HB
  iexact HR

/-- A store over contents that aren't known. -/
theorem st_storeAny {α : Type} {Q : α → sProp 𝕄} (c : Dev nD) {P O X X' B R : sProp 𝕄} {s : Shape} {e : EltTy} {mm : Memref sig .tc .vmem s e} {r : Rect s} {w : r.shape.Idx → Elt F e} {hx : (mm.access r).Stores Finset.univ} {hm : Finset.univ = Finset.univ ∨ ∀ a, r.stride a = 1}
    {S : Finset (Idx ((mm.access r).loc (c : Thread nD τ)))} {C : Buf (Elt F) ((mm.access r).loc (c : Thread nD τ))}
    (hS : (mm.access r).setOn Finset.univ ⊆ S)
    (hw : ∀ f, ((mm.access r).loc (c : Thread nD τ) ↦[S]{full} ((mm.access r).write (Elt F) f w Finset.univ) : sProp 𝕄) = ((mm.access r).loc (c : Thread nD τ) ↦[S]{full} C))
    (hX : X ⊢ iprop((∃ f, (mm.access r).loc (c : Thread nD τ) ↦[S]{full} f) ∗ B)) (hX' : iprop(((mm.access r).loc (c : Thread nD τ) ↦[S]{full} C) ∗ B) ⊢ X')
    {kk : PUnit → Prog (TpuEff nD τ sig (Elt F) Λ₀ .tc) α}
    (H : iprop(P ∗ O ∗ X' ∗ R) ⊢ WP c (kk ⟨⟩) Q) :
    iprop(P ∗ O ∗ X ∗ R) ⊢ WP c (Prog.lift (.store mm r w Finset.univ hx hm) >>= kk) Q := by
  rw [show (Prog.lift (.store mm r w Finset.univ hx hm) >>= kk : Prog (TpuEff nD τ sig (Elt F) Λ₀ .tc) α) = .op (.store mm r w Finset.univ hx hm) kk from rfl]
  iintro ⟨HP, HO, HX, HR⟩
  ihave ⟨⟨%f, Hp⟩, HB⟩ := hX $$ HX
  iapply (wp_store 𝒱₀ (c : Thread nD τ) none Set.univ (m := mm) (r := r) (Mk := Finset.univ) hS) $$ Hp
  rw [hw f]
  iintro Hp
  iapply H
  isplitl [HP]; · iexact HP
  isplitl [HO]; · iexact HO
  isplitr [HR]
  · iapply hX'
    isplitl [Hp]; · iexact Hp
    iexact HB
  iexact HR

theorem ent_refl (P : sProp 𝕄) : P ⊢ P := Entails.refl _

/-- The load of a query block's rows before they are stored. -/
theorem st_loadBlk {α : Type} {Q : α → sProp 𝕄} (c : Dev nD) {R : sProp 𝕄} {i j k q : ℕ} (hq : q < 4)
    {hl : pM.view.LoadsAt (blkR (q4 q)).toLoadRect}
    {kk : Vec F S64x1024 .bf16 → Prog (TpuEff nD τ sig (Elt F) Λ₀ .tc) α}
    (H : ∀ v, iprop(Pers m κ ∗ Ow c i j k ∗ PS m c j q ∗ R) ⊢ WP c (kk v) Q) :
    iprop(Pers m κ ∗ Ow c i j k ∗ PS m c j q ∗ R)
      ⊢ WP c (Prog.lift (.load pM (blkR (q4 q)).toLoadRect hl) >>= kk) Q := by
  refine st_loadDead c (mm := pM) (r := (blkR (q4 q)).toLoadRect) (hl := hl) (kk := kk) (X := PS m c j q) (S := (pM.access (blkR (q4 q))).set) (q := full)
    (B := iprop(bigSep (Finset.Ico (q + 1) 4) (fun q' => iprop(∃ f, blkPts (q4 q') c f))
      ∗ bigSep (Finset.Ico j (4 * q)) (fun j' => pPts (tg c j') c (pC m c (qOf (tg c j'))))
      ∗ bigSep (Finset.Ico j 16) (fun j' => tk c (tg c j')) ∗ bigSep (Finset.range j) (fun j' => sent m c (tg c j'))))
    (by rw [show (pM.access (blkR (q4 q))).set = pM.view.setOn (blkR (q4 q)).set from View.set_slice _ _]) ?_ ?_ H
  · unfold PS; rw [bigSep_ico hq]
    iintro ⟨⟨Ha, Hb⟩, Hc⟩
    isplitl [Ha]; · iexact Ha
    isplitl [Hb]; · iexact Hb
    iexact Hc
  · unfold PS; rw [bigSep_ico hq]
    iintro ⟨Ha, Hb, Hc⟩
    isplitr [Hc]
    · isplitl [Ha]; · iexact Ha
      iexact Hb
    iexact Hc

/-- The store of a query block's rows. -/
theorem st_storeBlk {α : Type} {Q : α → sProp 𝕄} (c : Dev nD) {R : sProp 𝕄} {i j k q : ℕ} (hq : q < 4) (hj : j = 4 * q)
    {w : FVec F S64x1024 .bf16} (hw : w = pBlk m c (q4 q))
    {hx : (pM.access (blkR (q4 q))).Stores Finset.univ} {hm : Finset.univ = Finset.univ ∨ ∀ a, (blkR (q4 q)).stride a = 1}
    {kk : PUnit → Prog (TpuEff nD τ sig (Elt F) Λ₀ .tc) α}
    (H : iprop(Pers m κ ∗ Ow c i j k ∗ PS m c j (q + 1) ∗ R) ⊢ WP c (kk ⟨⟩) Q) :
    iprop(Pers m κ ∗ Ow c i j k ∗ PS m c j q ∗ R)
      ⊢ WP c (Prog.lift (.store pM (blkR (q4 q)) w Finset.univ hx hm) >>= kk) Q := by
  subst hw hj
  refine st_storeAny c (mm := pM) (r := blkR (q4 q)) (hx := hx) (hm := hm) (kk := kk) (w := pBlk m c (q4 q)) (X := PS m c (4 * q) q) (X' := PS m c (4 * q) (q + 1)) (S := (pM.access (blkR (q4 q))).set) (C := pC m c (q4 q))
    (B := iprop(bigSep (Finset.Ico (q + 1) 4) (fun q' => iprop(∃ f, blkPts (q4 q') c f))
      ∗ bigSep (Finset.Ico (4 * q) 16) (fun j' => tk c (tg c j')) ∗ bigSep (Finset.range (4 * q)) (fun j' => sent m c (tg c j'))))
    (Finset.Subset.refl _) (fun f => View.pointsTo_write_univ_congr (c : Thread nD τ) (pM.access (blkR (q4 q))) full f _ _) ?_ ?_ H
  · unfold PS; rw [bigSep_ico hq]
    iintro ⟨⟨Ha, Hb⟩, -, Hc⟩
    isplitl [Ha]; · iexact Ha
    isplitl [Hb]; · iexact Hb
    iexact Hc
  · unfold PS
    rw [← blk_split m c hq]
    iintro ⟨Ha, Hb, Hc⟩
    isplitl [Hb]; · iexact Hb
    isplitl [Ha]; · iexact Ha
    iexact Hc

/-! ## The staged operands and the result -/

def xsCore (c : Dev nD) : sProp 𝕄 :=
  iprop(((c : Thread nD τ).loc cc0_stg0_0 ↦{full} xstg m c) ∗ ((c : Thread nD τ).loc cc0_stg1_0 ↦{full} wqstg m c) ∗ ((c : Thread nD τ).loc cc0_stg2_0 ↦{full} wostg m c))
/-- The staged operands, and the result's buffer at any contents; -/
def XS (c : Dev nD) : sProp 𝕄 := iprop((∃ f, (c : Thread nD τ).loc cc0_stg3_0 ↦{full} f) ∗ xsCore m c)
/-- and at the result. -/
def XSo (c : Dev nD) : sProp 𝕄 := iprop(((c : Thread nD τ).loc cc0_stg3_0 ↦{full} outAt m c) ∗ xsCore m c)

theorem hz2 : (![0, 0] : Fin 2 → ℕ) = fun _ => 0 := by decide
theorem hz3 : (![0, 0, 0] : Fin 3 → ℕ) = fun _ => 0 := by decide

theorem st_loadx {α : Type} {Q : α → sProp 𝕄} (c : Dev nD) {P O R : sProp 𝕄} {inb} {hl}
    {kk : Vec F S1x256x1024 .f32 → Prog (TpuEff nD τ sig (Elt F) Λ₀ .tc) α}
    (H : iprop(P ∗ O ∗ XS m c ∗ R) ⊢ WP c (kk (xstg m c)) Q) :
    iprop(P ∗ O ∗ XS m c ∗ R) ⊢ WP c (Prog.lift (.load xM (Rect.unit (s := S1x256x1024) ![0, 0, 0] S1x256x1024.size inb).toLoadRect hl) >>= kk) Q := by
  refine st_loadAny c (mm := xM) (r := (Rect.unit (s := S1x256x1024) ![0, 0, 0] S1x256x1024.size inb).toLoadRect) (hl := hl) (kk := kk) (X := XS m c) (X' := XS m c) (S := Finset.univ) (q := full) (f := xstg m c) (B := iprop((∃ f, (c : Thread nD τ).loc cc0_stg3_0 ↦{full} f) ∗ ((c : Thread nD τ).loc cc0_stg1_0 ↦{full} wqstg m c) ∗ ((c : Thread nD τ).loc cc0_stg2_0 ↦{full} wostg m c)))
    (Finset.subset_univ _) (Memref.readAt_unit_zero (Elt F) cc0_stg0_0 hz3 _ _) ?_ ?_ H
  · unfold XS xsCore
    iintro ⟨Ha, Hb, Hc⟩
    isplitl [Hb]; · iexact Hb
    isplitl [Ha]; · iexact Ha
    iexact Hc
  · unfold XS xsCore
    iintro ⟨Hb, Ha, Hc⟩
    isplitl [Ha]; · iexact Ha
    isplitl [Hb]; · iexact Hb
    iexact Hc

theorem st_loadwq {α : Type} {Q : α → sProp 𝕄} (c : Dev nD) {P O R : sProp 𝕄} {inb} {hl}
    {kk : Vec F S1024x1024 .f32 → Prog (TpuEff nD τ sig (Elt F) Λ₀ .tc) α}
    (H : iprop(P ∗ O ∗ XS m c ∗ R) ⊢ WP c (kk (wqstg m c)) Q) :
    iprop(P ∗ O ∗ XS m c ∗ R) ⊢ WP c (Prog.lift (.load wqM (Rect.unit (s := S1024x1024) ![0, 0] S1024x1024.size inb).toLoadRect hl) >>= kk) Q := by
  refine st_loadAny c (mm := wqM) (r := (Rect.unit (s := S1024x1024) ![0, 0] S1024x1024.size inb).toLoadRect) (hl := hl) (kk := kk) (X := XS m c) (X' := XS m c) (S := Finset.univ) (q := full) (f := wqstg m c) (B := iprop((∃ f, (c : Thread nD τ).loc cc0_stg3_0 ↦{full} f) ∗ ((c : Thread nD τ).loc cc0_stg0_0 ↦{full} xstg m c) ∗ ((c : Thread nD τ).loc cc0_stg2_0 ↦{full} wostg m c)))
    (Finset.subset_univ _) (Memref.readAt_unit_zero (Elt F) cc0_stg1_0 hz2 _ _) ?_ ?_ H
  · unfold XS xsCore
    iintro ⟨Ha, Hb, Hc, Hd⟩
    isplitl [Hc]; · iexact Hc
    isplitl [Ha]; · iexact Ha
    isplitl [Hb]; · iexact Hb
    iexact Hd
  · unfold XS xsCore
    iintro ⟨Hc, Ha, Hb, Hd⟩
    isplitl [Ha]; · iexact Ha
    isplitl [Hb]; · iexact Hb
    isplitl [Hc]; · iexact Hc
    iexact Hd

theorem st_loadwo {α : Type} {Q : α → sProp 𝕄} (c : Dev nD) {P O R : sProp 𝕄} {inb} {hl}
    {kk : Vec F S1024x1024 .f32 → Prog (TpuEff nD τ sig (Elt F) Λ₀ .tc) α}
    (H : iprop(P ∗ O ∗ XS m c ∗ R) ⊢ WP c (kk (wostg m c)) Q) :
    iprop(P ∗ O ∗ XS m c ∗ R) ⊢ WP c (Prog.lift (.load woM (Rect.unit (s := S1024x1024) ![0, 0] S1024x1024.size inb).toLoadRect hl) >>= kk) Q := by
  refine st_loadAny c (mm := woM) (r := (Rect.unit (s := S1024x1024) ![0, 0] S1024x1024.size inb).toLoadRect) (hl := hl) (kk := kk) (X := XS m c) (X' := XS m c) (S := Finset.univ) (q := full) (f := wostg m c) (B := iprop((∃ f, (c : Thread nD τ).loc cc0_stg3_0 ↦{full} f) ∗ ((c : Thread nD τ).loc cc0_stg0_0 ↦{full} xstg m c) ∗ ((c : Thread nD τ).loc cc0_stg1_0 ↦{full} wqstg m c)))
    (Finset.subset_univ _) (Memref.readAt_unit_zero (Elt F) cc0_stg2_0 hz2 _ _) ?_ ?_ H
  · unfold XS xsCore
    iintro ⟨Ha, Hb, Hc, Hd⟩
    isplitl [Hd]; · iexact Hd
    isplitl [Ha]; · iexact Ha
    isplitl [Hb]; · iexact Hb
    iexact Hc
  · unfold XS xsCore
    iintro ⟨Hd, Ha, Hb, Hc⟩
    isplitl [Ha]; · iexact Ha
    isplitl [Hb]; · iexact Hb
    isplitl [Hc]; · iexact Hc
    iexact Hd

theorem st_loadOut {α : Type} {Q : α → sProp 𝕄} (c : Dev nD) {P O R : sProp 𝕄} {inb} {hl}
    {kk : Vec F S1x256x1024 .f32 → Prog (TpuEff nD τ sig (Elt F) Λ₀ .tc) α}
    (H : ∀ v, iprop(P ∗ O ∗ XS m c ∗ R) ⊢ WP c (kk v) Q) :
    iprop(P ∗ O ∗ XS m c ∗ R) ⊢ WP c (Prog.lift (.load oM (Rect.unit (s := S1x256x1024) ![0, 0, 0] S1x256x1024.size inb).toLoadRect hl) >>= kk) Q :=
  st_loadDead c (mm := oM) (r := (Rect.unit (s := S1x256x1024) ![0, 0, 0] S1x256x1024.size inb).toLoadRect) (hl := hl) (kk := kk) (X := XS m c) (S := Finset.univ) (q := full) (B := xsCore m c) (Finset.subset_univ _) (by unfold XS; exact ent_refl _) (by unfold XS; exact ent_refl _) H

theorem st_storeOut {α : Type} {Q : α → sProp 𝕄} (c : Dev nD) {P O R : sProp 𝕄} {inb} {hx hm} {w : Vec F S1x256x1024 .f32} (hw : w = outAt m c)
    {kk : PUnit → Prog (TpuEff nD τ sig (Elt F) Λ₀ .tc) α}
    (H : iprop(P ∗ O ∗ XSo m c ∗ R) ⊢ WP c (kk ⟨⟩) Q) :
    iprop(P ∗ O ∗ XS m c ∗ R) ⊢ WP c (Prog.lift (.store oM (Rect.unit (s := S1x256x1024) ![0, 0, 0] S1x256x1024.size inb) w Finset.univ hx hm) >>= kk) Q := by
  subst hw
  exact st_storeAny c (mm := oM) (r := Rect.unit (s := S1x256x1024) ![0, 0, 0] S1x256x1024.size inb) (hx := hx) (hm := hm) (kk := kk) (w := outAt m c) (X := XS m c) (X' := XSo m c) (S := Finset.univ) (C := outAt m c) (B := xsCore m c) (Finset.subset_univ _)
    (fun f => congrArg (fun g => ((c : Thread nD τ).loc cc0_stg3_0 ↦{full} g : sProp 𝕄)) (Memref.write_access_unit_zero_univ (Elt F) cc0_stg3_0 hz3 inb f (outAt m c))) (by unfold XS; exact ent_refl _) (by unfold XSo; exact ent_refl _) H

end Steps

end Cert.KProof

end
-- ==== Proof.StepsG.lean ====
/-
The steps of the second exchange and of the handshake.
-/
module

public import proofs.«01_k».proof.Proof.StepsM
public import Idealize.ShloMosaic.Lib.Ring

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (κ : Dev nD × CI → ℕ)

/-! ## Sums over the devices, in the orders the body goes through them -/

theorem bigSep_image {I J : Type} [DecidableEq J] {s : Finset I} {g : I → J} (h : ∀ x ∈ s, ∀ y ∈ s, g x = g y → x = y) (Φ : J → sProp 𝕄) :
    bigSep (s.image g) Φ = bigSep s (fun i => Φ (g i)) := by
  unfold bigSep
  exact Finset.fold_image h

theorem img_peer : ∀ c : Fin 16, (Finset.univ : Finset (Fin 16)).erase c = (Finset.Ico 1 16).image (peer c) := by decide
theorem img_tg : ∀ c : Fin 16, (Finset.univ : Finset (Fin 16)) = (Finset.Ico 0 16).image (tg c) := by decide
theorem img_d16 : (Finset.univ : Finset (Fin 16)) = (Finset.Ico 0 16).image d16 := by decide
theorem inj_peer (c : Dev nD) : ∀ x ∈ Finset.Ico 1 16, ∀ y ∈ Finset.Ico 1 16, peer c x = peer c y → x = y := by
  intro x hx y hy h
  rw [Finset.mem_Ico] at hx hy
  have := congrArg Fin.val h
  have hc : c.val < 16 := c.isLt
  simp only [peer] at this
  omega
theorem inj_tg (c : Dev nD) : ∀ x ∈ Finset.Ico 0 16, ∀ y ∈ Finset.Ico 0 16, tg c x = tg c y → x = y := by
  intro x hx y hy h
  rw [Finset.mem_Ico] at hx hy
  exact congrArg Fin.val (tg_inj c ⟨x, by omega⟩ ⟨y, by omega⟩ h)
theorem inj_d16 : ∀ x ∈ Finset.Ico 0 16, ∀ y ∈ Finset.Ico 0 16, d16 x = d16 y → x = y := by
  intro x hx y hy h
  rw [Finset.mem_Ico] at hx hy
  have := congrArg Fin.val h
  simp only [d16] at this
  omega

theorem bigSep_peer (c : Dev nD) (Φ : Dev nD → sProp 𝕄) : bigSep (Finset.univ.erase c) Φ = bigSep (Finset.Ico 1 16) (fun o => Φ (peer c o)) := by
  rw [show (Finset.univ : Finset (Dev nD)).erase c = (Finset.Ico 1 16).image (peer c) from img_peer c]; exact bigSep_image (inj_peer c) Φ
theorem bigSep_tg (c : Dev nD) (Φ : Dev nD → sProp 𝕄) : bigSep Finset.univ Φ = bigSep (Finset.Ico 0 16) (fun j => Φ (tg c j)) := by
  rw [show (Finset.univ : Finset (Dev nD)) = (Finset.Ico 0 16).image (tg c) from img_tg c]; exact bigSep_image (inj_tg c) Φ
theorem bigSep_d16 (Φ : Dev nD → sProp 𝕄) : bigSep Finset.univ Φ = bigSep (Finset.Ico 0 16) (fun j => Φ (d16 j)) := by
  rw [show (Finset.univ : Finset (Dev nD)) = (Finset.Ico 0 16).image d16 from img_d16]; exact bigSep_image inj_d16 Φ
theorem bigSep_dev (c : Dev nD) (Φ : Dev nD → sProp 𝕄) : bigSep Finset.univ Φ = iprop(Φ c ∗ bigSep (Finset.Ico 1 16) (fun o => Φ (peer c o))) := by
  rw [← bigSep_peer c Φ]; exact bigSep_er (Finset.mem_univ c) Φ
theorem bigSep_sp {I : Type} [DecidableEq I] (s : Finset I) (Φ Ψ : I → sProp 𝕄) : bigSep s (fun i => iprop(Φ i ∗ Ψ i)) = iprop(bigSep s Φ ∗ bigSep s Ψ) := bigSep_sep s Φ Ψ

theorem bigSep_univ_comm' {I J : Type} [DecidableEq I] [DecidableEq J] (s : Finset I) (t : Finset J) (Φ : I → J → sProp 𝕄) :
    bigSep s (fun i => bigSep t (fun j => Φ i j)) = bigSep t (fun j => bigSep s (fun i => Φ i j)) := by
  induction s using Finset.induction_on with
  | empty => simp only [bigSep_empty, bigSep_emp_const]
  | insert a s ha ih =>
    have h : ∀ j, bigSep (insert a s) (fun i => Φ i j) = iprop(Φ a j ∗ bigSep s (fun i => Φ i j)) := fun j => bigSep_insert ha
    rw [show (fun j => bigSep (insert a s) (fun i => Φ i j)) = fun j => iprop(Φ a j ∗ bigSep s (fun i => Φ i j)) from funext h, bigSep_sp, ← ih]
    exact bigSep_insert ha

/-- All chunks passed: the same, by device. -/
theorem PS_KS (c : Dev nD) : PS m c 16 4 ⊢ KS m c 0 := by
  unfold PS KS
  rw [show Finset.range 16 = Finset.Ico 0 16 from Finset.range_eq_Ico 16, ← bigSep_tg c (sent m c), bigSep_d16 (sent m c)]
  iintro ⟨-, -, -, H⟩
  isplitl [H]; · iexact H
  rw [Finset.range_zero, bigSep_empty]; iempintro

/-! ## The gathered buffer -/

/-- Rows `s` of device `c`'s gathered buffer are the rows of the gathered contents. -/
theorem gPts_full (c : Dev nD) (q : PosShare TreeShare) :
    (bigSep Finset.univ (fun s => gPts q s c (gC m c s)) : sProp 𝕄) = (gM.view.loc (c : Thread nD τ) ↦{q} gFull m c) := by
  have h : (gM.view.loc (c : Thread nD τ) ↦{q} gFull m c : sProp 𝕄) = bigSep Finset.univ (fun s => gM.view.loc (c : Thread nD τ) ↦[(rowR s).set]{q} gFull m c) := by
    refine (congrArg (fun S : Finset (Idx (gM.view.loc (c : Thread nD τ))) => (gM.view.loc (c : Thread nD τ) ↦[S]{q} gFull m c : sProp 𝕄)) (show (Finset.univ : Finset (Idx (gM.view.loc (c : Thread nD τ)))) = Finset.univ.biUnion (fun s : Dev nD => (rowR s).set) from rows_univ.symm)).trans ?_
    refine pointsTo_biUnion _ _ (fun s _ t _ hne => ?_)
    exact rowR_disj hne
  rw [h]
  refine bigSep_congr (fun s _ => ?_)
  unfold gPts
  rw [gRows_set]
  refine pointsTo_congr (fun i hi => ?_)
  have hs : (i 0).val / 16 = s.val := (mem_rowR s i).mp hi
  unfold gFull
  rw [show (⟨(i 0).val / 16, _⟩ : Dev nD) = s from Fin.ext hs]

/-- What sending the reduced rows to the device `o` places on takes, and where they are to land. -/
def gtok (c : Dev nD) (o : ℕ) : sProp 𝕄 :=
  iprop(atPos ER (cell c (xI 2 (peer c o))) 0 ∅ 0 ∗ dutyTok ER (cell c (xI 2 (peer c o))) 0 0 ∗ dutyTok ER (cell (peer c o) (xI 3 c)) 0 0)
def gtk (c : Dev nD) (o : ℕ) : sProp 𝕄 := iprop(gtok c o ∗ ∃ f, gPts full c (peer c o) f)

/-- Before the reduced rows are stored. -/
def GP (c : Dev nD) : sProp 𝕄 := iprop((∃ f, gPts full c c f) ∗ bigSep (Finset.Ico 1 16) (fun o => gtk c o))
/-- The reduced rows sent to the devices up to distance `k`. -/
def GS (c : Dev nD) (k : ℕ) : sProp 𝕄 :=
  iprop(bigSep (Finset.Ico k 16) (fun o => iprop(gPts (shr (peer c o)) c c (gC m c c) ∗ gtk c o))
    ∗ bigSep (Finset.Ico 1 k) (fun o => iprop(atPos ER (cell c (xI 2 (peer c o))) 0 ∅ 0 ∗ cred (tallyAt (cell c (xI 2 (peer c o))) () NX)))
    ∗ gPts (shr c) c c (gC m c c))
/-- The receives of reduced rows, waited for up to distance `o`. -/
def GW (c : Dev nD) (o : ℕ) : sProp 𝕄 :=
  iprop(bigSep (Finset.Ico o 16) (fun o' => iprop(cred (tallyAt (cell c (xI 3 (peer c o'))) () NX) ∗ atPos ER (cell c (xI 3 (peer c o'))) 0 ∅ 0))
    ∗ bigSep (Finset.Ico 1 o) (fun o' => iprop(gPts full (peer c o') c (gC m c (peer c o')) ∗ atPos ER (cell c (xI 3 (peer c o'))) 1 ∅ 0)))
/-- The waits for the second sends, up to distance `o`. -/
def LS (c : Dev nD) (o : ℕ) : sProp 𝕄 :=
  iprop(bigSep (Finset.Ico o 16) (fun o' => iprop(atPos ER (cell c (xI 2 (peer c o'))) 0 ∅ 0 ∗ cred (tallyAt (cell c (xI 2 (peer c o'))) () NX)))
    ∗ bigSep (Finset.Ico 1 o) (fun o' => iprop(gPts (shr (peer c o')) c c (gC m c c) ∗ atPos ER (cell c (xI 2 (peer c o'))) 1 ∅ 0)))
/-- The whole gathered buffer at the device's own share, the other shares of the others' rows set aside. -/
def GX (c : Dev nD) : sProp 𝕄 :=
  iprop((gM.view.loc (c : Thread nD τ) ↦{shr c} gFull m c)
    ∗ bigSep (Finset.Ico 1 16) (fun o => atPos ER (cell c (xI 3 (peer c o))) 1 ∅ 0)
    ∗ bigSep (Finset.Ico 1 16) (fun t => bigSep (Finset.Ico 1 16) (fun o => gPts (shr (peer c t)) (peer c o) c (gC m c (peer c o)))))

/-- Rows held outright are held share by share. -/
theorem gPts_deal (c s : Dev nD) (f : Buf (Elt F) (gM.view.loc (c : Thread nD τ))) :
    (gPts full s c f : sProp 𝕄) = iprop(gPts (shr c) s c f ∗ bigSep (Finset.Ico 1 16) (fun o => gPts (shr (peer c o)) s c f)) := by
  rw [← bigSep_dev c (fun t => gPts (shr t) s c f)]
  unfold gPts shr
  exact Transfers.pointsTo_deal (Finset.univ : Finset (Fin 16)) ⟨0, Finset.mem_univ _⟩ full

theorem gPts_dealt (c : Dev nD) :
    bigSep (Finset.Ico 1 16) (fun o => gPts (F := F) full (peer c o) c (gC m c (peer c o)))
      = iprop(bigSep (Finset.Ico 1 16) (fun o => gPts (shr c) (peer c o) c (gC m c (peer c o)))
        ∗ bigSep (Finset.Ico 1 16) (fun o => bigSep (Finset.Ico 1 16) (fun t => gPts (shr (peer c t)) (peer c o) c (gC m c (peer c o))))) := by
  rw [← bigSep_sp]
  exact bigSep_congr (fun o _ => gPts_deal c (peer c o) _)

/-- All rows arrived, and the device's own sent: the buffer can be read whole. -/
theorem GX_intro (c : Dev nD) : iprop(GS m c 16 ∗ GW m c 16) ⊢ iprop(LS m c 1 ∗ GX m c) := by
  unfold GS GW LS GX
  rw [bigSep_sp (Finset.Ico 1 16) (fun o' => gPts full (peer c o') c (gC m c (peer c o'))), gPts_dealt m c, ← gPts_full m c (shr c), bigSep_dev c (fun s => gPts (shr c) s c (gC m c s)),
    bigSep_univ_comm' (Finset.Ico 1 16) (Finset.Ico 1 16) (fun t o => gPts (shr (peer c t)) (peer c o) c (gC m c (peer c o)))]
  iintro ⟨⟨-, Hc, Hown⟩, ⟨-, ⟨Hs, Ho⟩, Hat⟩⟩
  isplitl [Hc]
  · isplitl [Hc]; · iexact Hc
    rw [Finset.Ico_self, bigSep_empty]; iempintro
  isplitl [Hown Hs]
  · isplitl [Hown]; · iexact Hown
    iexact Hs
  isplitl [Hat]; · iexact Hat
  iexact Ho

/-- All sends' sources back: the gathered buffer is the device's outright. -/
theorem GX_elim (c : Dev nD) : iprop(LS m c 16 ∗ GX m c) ⊢ iprop((gM.view.loc (c : Thread nD τ) ↦{full} gFull m c)
    ∗ bigSep (Finset.Ico 1 16) (fun o => atPos ER (cell c (xI 2 (peer c o))) 1 ∅ 0) ∗ bigSep (Finset.Ico 1 16) (fun o => atPos ER (cell c (xI 3 (peer c o))) 1 ∅ 0)) := by
  unfold LS GX
  have h : (gM.view.loc (c : Thread nD τ) ↦{full} gFull m c : sProp 𝕄) = iprop((gM.view.loc (c : Thread nD τ) ↦{shr c} gFull m c)
      ∗ bigSep (Finset.Ico 1 16) (fun t => iprop(gPts (shr (peer c t)) c c (gC m c c) ∗ bigSep (Finset.Ico 1 16) (fun o => gPts (shr (peer c t)) (peer c o) c (gC m c (peer c o)))))) := by
    rw [show (fun t => iprop(gPts (shr (peer c t)) c c (gC m c c) ∗ bigSep (Finset.Ico 1 16) (fun o => gPts (shr (peer c t)) (peer c o) c (gC m c (peer c o)))))
      = (fun t => (gM.view.loc (c : Thread nD τ) ↦{shr (peer c t)} gFull m c : sProp 𝕄)) from funext fun t => by
        rw [← gPts_full m c (shr (peer c t)), bigSep_dev c (fun s => gPts (shr (peer c t)) s c (gC m c s))],
      ← bigSep_dev c (fun t => (gM.view.loc (c : Thread nD τ) ↦{shr t} gFull m c : sProp 𝕄))]
    exact Transfers.pointsTo_deal (Finset.univ : Finset (Fin 16)) ⟨0, Finset.mem_univ _⟩ full
  rw [h, bigSep_sp (Finset.Ico 1 16) (fun o' => gPts (shr (peer c o')) c c (gC m c c)) (fun o' => atPos ER (cell c (xI 2 (peer c o'))) 1 ∅ 0),
    bigSep_sp (Finset.Ico 1 16) (fun t => gPts (shr (peer c t)) c c (gC m c c))]
  iintro ⟨⟨-, Hp, Ha⟩, Hs, Hb, Ho⟩
  isplitl [Hp Hs Ho]
  · isplitl [Hs]; · iexact Hs
    isplitl [Hp]; · iexact Hp
    iexact Ho
  isplitl [Ha]; · iexact Ha
  iexact Hb

theorem pay_gS (c t : Dev nD) : (gPts (shr t) c c (gC m c c) : sProp 𝕄) ⊢ (rd m).payload (cell c (xI 2 t)) 0 0 := by
  rw [rd_payload]
  exact Entails.refl _

section Steps

/-- The load of the device's own rows before they are stored. -/
theorem st_loadG {α : Type} {Q : α → sProp 𝕄} (c : Dev nD) {P O R : sProp 𝕄}
    {off : Fin 2 → ℕ} {inb : ∀ a, off a + S16x1024.size a ≤ S256x1024.size a} (hoff : off = ![16 * c.val, 0])
    {hl : gM.view.LoadsAt (Rect.unit (s := S256x1024) off S16x1024.size inb).toLoadRect}
    {kk : Vec F S16x1024 .bf16 → Prog (TpuEff nD τ sig (Elt F) Λ₀ .tc) α}
    (H : ∀ v, iprop(P ∗ O ∗ GP c ∗ R) ⊢ WP c (kk v) Q) :
    iprop(P ∗ O ∗ GP c ∗ R)
      ⊢ WP c (Prog.lift (.load gM (Rect.unit (s := S256x1024) off S16x1024.size inb).toLoadRect hl) >>= kk) Q := by
  subst hoff
  exact st_loadDead c (mm := gM) (r := (rowR c).toLoadRect) (hl := hl) (kk := kk) (X := GP c) (S := (gRows c).view.set) (q := full) (B := bigSep (Finset.Ico 1 16) (fun o => gtk c o))
    (by rw [show (gRows c).view.set = gM.view.setOn (rowR c).set from View.set_slice _ _]) (by unfold GP gPts; exact ent_refl _) (by unfold GP gPts; exact ent_refl _) H

/-- The store of the device's own rows. -/
theorem st_storeG {α : Type} {Q : α → sProp 𝕄} (c : Dev nD) {P O R : sProp 𝕄}
    {off : Fin 2 → ℕ} {inb : ∀ a, off a + S16x1024.size a ≤ S256x1024.size a} (hoff : off = ![16 * c.val, 0])
    {w : Vec F S16x1024 .bf16} (hw : w = gBlk m c)
    {hx : (gM.access (Rect.unit (s := S256x1024) off S16x1024.size inb)).Stores Finset.univ} {hm : Finset.univ = Finset.univ ∨ ∀ a, (Rect.unit (s := S256x1024) off S16x1024.size inb).stride a = 1}
    {kk : PUnit → Prog (TpuEff nD τ sig (Elt F) Λ₀ .tc) α}
    (H : iprop(P ∗ O ∗ GS m c 1 ∗ R) ⊢ WP c (kk ⟨⟩) Q) :
    iprop(P ∗ O ∗ GP c ∗ R)
      ⊢ WP c (Prog.lift (.store gM (Rect.unit (s := S256x1024) off S16x1024.size inb) w Finset.univ hx hm) >>= kk) Q := by
  subst hoff hw
  refine st_storeAny c (mm := gM) (r := rowR c) (hx := hx) (hm := hm) (kk := kk) (w := gBlk m c) (X := GP c) (X' := GS m c 1) (S := (gRows c).view.set) (C := gC m c c) (B := bigSep (Finset.Ico 1 16) (fun o => gtk c o))
    (Finset.Subset.refl _) (fun f => View.pointsTo_write_univ_congr (c : Thread nD τ) (gM.access (rowR c)) full f _ _) (by unfold GP gPts; exact ent_refl _) ?_ H
  rw [show ((gM.access (rowR c)).loc (c : Thread nD τ) ↦[(gRows c).view.set]{full} gC m c c : sProp 𝕄) = gPts full c c (gC m c c) from rfl, gPts_deal]
  unfold GS
  rw [bigSep_sp]
  iintro ⟨⟨Ha, Hb⟩, Hc⟩
  isplitl [Hb Hc]
  · isplitl [Hb]; · iexact Hb
    iexact Hc
  isplitr
  · rw [Finset.Ico_self, bigSep_empty]; iempintro
  iexact Ha

/-- The send of the reduced rows to the device `o` places on. -/
theorem st_sendG {α : Type} {Q : α → sProp 𝕄} (c : Dev nD) {R : sProp 𝕄} {i j o : ℕ} (ho : o < 16) (ho' : 1 ≤ o)
    {n : Dev nD} {src dst : Memref sig .tc .vmem S16x1024 .bf16} {q1 q2 : DmaSem sig} (hn : n = peer c o)
    (hs : src = gRows c) (hd : dst = gRows c) (hq1 : q1 = xQ 2 (peer c o)) (hq2 : q2 = xQ 3 c)
    {p0 : dst.view.ref.isScScratch = false}
    {p1 : src.view.WordExact} {p2 : dst.view.WordExact} {p3 : DmaTarget.Typed .vmem (.dma q2) (DmaTarget.remote (nD := nD) (τ := τ) (p := Proc.tc) (Dev.tc n) dst (.dma q1) p0)}
    {kk : PUnit → Prog (TpuEff nD τ sig (Elt F) Λ₀ .tc) α}
    (H : iprop(Pers m κ ∗ Ow c i j (o + 1) ∗ GS m c (o + 1) ∗ R) ⊢ WP c (kk ⟨⟩) Q) :
    iprop(Pers m κ ∗ Ow c i j o ∗ GS m c o ∗ R)
      ⊢ WP c (Prog.lift (.enqueueDma src (.remote (Dev.tc n) dst (.dma q1) p0) (.dma q2) p1 p2 p3) >>= kk) Q := by
  subst hn hs hd hq1 hq2
  rw [show (Prog.lift (.enqueueDma (gRows c) (.remote (Dev.tc (peer c o)) (gRows c) (.dma (xQ 2 (peer c o))) p0) (.dma (xQ 3 c)) p1 p2 p3) >>= kk : Prog (TpuEff nD τ sig (Elt F) Λ₀ .tc) α)
    = .op (.enqueueDma (gRows c) (.remote (Dev.tc (peer c o)) (gRows c) (.dma (xQ 2 (peer c o))) p0) (.dma (xQ 3 c)) p1 p2 p3) kk from rfl]
  unfold GS at H ⊢
  rw [bigSep_ico16 ho]
  rw [bigSep_ico1_succ ho'] at H
  unfold Ow gtk gtok gPts at H ⊢
  have hne := peer_ne c ho' ho
  iintro ⟨#HP, ⟨%W, HO⟩, ⟨⟨⟨Hp, ⟨Hat, Ht1, Ht2⟩, ⟨%f, Hr⟩⟩, Hrest⟩, Hsent, Hown⟩, HR⟩
  iapply (Rounds.wp_send_pointsTo 𝒱₀ ER (rd m) (c : Thread nD τ) none (c' := (peer c o : Thread nD τ)) (κ₁ := κ (c, xI 2 (peer c o))) (κ₂ := κ (peer c o, xI 3 c)) (r₁ := 0) (r₂ := 0) (d₁ := 0) (d₂ := 0)
      (duty_x m c 2 (peer c o) hne) (duty_x m (peer c o) 3 c (Ne.symm hne)) () () NX (by show _ = NX; rfl) (rd_amount m c (xI 2 (peer c o)) 0 0) (rd_amount m (peer c o) (xI 3 c) 0 0)
      (oAll c i j (o + 1)) (oAll_stepG c ho)
      (pay_gS m c (peer c o))
      (pay_gC m c (peer c o) f)) $$ [Hp Hr HO Ht1 Ht2]
  · isplitr; · iapply (Pers_inv m κ c (xI 2 (peer c o))); iexact HP
    isplitr; · iapply (Pers_inv m κ (peer c o) (xI 3 c)); iexact HP
    isplitl [Hp]; · iexact Hp
    isplitl [Hr]; · iexact Hr
    isplitl [HO]; · iexact HO
    isplitl [Ht1]; · iexact Ht1
    isplitr; · iapply (Pers_reached m κ c (xI 2 (peer c o))); iexact HP
    isplitl [Ht2]; · iexact Ht2
    iapply (Pers_reached m κ (peer c o) (xI 3 c)); iexact HP
  iintro ⟨Hc, HO⟩
  iapply H
  isplitr; · iexact HP
  isplitl [HO]; · iexists W; iexact HO
  isplitr [HR]
  · isplitl [Hrest]; · iexact Hrest
    isplitl [Hat Hc Hsent]
    · isplitl [Hat Hc]
      · isplitl [Hat]; · iexact Hat
        iexact Hc
      iexact Hsent
    iexact Hown
  iexact HR

/-- The wait for the reduced rows of the device `o` places on. -/
theorem st_waitG {α : Type} {Q : α → sProp 𝕄} (c : Dev nD) {R : sProp 𝕄} {o : ℕ} (ho : o < 16) (ho' : 1 ≤ o)
    {sp sp' : Space} {s1 s2 : Shape} {e1 e2 : EltTy}
    {src : Memref sig .tc sp s1 e1} {dst : Memref sig .tc sp' s2 e2} {q : DmaSem sig} (hq : q = xQ 3 (peer c o)) (hN : dst.view.dmaCredit = NX)
    {p1 : src.view.WordExact} {p2 : dst.view.WordExact}
    {kk : PUnit → Prog (TpuEff nD τ sig (Elt F) Λ₀ .tc) α}
    (H : iprop(Pers m κ ∗ Ow c 16 16 16 ∗ GW m c (o + 1) ∗ R) ⊢ WP c (kk ⟨⟩) Q) :
    iprop(Pers m κ ∗ Ow c 16 16 16 ∗ GW m c o ∗ R)
      ⊢ WP c (Prog.lift (.waitDma2 q src dst p1 p2) >>= kk) Q := by
  have hc := st_waitX m κ c (R := iprop(bigSep (Finset.Ico (o + 1) 16) (fun o' => iprop(cred (tallyAt (cell c (xI 3 (peer c o'))) () NX) ∗ atPos ER (cell c (xI 3 (peer c o'))) 0 ∅ 0))
    ∗ bigSep (Finset.Ico 1 o) (fun o' => iprop(gPts full (peer c o') c (gC m c (peer c o')) ∗ atPos ER (cell c (xI 3 (peer c o'))) 1 ∅ 0)) ∗ R))
    3 (peer c o) (peer_ne c ho' ho) (i := 16) (j := 16) (k := 16) (fun h => absurd h (by decide)) (fun h => absurd h (by decide)) (fun h => absurd h (by decide)) (src := src) (dst := dst) hq hN (p1 := p1) (p2 := p2) (kk := kk) (Q := Q)
  unfold GW
  rw [bigSep_ico16 ho]
  refine ent_trans ?_ (hc (ent_trans ?_ H))
  · iintro ⟨HP, HO, ⟨⟨Hh, Ha⟩, Hb⟩, HR⟩
    isplitl [HP]; · iexact HP
    isplitl [HO]; · iexact HO
    isplitl [Hh]; · iexact Hh
    isplitl [Ha]; · iexact Ha
    isplitl [Hb]; · iexact Hb
    iexact HR
  · unfold GW
    rw [bigSep_ico1_succ ho']
    dsimp only [xPay]
    iintro ⟨HP, HO, ⟨Hat, Hpay⟩, Ha, Hb, HR⟩
    isplitl [HP]; · iexact HP
    isplitl [HO]; · iexact HO
    isplitr [HR]
    · isplitl [Ha]; · iexact Ha
      isplitl [Hat Hpay]
      · isplitl [Hpay]; · iexact Hpay
        iexact Hat
      iexact Hb
    iexact HR

/-- The wait for the send to the device `o` places on. -/
theorem st_waitL {α : Type} {Q : α → sProp 𝕄} (c : Dev nD) {R : sProp 𝕄} {o : ℕ} (ho : o < 16) (ho' : 1 ≤ o)
    {sp sp' : Space} {s1 s2 : Shape} {e1 e2 : EltTy}
    {src : Memref sig .tc sp s1 e1} {dst : Memref sig .tc sp' s2 e2} {q : DmaSem sig} (hq : q = xQ 2 (peer c o)) (hN : dst.view.dmaCredit = NX)
    {p1 : src.view.WordExact} {p2 : dst.view.WordExact}
    {kk : PUnit → Prog (TpuEff nD τ sig (Elt F) Λ₀ .tc) α}
    (H : iprop(Pers m κ ∗ Ow c 16 16 16 ∗ LS m c (o + 1) ∗ R) ⊢ WP c (kk ⟨⟩) Q) :
    iprop(Pers m κ ∗ Ow c 16 16 16 ∗ LS m c o ∗ R)
      ⊢ WP c (Prog.lift (.waitDma2 q src dst p1 p2) >>= kk) Q := by
  have hc := st_waitX m κ c (R := iprop(bigSep (Finset.Ico (o + 1) 16) (fun o' => iprop(atPos ER (cell c (xI 2 (peer c o'))) 0 ∅ 0 ∗ cred (tallyAt (cell c (xI 2 (peer c o'))) () NX)))
    ∗ bigSep (Finset.Ico 1 o) (fun o' => iprop(gPts (shr (peer c o')) c c (gC m c c) ∗ atPos ER (cell c (xI 2 (peer c o'))) 1 ∅ 0)) ∗ R))
    2 (peer c o) (peer_ne c ho' ho) (i := 16) (j := 16) (k := 16) (fun h => absurd h (by decide)) (fun h => absurd h (by decide)) (fun _ => by decide) (src := src) (dst := dst) hq hN (p1 := p1) (p2 := p2) (kk := kk) (Q := Q)
  unfold LS
  rw [bigSep_ico16 ho]
  refine ent_trans ?_ (hc (ent_trans ?_ H))
  · iintro ⟨HP, HO, ⟨⟨⟨Hh1, Hh2⟩, Ha⟩, Hb⟩, HR⟩
    isplitl [HP]; · iexact HP
    isplitl [HO]; · iexact HO
    isplitl [Hh1 Hh2]
    · isplitl [Hh2]; · iexact Hh2
      iexact Hh1
    isplitl [Ha]; · iexact Ha
    isplitl [Hb]; · iexact Hb
    iexact HR
  · unfold LS
    rw [bigSep_ico1_succ ho']
    dsimp only [xPay]
    iintro ⟨HP, HO, ⟨Hat, Hpay⟩, Ha, Hb, HR⟩
    isplitl [HP]; · iexact HP
    isplitl [HO]; · iexact HO
    isplitr [HR]
    · isplitl [Ha]; · iexact Ha
      isplitl [Hat Hpay]
      · isplitl [Hpay]; · iexact Hpay
        iexact Hat
      iexact Hb
    iexact HR

/-- The load of the whole gathered buffer. -/
theorem st_loadGX {α : Type} {Q : α → sProp 𝕄} (c : Dev nD) {P O R : sProp 𝕄} {inb} {hl}
    {kk : Vec F S256x1024 .bf16 → Prog (TpuEff nD τ sig (Elt F) Λ₀ .tc) α}
    (H : iprop(P ∗ O ∗ GX m c ∗ R) ⊢ WP c (kk (gFull m c)) Q) :
    iprop(P ∗ O ∗ GX m c ∗ R) ⊢ WP c (Prog.lift (.load gM (Rect.unit (s := S256x1024) ![0, 0] S256x1024.size inb).toLoadRect hl) >>= kk) Q :=
  st_loadAny c (mm := gM) (r := (Rect.unit (s := S256x1024) ![0, 0] S256x1024.size inb).toLoadRect) (hl := hl) (kk := kk) (X := GX m c) (X' := GX m c) (S := Finset.univ) (q := shr c) (f := gFull m c) (v := gFull m c)
    (B := iprop(bigSep (Finset.Ico 1 16) (fun o => atPos ER (cell c (xI 3 (peer c o))) 1 ∅ 0)
      ∗ bigSep (Finset.Ico 1 16) (fun t => bigSep (Finset.Ico 1 16) (fun o => gPts (shr (peer c t)) (peer c o) c (gC m c (peer c o))))))
    (Finset.subset_univ _) (Memref.readAt_unit_zero (Elt F) cc0_scratch4 hz2 _ _) (by unfold GX; exact ent_refl _) (by unfold GX; exact ent_refl _) H

/-! ## The handshake -/

/-- The handshake's signals, up to distance `i`. -/
def BS (c : Dev nD) (i : ℕ) : sProp 𝕄 :=
  iprop(bigSep (Finset.Ico i 16) (fun o => iprop(dutyTok ER (cell (peer c o) bI) 0 c ∗ barPay (peer c o) c))
    ∗ cred (tallyAt (cell c bI) () 15) ∗ atPos ER (cell c bI) 0 ∅ 0)
/-- Every device has arrived: each handed over a slot of its receive buffer and rows of its gathered buffer. -/
def BD (c : Dev nD) : sProp 𝕄 := iprop(atPos ER (cell c bI) 1 ∅ 0 ∗ bigSep (Finset.univ.erase c) (fun d => barPay c d))

theorem st_sig {α : Type} {Q : α → sProp 𝕄} (c : Dev nD) {R : sProp 𝕄} {i j k : ℕ} (hi : i < 16) (hi' : 1 ≤ i) {n : Dev nD} (hn : n = peer c i)
    {kk : PUnit → Prog (TpuEff nD τ sig (Elt F) Λ₀ .tc) α}
    (H : iprop(Pers m κ ∗ Ow c (i + 1) j k ∗ BS c (i + 1) ∗ R) ⊢ WP c (kk ⟨⟩) Q) :
    iprop(Pers m κ ∗ Ow c i j k ∗ BS c i ∗ R) ⊢ WP c (semSignalWord n barS 1#32 >>= kk) Q := by
  unfold BS
  rw [bigSep_ico16 hi]
  refine ent_trans ?_ (st_signal m κ c (R := iprop(BS c (i + 1) ∗ R)) hi hi' n hn (Ne.symm (peer_ne c hi' hi)) H)
  unfold BS
  iintro ⟨HP, HO, ⟨⟨Ha, Hb⟩, Hc⟩, HR⟩
  isplitl [HP]; · iexact HP
  isplitl [HO]; · iexact HO
  isplitl [Ha]; · iexact Ha
  isplitl [Hb Hc]
  · isplitl [Hb]; · iexact Hb
    iexact Hc
  iexact HR

theorem st_waitB {α : Type} {Q : α → sProp 𝕄} (c : Dev nD) {R : sProp 𝕄}
    {kk : PUnit → Prog (TpuEff nD τ sig (Elt F) Λ₀ .tc) α}
    (H : iprop(Pers m κ ∗ Ow c 16 0 1 ∗ BD c ∗ R) ⊢ WP c (kk ⟨⟩) Q) :
    iprop(Pers m κ ∗ Ow c 16 0 1 ∗ BS c 16 ∗ R) ⊢ WP c (semWaitWord barS 15#32 >>= kk) Q := by
  rw [show (semWaitWord barS 15#32 >>= kk : Prog (TpuEff nD τ sig (Elt F) Λ₀ .tc) α) = .op (.semWait barS 15) kk from rfl]
  have hd : dutI c bI 0 = Finset.univ.erase c := by show dutI c (.inl ()) 0 = _; dsimp only [dutI]; rw [if_pos rfl]
  refine ent_trans ?_ (st_wait m κ c bI (r := 0) (i := 16) (j := 0) (k := 1) (k' := 15) (w := .semWait barS 15) (R := R)
    (fun K => wpE_semWait_eq 𝒱₀ (c : Thread nD τ) none Set.univ K) (by rw [hd, Finset.card_erase_of_mem (Finset.mem_univ _), Finset.card_univ]; rfl)
    1 (le_refl _) (fun h => absurd h (by decide)) (fun _ => by decide) (fun _ => by decide) (ent_trans ?_ H))
  · unfold BS
    iintro ⟨HP, HO, ⟨-, Hc⟩, HR⟩
    isplitl [HP]; · iexact HP
    isplitl [HO]; · iexact HO
    isplitl [Hc]; · iexact Hc
    iexact HR
  · rw [hd]
    unfold BD
    iintro ⟨HP, HO, ⟨Hat, -, Hb⟩, HR⟩
    isplitl [HP]; · iexact HP
    isplitl [HO]; · iexact HO
    isplitl [Hat Hb]
    · isplitl [Hat]; · iexact Hat
      iexact Hb
    iexact HR

/-- The exchange of partial rows before the handshake: no place to send to yet. -/
def tk0 (c t : Dev nD) : sProp 𝕄 :=
  iprop(atPos ER (cell c (xI 0 t)) 0 ∅ 0 ∗ if t = c then iprop(emp) else iprop(dutyTok ER (cell c (xI 0 t)) 0 0 ∗ dutyTok ER (cell t (xI 1 c)) 0 0))
def PS0 (c : Dev nD) : sProp 𝕄 :=
  iprop(bigSep (Finset.Ico 0 4) (fun q' => iprop(∃ f, blkPts (q4 q') c f)) ∗ bigSep Finset.univ (fun t => tk0 c t))
def GP0 (c : Dev nD) : sProp 𝕄 := iprop((∃ f, gPts full c c f) ∗ bigSep (Finset.Ico 1 16) (fun o => gtok c o))

/-- After the handshake both exchanges know where to send to. -/
theorem arrive (c : Dev nD) : iprop(BD c ∗ PS0 c ∗ GP0 c) ⊢ iprop(atPos ER (cell c bI) 1 ∅ 0 ∗ PS m c 0 0 ∗ GP c) := by
  have htk : ∀ t : Dev nD, iprop(tk0 (F := F) c t ∗ if t = c then iprop(emp) else iprop(∃ f, rPts c t f)) ⊢ tk c t := by
    intro t
    unfold tk0 tk
    by_cases h : t = c
    · rw [if_pos h, if_pos h, if_pos h]
      iintro ⟨⟨Ha, -⟩, -⟩
      isplitl [Ha]; · iexact Ha
      iempintro
    · rw [if_neg h, if_neg h, if_neg h]
      iintro ⟨⟨Ha, Hb, Hc⟩, Hd⟩
      isplitl [Ha]; · iexact Ha
      isplitl [Hb]; · iexact Hb
      isplitl [Hc]; · iexact Hc
      iexact Hd
  have hr : bigSep (Finset.univ.erase c) (fun d => iprop(∃ f, rPts (F := F) c d f)) ⊢ bigSep Finset.univ (fun t => if t = c then iprop(emp) else iprop(∃ f, rPts (F := F) c t f)) := by
    rw [bigSep_er (Finset.mem_univ c) (fun t => if t = c then iprop(emp) else iprop(∃ f, rPts (F := F) c t f)), if_pos rfl]
    iintro H
    isplitr; · iempintro
    iapply (show bigSep (Finset.univ.erase c) (fun d => iprop(∃ f, rPts (F := F) c d f)) ⊢ bigSep (Finset.univ.erase c) (fun t => if t = c then iprop(emp) else iprop(∃ f, rPts (F := F) c t f)) from
      bigSep_mono (fun t ht => by rw [if_neg (Finset.ne_of_mem_erase ht)]; exact ent_refl _))
    iexact H
  unfold BD PS0 GP0 GP barPay gtk
  rw [bigSep_sp, bigSep_sp, bigSep_peer c (fun d => iprop(∃ f, gPts (F := F) full c d f))]
  unfold PS
  rw [← bigSep_tg c (fun t => tk (F := F) c t)]
  iintro ⟨⟨Hat, Hr, Hg⟩, ⟨Hb, Ht⟩, Hown, Hgt⟩
  isplitl [Hat]; · iexact Hat
  isplitl [Hb Ht Hr]
  · isplitl [Hb]; · iexact Hb
    isplitr; · rw [Nat.mul_zero, Finset.Ico_self, bigSep_empty]; iempintro
    isplitl [Ht Hr]
    · iapply (show bigSep Finset.univ (fun t => iprop(tk0 (F := F) c t ∗ if t = c then iprop(emp) else iprop(∃ f, rPts c t f))) ⊢ bigSep Finset.univ (fun t => tk c t) from
        bigSep_mono (fun t _ => htk t))
      rw [bigSep_sp]
      isplitl [Ht]; · iexact Ht
      iapply hr; iexact Hr
    rw [Finset.range_zero, bigSep_empty]; iempintro
  isplitl [Hown]; · iexact Hown
  isplitl [Hgt]; · iexact Hgt
  iexact Hg

end Steps

end Cert.KProof

end
-- ==== Proof.State.lean ====
/-
What a device holds while the body runs, and a step on one holding as a step on all.
-/
module

public import proofs.«01_k».proof.Proof.StepsG

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds, slot by slot -/

instance sepComm : _root_.Std.Commutative (α := sProp 𝕄) Idealize.SL.BI.BIBase.sep := ⟨fun P Q => _root_.Std.Commutative.comm (op := fun P Q : sProp 𝕄 => BI.sep P Q) P Q⟩
instance sepAssoc : _root_.Std.Associative (α := sProp 𝕄) Idealize.SL.BI.BIBase.sep := ⟨fun P Q R => _root_.Std.Associative.assoc (op := fun P Q : sProp 𝕄 => BI.sep P Q) P Q R⟩

/-- The standing facts, the debts, and eleven further holdings. -/
def St (P ow kb k00 k01 k10 k11 xs ps rw gs gw z : sProp 𝕄) : sProp 𝕄 := iprop(P ∗ ow ∗ kb ∗ k00 ∗ k01 ∗ k10 ∗ k11 ∗ xs ∗ ps ∗ rw ∗ gs ∗ gw ∗ z)

theorem focus {ι : Type} {P ow x R G : sProp 𝕄} {ow' x' : sProp 𝕄} {G' : ι → sProp 𝕄} {S : sProp 𝕄 → sProp 𝕄 → sProp 𝕄} (e : ∀ o y, S o y = iprop(P ∗ o ∗ y ∗ R))
    (h : ∀ R, (∀ v, iprop(P ∗ ow' ∗ x' ∗ R) ⊢ G' v) → (iprop(P ∗ ow ∗ x ∗ R) ⊢ G)) (H : ∀ v, S ow' x' ⊢ G' v) : S ow x ⊢ G := by
  rw [e]; exact h R (fun v => by rw [← e]; exact H v)

section Focus

/-! A step on one of the holdings is a step on all of them together. -/

theorem foc_kb {P ow ow' kb k00 k01 k10 k11 xs ps rw gs gw z x' G G₁ : sProp 𝕄} (h : ∀ R, (iprop(P ∗ ow' ∗ x' ∗ R) ⊢ G₁) → (iprop(P ∗ ow ∗ kb ∗ R) ⊢ G)) (H : St P ow' x' k00 k01 k10 k11 xs ps rw gs gw z ⊢ G₁) : St P ow kb k00 k01 k10 k11 xs ps rw gs gw z ⊢ G :=
  focus (ι := Unit) (R := iprop(k00 ∗ k01 ∗ k10 ∗ k11 ∗ xs ∗ ps ∗ rw ∗ gs ∗ gw ∗ z)) (S := fun o y => St P o y k00 k01 k10 k11 xs ps rw gs gw z) (fun o y => by unfold St; ac_rfl) (fun R H => h R (H ())) (fun _ => H)
theorem foc_k00 {P ow ow' kb k00 k01 k10 k11 xs ps rw gs gw z x' G G₁ : sProp 𝕄} (h : ∀ R, (iprop(P ∗ ow' ∗ x' ∗ R) ⊢ G₁) → (iprop(P ∗ ow ∗ k00 ∗ R) ⊢ G)) (H : St P ow' kb x' k01 k10 k11 xs ps rw gs gw z ⊢ G₁) : St P ow kb k00 k01 k10 k11 xs ps rw gs gw z ⊢ G :=
  focus (ι := Unit) (R := iprop(kb ∗ k01 ∗ k10 ∗ k11 ∗ xs ∗ ps ∗ rw ∗ gs ∗ gw ∗ z)) (S := fun o y => St P o kb y k01 k10 k11 xs ps rw gs gw z) (fun o y => by unfold St; ac_rfl) (fun R H => h R (H ())) (fun _ => H)
theorem foc_k01 {P ow ow' kb k00 k01 k10 k11 xs ps rw gs gw z x' G G₁ : sProp 𝕄} (h : ∀ R, (iprop(P ∗ ow' ∗ x' ∗ R) ⊢ G₁) → (iprop(P ∗ ow ∗ k01 ∗ R) ⊢ G)) (H : St P ow' kb k00 x' k10 k11 xs ps rw gs gw z ⊢ G₁) : St P ow kb k00 k01 k10 k11 xs ps rw gs gw z ⊢ G :=
  focus (ι := Unit) (R := iprop(kb ∗ k00 ∗ k10 ∗ k11 ∗ xs ∗ ps ∗ rw ∗ gs ∗ gw ∗ z)) (S := fun o y => St P o kb k00 y k10 k11 xs ps rw gs gw z) (fun o y => by unfold St; ac_rfl) (fun R H => h R (H ())) (fun _ => H)
theorem foc_k10 {P ow ow' kb k00 k01 k10 k11 xs ps rw gs gw z x' G G₁ : sProp 𝕄} (h : ∀ R, (iprop(P ∗ ow' ∗ x' ∗ R) ⊢ G₁) → (iprop(P ∗ ow ∗ k10 ∗ R) ⊢ G)) (H : St P ow' kb k00 k01 x' k11 xs ps rw gs gw z ⊢ G₁) : St P ow kb k00 k01 k10 k11 xs ps rw gs gw z ⊢ G :=
  focus (ι := Unit) (R := iprop(kb ∗ k00 ∗ k01 ∗ k11 ∗ xs ∗ ps ∗ rw ∗ gs ∗ gw ∗ z)) (S := fun o y => St P o kb k00 k01 y k11 xs ps rw gs gw z) (fun o y => by unfold St; ac_rfl) (fun R H => h R (H ())) (fun _ => H)
theorem foc_k11 {P ow ow' kb k00 k01 k10 k11 xs ps rw gs gw z x' G G₁ : sProp 𝕄} (h : ∀ R, (iprop(P ∗ ow' ∗ x' ∗ R) ⊢ G₁) → (iprop(P ∗ ow ∗ k11 ∗ R) ⊢ G)) (H : St P ow' kb k00 k01 k10 x' xs ps rw gs gw z ⊢ G₁) : St P ow kb k00 k01 k10 k11 xs ps rw gs gw z ⊢ G :=
  focus (ι := Unit) (R := iprop(kb ∗ k00 ∗ k01 ∗ k10 ∗ xs ∗ ps ∗ rw ∗ gs ∗ gw ∗ z)) (S := fun o y => St P o kb k00 k01 k10 y xs ps rw gs gw z) (fun o y => by unfold St; ac_rfl) (fun R H => h R (H ())) (fun _ => H)
theorem foc_xs {P ow ow' kb k00 k01 k10 k11 xs ps rw gs gw z x' G G₁ : sProp 𝕄} (h : ∀ R, (iprop(P ∗ ow' ∗ x' ∗ R) ⊢ G₁) → (iprop(P ∗ ow ∗ xs ∗ R) ⊢ G)) (H : St P ow' kb k00 k01 k10 k11 x' ps rw gs gw z ⊢ G₁) : St P ow kb k00 k01 k10 k11 xs ps rw gs gw z ⊢ G :=
  focus (ι := Unit) (R := iprop(kb ∗ k00 ∗ k01 ∗ k10 ∗ k11 ∗ ps ∗ rw ∗ gs ∗ gw ∗ z)) (S := fun o y => St P o kb k00 k01 k10 k11 y ps rw gs gw z) (fun o y => by unfold St; ac_rfl) (fun R H => h R (H ())) (fun _ => H)
theorem focV_xs {ι : Type} {P ow ow' kb k00 k01 k10 k11 xs ps rw gs gw z x' G : sProp 𝕄} {G' : ι → sProp 𝕄} (h : ∀ R, (∀ v, iprop(P ∗ ow' ∗ x' ∗ R) ⊢ G' v) → (iprop(P ∗ ow ∗ xs ∗ R) ⊢ G)) (H : ∀ v, St P ow' kb k00 k01 k10 k11 x' ps rw gs gw z ⊢ G' v) : St P ow kb k00 k01 k10 k11 xs ps rw gs gw z ⊢ G :=
  focus (R := iprop(kb ∗ k00 ∗ k01 ∗ k10 ∗ k11 ∗ ps ∗ rw ∗ gs ∗ gw ∗ z)) (S := fun o y => St P o kb k00 k01 k10 k11 y ps rw gs gw z) (fun o y => by unfold St; ac_rfl) h H
theorem foc_ps {P ow ow' kb k00 k01 k10 k11 xs ps rw gs gw z x' G G₁ : sProp 𝕄} (h : ∀ R, (iprop(P ∗ ow' ∗ x' ∗ R) ⊢ G₁) → (iprop(P ∗ ow ∗ ps ∗ R) ⊢ G)) (H : St P ow' kb k00 k01 k10 k11 xs x' rw gs gw z ⊢ G₁) : St P ow kb k00 k01 k10 k11 xs ps rw gs gw z ⊢ G :=
  focus (ι := Unit) (R := iprop(kb ∗ k00 ∗ k01 ∗ k10 ∗ k11 ∗ xs ∗ rw ∗ gs ∗ gw ∗ z)) (S := fun o y => St P o kb k00 k01 k10 k11 xs y rw gs gw z) (fun o y => by unfold St; ac_rfl) (fun R H => h R (H ())) (fun _ => H)
theorem focV_ps {ι : Type} {P ow ow' kb k00 k01 k10 k11 xs ps rw gs gw z x' G : sProp 𝕄} {G' : ι → sProp 𝕄} (h : ∀ R, (∀ v, iprop(P ∗ ow' ∗ x' ∗ R) ⊢ G' v) → (iprop(P ∗ ow ∗ ps ∗ R) ⊢ G)) (H : ∀ v, St P ow' kb k00 k01 k10 k11 xs x' rw gs gw z ⊢ G' v) : St P ow kb k00 k01 k10 k11 xs ps rw gs gw z ⊢ G :=
  focus (R := iprop(kb ∗ k00 ∗ k01 ∗ k10 ∗ k11 ∗ xs ∗ rw ∗ gs ∗ gw ∗ z)) (S := fun o y => St P o kb k00 k01 k10 k11 xs y rw gs gw z) (fun o y => by unfold St; ac_rfl) h H
theorem foc_rw {P ow ow' kb k00 k01 k10 k11 xs ps rw gs gw z x' G G₁ : sProp 𝕄} (h : ∀ R, (iprop(P ∗ ow' ∗ x' ∗ R) ⊢ G₁) → (iprop(P ∗ ow ∗ rw ∗ R) ⊢ G)) (H : St P ow' kb k00 k01 k10 k11 xs ps x' gs gw z ⊢ G₁) : St P ow kb k00 k01 k10 k11 xs ps rw gs gw z ⊢ G :=
  focus (ι := Unit) (R := iprop(kb ∗ k00 ∗ k01 ∗ k10 ∗ k11 ∗ xs ∗ ps ∗ gs ∗ gw ∗ z)) (S := fun o y => St P o kb k00 k01 k10 k11 xs ps y gs gw z) (fun o y => by unfold St; ac_rfl) (fun R H => h R (H ())) (fun _ => H)
theorem foc_gs {P ow ow' kb k00 k01 k10 k11 xs ps rw gs gw z x' G G₁ : sProp 𝕄} (h : ∀ R, (iprop(P ∗ ow' ∗ x' ∗ R) ⊢ G₁) → (iprop(P ∗ ow ∗ gs ∗ R) ⊢ G)) (H : St P ow' kb k00 k01 k10 k11 xs ps rw x' gw z ⊢ G₁) : St P ow kb k00 k01 k10 k11 xs ps rw gs gw z ⊢ G :=
  focus (ι := Unit) (R := iprop(kb ∗ k00 ∗ k01 ∗ k10 ∗ k11 ∗ xs ∗ ps ∗ rw ∗ gw ∗ z)) (S := fun o y => St P o kb k00 k01 k10 k11 xs ps rw y gw z) (fun o y => by unfold St; ac_rfl) (fun R H => h R (H ())) (fun _ => H)
theorem focV_gs {ι : Type} {P ow ow' kb k00 k01 k10 k11 xs ps rw gs gw z x' G : sProp 𝕄} {G' : ι → sProp 𝕄} (h : ∀ R, (∀ v, iprop(P ∗ ow' ∗ x' ∗ R) ⊢ G' v) → (iprop(P ∗ ow ∗ gs ∗ R) ⊢ G)) (H : ∀ v, St P ow' kb k00 k01 k10 k11 xs ps rw x' gw z ⊢ G' v) : St P ow kb k00 k01 k10 k11 xs ps rw gs gw z ⊢ G :=
  focus (R := iprop(kb ∗ k00 ∗ k01 ∗ k10 ∗ k11 ∗ xs ∗ ps ∗ rw ∗ gw ∗ z)) (S := fun o y => St P o kb k00 k01 k10 k11 xs ps rw y gw z) (fun o y => by unfold St; ac_rfl) h H
theorem foc_gw {P ow ow' kb k00 k01 k10 k11 xs ps rw gs gw z x' G G₁ : sProp 𝕄} (h : ∀ R, (iprop(P ∗ ow' ∗ x' ∗ R) ⊢ G₁) → (iprop(P ∗ ow ∗ gw ∗ R) ⊢ G)) (H : St P ow' kb k00 k01 k10 k11 xs ps rw gs x' z ⊢ G₁) : St P ow kb k00 k01 k10 k11 xs ps rw gs gw z ⊢ G :=
  focus (ι := Unit) (R := iprop(kb ∗ k00 ∗ k01 ∗ k10 ∗ k11 ∗ xs ∗ ps ∗ rw ∗ gs ∗ z)) (S := fun o y => St P o kb k00 k01 k10 k11 xs ps rw gs y z) (fun o y => by unfold St; ac_rfl) (fun R H => h R (H ())) (fun _ => H)

theorem conv {P ow kb k00 k01 k10 k11 xs ps rw gs gw z G x' : sProp 𝕄} (h : kb ⊢ x') (H : St P ow x' k00 k01 k10 k11 xs ps rw gs gw z ⊢ G) : St P ow kb k00 k01 k10 k11 xs ps rw gs gw z ⊢ G :=
  foc_kb (fun R H => ent_trans (by iintro ⟨Ha, Hb, Hc, Hd⟩; isplitl [Ha]; · iexact Ha
                                   isplitl [Hb]; · iexact Hb
                                   isplitl [Hc]; · iapply h; iexact Hc
                                   iexact Hd) H) H

end Focus

/-- Turning one holding into another. -/
theorem turn {P O x x' R G : sProp 𝕄} (h : x ⊢ x') (H : iprop(P ∗ O ∗ x' ∗ R) ⊢ G) : iprop(P ∗ O ∗ x ∗ R) ⊢ G := by
  refine ent_trans ?_ H
  iintro ⟨Ha, Hb, Hc, Hd⟩
  isplitl [Ha]; · iexact Ha
  isplitl [Hb]; · iexact Hb
  isplitl [Hc]; · iapply h; iexact Hc
  iexact Hd

/-- After the handshake. -/
theorem turn_arrive (c : Dev nD) {P ow k00 k01 k10 k11 xs rw gw z G : sProp 𝕄}
    (H : St P ow (atPos ER (cell c bI) 1 ∅ 0) k00 k01 k10 k11 xs (PS m c 0 0) rw (GP c) gw z ⊢ G) : St P ow (BD c) k00 k01 k10 k11 xs (PS0 c) rw (GP0 c) gw z ⊢ G := by
  refine ent_trans ?_ H
  unfold St
  iintro ⟨HP, HO, Hb, H1, H2, H3, H4, Hx, Hp, Hr, Hg, Hw, Hz⟩
  ihave ⟨Hb, Hp, Hg⟩ := (arrive m c) $$ [Hb Hp Hg]
  · isplitl [Hb]; · iexact Hb
    isplitl [Hp]; · iexact Hp
    iexact Hg
  isplitl [HP]; · iexact HP
  isplitl [HO]; · iexact HO
  isplitl [Hb]; · iexact Hb
  isplitl [H1]; · iexact H1
  isplitl [H2]; · iexact H2
  isplitl [H3]; · iexact H3
  isplitl [H4]; · iexact H4
  isplitl [Hx]; · iexact Hx
  isplitl [Hp]; · iexact Hp
  isplitl [Hr]; · iexact Hr
  isplitl [Hg]; · iexact Hg
  isplitl [Hw]; · iexact Hw
  iexact Hz

/-- After all reduced rows arrived. -/
theorem turn_GX (c : Dev nD) {P ow kb k00 k01 k10 k11 xs ps rw z G : sProp 𝕄}
    (H : St P ow kb k00 k01 k10 k11 xs ps rw (LS m c 1) (GX m c) z ⊢ G) : St P ow kb k00 k01 k10 k11 xs ps rw (GS m c 16) (GW m c 16) z ⊢ G := by
  refine ent_trans ?_ H
  unfold St
  iintro ⟨HP, HO, Hb, H1, H2, H3, H4, Hx, Hp, Hr, Hg, Hw, Hz⟩
  ihave ⟨Hg, Hw⟩ := (GX_intro m c) $$ [Hg Hw]
  · isplitl [Hg]; · iexact Hg
    iexact Hw
  isplitl [HP]; · iexact HP
  isplitl [HO]; · iexact HO
  isplitl [Hb]; · iexact Hb
  isplitl [H1]; · iexact H1
  isplitl [H2]; · iexact H2
  isplitl [H3]; · iexact H3
  isplitl [H4]; · iexact H4
  isplitl [Hx]; · iexact Hx
  isplitl [Hp]; · iexact Hp
  isplitl [Hr]; · iexact Hr
  isplitl [Hg]; · iexact Hg
  isplitl [Hw]; · iexact Hw
  iexact Hz

/-! ## From one round of fetches to the next -/

/-- What the second round of fetches into a slot needs besides the slot. -/
def KZ0 (c : Dev nD) (s kv : Fin 2) : sProp 𝕄 :=
  iprop(bigSep (Finset.Ico 0 8) (fun h' => iprop(srcPts m kv (qbOf s 1) (h8 h') c ∗ dutyTok ER (cell c (kvI s kv)) 1 (d16 h'))))
/-- What the first round read. -/
def KZ1 (c : Dev nD) (s kv : Fin 2) : sProp 𝕄 := bigSep (Finset.Ico 0 8) (fun h' => srcPts m kv (qbOf s 0) (h8 h') c)

theorem img_kv : ∀ (c : Fin 16) (s kv r : Fin 2), dutI c (kvI s kv) r.val = (Finset.Ico 0 8).image d16 := by decide
theorem inj_d8 : ∀ x ∈ Finset.Ico 0 8, ∀ y ∈ Finset.Ico 0 8, d16 x = d16 y → x = y := fun x hx y hy h =>
  inj_d16 x (Finset.Ico_subset_Ico (le_refl _) (by decide) hx) y (Finset.Ico_subset_Ico (le_refl _) (by decide) hy) h

theorem KL_pay (c : Dev nD) (s kv : Fin 2) (r : ℕ) (hr : r < 2) :
    bigSep (dutI c (kvI s kv) r) (fun d => payI m c (kvI s kv) r d)
      = iprop(bigSep (Finset.Ico 0 8) (fun h' => kvPts kv s (h8 h') c (kvC m kv s (qbOf s r) (h8 h') c)) ∗ bigSep (Finset.Ico 0 8) (fun h' => srcPts m kv (qbOf s r) (h8 h') c)) := by
  rw [show dutI c (kvI s kv) r = (Finset.Ico 0 8).image d16 from img_kv c s kv ⟨r, hr⟩, bigSep_image inj_d8, ← bigSep_sp]
  refine bigSep_congr (fun h' hh => ?_)
  show kvPay m c s kv r (d16 h') = _
  unfold kvPay; rw [hOf_d16' (Finset.mem_Ico.mp hh).2]

theorem KL_KF (c : Dev nD) (s kv : Fin 2) : KL m c s kv 0 (KZ0 m c s kv) ⊢ KF m c s kv 1 0 (KZ1 m c s kv) := by
  unfold KL KF KZ0 KZ1
  rw [KL_pay m c s kv 0 (by decide), bigSep_sp, bigSep_sp, bigSep_sp]
  iintro ⟨⟨Hk, Hs⟩, Hat, Hre, Hs1, Ht⟩
  isplitl [Hk Hs1 Ht]
  · isplitl [Hk]
    · iapply (show bigSep (Finset.Ico 0 8) (fun h' => kvPts kv s (h8 h') c (kvC m kv s (qbOf s 0) (h8 h') c)) ⊢ bigSep (Finset.Ico 0 8) (fun h' => iprop(∃ f, kvPts kv s (h8 h') c f)) from
        bigSep_mono (fun h' _ => show (kvPts kv s (h8 h') c (kvC m kv s (qbOf s 0) (h8 h') c) : sProp 𝕄) ⊢ iprop(∃ f, kvPts kv s (h8 h') c f) from by iintro H; iexists _; iexact H))
      iexact Hk
    isplitl [Hs1]; · iexact Hs1
    iexact Ht
  isplitr; · rw [Finset.range_zero, bigSep_empty]; iempintro
  isplitl [Hat]; · iexact Hat
  isplitl [Hre]; · iexact Hre
  iexact Hs

/-- A returned value. -/
theorem st_ret {α : Type} {Q : α → sProp 𝕄} (c : Dev nD) {A : sProp 𝕄} {a : α} (H : A ⊢ Q a) : A ⊢ WP c (pure a) Q := ent_trans H (le_wp_ret _ _ _ _ _)
/-- A part and what follows it. -/
theorem st_seq {α β : Type} {Q : β → sProp 𝕄} (c : Dev nD) {A : sProp 𝕄} {p : Prog (TpuEff nD τ sig (Elt F) Λ₀ .tc) α} {k : α → Prog (TpuEff nD τ sig (Elt F) Λ₀ .tc) β}
    (H : A ⊢ WP c p (fun a => WP c (k a) Q)) : A ⊢ WP c (p >>= k) Q := by rw [WP, wp_bind]; exact H
theorem st_dev {α : Type} {Q : α → sProp 𝕄} (c : Dev nD) {A : sProp 𝕄} {k : Dev nD → Prog (TpuEff nD τ sig (Elt F) Λ₀ .tc) α}
    (H : A ⊢ WP c (k c) Q) : A ⊢ WP c (Prog.lift .deviceId >>= k) Q := by
  rw [show (Prog.lift .deviceId >>= k : Prog (TpuEff nD τ sig (Elt F) Λ₀ .tc) α) = .op .deviceId k from rfl, WP, wp_deviceId]; exact H

end Cert.KProof

end
-- ==== Proof.Pieces.lean ====
/-
The buffers and arrays cut into the pieces the copies move, and joined again.
-/
module

public import proofs.«01_k».proof.Proof.State
public import Idealize.ShloMosaic.Lib.Ring

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_h8 (Φ : Fin 8 → sProp 𝕄) : bigSep (Finset.Ico 0 8) (fun n => Φ (h8 n)) = bigSep Finset.univ Φ := by
  rw [show (Finset.univ : Finset (Fin 8)) = (Finset.Ico 0 8).image h8 from by decide, bigSep_image (by decide)]
theorem bigSep_q4 (Φ : Fin 4 → sProp 𝕄) : bigSep (Finset.Ico 0 4) (fun n => Φ (q4 n)) = bigSep Finset.univ Φ := by
  rw [show (Finset.univ : Finset (Fin 4)) = (Finset.Ico 0 4).image q4 from by decide, bigSep_image (by decide)]

/-! ## Where the pieces of the buffers lie -/

theorem mem_kvR (s : Fin 2) (h : Fin 8) (i : S2x8x16x64x128.Idx) : i ∈ (kvR s h).set ↔ (i 0).val = s.val ∧ (i 1).val = h.val := by
  rw [Rect.mem_set_unit]
  have h2 : (i 2).val < 16 := (i 2).isLt
  have h3 : (i 3).val < 64 := (i 3).isLt
  have h4 : (i 4).val < 128 := (i 4).isLt
  constructor
  · intro H
    have H0 : s.val ≤ (i 0).val ∧ (i 0).val < s.val + 1 := H 0
    have H1 : h.val ≤ (i 1).val ∧ (i 1).val < h.val + 1 := H 1
    omega
  · intro H a
    fin_cases a
    · show s.val ≤ (i 0).val ∧ (i 0).val < s.val + 1
      omega
    · show h.val ≤ (i 1).val ∧ (i 1).val < h.val + 1
      omega
    · show 0 ≤ (i 2).val ∧ (i 2).val < 0 + 16
      omega
    · show 0 ≤ (i 3).val ∧ (i 3).val < 0 + 64
      omega
    · show 0 ≤ (i 4).val ∧ (i 4).val < 0 + 128
      omega

theorem mem_srcR (q : Fin 4) (h : Fin 8) (d : Fin 16) (i : S16x4x64x128x128.Idx) : i ∈ (srcR q h d).set ↔ (i 1).val = q.val ∧ (i 3).val = 8 * d.val + h.val := by
  rw [Rect.mem_set_unit]
  have h0 : (i 0).val < 16 := (i 0).isLt
  have h2 : (i 2).val < 64 := (i 2).isLt
  have h4 : (i 4).val < 128 := (i 4).isLt
  constructor
  · intro H
    have H0 : q.val ≤ (i 1).val ∧ (i 1).val < q.val + 1 := H 1
    have H1 : 8 * d.val + h.val ≤ (i 3).val ∧ (i 3).val < 8 * d.val + h.val + 1 := H 3
    omega
  · intro H a
    fin_cases a
    · show 0 ≤ (i 0).val ∧ (i 0).val < 0 + 16
      omega
    · show q.val ≤ (i 1).val ∧ (i 1).val < q.val + 1
      omega
    · show 0 ≤ (i 2).val ∧ (i 2).val < 0 + 64
      omega
    · show 8 * d.val + h.val ≤ (i 3).val ∧ (i 3).val < 8 * d.val + h.val + 1
      omega
    · show 0 ≤ (i 4).val ∧ (i 4).val < 0 + 128
      omega

theorem mem_slotR (t : Fin 16) (i : S16x16x1024.Idx) : i ∈ (slotR t).set ↔ (i 0).val = t.val := by
  rw [Rect.mem_set_unit]
  have h1 : (i 1).val < 16 := (i 1).isLt
  have h2 : (i 2).val < 1024 := (i 2).isLt
  constructor
  · intro H
    have H0 : t.val ≤ (i 0).val ∧ (i 0).val < t.val + 1 := H 0
    omega
  · intro H a
    fin_cases a
    · show t.val ≤ (i 0).val ∧ (i 0).val < t.val + 1
      omega
    · show 0 ≤ (i 1).val ∧ (i 1).val < 0 + 16
      omega
    · show 0 ≤ (i 2).val ∧ (i 2).val < 0 + 1024
      omega

theorem rSlot_set (t : Fin 16) : (rSlot t).view.set = (slotR t).set := (View.set_reshape _ _).trans (View.set_slice_whole _ _)
theorem kvDst0_set (s : Fin 2) (h : Fin 8) : (kvDst 0 s h).view.set = (kvR s h).set := (View.set_reshape _ _).trans (View.set_slice_whole _ _)
theorem kvDst1_set (s : Fin 2) (h : Fin 8) : (kvDst 1 s h).view.set = (kvR s h).set := (View.set_reshape _ _).trans (View.set_slice_whole _ _)
theorem kvSrc0_set (q : Fin 4) (h : Fin 8) (d : Fin 16) : (kvSrc 0 q h d).view.set = (srcR q h d).set := (View.set_reshape _ _).trans (View.set_slice_whole _ _)
theorem kvSrc1_set (q : Fin 4) (h : Fin 8) (d : Fin 16) : (kvSrc 1 q h d).view.set = (srcR q h d).set := (View.set_reshape _ _).trans (View.set_slice_whole _ _)

theorem kvR_disj (a b : Fin 2 × Fin 8) (h : a ≠ b) : Disjoint (kvR a.1 a.2).set (kvR b.1 b.2).set := by
  rw [Finset.disjoint_left]
  intro i h1 h2
  rw [mem_kvR] at h1 h2
  exact h (Prod.ext (Fin.ext (h1.1.symm.trans h2.1)) (Fin.ext (h1.2.symm.trans h2.2)))
theorem kvR_univ : (Finset.univ : Finset (Fin 2 × Fin 8)).biUnion (fun a => (kvR a.1 a.2).set) = Finset.univ := by
  ext i
  simp only [Finset.mem_biUnion, Finset.mem_univ, true_and, iff_true]
  exact ⟨(⟨(i 0).val, (i 0).isLt⟩, ⟨(i 1).val, (i 1).isLt⟩), (mem_kvR _ _ i).mpr ⟨rfl, rfl⟩⟩
theorem srcR_disj (a b : Fin 16 × Fin 4 × Fin 8) (h : a ≠ b) : Disjoint (srcR a.2.1 a.2.2 a.1).set (srcR b.2.1 b.2.2 b.1).set := by
  rw [Finset.disjoint_left]
  intro i h1 h2
  rw [mem_srcR] at h1 h2
  have e1 : a.2.1.val = b.2.1.val := h1.1.symm.trans h2.1
  have e2 : 8 * a.1.val + a.2.2.val = 8 * b.1.val + b.2.2.val := h1.2.symm.trans h2.2
  have l1 := a.2.2.isLt
  have l2 := b.2.2.isLt
  exact h (Prod.ext (Fin.ext (by omega)) (Prod.ext (Fin.ext e1) (Fin.ext (by omega))))
theorem srcR_univ : (Finset.univ : Finset (Fin 16 × Fin 4 × Fin 8)).biUnion (fun a => (srcR a.2.1 a.2.2 a.1).set) = Finset.univ := by
  ext i
  simp only [Finset.mem_biUnion, Finset.mem_univ, true_and, iff_true]
  have h3 : (i 3).val < 128 := (i 3).isLt
  exact ⟨(⟨(i 3).val / 8, by omega⟩, ⟨(i 1).val, (i 1).isLt⟩, ⟨(i 3).val % 8, by omega⟩), (mem_srcR _ _ _ i).mpr ⟨rfl, by show (i 3).val = 8 * ((i 3).val / 8) + (i 3).val % 8; omega⟩⟩
theorem slotR_disj (s t : Fin 16) (h : s ≠ t) : Disjoint (slotR s).set (slotR t).set := by
  rw [Finset.disjoint_left]
  intro i h1 h2
  rw [mem_slotR] at h1 h2
  exact h (Fin.ext (h1.symm.trans h2))
theorem slotR_univ : (Finset.univ : Finset (Fin 16)).biUnion (fun t => (slotR t).set) = Finset.univ := by
  ext i
  simp only [Finset.mem_biUnion, Finset.mem_univ, true_and, iff_true]
  exact ⟨⟨(i 0).val, (i 0).isLt⟩, (mem_slotR _ i).mpr rfl⟩
theorem blkR_disj (s t : Fin 4) (h : s ≠ t) : Disjoint (blkR s).set (blkR t).set := by
  rw [Finset.disjoint_left]
  intro i h1 h2
  rw [mem_blkR] at h1 h2
  exact h (Fin.ext (h1.symm.trans h2))
theorem blkR_univ : (Finset.univ : Finset (Fin 4)).biUnion (fun t => (blkR t).set) = Finset.univ := by
  ext i
  simp only [Finset.mem_biUnion, Finset.mem_univ, true_and, iff_true]
  have h0 : (i 0).val < 256 := (i 0).isLt
  exact ⟨⟨(i 0).val / 64, by omega⟩, (mem_blkR _ i).mpr rfl⟩

theorem ent_eq_assoc (a b c d : sProp 𝕄) : (iprop(a ∗ b ∗ c ∗ d) : sProp 𝕄) = iprop((a ∗ b) ∗ (c ∗ d)) := by ac_rfl

/-! ## The buffers cut into their pieces, and joined again -/

theorem some_mono {ℓ : Loc nD τ sig} {A : sProp 𝕄} {g : Buf (Elt F) ℓ → sProp 𝕄} (f : Buf (Elt F) ℓ) (h : A = g f) : A ⊢ iprop(∃ f, g f) := by
  rw [h]; iintro H; iexists f; iexact H

theorem kb_cut (c : Dev nD) : (iprop(∃ f, ((c : Thread nD τ).loc cc0_scratch0) ↦{full} f) : sProp 𝕄) ⊢ bigSep Finset.univ (fun b : Fin 2 × Fin 8 => (iprop(∃ f, kvPts 0 b.1 b.2 c f) : sProp 𝕄)) := by
  have h : ∀ f, (((c : Thread nD τ).loc cc0_scratch0) ↦{full} f : sProp 𝕄) ⊢ bigSep Finset.univ (fun b : Fin 2 × Fin 8 => (iprop(∃ f, kvPts 0 b.1 b.2 c f) : sProp 𝕄)) := fun f =>
    ent_trans (Entails.of_eq (Ring.pointsTo_blocks (ℓ := ((c : Thread nD τ).loc cc0_scratch0)) (fun b : Fin 2 × Fin 8 => (kvR b.1 b.2).set) kvR_disj kvR_univ f))
      (bigSep_mono (fun (b : Fin 2 × Fin 8) _ => show (((c : Thread nD τ).loc cc0_scratch0) ↦[(kvR b.1 b.2).set]{full} f : sProp 𝕄) ⊢ iprop(∃ f, kvPts 0 b.1 b.2 c f) from some_mono (ℓ := ((c : Thread nD τ).loc cc0_scratch0)) f (by unfold kvPts; rw [kvDst0_set]; rfl)))
  iintro ⟨%f, H⟩
  iapply (h f); iexact H
include m in
theorem kb_join (c : Dev nD) : bigSep Finset.univ (fun b : Fin 2 × Fin 8 => (iprop(∃ f, kvPts 0 b.1 b.2 c f) : sProp 𝕄)) ⊢ (iprop(∃ f, ((c : Thread nD τ).loc cc0_scratch0) ↦{full} f) : sProp 𝕄) := by
  refine ent_trans (bigSep_mono (fun (b : Fin 2 × Fin 8) _ => show (iprop(∃ f, kvPts 0 b.1 b.2 c f) : sProp 𝕄) ⊢ iprop(∃ f, ((c : Thread nD τ).loc cc0_scratch0) ↦[(kvR b.1 b.2).set]{full} f) from ?_)) (Ring.pointsTo_blocks_join_exists (ℓ := ((c : Thread nD τ).loc cc0_scratch0)) (fun b : Fin 2 × Fin 8 => (kvR b.1 b.2).set) kvR_disj kvR_univ (m ((c : Thread nD τ).loc cc0_scratch0)))
  iintro ⟨%f, H⟩
  iexists f
  iapply (Entails.of_eq (show (kvPts 0 b.1 b.2 c f : sProp 𝕄) = (((c : Thread nD τ).loc cc0_scratch0) ↦[(kvR b.1 b.2).set]{full} f) from by unfold kvPts; rw [kvDst0_set]; rfl)) $$ H

theorem vb_cut (c : Dev nD) : (iprop(∃ f, ((c : Thread nD τ).loc cc0_scratch1) ↦{full} f) : sProp 𝕄) ⊢ bigSep Finset.univ (fun b : Fin 2 × Fin 8 => (iprop(∃ f, kvPts 1 b.1 b.2 c f) : sProp 𝕄)) := by
  have h : ∀ f, (((c : Thread nD τ).loc cc0_scratch1) ↦{full} f : sProp 𝕄) ⊢ bigSep Finset.univ (fun b : Fin 2 × Fin 8 => (iprop(∃ f, kvPts 1 b.1 b.2 c f) : sProp 𝕄)) := fun f =>
    ent_trans (Entails.of_eq (Ring.pointsTo_blocks (ℓ := ((c : Thread nD τ).loc cc0_scratch1)) (fun b : Fin 2 × Fin 8 => (kvR b.1 b.2).set) kvR_disj kvR_univ f))
      (bigSep_mono (fun (b : Fin 2 × Fin 8) _ => show (((c : Thread nD τ).loc cc0_scratch1) ↦[(kvR b.1 b.2).set]{full} f : sProp 𝕄) ⊢ iprop(∃ f, kvPts 1 b.1 b.2 c f) from some_mono (ℓ := ((c : Thread nD τ).loc cc0_scratch1)) f (by unfold kvPts; rw [kvDst1_set]; rfl)))
  iintro ⟨%f, H⟩
  iapply (h f); iexact H
include m in
theorem vb_join (c : Dev nD) : bigSep Finset.univ (fun b : Fin 2 × Fin 8 => (iprop(∃ f, kvPts 1 b.1 b.2 c f) : sProp 𝕄)) ⊢ (iprop(∃ f, ((c : Thread nD τ).loc cc0_scratch1) ↦{full} f) : sProp 𝕄) := by
  refine ent_trans (bigSep_mono (fun (b : Fin 2 × Fin 8) _ => show (iprop(∃ f, kvPts 1 b.1 b.2 c f) : sProp 𝕄) ⊢ iprop(∃ f, ((c : Thread nD τ).loc cc0_scratch1) ↦[(kvR b.1 b.2).set]{full} f) from ?_)) (Ring.pointsTo_blocks_join_exists (ℓ := ((c : Thread nD τ).loc cc0_scratch1)) (fun b : Fin 2 × Fin 8 => (kvR b.1 b.2).set) kvR_disj kvR_univ (m ((c : Thread nD τ).loc cc0_scratch1)))
  iintro ⟨%f, H⟩
  iexists f
  iapply (Entails.of_eq (show (kvPts 1 b.1 b.2 c f : sProp 𝕄) = (((c : Thread nD τ).loc cc0_scratch1) ↦[(kvR b.1 b.2).set]{full} f) from by unfold kvPts; rw [kvDst1_set]; rfl)) $$ H

theorem pb_cut (c : Dev nD) : (iprop(∃ f, ((c : Thread nD τ).loc cc0_scratch2) ↦{full} f) : sProp 𝕄) ⊢ bigSep Finset.univ (fun b : Fin 4 => (iprop(∃ f, blkPts b c f) : sProp 𝕄)) := by
  have h : ∀ f, (((c : Thread nD τ).loc cc0_scratch2) ↦{full} f : sProp 𝕄) ⊢ bigSep Finset.univ (fun b : Fin 4 => (iprop(∃ f, blkPts b c f) : sProp 𝕄)) := fun f =>
    ent_trans (Entails.of_eq (Ring.pointsTo_blocks (ℓ := ((c : Thread nD τ).loc cc0_scratch2)) (fun b : Fin 4 => (blkR b).set) blkR_disj blkR_univ f))
      (bigSep_mono (fun (b : Fin 4) _ => show (((c : Thread nD τ).loc cc0_scratch2) ↦[(blkR b).set]{full} f : sProp 𝕄) ⊢ iprop(∃ f, blkPts b c f) from some_mono (ℓ := ((c : Thread nD τ).loc cc0_scratch2)) f (by unfold blkPts; rw [blk_set])))
  iintro ⟨%f, H⟩
  iapply (h f); iexact H
include m in
theorem pb_join (c : Dev nD) : bigSep Finset.univ (fun b : Fin 4 => (iprop(∃ f, blkPts b c f) : sProp 𝕄)) ⊢ (iprop(∃ f, ((c : Thread nD τ).loc cc0_scratch2) ↦{full} f) : sProp 𝕄) := by
  refine ent_trans (bigSep_mono (fun (b : Fin 4) _ => show (iprop(∃ f, blkPts b c f) : sProp 𝕄) ⊢ iprop(∃ f, ((c : Thread nD τ).loc cc0_scratch2) ↦[(blkR b).set]{full} f) from ?_)) (Ring.pointsTo_blocks_join_exists (ℓ := ((c : Thread nD τ).loc cc0_scratch2)) (fun b : Fin 4 => (blkR b).set) blkR_disj blkR_univ (m ((c : Thread nD τ).loc cc0_scratch2)))
  iintro ⟨%f, H⟩
  iexists f
  iapply (Entails.of_eq (show (blkPts b c f : sProp 𝕄) = (((c : Thread nD τ).loc cc0_scratch2) ↦[(blkR b).set]{full} f) from by unfold blkPts; rw [blk_set])) $$ H

theorem pr_cut (c : Dev nD) : (iprop(∃ f, ((c : Thread nD τ).loc cc0_scratch2) ↦{full} f) : sProp 𝕄) ⊢ bigSep Finset.univ (fun b : Fin 16 => (iprop(∃ f, pPts b c f) : sProp 𝕄)) := by
  have h : ∀ f, (((c : Thread nD τ).loc cc0_scratch2) ↦{full} f : sProp 𝕄) ⊢ bigSep Finset.univ (fun b : Fin 16 => (iprop(∃ f, pPts b c f) : sProp 𝕄)) := fun f =>
    ent_trans (Entails.of_eq (Ring.pointsTo_blocks (ℓ := ((c : Thread nD τ).loc cc0_scratch2)) (fun b : Fin 16 => (rowR b).set) (fun _ _ h => rowR_disj h) rows_univ f))
      (bigSep_mono (fun (b : Fin 16) _ => show (((c : Thread nD τ).loc cc0_scratch2) ↦[(rowR b).set]{full} f : sProp 𝕄) ⊢ iprop(∃ f, pPts b c f) from some_mono (ℓ := ((c : Thread nD τ).loc cc0_scratch2)) f (by unfold pPts; rw [pChunk_set])))
  iintro ⟨%f, H⟩
  iapply (h f); iexact H
include m in
theorem pr_join (c : Dev nD) : bigSep Finset.univ (fun b : Fin 16 => (iprop(∃ f, pPts b c f) : sProp 𝕄)) ⊢ (iprop(∃ f, ((c : Thread nD τ).loc cc0_scratch2) ↦{full} f) : sProp 𝕄) := by
  refine ent_trans (bigSep_mono (fun (b : Fin 16) _ => show (iprop(∃ f, pPts b c f) : sProp 𝕄) ⊢ iprop(∃ f, ((c : Thread nD τ).loc cc0_scratch2) ↦[(rowR b).set]{full} f) from ?_)) (Ring.pointsTo_blocks_join_exists (ℓ := ((c : Thread nD τ).loc cc0_scratch2)) (fun b : Fin 16 => (rowR b).set) (fun _ _ h => rowR_disj h) rows_univ (m ((c : Thread nD τ).loc cc0_scratch2)))
  iintro ⟨%f, H⟩
  iexists f
  iapply (Entails.of_eq (show (pPts b c f : sProp 𝕄) = (((c : Thread nD τ).loc cc0_scratch2) ↦[(rowR b).set]{full} f) from by unfold pPts; rw [pChunk_set])) $$ H

theorem rb_cut (c : Dev nD) : (iprop(∃ f, ((c : Thread nD τ).loc cc0_scratch3) ↦{full} f) : sProp 𝕄) ⊢ bigSep Finset.univ (fun b : Fin 16 => (iprop(∃ f, rPts b c f) : sProp 𝕄)) := by
  have h : ∀ f, (((c : Thread nD τ).loc cc0_scratch3) ↦{full} f : sProp 𝕄) ⊢ bigSep Finset.univ (fun b : Fin 16 => (iprop(∃ f, rPts b c f) : sProp 𝕄)) := fun f =>
    ent_trans (Entails.of_eq (Ring.pointsTo_blocks (ℓ := ((c : Thread nD τ).loc cc0_scratch3)) (fun b : Fin 16 => (slotR b).set) slotR_disj slotR_univ f))
      (bigSep_mono (fun (b : Fin 16) _ => show (((c : Thread nD τ).loc cc0_scratch3) ↦[(slotR b).set]{full} f : sProp 𝕄) ⊢ iprop(∃ f, rPts b c f) from some_mono (ℓ := ((c : Thread nD τ).loc cc0_scratch3)) f (by unfold rPts; rw [rSlot_set])))
  iintro ⟨%f, H⟩
  iapply (h f); iexact H
include m in
theorem rb_join (c : Dev nD) : bigSep Finset.univ (fun b : Fin 16 => (iprop(∃ f, rPts b c f) : sProp 𝕄)) ⊢ (iprop(∃ f, ((c : Thread nD τ).loc cc0_scratch3) ↦{full} f) : sProp 𝕄) := by
  refine ent_trans (bigSep_mono (fun (b : Fin 16) _ => show (iprop(∃ f, rPts b c f) : sProp 𝕄) ⊢ iprop(∃ f, ((c : Thread nD τ).loc cc0_scratch3) ↦[(slotR b).set]{full} f) from ?_)) (Ring.pointsTo_blocks_join_exists (ℓ := ((c : Thread nD τ).loc cc0_scratch3)) (fun b : Fin 16 => (slotR b).set) slotR_disj slotR_univ (m ((c : Thread nD τ).loc cc0_scratch3)))
  iintro ⟨%f, H⟩
  iexists f
  iapply (Entails.of_eq (show (rPts b c f : sProp 𝕄) = (((c : Thread nD τ).loc cc0_scratch3) ↦[(slotR b).set]{full} f) from by unfold rPts; rw [rSlot_set])) $$ H

theorem gb_cut (c : Dev nD) : (iprop(∃ f, ((c : Thread nD τ).loc cc0_scratch4) ↦{full} f) : sProp 𝕄) ⊢ bigSep Finset.univ (fun b : Fin 16 => (iprop(∃ f, gPts full b c f) : sProp 𝕄)) := by
  have h : ∀ f, (((c : Thread nD τ).loc cc0_scratch4) ↦{full} f : sProp 𝕄) ⊢ bigSep Finset.univ (fun b : Fin 16 => (iprop(∃ f, gPts full b c f) : sProp 𝕄)) := fun f =>
    ent_trans (Entails.of_eq (Ring.pointsTo_blocks (ℓ := ((c : Thread nD τ).loc cc0_scratch4)) (fun b : Fin 16 => (rowR b).set) (fun _ _ h => rowR_disj h) rows_univ f))
      (bigSep_mono (fun (b : Fin 16) _ => show (((c : Thread nD τ).loc cc0_scratch4) ↦[(rowR b).set]{full} f : sProp 𝕄) ⊢ iprop(∃ f, gPts full b c f) from some_mono (ℓ := ((c : Thread nD τ).loc cc0_scratch4)) f (by unfold gPts; rw [gRows_set])))
  iintro ⟨%f, H⟩
  iapply (h f); iexact H
include m in
theorem gb_join (c : Dev nD) : bigSep Finset.univ (fun b : Fin 16 => (iprop(∃ f, gPts full b c f) : sProp 𝕄)) ⊢ (iprop(∃ f, ((c : Thread nD τ).loc cc0_scratch4) ↦{full} f) : sProp 𝕄) := by
  refine ent_trans (bigSep_mono (fun (b : Fin 16) _ => show (iprop(∃ f, gPts full b c f) : sProp 𝕄) ⊢ iprop(∃ f, ((c : Thread nD τ).loc cc0_scratch4) ↦[(rowR b).set]{full} f) from ?_)) (Ring.pointsTo_blocks_join_exists (ℓ := ((c : Thread nD τ).loc cc0_scratch4)) (fun b : Fin 16 => (rowR b).set) (fun _ _ h => rowR_disj h) rows_univ (m ((c : Thread nD τ).loc cc0_scratch4)))
  iintro ⟨%f, H⟩
  iexists f
  iapply (Entails.of_eq (show (gPts full b c f : sProp 𝕄) = (((c : Thread nD τ).loc cc0_scratch4) ↦[(rowR b).set]{full} f) from by unfold gPts; rw [gRows_set])) $$ H

/-! ## The two arrays the keys and values are fetched from -/

/-- Device `d`'s heads' part, for query block `q`, of device `c`'s copy of the array. -/
def srcAt (kv : Fin 2) (q : Fin 4) (h : Fin 8) (d c : Dev nD) : sProp 𝕄 :=
  (kvSrc kv q h d).view.loc (c : Thread nD τ) ↦[(kvSrc kv q h d).view.set]{full} m ((kvSrc kv q h d).view.loc (c : Thread nD τ))
def srcOwn (kv : Fin 2) (c : Dev nD) : sProp 𝕄 := bigSep Finset.univ (fun p : Fin 4 × Fin 8 => srcPts m kv p.1 p.2 c)
/-- The other devices' heads, which the body doesn't read. -/
def srcRest (kv : Fin 2) (c : Dev nD) : sProp 𝕄 := bigSep (Finset.univ.erase c) (fun d : Dev nD => bigSep Finset.univ (fun p : Fin 4 × Fin 8 => srcAt m kv p.1 p.2 d c))

theorem src_all (kv : Fin 2) (c : Dev nD) :
    bigSep Finset.univ (fun a : Fin 16 × Fin 4 × Fin 8 => srcAt m kv a.2.1 a.2.2 a.1 c) = iprop(srcOwn m kv c ∗ srcRest m kv c) := by
  rw [bigSep_univ_prod (fun a : Fin 16 × Fin 4 × Fin 8 => srcAt m kv a.2.1 a.2.2 a.1 c), bigSep_er (Finset.mem_univ c)]
  rfl
theorem src0 (c : Dev nD) : ((c : Thread nD τ).loc main_arg2 ↦{full} m ((c : Thread nD τ).loc main_arg2) : sProp 𝕄) = iprop(srcOwn m 0 c ∗ srcRest m 0 c) := by
  rw [← src_all, Ring.pointsTo_blocks (ℓ := (c : Thread nD τ).loc main_arg2) (fun b : Fin 16 × Fin 4 × Fin 8 => (srcR b.2.1 b.2.2 b.1).set) srcR_disj srcR_univ (m ((c : Thread nD τ).loc main_arg2))]
  refine bigSep_congr (fun b _ => ?_)
  unfold srcAt; rw [kvSrc0_set]; rfl
theorem src1 (c : Dev nD) : ((c : Thread nD τ).loc main_arg3 ↦{full} m ((c : Thread nD τ).loc main_arg3) : sProp 𝕄) = iprop(srcOwn m 1 c ∗ srcRest m 1 c) := by
  rw [← src_all, Ring.pointsTo_blocks (ℓ := (c : Thread nD τ).loc main_arg3) (fun b : Fin 16 × Fin 4 × Fin 8 => (srcR b.2.1 b.2.2 b.1).set) srcR_disj srcR_univ (m ((c : Thread nD τ).loc main_arg3))]
  refine bigSep_congr (fun b _ => ?_)
  unfold srcAt; rw [kvSrc1_set]; rfl
/-- The pieces in the order the fetches take them: two rounds of each slot. -/
theorem srcOwn_eq (kv : Fin 2) (c : Dev nD) :
    srcOwn m kv c = iprop((bigSep Finset.univ (fun h => srcPts m kv (qbOf 0 0) h c) ∗ bigSep Finset.univ (fun h => srcPts m kv (qbOf 0 1) h c))
      ∗ (bigSep Finset.univ (fun h => srcPts m kv (qbOf 1 0) h c) ∗ bigSep Finset.univ (fun h => srcPts m kv (qbOf 1 1) h c))) := by
  unfold srcOwn
  rw [bigSep_univ_prod, bigSep_univ_eq_bigSepL [qbOf 0 0, qbOf 0 1, qbOf 1 0, qbOf 1 1] (by decide) (by decide)]
  exact ent_eq_assoc _ _ _ _

end Cert.KProof

end
-- ==== Proof.Ghost.lean ====
/-
The start and the end of the protocol: every semaphore of every device becomes a cell, the tokens are dealt to the devices
that spend them, the launch gives each device the credits of what the others owe it, and at the end the cells are closed.
-/
module

public import proofs.«01_k».proof.Proof.Pieces

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the cells of one device -/

theorem sep_emp_eq (P : sProp 𝕄) : iprop(P ∗ emp) = P := equiv_iff.mp BI.sep_emp
theorem emp_sep_eq (P : sProp 𝕄) : iprop(emp ∗ P) = P := equiv_iff.mp BI.emp_sep

theorem ci_sum (Φ : CI → sProp 𝕄) : bigSep Finset.univ Φ
    = iprop(Φ bI ∗ bigSep Finset.univ (fun p : Fin 2 × Fin 2 => Φ (.inr (.inl p)))
        ∗ (bigSep Finset.univ (fun t => Φ (xI 0 t)) ∗ bigSep Finset.univ (fun t => Φ (xI 1 t)) ∗ bigSep Finset.univ (fun t => Φ (xI 2 t)) ∗ bigSep Finset.univ (fun t => Φ (xI 3 t)))) := by
  rw [bigSep_univ_sum, bigSep_univ_sum (fun b => Φ (.inr b)), bigSep_univ_prod (fun p : Fin 4 × Fin 16 => Φ (.inr (.inr p))),
    bigSep_univ_eq_bigSepL [(0 : Fin 4), 1, 2, 3] (by decide) (by decide)]
  rw [bigSep_univ_eq_bigSepL [()] (by decide) (by decide)]
  rfl

/-- A sum without device `c`'s own term, written over the fifteen distances. -/
theorem others_sum (c : Dev nD) (Φ : Dev nD → sProp 𝕄) :
    bigSep Finset.univ (fun t => if t = c then iprop(emp) else Φ t) = bigSep (Finset.Ico 1 16) (fun o => Φ (peer c o)) := by
  rw [bigSep_er (Finset.mem_univ c), if_pos rfl, emp_sep_eq, ← bigSep_peer c Φ]
  exact bigSep_congr fun t ht => if_neg (Finset.ne_of_mem_erase ht)

/-! ## The tokens, by the cell they belong to and by the device that spends them -/

/-- The tokens of device `c`'s cell `i`. -/
def tokI (c : Dev nD) (i : CI) : sProp 𝕄 :=
  iprop(bigSep (dutI c i 0) (fun d => dutyTok ER (cell c i) 0 d) ∗ bigSep (dutI c i 1) (fun d => dutyTok ER (cell c i) 1 d))
def toks (c : Dev nD) : sProp 𝕄 := bigSep Finset.univ (tokI c)

def tB (c d : Dev nD) : sProp 𝕄 := if d = c then iprop(emp) else dutyTok ER (cell c bI) 0 d
def tX (a : Fin 4) (c t : Dev nD) : sProp 𝕄 := if t = c then iprop(emp) else dutyTok ER (cell c (xI a t)) 0 0
def tK (c : Dev nD) : sProp 𝕄 := bigSep Finset.univ (fun p : Fin 2 × Fin 2 => tokI c (.inr (.inl p)))

theorem tokI_bar (c : Dev nD) : (tokI c bI : sProp 𝕄) = bigSep Finset.univ (tB c) := by
  unfold tokI
  rw [show dutI c bI 0 = Finset.univ.erase c from rfl, show dutI c bI 1 = ∅ from rfl, bigSep_empty, bigSep_er (Finset.mem_univ c) (tB c),
    show (tB c c : sProp 𝕄) = iprop(emp) from if_pos rfl, emp_sep_eq]
  refine (sep_emp_eq _).trans (bigSep_congr fun d hd => ?_)
  exact (if_neg (Finset.ne_of_mem_erase hd)).symm

theorem tokI_x (c : Dev nD) (a : Fin 4) (t : Fin 16) : (tokI c (xI a t) : sProp 𝕄) = tX a c t := by
  unfold tokI tX
  rw [show dutI c (xI a t) 1 = ∅ from by simp [dutI], bigSep_empty]
  refine (sep_emp_eq _).trans ?_
  by_cases h : t = c
  · rw [if_pos h, show dutI c (xI a t) 0 = ∅ from by simp [dutI, h], bigSep_empty]; rfl
  · rw [if_neg h, show dutI c (xI a t) 0 = {0} from by simp [dutI, h]]; exact bigSep_singleton

theorem toks_eq (c : Dev nD) : (toks c : sProp 𝕄)
    = iprop(bigSep Finset.univ (tB c) ∗ tK c ∗ (bigSep Finset.univ (tX 0 c) ∗ bigSep Finset.univ (tX 1 c) ∗ bigSep Finset.univ (tX 2 c) ∗ bigSep Finset.univ (tX 3 c))) := by
  unfold toks
  rw [ci_sum, tokI_bar]
  simp only [tokI_x]
  rfl

/-- The tokens device `c` spends. -/
def payToks (c : Dev nD) : sProp 𝕄 :=
  iprop(bigSep Finset.univ (fun d => tB d c) ∗ tK c ∗ (bigSep Finset.univ (tX 0 c) ∗ bigSep Finset.univ (fun t => tX 1 t c) ∗ bigSep Finset.univ (tX 2 c) ∗ bigSep Finset.univ (fun t => tX 3 t c)))

theorem toks_around : (bigSep Finset.univ fun c : Dev nD => (toks c : sProp 𝕄)) = bigSep Finset.univ fun c : Dev nD => payToks c := by
  simp only [toks_eq]
  unfold payToks
  simp only [bigSep_sp]
  rw [bigSep_univ_comm' Finset.univ Finset.univ (fun c d : Dev nD => (tB c d : sProp 𝕄)), bigSep_univ_comm' Finset.univ Finset.univ (fun c d : Dev nD => (tX 1 c d : sProp 𝕄)),
    bigSep_univ_comm' Finset.univ Finset.univ (fun c d : Dev nD => (tX 3 c d : sProp 𝕄))]

/-! ## Every cell and token -/

def kCells : Finset (GSem nD τ sig) := Finset.univ.map ⟨fun p : Dev nD × CI => cell p.1 p.2, cell_inj⟩

abbrev TI : Type := (Dev nD × CI) × (Fin 2 × D)
def tokOf (x : TI) : GSem nD τ sig × ℕ × D := (cell x.1.1 x.1.2, x.2.1.val, x.2.2)
theorem tokOf_inj : Function.Injective tokOf := fun x y h => by
  have h1 : x.1 = y.1 := cell_inj (congrArg (fun z : GSem nD τ sig × ℕ × D => z.1) h)
  have h2 : x.2.1 = y.2.1 := Fin.ext (congrArg (fun z : GSem nD τ sig × ℕ × D => z.2.1) h)
  have h3 : x.2.2 = y.2.2 := congrArg (fun z : GSem nD τ sig × ℕ × D => z.2.2) h
  exact Prod.ext h1 (Prod.ext h2 h3)
def kToks : Finset (GSem nD τ sig × ℕ × D) := (Finset.univ.filter fun x : TI => x.2.2 ∈ dutI x.1.1 x.1.2 x.2.1.val).map ⟨tokOf, tokOf_inj⟩

theorem kCells_sum (Φ : GSem nD τ sig → sProp 𝕄) : bigSep kCells Φ = bigSep Finset.univ fun c : Dev nD => bigSep Finset.univ fun i : CI => Φ (cell c i) := by
  unfold kCells; rw [bigSep_map, bigSep_univ_prod]; rfl

theorem mem_sum (s : Finset D) (Φ : D → sProp 𝕄) : bigSep Finset.univ (fun d => if d ∈ s then Φ d else iprop(emp)) = bigSep s Φ := by
  refine (bigSep_filter Finset.univ (fun d => d ∈ s) Φ).symm.trans ?_
  exact congrArg (fun S => bigSep S Φ) (by ext d; simp)

theorem kToks_sum : bigSep kToks (fun x => (dutyTok ER x.1 x.2.1 x.2.2 : sProp 𝕄)) = bigSep Finset.univ fun c : Dev nD => toks c := by
  unfold kToks
  rw [bigSep_map, bigSep_filter, bigSep_univ_prod, bigSep_univ_prod (fun p : Dev nD × CI => _)]
  refine bigSep_congr fun c _ => ?_
  unfold toks
  refine bigSep_congr fun i _ => ?_
  rw [bigSep_univ_prod, bigSep_univ_eq_bigSepL [(0 : Fin 2), 1] (by decide) (by decide)]
  unfold tokI
  rw [← mem_sum (dutI c i 0), ← mem_sum (dutI c i 1)]
  rfl

def u₀ : UU :=
  (initOf (Pipeline.cells cfgs cellOf_inj) (Pipeline.launchToks cfgs cellOf_inj), initOf kCells kToks)

/-- What the launch deals device `c`. -/
def G (c : Dev nD) : sProp 𝕄 :=
  iprop((bigSep Finset.univ fun i : CI => roundState ER (rd m) (cell c i) 0)
    ∗ (bigSep Finset.univ fun i : CI => reached ER (cell c i) 0) ∗ (bigSep Finset.univ fun i : CI => atPos ER (cell c i) 0 ∅ 0) ∗ toks c)

theorem fund_cells : BI.own (ER (initOf kCells kToks)) ⊢ (|==> bigSep Finset.univ (G m) : sProp 𝕄) := by
  iintro HX
  imod (Rounds.fund ER (rd m) kCells kToks) $$ HX with ⟨Hst, Hr, Hat, Htok⟩
  imodintro
  ihave Hst' := (Entails.of_eq (kCells_sum fun g => roundState ER (rd m) g 0)) $$ Hst
  ihave Hat' := (Entails.of_eq (kCells_sum fun g => atPos ER g 0 ∅ 0)) $$ Hat
  ihave Hr' := (Entails.of_eq (kCells_sum fun g => reached ER g 0)) $$ Hr
  ihave Htok' := (Entails.of_eq kToks_sum) $$ Htok
  unfold G; simp only [bigSep_sp]
  isplitl [Hst']; · iexact Hst'
  isplitl [Hr']; · iexact Hr'
  isplitl [Hat']; · iexact Hat'
  iexact Htok'

/-! ## The semaphores -/

def osem (j : (Fin 2 × Fin 2) ⊕ (Fin 4 × Fin 16)) : SemLoc sig := semOf (.inr j)

theorem unscopedSems0_eq (c : Dev nD) : (unscopedSems0 c : sProp 𝕄) = semVal (cell c bI) 0 := by
  unfold unscopedSems0; rw [bigSep_eq_bigSepL_of_eq [SemLoc.reg barS] (by decide) (by decide)]; rfl

theorem sems_eq (c : Dev nD) :
    iprop(unscopedSems0 c ∗ Pipeline.ownSems0 (Ix := Unit) (Name := ℕ) (U := UU) (Lvl := ℕ) (Val := Elt F) (τ := τ) osem c)
      = (bigSep Finset.univ fun i : CI => semVal (cell c i) 0 : sProp 𝕄) := by
  rw [unscopedSems0_eq, bigSep_univ_sum, bigSep_univ_eq_bigSepL [()] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (rd m) κ (cell c i)))
          ∗ (bigSep Finset.univ fun i : CI => reached ER (cell c i) 0) ∗ (bigSep Finset.univ fun i : CI => atPos ER (cell c i) 0 ∅ 0) ∗ toks c) := by
  unfold G
  iintro ⟨Hos, Hus, Hst, Hr, Hat, Htok⟩
  ihave Hv := (Entails.of_eq (sems_eq (F := F) c)) $$ [Hos Hus]
  · isplitl [Hus] <;> iassumption
  imod (show iprop((bigSep Finset.univ fun i : CI => semVal (cell c i) 0) ∗ bigSep Finset.univ fun i : CI => roundState ER (rd m) (cell c i) 0)
      ⊢ (|={Set.univ}=> bigSep Finset.univ fun i => iprop(∃ κ : ℕ, cellInv ER (rd m) κ (cell c i)) : sProp 𝕄) from by
        rw [← bigSep_sp]
        exact (bigSep_mono fun i _ => (Rounds.body_intro ER (rd m) (cell c i)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The records every device may look up. -/
def Recs (κ : Dev nD × CI → ℕ) : sProp 𝕄 :=
  iprop((bigSep Finset.univ fun p : Dev nD × CI => cellInv ER (rd m) (κ p) (cell p.1 p.2)) ∗ bigSep Finset.univ fun p : Dev nD × CI => reached ER (cell p.1 p.2) 0)
instance Recs_persistent (κ : Dev nD × CI → ℕ) : BI.Persistent (Recs m κ) := by unfold Recs; infer_instance

/-- What stays with device `c`. -/
def Lin (c : Dev nD) : sProp 𝕄 := iprop((bigSep Finset.univ fun i : CI => atPos ER (cell c i) 0 ∅ 0) ∗ payToks c)
def G' (c : Dev nD) : sProp 𝕄 := iprop(∃ κ, Recs m κ ∗ Lin c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sp]; exact bigSep_mono h)

theorem regroup :
    (bigSep Finset.univ fun c : Dev nD => iprop((bigSep Finset.univ fun i => iprop(∃ κ : ℕ, cellInv ER (rd m) κ (cell c i)))
          ∗ (bigSep Finset.univ fun i : CI => reached ER (cell c i) 0) ∗ (bigSep Finset.univ fun i : CI => atPos ER (cell c i) 0 ∅ 0) ∗ toks c) : sProp 𝕄)
      ⊢ bigSep Finset.univ (G' m) := by
  rw [bigSep_sp, bigSep_sp, bigSep_sp, toks_around, ← bigSep_univ_prod (fun p : Dev nD × CI => iprop(∃ κ : ℕ, cellInv ER (rd m) κ (cell p.1 p.2))),
    ← bigSep_univ_prod (fun p : Dev nD × CI => (reached ER (cell p.1 p.2) 0 : sProp 𝕄)), ← bigSep_sp]
  iintro ⟨HI, #HR, Hl⟩
  ihave HK := (BI.bigSep_exists_pi Finset.univ (fun (p : Dev nD × CI) (κ : ℕ) => (cellInv ER (rd m) κ (cell p.1 p.2) : sProp 𝕄))) $$ HI
  icases HK with ⟨%κ, #HI⟩
  have h : ∀ c ∈ (Finset.univ : Finset (Dev nD)), iprop(Recs m κ ∗ Lin c) ⊢ G' m c := fun c _ => by
    unfold G'; iintro H; iexists κ; iexact H
  iapply (with_persistent (R := Recs m κ) h)
  isplitr
  · unfold Recs; isplitl; · iexact HI
    iexact HR
  · iexact Hl

/-- All semaphores of all devices become the protocol's cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Closing the cells -/

theorem close_cells (κ : Dev nD × CI → ℕ) (c : Dev nD) :
    iprop(Recs m κ ∗ bigSep Finset.univ fun i : CI => atPos ER (cell c i) (lastR c i) ∅ 0)
      ⊢ (|={Set.univ}=> bigSep Finset.univ fun i : CI => semVal (cell c i) 0 : sProp 𝕄) := by
  have h : ∀ i ∈ (Finset.univ : Finset CI), iprop(Recs m κ ∗ atPos ER (cell c i) (lastR c i) ∅ 0) ⊢ (|={Set.univ}=> semVal (cell c i) 0 : sProp 𝕄) := fun i _ => by
    refine ent_trans (sep_mono_left ?_) (Rounds.cell_close ER (rd m) (κ := κ (c, i)) (Set.mem_univ _) (fun h => h) (R := lastR c i) (fun r hr => by rw [rd_duties]; exact dutI_last c i r hr))
    have h : (bigSep Finset.univ fun p : Dev nD × CI => (cellInv ER (rd m) (κ p) (cell p.1 p.2) : sProp 𝕄)) ⊢ cellInv ER (rd m) (κ (c, i)) (cell c i) :=
      bigSep_elim (Finset.mem_univ (c, i)) (Φ := fun p : Dev nD × CI => (cellInv ER (rd m) (κ p) (cell p.1 p.2) : sProp 𝕄))
    unfold Recs
    iintro ⟨H, -⟩
    iapply h; iexact H
  exact (with_persistent (R := Recs m κ) h).trans (bigSep_fupd _ _)

/-! ## The credits -/

theorem cell_eq_iff {a b : Dev nD} {i j : CI} : cell a i = cell b j ↔ a = b ∧ i = j :=
  ⟨fun h => ⟨congrArg Prod.fst (cell_inj (a₁ := (a, i)) (a₂ := (b, j)) h), congrArg Prod.snd (cell_inj (a₁ := (a, i)) (a₂ := (b, j)) h)⟩, fun ⟨h, h'⟩ => by rw [h, h']⟩

theorem tally_cell (a b : Dev nD) (i j : CI) (n : ℕ) : (tallyAt (cell a i) () n : CT) (cell b j) () = if b = a ∧ j = i then n else 0 := by
  rw [tallyAt_apply]
  by_cases h : b = a ∧ j = i
  · rw [if_pos h, if_pos ⟨cell_eq_iff.mpr h, rfl⟩]
  · rw [if_neg h, if_neg fun h' => h (cell_eq_iff.mp h'.1)]

theorem sum_at {I : Type} (s : Finset I) (T : I → CT) (g : GSem nD τ sig) : (∑ i ∈ s, T i) g () = ∑ i ∈ s, T i g () := by
  rw [Finset.sum_apply, Finsupp.finset_sum_apply]

/-- What device `d` owes a cell at the start. -/
theorem owed_at (d c : Dev nD) (i : CI) : O₀ d (cell c i) ()
    = (∑ o ∈ Finset.Ico 1 16, if c = peer d o ∧ i = bI then 1 else 0)
      + (∑ j ∈ Finset.Ico 0 16, if tg d j = d then 0 else if c = tg d j ∧ i = xI 1 d then NX else 0)
      + ∑ o ∈ Finset.Ico 1 16, if c = peer d o ∧ i = xI 3 d then NX else 0 := by
  unfold O₀ oAll oB oX oG
  rw [Pi.add_apply, Finsupp.add_apply, Pi.add_apply, Finsupp.add_apply, sum_at, sum_at, sum_at]
  refine congrArg₂ (· + ·) (congrArg₂ (· + ·) (Finset.sum_congr rfl fun o _ => tally_cell _ _ _ _ _) (Finset.sum_congr rfl fun j _ => ?_)) (Finset.sum_congr rfl fun o _ => tally_cell _ _ _ _ _)
  by_cases h : tg d j = d
  · rw [if_pos h, if_pos h]; rfl
  · rw [if_neg h, if_neg h]; exact tally_cell _ _ _ _ _

theorem cnt_bar : ∀ c : Dev nD, (∑ d : Dev nD, ∑ o ∈ Finset.Ico 1 16, if c = peer d o then 1 else 0) = 15 := by decide +kernel
theorem cnt_x1 : ∀ c t : Dev nD, (∑ d : Dev nD, ∑ j ∈ Finset.Ico 0 16, if tg d j = d then 0 else if c = tg d j ∧ t = d then 1 else 0) = if t = c then 0 else 1 := by decide +kernel
theorem cnt_x3 : ∀ c t : Dev nD, (∑ d : Dev nD, ∑ o ∈ Finset.Ico 1 16, if c = peer d o ∧ t = d then 1 else 0) = if t = c then 0 else 1 := by decide +kernel

theorem launch_bar (c : Dev nD) : ∑ d, O₀ d (cell c bI) () = 15 := by
  rw [← cnt_bar c]
  refine Finset.sum_congr rfl fun d _ => ?_
  rw [owed_at]
  simp

theorem launch_x1 (c t : Dev nD) : ∑ d, O₀ d (cell c (xI 1 t)) () = if t = c then 0 else NX := by
  have h := congrArg (fun n => NX * n) (cnt_x1 c t)
  simp only [Finset.mul_sum, mul_ite, Nat.mul_one, Nat.mul_zero] at h
  rw [← h]
  refine Finset.sum_congr rfl fun d _ => ?_
  rw [owed_at]
  simp

theorem launch_x3 (c t : Dev nD) : ∑ d, O₀ d (cell c (xI 3 t)) () = if t = c then 0 else NX := by
  have h := congrArg (fun n => NX * n) (cnt_x3 c t)
  simp only [Finset.mul_sum, mul_ite, Nat.mul_one, Nat.mul_zero] at h
  rw [← h]
  refine Finset.sum_congr rfl fun d _ => ?_
  rw [owed_at]
  simp

theorem tally_launch (c : Dev nD) (i : CI) (n : ℕ) (h : ∑ d, O₀ d (cell c i) () = n) :
    tallyOn (cell c i) (launchCredit (Pipeline.owing O₀) 0 (cell c i)) = (tallyAt (cell c i) () n : CT) := by
  unfold tallyAt; refine congrArg _ (Finsupp.ext fun u => ?_); cases u
  rw [Pipeline.launchCredit_owing, Finsupp.single_eq_same]; exact h

/-- The credits device `c` starts with. -/
def Creds (c : Dev nD) : sProp 𝕄 :=
  iprop(cred (tallyAt (cell c bI) () 15) ∗ bigSep (Finset.Ico 1 16) (fun o => cred (tallyAt (cell c (xI 1 (peer c o))) () NX))
    ∗ bigSep (Finset.Ico 1 16) (fun o => cred (tallyAt (cell c (xI 3 (peer c o))) () NX)))

theorem peer_ne' : ∀ (c : Fin 16) (o : Fin 16), 1 ≤ o.val → peer c o.val ≠ c := by decide

theorem creds (c : Dev nD) : (Pipeline.launchCred O₀ c : sProp 𝕄) ⊢ Creds c := by
  have hx (a : Fin 4) (h : ∀ t, ∑ d, O₀ d (cell c (xI a t)) () = if t = c then 0 else NX) :
      bigSep Finset.univ (fun t => (cred (tallyOn (cell c (xI a t)) (launchCredit (Pipeline.owing O₀) 0 (cell c (xI a t)))) : sProp 𝕄))
        ⊢ bigSep (Finset.Ico 1 16) (fun o => cred (tallyAt (cell c (xI a (peer c o))) () NX)) := by
    rw [bigSep_dev c]
    refine ent_trans (Q := bigSep (Finset.Ico 1 16) (fun o => (cred (tallyOn (cell c (xI a (peer c o))) (launchCredit (Pipeline.owing O₀) 0 (cell c (xI a (peer c o))))) : sProp 𝕄))) (by iintro ⟨-, H⟩; iexact H) (Entails.of_eq (bigSep_congr fun o ho => ?_))
    rw [tally_launch c (xI a (peer c o)) NX]
    rw [h, if_neg]
    have := Finset.mem_Ico.mp ho
    exact peer_ne' c ⟨o, this.2⟩ this.1
  unfold Pipeline.launchCred
  refine ent_trans (bigSep_subset (Finset.subset_univ (Finset.univ.image semOf))) ?_
  rw [bigSep_image (fun x _ y _ h => semOf_inj h), ci_sum]
  unfold Creds
  iintro ⟨Hb, -, -, H1, -, H3⟩
  isplitl [Hb]
  · rw [← tally_launch c bI 15 (launch_bar c)]; iexact Hb
  isplitl [H1]
  · iapply (hx 1 (launch_x1 c)); iexact H1
  · iapply (hx 3 (launch_x3 c)); iexact H3

end Cert.KProof

end
-- ==== Proof.Ends.lean ====
/-
From what the launch gives a device to what the body starts from, and from what the body ends with back to whole buffers
and semaphores at zero.
-/
module

public import proofs.«01_k».proof.Proof.Ghost

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Entering -/

theorem tokI_kv (c : Dev nD) (s k : Fin 2) : (tokI c (kvI s k) : sProp 𝕄)
    = iprop(bigSep (Finset.Ico 0 8) (fun h' => dutyTok ER (cell c (kvI s k)) 0 (d16 h')) ∗ bigSep (Finset.Ico 0 8) (fun h' => dutyTok ER (cell c (kvI s k)) 1 (d16 h'))) := by
  unfold tokI
  rw [show dutI c (kvI s k) 0 = (Finset.Ico 0 8).image d16 from img_kv c s k 0, show dutI c (kvI s k) 1 = (Finset.Ico 0 8).image d16 from img_kv c s k 1,
    bigSep_image inj_d8, bigSep_image inj_d8]

theorem sum22 (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ
theorem sum28 (Φ : Fin 2 × Fin 8 → sProp 𝕄) : bigSep Finset.univ Φ = iprop(bigSep Finset.univ (fun h => Φ (0, h)) ∗ bigSep Finset.univ (fun h => Φ (1, h))) := by
  rw [bigSep_univ_prod]; exact bigSep_univ_eq_bigSepL [0, 1] (by decide) (by decide) _

/-- The position and the tokens of one fetch cell. -/
def Kt (c : Dev nD) (s k : Fin 2) : sProp 𝕄 := iprop(atPos ER (cell c (kvI s k)) 0 ∅ 0 ∗ tokI c (kvI s k))

theorem lin_tk (c t : Dev nD) : iprop(atPos ER (cell c (xI 0 t)) 0 ∅ 0 ∗ tX 0 c t ∗ tX 1 t c) ⊢ (tk0 c t : sProp 𝕄) := by
  unfold tk0 tX
  by_cases h : t = c
  · rw [if_pos h, if_pos h, if_pos h.symm]
    iintro ⟨H, -, -⟩
    isplitl [H]; · iexact H
    iempintro
  · rw [if_neg h, if_neg h, if_neg (Ne.symm h)]

theorem tX_others (a : Fin 4) (c : Dev nD) : bigSep Finset.univ (tX a c) = bigSep (Finset.Ico 1 16) (fun o => (dutyTok ER (cell c (xI a (peer c o))) 0 0 : sProp 𝕄)) :=
  others_sum c (fun t => dutyTok ER (cell c (xI a t)) 0 0)
theorem tX_others' (a : Fin 4) (c : Dev nD) : bigSep Finset.univ (fun t => tX a t c) = bigSep (Finset.Ico 1 16) (fun o => (dutyTok ER (cell (peer c o) (xI a c)) 0 0 : sProp 𝕄)) := by
  rw [← others_sum c (fun t => dutyTok ER (cell t (xI a c)) 0 0)]
  refine bigSep_congr fun t _ => ?_
  unfold tX
  by_cases h : t = c
  · rw [if_pos h, if_pos h.symm]
  · rw [if_neg h, if_neg (Ne.symm h)]
theorem tB_others' (c : Dev nD) : bigSep Finset.univ (fun t => tB t c) = bigSep (Finset.Ico 1 16) (fun o => (dutyTok ER (cell (peer c o) bI) 0 c : sProp 𝕄)) := by
  rw [← others_sum c (fun t => dutyTok ER (cell t bI) 0 c)]
  refine bigSep_congr fun t _ => ?_
  unfold tB
  by_cases h : t = c
  · rw [if_pos h, if_pos h.symm]
  · rw [if_neg h, if_neg (Ne.symm h)]

/-- A device's positions and tokens, phase by phase. -/
theorem lin_split (c : Dev nD) : (Lin c : sProp 𝕄)
    ⊢ iprop((atPos ER (cell c bI) 0 ∅ 0 ∗ bigSep (Finset.Ico 1 16) (fun o => dutyTok ER (cell (peer c o) bI) 0 c))
      ∗ (Kt c 0 0 ∗ Kt c 0 1 ∗ Kt c 1 0 ∗ Kt c 1 1)
      ∗ bigSep Finset.univ (fun t => tk0 c t)
      ∗ (atPos ER (cell c (xI 1 c)) 0 ∅ 0 ∗ bigSep (Finset.Ico 1 16) (fun o => atPos ER (cell c (xI 1 (peer c o))) 0 ∅ 0))
      ∗ (atPos ER (cell c (xI 2 c)) 0 ∅ 0 ∗ bigSep (Finset.Ico 1 16) (fun o => gtok c o))
      ∗ (atPos ER (cell c (xI 3 c)) 0 ∅ 0 ∗ bigSep (Finset.Ico 1 16) (fun o => atPos ER (cell c (xI 3 (peer c o))) 0 ∅ 0))) := by
  have e0 : (Lin c : sProp 𝕄) = iprop((bigSep Finset.univ fun i : CI => atPos ER (cell c i) 0 ∅ 0)
      ∗ bigSep (Finset.Ico 1 16) (fun o => (dutyTok ER (cell (peer c o) bI) 0 c : sProp 𝕄)) ∗ (tokI c (kvI 0 0) ∗ tokI c (kvI 0 1) ∗ tokI c (kvI 1 0) ∗ tokI c (kvI 1 1))
      ∗ (bigSep Finset.univ (tX 0 c) ∗ bigSep Finset.univ (fun t => tX 1 t c) ∗ bigSep (Finset.Ico 1 16) (fun o => (dutyTok ER (cell c (xI 2 (peer c o))) 0 0 : sProp 𝕄))
        ∗ bigSep (Finset.Ico 1 16) (fun o => (dutyTok ER (cell (peer c o) (xI 3 c)) 0 0 : sProp 𝕄)))) := by
    unfold Lin payToks tK
    rw [sum22, tB_others', tX_others 2, tX_others' 3]
  have e1 : iprop(bigSep Finset.univ (fun t => atPos ER (cell c (xI 0 t)) 0 ∅ 0) ∗ bigSep Finset.univ (tX 0 c) ∗ bigSep Finset.univ (fun t => tX 1 t c)) ⊢ bigSep Finset.univ (fun t => (tk0 c t : sProp 𝕄)) := by
    rw [← bigSep_sp, ← bigSep_sp]
    have h : ∀ t ∈ (Finset.univ : Finset (Dev nD)), iprop(atPos ER (cell c (xI 0 t)) 0 ∅ 0 ∗ tX 0 c t ∗ tX 1 t c) ⊢ (tk0 c t : sProp 𝕄) := fun t _ => lin_tk c t
    exact bigSep_mono h
  have e2 : bigSep (Finset.Ico 1 16) (fun o => (gtok c o : sProp 𝕄)) = iprop(bigSep (Finset.Ico 1 16) (fun o => atPos ER (cell c (xI 2 (peer c o))) 0 ∅ 0)
      ∗ bigSep (Finset.Ico 1 16) (fun o => (dutyTok ER (cell c (xI 2 (peer c o))) 0 0 : sProp 𝕄)) ∗ bigSep (Finset.Ico 1 16) (fun o => (dutyTok ER (cell (peer c o) (xI 3 c)) 0 0 : sProp 𝕄))) := by
    unfold gtok
    rw [bigSep_sp, bigSep_sp]
  rw [e0, ci_sum, sum22, e2, bigSep_dev c (fun t => (atPos ER (cell c (xI 1 t)) 0 ∅ 0 : sProp 𝕄)), bigSep_dev c (fun t => (atPos ER (cell c (xI 2 t)) 0 ∅ 0 : sProp 𝕄)),
    bigSep_dev c (fun t => (atPos ER (cell c (xI 3 t)) 0 ∅ 0 : sProp 𝕄))]
  unfold Kt
  iintro ⟨⟨Ab, ⟨A00, A01, A10, A11⟩, A0, A1, A2, A3⟩, Tb, ⟨T00, T01, T10, T11⟩, T0, T1, T2, T3⟩
  isplitl [Ab Tb]; · isplitl [Ab] <;> iassumption
  isplitl [A00 T00 A01 T01 A10 T10 A11 T11]
  · isplitl [A00 T00]; · isplitl [A00] <;> iassumption
    isplitl [A01 T01]; · isplitl [A01] <;> iassumption
    isplitl [A10 T10]; · isplitl [A10] <;> iassumption
    isplitl [A11] <;> iassumption
  isplitl [A0 T0 T1]
  · iapply e1
    isplitl [A0]; · iexact A0
    isplitl [T0] <;> iassumption
  isplitl [A1]; · iexact A1
  icases A2 with ⟨A2, A2'⟩
  isplitl [A2 A2' T2 T3]
  · isplitl [A2]; · iexact A2
    isplitl [A2']; · iexact A2'
    isplitl [T2] <;> iassumption
  iexact A3

theorem kf_intro (κ : Dev nD × CI → ℕ) (c : Dev nD) (s kv : Fin 2) :
    iprop(Pers m κ ∗ Kt c s kv ∗ bigSep Finset.univ (fun h => (iprop(∃ f, kvPts kv s h c f) : sProp 𝕄)) ∗ bigSep Finset.univ (fun h => srcPts m kv (qbOf s 0) h c) ∗ bigSep Finset.univ (fun h => srcPts m kv (qbOf s 1) h c))
      ⊢ KF m c s kv 0 0 (KZ0 m c s kv) := by
  unfold KF KZ0 Kt
  rw [tokI_kv, bigSep_sp, bigSep_sp, bigSep_sp, ← bigSep_h8 (fun h => (iprop(∃ f, kvPts kv s h c f) : sProp 𝕄)), ← bigSep_h8 (fun h => srcPts m kv (qbOf s 0) h c), ← bigSep_h8 (fun h => srcPts m kv (qbOf s 1) h c),
    Finset.range_zero, bigSep_empty]
  iintro ⟨#HP, ⟨A, T0, T1⟩, B, S0, S1⟩
  isplitl [B S0 T0]
  · isplitl [B]; · iexact B
    isplitl [S0] <;> iassumption
  isplitr; · iempintro
  isplitl [A]; · iexact A
  isplitr; · iapply (Pers_reached m κ c (kvI s kv)); iexact HP
  isplitl [S1] <;> iassumption

/-- What is held from the start to the end untouched. -/
def Zc (c : Dev nD) : sProp 𝕄 :=
  iprop((atPos ER (cell c (xI 1 c)) 0 ∅ 0 ∗ atPos ER (cell c (xI 2 c)) 0 ∅ 0 ∗ atPos ER (cell c (xI 3 c)) 0 ∅ 0) ∗ (∃ f, rPts c c f) ∗ srcRest m 0 c ∗ srcRest m 1 c)

/-- The two arrays of keys and values, unchanged. -/
def Args (c : Dev nD) : sProp 𝕄 :=
  iprop(((c : Thread nD τ).loc main_arg2 ↦{full} m ((c : Thread nD τ).loc main_arg2)) ∗ ((c : Thread nD τ).loc main_arg3 ↦{full} m ((c : Thread nD τ).loc main_arg3)))

/-- The five scratch buffers at any contents. -/
def Scr (c : Dev nD) : sProp 𝕄 :=
  iprop((∃ f, ((c : Thread nD τ).loc cc0_scratch0) ↦{full} f) ∗ (∃ f, ((c : Thread nD τ).loc cc0_scratch1) ↦{full} f) ∗ (∃ f, ((c : Thread nD τ).loc cc0_scratch2) ↦{full} f)
    ∗ (∃ f, ((c : Thread nD τ).loc cc0_scratch3) ↦{full} f) ∗ (∃ f, ((c : Thread nD τ).loc cc0_scratch4) ↦{full} f))

theorem kb_cut2 (c : Dev nD) : (iprop(∃ f, ((c : Thread nD τ).loc cc0_scratch0) ↦{full} f) : sProp 𝕄)
    ⊢ iprop(bigSep Finset.univ (fun h => (iprop(∃ f, kvPts 0 0 h c f) : sProp 𝕄)) ∗ bigSep Finset.univ (fun h => (iprop(∃ f, kvPts 0 1 h c f) : sProp 𝕄))) :=
  ent_trans (kb_cut c) (Entails.of_eq (sum28 _))
theorem vb_cut2 (c : Dev nD) : (iprop(∃ f, ((c : Thread nD τ).loc cc0_scratch1) ↦{full} f) : sProp 𝕄)
    ⊢ iprop(bigSep Finset.univ (fun h => (iprop(∃ f, kvPts 1 0 h c f) : sProp 𝕄)) ∗ bigSep Finset.univ (fun h => (iprop(∃ f, kvPts 1 1 h c f) : sProp 𝕄))) :=
  ent_trans (vb_cut c) (Entails.of_eq (sum28 _))
theorem pb_cut2 (c : Dev nD) : (iprop(∃ f, ((c : Thread nD τ).loc cc0_scratch2) ↦{full} f) : sProp 𝕄)
    ⊢ bigSep (Finset.Ico 0 4) (fun q' => (iprop(∃ f, blkPts (q4 q') c f) : sProp 𝕄)) :=
  ent_trans (pb_cut c) (Entails.of_eq (bigSep_q4 _).symm)
theorem rb_cut2 (c : Dev nD) : (iprop(∃ f, ((c : Thread nD τ).loc cc0_scratch3) ↦{full} f) : sProp 𝕄)
    ⊢ iprop((∃ f, rPts c c f) ∗ bigSep (Finset.Ico 1 16) (fun o => (iprop(∃ f, rPts (peer c o) c f) : sProp 𝕄))) :=
  ent_trans (rb_cut c) (Entails.of_eq (bigSep_dev c (fun b => (iprop(∃ f, rPts b c f) : sProp 𝕄))))
theorem gb_cut2 (c : Dev nD) : (iprop(∃ f, ((c : Thread nD τ).loc cc0_scratch4) ↦{full} f) : sProp 𝕄)
    ⊢ iprop((∃ f, gPts full c c f) ∗ bigSep (Finset.Ico 1 16) (fun o => (iprop(∃ f, gPts full (peer c o) c f) : sProp 𝕄))) :=
  ent_trans (gb_cut c) (Entails.of_eq (bigSep_dev c (fun b => (iprop(∃ f, gPts full b c f) : sProp 𝕄))))
theorem args_cut (c : Dev nD) : Args m c = iprop((((bigSep Finset.univ (fun h => srcPts m 0 (qbOf 0 0) h c) ∗ bigSep Finset.univ (fun h => srcPts m 0 (qbOf 0 1) h c))
      ∗ (bigSep Finset.univ (fun h => srcPts m 0 (qbOf 1 0) h c) ∗ bigSep Finset.univ (fun h => srcPts m 0 (qbOf 1 1) h c))) ∗ srcRest m 0 c)
      ∗ (((bigSep Finset.univ (fun h => srcPts m 1 (qbOf 0 0) h c) ∗ bigSep Finset.univ (fun h => srcPts m 1 (qbOf 0 1) h c))
      ∗ (bigSep Finset.univ (fun h => srcPts m 1 (qbOf 1 0) h c) ∗ bigSep Finset.univ (fun h => srcPts m 1 (qbOf 1 1) h c))) ∗ srcRest m 1 c)) := by
  unfold Args
  rw [src0, src1, srcOwn_eq, srcOwn_eq]

theorem bs_intro (c : Dev nD) : iprop((atPos ER (cell c bI) 0 ∅ 0 ∗ bigSep (Finset.Ico 1 16) (fun o => dutyTok ER (cell (peer c o) bI) 0 c)) ∗ cred (tallyAt (cell c bI) () 15)
      ∗ bigSep (Finset.Ico 1 16) (fun o => (iprop(∃ f, rPts (peer c o) c f) : sProp 𝕄)) ∗ bigSep (Finset.Ico 1 16) (fun o => (iprop(∃ f, gPts full (peer c o) c f) : sProp 𝕄))) ⊢ BS c 1 := by
  unfold BS barPay
  rw [bigSep_sp, bigSep_sp]
  iintro ⟨⟨A, T⟩, C, R, G⟩
  isplitl [T R G]
  · isplitl [T]; · iexact T
    isplitl [R] <;> iassumption
  isplitl [C] <;> iassumption

theorem rw_intro (c : Dev nD) : iprop(bigSep (Finset.Ico 1 16) (fun o => cred (tallyAt (cell c (xI 1 (peer c o))) () NX)) ∗ bigSep (Finset.Ico 1 16) (fun o => atPos ER (cell c (xI 1 (peer c o))) 0 ∅ 0)) ⊢ RW m c 1 := by
  unfold RW
  rw [bigSep_sp, Finset.Ico_self, bigSep_empty]
  iintro ⟨C, A⟩
  isplitl
  · isplitl [C] <;> iassumption
  iempintro
theorem gw_intro (c : Dev nD) : iprop(bigSep (Finset.Ico 1 16) (fun o => cred (tallyAt (cell c (xI 3 (peer c o))) () NX)) ∗ bigSep (Finset.Ico 1 16) (fun o => atPos ER (cell c (xI 3 (peer c o))) 0 ∅ 0)) ⊢ GW m c 1 := by
  unfold GW
  rw [bigSep_sp, Finset.Ico_self, bigSep_empty]
  iintro ⟨C, A⟩
  isplitl
  · isplitl [C] <;> iassumption
  iempintro

/-- What the launch gives a device is what the kernel's body starts from. -/
theorem enter (κ : Dev nD × CI → ℕ) (c : Dev nD) :
    iprop(Pers m κ ∗ Ow c 1 0 1 ∗ Lin c ∗ Creds c ∗ XS m c ∗ Args m c ∗ Scr c)
      ⊢ St (Pers m κ) (Ow c 1 0 1) (BS c 1) (KF m c 0 0 0 0 (KZ0 m c 0 0)) (KF m c 0 1 0 0 (KZ0 m c 0 1)) (KF m c 1 0 0 0 (KZ0 m c 1 0)) (KF m c 1 1 0 0 (KZ0 m c 1 1)) (XS m c) (PS0 c) (RW m c 1) (GP0 c) (GW m c 1) (Zc m c) := by
  rw [args_cut]
  unfold St Creds Scr Zc PS0 GP0
  iintro ⟨#HP, HO, HL, ⟨Cb, C1, C3⟩, HX, ⟨⟨⟨⟨S000, S001⟩, S010, S011⟩, R0⟩, ⟨⟨S100, S101⟩, S110, S111⟩, R1⟩, Kb, Vb, Pb, Rb, Gb⟩
  ihave ⟨Lb, ⟨K00, K01, K10, K11⟩, L0, ⟨A1, L1⟩, ⟨A2, L2⟩, A3, L3⟩ := (lin_split c) $$ HL
  ihave ⟨Kb0, Kb1⟩ := (kb_cut2 c) $$ Kb
  ihave ⟨Vb0, Vb1⟩ := (vb_cut2 c) $$ Vb
  ihave Pb := (pb_cut2 c) $$ Pb
  ihave ⟨Ro, Rb⟩ := (rb_cut2 c) $$ Rb
  ihave ⟨Go, Gb⟩ := (gb_cut2 c) $$ Gb
  isplitr; · iexact HP
  isplitl [HO]; · iexact HO
  isplitl [Lb Cb Rb Gb]
  · iapply (bs_intro c)
    isplitl [Lb]; · iexact Lb
    isplitl [Cb]; · iexact Cb
    isplitl [Rb] <;> iassumption
  isplitl [K00 Kb0 S000 S001]
  · iapply (kf_intro m κ c 0 0)
    isplitr; · iexact HP
    isplitl [K00]; · iexact K00
    isplitl [Kb0]; · iexact Kb0
    isplitl [S000] <;> iassumption
  isplitl [K01 Vb0 S100 S101]
  · iapply (kf_intro m κ c 0 1)
    isplitr; · iexact HP
    isplitl [K01]; · iexact K01
    isplitl [Vb0]; · iexact Vb0
    isplitl [S100] <;> iassumption
  isplitl [K10 Kb1 S010 S011]
  · iapply (kf_intro m κ c 1 0)
    isplitr; · iexact HP
    isplitl [K10]; · iexact K10
    isplitl [Kb1]; · iexact Kb1
    isplitl [S010] <;> iassumption
  isplitl [K11 Vb1 S110 S111]
  · iapply (kf_intro m κ c 1 1)
    isplitr; · iexact HP
    isplitl [K11]; · iexact K11
    isplitl [Vb1]; · iexact Vb1
    isplitl [S110] <;> iassumption
  isplitl [HX]; · iexact HX
  isplitl [Pb L0]; · isplitl [Pb] <;> iassumption
  isplitl [C1 L1]
  · iapply (rw_intro m c); isplitl [C1] <;> iassumption
  isplitl [Go L2]; · isplitl [Go] <;> iassumption
  isplitl [C3 L3]
  · iapply (gw_intro m c); isplitl [C3] <;> iassumption
  isplitl [A1 A2 A3]
  · isplitl [A1]; · iexact A1
    isplitl [A2] <;> iassumption
  isplitl [Ro]; · iexact Ro
  isplitl [R0] <;> iassumption

/-! ## Leaving -/

theorem kl_elim (c : Dev nD) (s kv : Fin 2) : KL m c s kv 1 (KZ1 m c s kv)
    ⊢ iprop(bigSep Finset.univ (fun h => (iprop(∃ f, kvPts kv s h c f) : sProp 𝕄)) ∗ bigSep Finset.univ (fun h => srcPts m kv (qbOf s 0) h c) ∗ bigSep Finset.univ (fun h => srcPts m kv (qbOf s 1) h c)
      ∗ atPos ER (cell c (kvI s kv)) 2 ∅ 0) := by
  have h : bigSep Finset.univ (fun h => kvPts kv s h c (kvC m kv s (qbOf s 1) h c)) ⊢ bigSep Finset.univ (fun h => (iprop(∃ f, kvPts kv s h c f) : sProp 𝕄)) := by
    have h : ∀ h ∈ (Finset.univ : Finset (Fin 8)), kvPts kv s h c (kvC m kv s (qbOf s 1) h c) ⊢ (iprop(∃ f, kvPts kv s h c f) : sProp 𝕄) := fun h _ => by
      iintro H; iexists _; iexact H
    exact bigSep_mono h
  unfold KL KZ1
  rw [KL_pay m c s kv 1 (by decide), bigSep_h8 (fun h => kvPts kv s h c (kvC m kv s (qbOf s 1) h c)), bigSep_h8 (fun h => srcPts m kv (qbOf s 1) h c), bigSep_h8 (fun h => srcPts m kv (qbOf s 0) h c)]
  iintro ⟨⟨B, S1⟩, A, -, S0⟩
  isplitl [B]; · iapply h; iexact B
  isplitl [S0]; · iexact S0
  isplitl [S1] <;> iassumption

include m in
theorem kb_join2 (c : Dev nD) : iprop(bigSep Finset.univ (fun h => (iprop(∃ f, kvPts 0 0 h c f) : sProp 𝕄)) ∗ bigSep Finset.univ (fun h => (iprop(∃ f, kvPts 0 1 h c f) : sProp 𝕄)))
    ⊢ (iprop(∃ f, ((c : Thread nD τ).loc cc0_scratch0) ↦{full} f) : sProp 𝕄) :=
  ent_trans (Entails.of_eq (sum28 (fun b : Fin 2 × Fin 8 => (iprop(∃ f, kvPts 0 b.1 b.2 c f) : sProp 𝕄))).symm) (kb_join m c)
include m in
theorem vb_join2 (c : Dev nD) : iprop(bigSep Finset.univ (fun h => (iprop(∃ f, kvPts 1 0 h c f) : sProp 𝕄)) ∗ bigSep Finset.univ (fun h => (iprop(∃ f, kvPts 1 1 h c f) : sProp 𝕄)))
    ⊢ (iprop(∃ f, ((c : Thread nD τ).loc cc0_scratch1) ↦{full} f) : sProp 𝕄) :=
  ent_trans (Entails.of_eq (sum28 (fun b : Fin 2 × Fin 8 => (iprop(∃ f, kvPts 1 b.1 b.2 c f) : sProp 𝕄))).symm) (vb_join m c)

theorem ks_elim (c : Dev nD) : KS m c 16 ⊢ iprop(bigSep Finset.univ (fun t => atPos ER (cell c (xI 0 t)) (lastR c (xI 0 t)) ∅ 0) ∗ (∃ f, ((c : Thread nD τ).loc cc0_scratch2) ↦{full} f)) := by
  have h : bigSep Finset.univ (fun t => pPts t c (pC m c (qOf t))) ⊢ bigSep Finset.univ (fun t : Fin 16 => (iprop(∃ f, pPts t c f) : sProp 𝕄)) := by
    have h : ∀ t ∈ (Finset.univ : Finset (Fin 16)), pPts t c (pC m c (qOf t)) ⊢ (iprop(∃ f, pPts t c f) : sProp 𝕄) := fun t _ => by
      iintro H; iexists _; iexact H
    exact bigSep_mono h
  unfold KS
  rw [Finset.Ico_self, bigSep_empty, show Finset.range 16 = Finset.Ico 0 16 from Finset.range_eq_Ico 16, ← bigSep_d16 (sdone m c)]
  unfold sdone
  rw [bigSep_sp]
  iintro ⟨-, A, B⟩
  isplitl [A]; · iexact A
  iapply (pr_join m c)
  iapply h; iexact B

theorem rw_elim (c : Dev nD) : iprop((∃ f, rPts c c f) ∗ RW m c 16) ⊢ iprop(bigSep (Finset.Ico 1 16) (fun o => atPos ER (cell c (xI 1 (peer c o))) 1 ∅ 0) ∗ (∃ f, ((c : Thread nD τ).loc cc0_scratch3) ↦{full} f)) := by
  have h : bigSep (Finset.Ico 1 16) (fun o => rPts (peer c o) c (rC m (peer c o) c)) ⊢ bigSep (Finset.Ico 1 16) (fun o => (iprop(∃ f, rPts (peer c o) c f) : sProp 𝕄)) := by
    have h : ∀ o ∈ Finset.Ico 1 16, rPts (peer c o) c (rC m (peer c o) c) ⊢ (iprop(∃ f, rPts (peer c o) c f) : sProp 𝕄) := fun t _ => by
      iintro H; iexists _; iexact H
    exact bigSep_mono h
  have j : iprop((∃ f, rPts c c f) ∗ bigSep (Finset.Ico 1 16) (fun o => (iprop(∃ f, rPts (peer c o) c f) : sProp 𝕄))) ⊢ (iprop(∃ f, ((c : Thread nD τ).loc cc0_scratch3) ↦{full} f) : sProp 𝕄) :=
    ent_trans (Entails.of_eq (bigSep_dev c (fun b => (iprop(∃ f, rPts b c f) : sProp 𝕄))).symm) (rb_join m c)
  unfold RW
  rw [Finset.Ico_self, bigSep_empty, bigSep_sp]
  iintro ⟨O, -, B, A⟩
  isplitl [A]; · iexact A
  iapply j
  isplitl [O]; · iexact O
  iapply h; iexact B

theorem last_x (c : Dev nD) (a : Fin 4) : bigSep Finset.univ (fun t => (atPos ER (cell c (xI a t)) (lastR c (xI a t)) ∅ 0 : sProp 𝕄))
    = iprop(atPos ER (cell c (xI a c)) 0 ∅ 0 ∗ bigSep (Finset.Ico 1 16) (fun o => atPos ER (cell c (xI a (peer c o))) 1 ∅ 0)) := by
  rw [bigSep_dev c]
  refine congrArg₂ (fun P Q : sProp 𝕄 => iprop(P ∗ Q)) ?_ (bigSep_congr fun o ho => ?_)
  · rw [show lastR c (xI a c) = 0 from if_pos rfl]
  · have := Finset.mem_Ico.mp ho
    rw [show lastR c (xI a (peer c o)) = 1 from if_neg (peer_ne' c ⟨o, this.2⟩ this.1)]

/-- What the body ends with gives back the buffers, and every semaphore at zero. -/
theorem leave (κ : Dev nD × CI → ℕ) (c : Dev nD) :
    St (Pers m κ) (Ow c 16 16 16) (atPos ER (cell c bI) 1 ∅ 0) (KL m c 0 0 1 (KZ1 m c 0 0)) (KL m c 0 1 1 (KZ1 m c 0 1)) (KL m c 1 0 1 (KZ1 m c 1 0)) (KL m c 1 1 1 (KZ1 m c 1 1)) (XSo m c) (KS m c 16) (RW m c 16) (LS m c 16) (GX m c) (Zc m c)
      ⊢ (|={Set.univ}=> iprop(Ow c 16 16 16 ∗ XSo m c ∗ Args m c ∗ Scr c ∗ bigSep Finset.univ (fun i : CI => semVal (cell c i) 0)) : sProp 𝕄) := by
  rw [args_cut]
  unfold St Zc
  iintro ⟨HP, HO, Ab, K00, K01, K10, K11, HX, Hp, Hr, HL, HG, ⟨A1, A2, A3⟩, Ro, R0, R1⟩
  ihave ⟨B00, S000, S001, A00⟩ := (kl_elim m c 0 0) $$ K00
  ihave ⟨B01, S100, S101, A01⟩ := (kl_elim m c 0 1) $$ K01
  ihave ⟨B10, S010, S011, A10⟩ := (kl_elim m c 1 0) $$ K10
  ihave ⟨B11, S110, S111, A11⟩ := (kl_elim m c 1 1) $$ K11
  ihave ⟨A0, Pb⟩ := (ks_elim m c) $$ Hp
  ihave ⟨A1', Rb⟩ := (rw_elim m c) $$ [Ro Hr]
  · isplitl [Ro] <;> iassumption
  ihave ⟨Gb, A2', A3'⟩ := (GX_elim m c) $$ [HL HG]
  · isplitl [HL] <;> iassumption
  imod (close_cells m κ c) $$ [HP Ab A00 A01 A10 A11 A0 A1 A1' A2 A2' A3 A3'] with Hz
  · rw [ci_sum, sum22, last_x c 1, last_x c 2, last_x c 3]
    unfold Recs Pers
    icases HP with ⟨H1, H2, -⟩
    isplitl [H1 H2]; · isplitl [H1] <;> iassumption
    isplitl [Ab]; · iexact Ab
    isplitl [A00 A01 A10 A11]
    · isplitl [A00]; · iexact A00
      isplitl [A01]; · iexact A01
      isplitl [A10]; · iexact A10
      iexact A11
    isplitl [A0]; · iexact A0
    isplitl [A1 A1']; · isplitl [A1] <;> iassumption
    isplitl [A2 A2']; · isplitl [A2] <;> iassumption
    isplitl [A3] <;> iassumption
  imodintro
  isplitl [HO]; · iexact HO
  isplitl [HX]; · iexact HX
  isplitl [S000 S001 S010 S011 R0 S100 S101 S110 S111 R1]
  · isplitl [S000 S001 S010 S011 R0]
    · isplitl [S000 S001 S010 S011]
      · isplitl [S000 S001]; · isplitl [S000] <;> iassumption
        isplitl [S010] <;> iassumption
      iexact R0
    isplitl [S100 S101 S110 S111]
    · isplitl [S100 S101]; · isplitl [S100] <;> iassumption
      isplitl [S110] <;> iassumption
    iexact R1
  isplitl [B00 B01 B10 B11 Pb Rb Gb]
  · unfold Scr
    isplitl [B00 B10]
    · iapply (kb_join2 m c); isplitl [B00] <;> iassumption
    isplitl [B01 B11]
    · iapply (vb_join2 m c); isplitl [B01] <;> iassumption
    isplitl [Pb]; · iexact Pb
    isplitl [Rb]; · iexact Rb
    iexists _; iexact Gb
  iexact Hz

end Cert.KProof

end
-- ==== Proof.Offs.lean ====
/-
The printed indices, semaphores and memory references in closed form.
-/
module

public import proofs.«01_k».proof.Proof.StepsG

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed indices, in closed form -/

theorem devS (c : Fin 16) : ∀ i : Fin 15, ![k0_dev1 c, k0_dev2 c, k0_dev3 c, k0_dev4 c, k0_dev5 c, k0_dev6 c, k0_dev7 c, k0_dev8 c, k0_dev9 c, k0_dev10 c, k0_dev11 c, k0_dev12 c, k0_dev13 c, k0_dev14 c, k0_dev15 c] i = (peer c (i.val + 1)).val := by revert c; decide +kernel
theorem devX (c : Fin 16) : ∀ j : Fin 16, ![k0_dev16 c, k0_dev17 c, k0_dev18 c, k0_dev19 c, k0_dev20 c, k0_dev21 c, k0_dev22 c, k0_dev23 c, k0_dev24 c, k0_dev25 c, k0_dev26 c, k0_dev27 c, k0_dev28 c, k0_dev29 c, k0_dev30 c, k0_dev31 c] j = (tg c j.val).val := by revert c; decide +kernel
theorem devG (c : Fin 16) : ∀ i : Fin 15, ![k0_dev32 c, k0_dev33 c, k0_dev34 c, k0_dev35 c, k0_dev36 c, k0_dev37 c, k0_dev38 c, k0_dev39 c, k0_dev40 c, k0_dev41 c, k0_dev42 c, k0_dev43 c, k0_dev44 c, k0_dev45 c, k0_dev46 c] i = (peer c (i.val + 1)).val := by revert c; decide +kernel

theorem offXa (c : Fin 16) : ∀ j : Fin 16, ![k0_off3 c, k0_off7 c, k0_off11 c, k0_off15 c, k0_off20 c, k0_off24 c, k0_off28 c, k0_off32 c, k0_off37 c, k0_off41 c, k0_off45 c, k0_off49 c, k0_off53 c, k0_off57 c, k0_off61 c, k0_off65 c] j = ![(tg c j.val).val] := by revert c; decide +kernel
theorem offXb (c : Fin 16) : ∀ j : Fin 16, ![k0_off4 c, k0_off8 c, k0_off12 c, k0_off16 c, k0_off21 c, k0_off25 c, k0_off29 c, k0_off33 c, k0_off38 c, k0_off42 c, k0_off46 c, k0_off50 c, k0_off54 c, k0_off58 c, k0_off62 c, k0_off66 c] j = ![c.val] := by revert c; decide +kernel
theorem offXc (c : Fin 16) : ∀ j : Fin 16, ![k0_off5 c, k0_off9 c, k0_off13 c, k0_off17 c, k0_off22 c, k0_off26 c, k0_off30 c, k0_off34 c, k0_off39 c, k0_off43 c, k0_off47 c, k0_off51 c, k0_off55 c, k0_off59 c, k0_off63 c, k0_off67 c] j = ![c.val, 0, 0] := by revert c; decide +kernel
theorem offXd (c : Fin 16) : ∀ j : Fin 16, ![k0_off6 c, k0_off10 c, k0_off14 c, k0_off18 c, k0_off23 c, k0_off27 c, k0_off31 c, k0_off35 c, k0_off40 c, k0_off44 c, k0_off48 c, k0_off52 c, k0_off56 c, k0_off60 c, k0_off64 c, k0_off68 c] j = ![16 * (tg c j.val).val, 0] := by revert c; decide +kernel

theorem condX (c : Fin 16) : ∀ j : Fin 16, ![k0_cond1 c, k0_cond2 c, k0_cond3 c, k0_cond4 c, k0_cond5 c, k0_cond6 c, k0_cond7 c, k0_cond8 c, k0_cond9 c, k0_cond10 c, k0_cond11 c, k0_cond12 c, k0_cond13 c, k0_cond14 c, k0_cond15 c, k0_cond16 c] j = 1#1 ↔ tg c j.val ≠ c := by revert c; decide +kernel
theorem condW (c : Fin 16) : ∀ t : Fin 16, ![k0_cond17 c, k0_cond18 c, k0_cond19 c, k0_cond20 c, k0_cond21 c, k0_cond22 c, k0_cond23 c, k0_cond24 c, k0_cond25 c, k0_cond26 c, k0_cond27 c, k0_cond28 c, k0_cond29 c, k0_cond30 c, k0_cond31 c, k0_cond32 c] t = 1#1 ↔ d16 t.val ≠ c := by revert c; decide +kernel
theorem offK0 (c : Fin 16) : ∀ h : Fin 8, k0_off1 c (BitVec.ofNat 32 h.val) = ![0, 0, 0, 8 * c.val + h.val, 0] := by revert c; decide +kernel
theorem offK1 (c : Fin 16) : ∀ h : Fin 8, k0_off2 c (BitVec.ofNat 32 h.val) = ![0, 1, 0, 8 * c.val + h.val, 0] := by revert c; decide +kernel
theorem offK2 (c : Fin 16) : ∀ h : Fin 8, k0_off19 c (BitVec.ofNat 32 h.val) = ![0, 2, 0, 8 * c.val + h.val, 0] := by revert c; decide +kernel
theorem offK3 (c : Fin 16) : ∀ h : Fin 8, k0_off36 c (BitVec.ofNat 32 h.val) = ![0, 3, 0, 8 * c.val + h.val, 0] := by revert c; decide +kernel
theorem offR (c : Fin 16) : ∀ i : Fin 15, k0_off70 c (BitVec.ofNat 32 (i.val + 1)) = ![(peer c (i.val + 1)).val] := by revert c; decide +kernel
theorem offRv (c : Fin 16) : ∀ i : Fin 15, k0_off72 c (BitVec.ofNat 32 (i.val + 1)) = ![(peer c (i.val + 1)).val, 0, 0] := by revert c; decide +kernel
theorem offOwn : ∀ c : Fin 16, k0_off69 c = ![16 * c.val, 0] := by decide +kernel
theorem offRecv : ∀ c : Fin 16, k0_off73 c = ![c.val] := by decide +kernel
theorem offRows : ∀ c : Fin 16, k0_off74 c = ![16 * c.val, 0] := by decide +kernel

/-! ## The printed semaphores and memory references -/

theorem semK : ∀ s k : Fin 2, ∀ {inb}, (((cc0_scratch5 : DmaSems sig S2x2).slice (Rect.unit (s := S2x2) ![s.val, k.val] S1x1.size inb)).squeeze S_ squeezes_S1x1_S_).sem = kvQ s k := by decide
theorem semX0' : ∀ t : Fin 16, ∀ inb, (((cc0_scratch6 : DmaSems sig S16).slice (Rect.unit (s := S16) ![t.val] S1.size inb)).squeeze S_ squeezes_S1_S_).sem = xQ 0 t := by decide +kernel
theorem semX0 (t : Fin 16) {off : Fin 1 → ℕ} (e : off = ![t.val]) {inb} : (((cc0_scratch6 : DmaSems sig S16).slice (Rect.unit (s := S16) off S1.size inb)).squeeze S_ squeezes_S1_S_).sem = xQ 0 t := by
  subst e; exact semX0' t inb
theorem semX1' : ∀ t : Fin 16, ∀ inb, (((cc0_scratch7 : DmaSems sig S16).slice (Rect.unit (s := S16) ![t.val] S1.size inb)).squeeze S_ squeezes_S1_S_).sem = xQ 1 t := by decide +kernel
theorem semX1 (t : Fin 16) {off : Fin 1 → ℕ} (e : off = ![t.val]) {inb} : (((cc0_scratch7 : DmaSems sig S16).slice (Rect.unit (s := S16) off S1.size inb)).squeeze S_ squeezes_S1_S_).sem = xQ 1 t := by
  subst e; exact semX1' t inb
theorem semX2' : ∀ t : Fin 16, ∀ inb, (((cc0_scratch8 : DmaSems sig S16).slice (Rect.unit (s := S16) ![t.val] S1.size inb)).squeeze S_ squeezes_S1_S_).sem = xQ 2 t := by decide +kernel
theorem semX2 (t : Fin 16) {off : Fin 1 → ℕ} (e : off = ![t.val]) {inb} : (((cc0_scratch8 : DmaSems sig S16).slice (Rect.unit (s := S16) off S1.size inb)).squeeze S_ squeezes_S1_S_).sem = xQ 2 t := by
  subst e; exact semX2' t inb
theorem semX3' : ∀ t : Fin 16, ∀ inb, (((cc0_scratch9 : DmaSems sig S16).slice (Rect.unit (s := S16) ![t.val] S1.size inb)).squeeze S_ squeezes_S1_S_).sem = xQ 3 t := by decide +kernel
theorem semX3 (t : Fin 16) {off : Fin 1 → ℕ} (e : off = ![t.val]) {inb} : (((cc0_scratch9 : DmaSems sig S16).slice (Rect.unit (s := S16) off S1.size inb)).squeeze S_ squeezes_S1_S_).sem = xQ 3 t := by
  subst e; exact semX3' t inb

theorem refSrc (kv : Fin 2) (qb : Fin 4) (h : Fin 8) (c : Dev nD) {off : Fin 5 → ℕ} (e : off = ![0, qb.val, 0, 8 * c.val + h.val, 0]) {inb p} :
    ((arrRef kv).slice (Rect.unit (s := S16x4x64x128x128) off S16x1x64x1x128.size inb) p).squeeze S16x64x128 squeezes_S16x1x64x1x128_S16x64x128 = kvSrc kv qb h c := by
  subst e; rfl
theorem refChunk (t : Fin 16) {off : Fin 2 → ℕ} (e : off = ![16 * t.val, 0]) {inb p} : pM.slice (Rect.unit (s := S256x1024) off S16x1024.size inb) p = pChunk t := by
  subst e; rfl
theorem refRows (t : Fin 16) {off : Fin 2 → ℕ} (e : off = ![16 * t.val, 0]) {inb p} : gM.slice (Rect.unit (s := S256x1024) off S16x1024.size inb) p = gRows t := by
  subst e; rfl
theorem refSlot (t : Fin 16) {off : Fin 3 → ℕ} (e : off = ![t.val, 0, 0]) {inb p} : (rM.slice (Rect.unit (s := S16x16x1024) off S1x16x1024.size inb) p).squeeze S16x1024 squeezes_S1x16x1024_S16x1024 = rSlot t := by
  subst e; rfl

/-! ## What the loads hand to the payloads -/

theorem h8_val (h : Fin 8) : h8 h.val = h := Fin.ext (Nat.mod_eq_of_lt h.isLt)
theorem h8_fun (f : Fin 8 → Vec F S1x1x16x64x128 .f32) : (fun h : Fin 8 => f (h8 h.val)) = f := funext fun h => congrArg f (h8_val h)
theorem pBlk_read (c : Dev nD) (s : Fin 2) (r : ℕ) (q : Fin 4) (hs : slotOf q = s) (hq : qbOf s r = q) :
    pRaw q (k0_pay1 (xstg m c) (wqstg m c)) (k0_pay2 (wostg m c)) (fun h => kvVal m 0 s (qbOf s r) c (h8 h.val)) (fun h => kvVal m 1 s (qbOf s r) c (h8 h.val)) = pBlk m c q := by
  subst hs; rw [hq]
  rw [h8_fun, h8_fun]
  rfl
theorem pVal0 (c : Dev nD) : pRaw0 (k0_pay1 (xstg m c) (wqstg m c)) (k0_pay2 (wostg m c)) (fun h => kvVal m 0 0 (qbOf 0 0) c (h8 h.val)) (fun h => kvVal m 1 0 (qbOf 0 0) c (h8 h.val)) = pBlk m c (q4 0) :=
  pBlk_read m c 0 0 (q4 0) (by decide) (by decide)
theorem pVal1 (c : Dev nD) : pRaw1 (k0_pay1 (xstg m c) (wqstg m c)) (k0_pay2 (wostg m c)) (fun h => kvVal m 0 1 (qbOf 1 0) c (h8 h.val)) (fun h => kvVal m 1 1 (qbOf 1 0) c (h8 h.val)) = pBlk m c (q4 1) :=
  pBlk_read m c 1 0 (q4 1) (by decide) (by decide)
theorem pVal2 (c : Dev nD) : pRaw2 (k0_pay1 (xstg m c) (wqstg m c)) (k0_pay2 (wostg m c)) (fun h => kvVal m 0 0 (qbOf 0 1) c (h8 h.val)) (fun h => kvVal m 1 0 (qbOf 0 1) c (h8 h.val)) = pBlk m c (q4 2) :=
  pBlk_read m c 0 1 (q4 2) (by decide) (by decide)
theorem pVal3 (c : Dev nD) : pRaw3 (k0_pay1 (xstg m c) (wqstg m c)) (k0_pay2 (wostg m c)) (fun h => kvVal m 0 1 (qbOf 1 1) c (h8 h.val)) (fun h => kvVal m 1 1 (qbOf 1 1) c (h8 h.val)) = pBlk m c (q4 3) :=
  pBlk_read m c 1 1 (q4 3) (by decide) (by decide)

end Cert.KProof

end
-- ==== Proof.Body.lean ====
/-
The body of the kernel, step by step.
-/
module

public import proofs.«01_k».proof.Proof.State
public import proofs.«01_k».proof.Proof.Offs

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (κ : Dev nD × CI → ℕ)

attribute [local irreducible] k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31 k0_dev32 k0_dev33 k0_dev34 k0_dev35 k0_dev36 k0_dev37 k0_dev38 k0_dev39 k0_dev40 k0_dev41 k0_dev42 k0_dev43 k0_dev44 k0_dev45 k0_dev46
attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32
attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86 k0_off87 k0_off88 k0_off89 k0_off90 k0_off91
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79
set_option maxHeartbeats 40000000 in
/-- The body, step by step. -/
theorem body_steps (c : Dev nD) (z : sProp 𝕄) (h0 : xM.IsWhole) (h1 : wqM.IsWhole) (h2 : k5M.IsWhole) (h3 : v5M.IsWhole) (h4 : woM.IsWhole) (h5 : oM.IsWhole) (h6 : kM.IsWhole) (h7 : vM.IsWhole) (h8 : pM.IsWhole) (h9 : rM.IsWhole) (h10 : gM.IsWhole) :
    St (Pers m κ) (Ow c 1 0 1) (BS c 1) (KF m c 0 0 0 0 (KZ0 m c 0 0)) (KF m c 0 1 0 0 (KZ0 m c 0 1)) (KF m c 1 0 0 0 (KZ0 m c 1 0)) (KF m c 1 1 0 0 (KZ0 m c 1 1)) (XS m c) (PS0 c) (RW m c 1) (GP0 c) (GW m c 1) z
      ⊢ WP c (cc0_body (F := F) xM h0 wqM h1 k5M h2 v5M h3 woM h4 oM h5 kM h6 vM h7 pM h8 rM h9 gM h10 cc0_scratch5 cc0_scratch6 cc0_scratch7 cc0_scratch8 cc0_scratch9)
        (fun _ => St (Pers m κ) (Ow c 16 16 16) (atPos ER (cell c bI) 1 ∅ 0) (KL m c 0 0 1 (KZ1 m c 0 0)) (KL m c 0 1 1 (KZ1 m c 0 1)) (KL m c 1 0 1 (KZ1 m c 1 0)) (KL m c 1 1 1 (KZ1 m c 1 1)) (XSo m c) (KS m c 16) (RW m c 16) (LS m c 16) (GX m c) z) := by
  rw [cc0_body_eq_skeleton]; unfold cc0_body_skel
  refine st_seq c ?_; rw [k0_part111_eq_skeleton]; unfold k0_part111_skel
  refine st_seq c ?_; rw [k0_part1_eq_skeleton]; unfold k0_part1_skel
  refine st_dev c ?_
  refine foc_kb (fun _ H => st_sig m κ c (i := 1) (by decide) (by decide) (Fin.ext (devS c 0)) H) ?_
  refine foc_kb (fun _ H => st_sig m κ c (i := 2) (by decide) (by decide) (Fin.ext (devS c 1)) H) ?_
  refine st_ret c ?_
  refine st_seq c ?_; rw [k0_part2_eq_skeleton]; unfold k0_part2_skel
  refine foc_kb (fun _ H => st_sig m κ c (i := 3) (by decide) (by decide) (Fin.ext (devS c 2)) H) ?_
  refine foc_kb (fun _ H => st_sig m κ c (i := 4) (by decide) (by decide) (Fin.ext (devS c 3)) H) ?_
  refine st_ret c ?_
  refine st_seq c ?_; rw [k0_part3_eq_skeleton]; unfold k0_part3_skel
  refine foc_kb (fun _ H => st_sig m κ c (i := 5) (by decide) (by decide) (Fin.ext (devS c 4)) H) ?_
  refine foc_kb (fun _ H => st_sig m κ c (i := 6) (by decide) (by decide) (Fin.ext (devS c 5)) H) ?_
  refine foc_kb (fun _ H => st_sig m κ c (i := 7) (by decide) (by decide) (Fin.ext (devS c 6)) H) ?_
  refine st_ret c ?_
  refine st_seq c ?_; rw [k0_part4_eq_skeleton]; unfold k0_part4_skel
  refine foc_kb (fun _ H => st_sig m κ c (i := 8) (by decide) (by decide) (Fin.ext (devS c 7)) H) ?_
  refine foc_kb (fun _ H => st_sig m κ c (i := 9) (by decide) (by decide) (Fin.ext (devS c 8)) H) ?_
  refine st_ret c ?_
  refine st_seq c ?_; rw [k0_part5_eq_skeleton]; unfold k0_part5_skel
  refine foc_kb (fun _ H => st_sig m κ c (i := 10) (by decide) (by decide) (Fin.ext (devS c 9)) H) ?_
  refine foc_kb (fun _ H => st_sig m κ c (i := 11) (by decide) (by decide) (Fin.ext (devS c 10)) H) ?_
  refine foc_kb (fun _ H => st_sig m κ c (i := 12) (by decide) (by decide) (Fin.ext (devS c 11)) H) ?_
  refine st_ret c ?_
  refine st_seq c ?_; rw [k0_part6_eq_skeleton]; unfold k0_part6_skel
  refine foc_kb (fun _ H => st_sig m κ c (i := 13) (by decide) (by decide) (Fin.ext (devS c 12)) H) ?_
  refine foc_kb (fun _ H => st_sig m κ c (i := 14) (by decide) (by decide) (Fin.ext (devS c 13)) H) ?_
  refine st_ret c ?_
  refine st_seq c ?_; rw [k0_part7_eq_skeleton]; unfold k0_part7_skel
  refine foc_kb (fun _ H => st_sig m κ c (i := 15) (by decide) (by decide) (Fin.ext (devS c 14)) H) ?_
  refine foc_kb (fun _ H => st_waitB m κ c H) ?_
  refine turn_arrive m c ?_
  refine foc_k00 (fun _ H => st_start m κ c 0 0 (r := 0) (h := 0) (by decide) (by decide) (refSrc 0 _ 0 c (offK0 c 0)) rfl (semK 0 0) H) ?_
  refine foc_k01 (fun _ H => st_start m κ c 0 1 (r := 0) (h := 0) (by decide) (by decide) (refSrc 1 _ 0 c (offK0 c 0)) rfl (semK 0 1) H) ?_
  refine st_ret c ?_
  refine st_seq c ?_; rw [k0_part8_eq_skeleton]; unfold k0_part8_skel
  refine foc_k00 (fun _ H => st_start m κ c 0 0 (r := 0) (h := 1) (by decide) (by decide) (refSrc 0 _ 1 c (offK0 c 1)) rfl (semK 0 0) H) ?_
  refine foc_k01 (fun _ H => st_start m κ c 0 1 (r := 0) (h := 1) (by decide) (by decide) (refSrc 1 _ 1 c (offK0 c 1)) rfl (semK 0 1) H) ?_
  refine foc_k00 (fun _ H => st_start m κ c 0 0 (r := 0) (h := 2) (by decide) (by decide) (refSrc 0 _ 2 c (offK0 c 2)) rfl (semK 0 0) H) ?_
  refine st_ret c ?_
  refine st_seq c ?_; rw [k0_part9_eq_skeleton]; unfold k0_part9_skel
  refine foc_k01 (fun _ H => st_start m κ c 0 1 (r := 0) (h := 2) (by decide) (by decide) (refSrc 1 _ 2 c (offK0 c 2)) rfl (semK 0 1) H) ?_
  refine foc_k00 (fun _ H => st_start m κ c 0 0 (r := 0) (h := 3) (by decide) (by decide) (refSrc 0 _ 3 c (offK0 c 3)) rfl (semK 0 0) H) ?_
  refine foc_k01 (fun _ H => st_start m κ c 0 1 (r := 0) (h := 3) (by decide) (by decide) (refSrc 1 _ 3 c (offK0 c 3)) rfl (semK 0 1) H) ?_
  refine st_ret c ?_
  refine st_seq c ?_; rw [k0_part10_eq_skeleton]; unfold k0_part10_skel
  refine foc_k00 (fun _ H => st_start m κ c 0 0 (r := 0) (h := 4) (by decide) (by decide) (refSrc 0 _ 4 c (offK0 c 4)) rfl (semK 0 0) H) ?_
  refine foc_k01 (fun _ H => st_start m κ c 0 1 (r := 0) (h := 4) (by decide) (by decide) (refSrc 1 _ 4 c (offK0 c 4)) rfl (semK 0 1) H) ?_
  refine foc_k00 (fun _ H => st_start m κ c 0 0 (r := 0) (h := 5) (by decide) (by decide) (refSrc 0 _ 5 c (offK0 c 5)) rfl (semK 0 0) H) ?_
  refine st_ret c ?_
  refine st_seq c ?_; rw [k0_part11_eq_skeleton]; unfold k0_part11_skel
  refine foc_k01 (fun _ H => st_start m κ c 0 1 (r := 0) (h := 5) (by decide) (by decide) (refSrc 1 _ 5 c (offK0 c 5)) rfl (semK 0 1) H) ?_
  refine foc_k00 (fun _ H => st_start m κ c 0 0 (r := 0) (h := 6) (by decide) (by decide) (refSrc 0 _ 6 c (offK0 c 6)) rfl (semK 0 0) H) ?_
  refine foc_k01 (fun _ H => st_start m κ c 0 1 (r := 0) (h := 6) (by decide) (by decide) (refSrc 1 _ 6 c (offK0 c 6)) rfl (semK 0 1) H) ?_
  refine st_ret c ?_
  refine st_seq c ?_; rw [k0_part12_eq_skeleton]; unfold k0_part12_skel
  refine foc_k00 (fun _ H => st_start m κ c 0 0 (r := 0) (h := 7) (by decide) (by decide) (refSrc 0 _ 7 c (offK0 c 7)) rfl (semK 0 0) H) ?_
  refine foc_k00 (fun _ H => turn (KF_KW m c 0 0 0 _) H) ?_
  refine foc_k01 (fun _ H => st_start m κ c 0 1 (r := 0) (h := 7) (by decide) (by decide) (refSrc 1 _ 7 c (offK0 c 7)) rfl (semK 0 1) H) ?_
  refine foc_k01 (fun _ H => turn (KF_KW m c 0 1 0 _) H) ?_
  refine foc_xs (fun _ H => st_loadx m c H) ?_
  refine foc_xs (fun _ H => st_loadwq m c H) ?_
  refine foc_xs (fun _ H => st_loadwo m c H) ?_
  refine st_ret c ?_
  refine st_seq c ?_; rw [k0_part13_eq_skeleton]; unfold k0_part13_skel
  refine foc_k10 (fun _ H => st_start m κ c 1 0 (r := 0) (h := 0) (by decide) (by decide) (refSrc 0 _ 0 c (offK1 c 0)) rfl (semK 1 0) H) ?_
  refine foc_k11 (fun _ H => st_start m κ c 1 1 (r := 0) (h := 0) (by decide) (by decide) (refSrc 1 _ 0 c (offK1 c 0)) rfl (semK 1 1) H) ?_
  refine foc_k10 (fun _ H => st_start m κ c 1 0 (r := 0) (h := 1) (by decide) (by decide) (refSrc 0 _ 1 c (offK1 c 1)) rfl (semK 1 0) H) ?_
  refine st_ret c ?_
  refine st_seq c ?_; rw [k0_part14_eq_skeleton]; unfold k0_part14_skel
  refine foc_k11 (fun _ H => st_start m κ c 1 1 (r := 0) (h := 1) (by decide) (by decide) (refSrc 1 _ 1 c (offK1 c 1)) rfl (semK 1 1) H) ?_
  refine foc_k10 (fun _ H => st_start m κ c 1 0 (r := 0) (h := 2) (by decide) (by decide) (refSrc 0 _ 2 c (offK1 c 2)) rfl (semK 1 0) H) ?_
  refine foc_k11 (fun _ H => st_start m κ c 1 1 (r := 0) (h := 2) (by decide) (by decide) (refSrc 1 _ 2 c (offK1 c 2)) rfl (semK 1 1) H) ?_
  refine st_ret c ?_
  refine st_seq c ?_; rw [k0_part15_eq_skeleton]; unfold k0_part15_skel
  refine foc_k10 (fun _ H => st_start m κ c 1 0 (r := 0) (h := 3) (by decide) (by decide) (refSrc 0 _ 3 c (offK1 c 3)) rfl (semK 1 0) H) ?_
  refine foc_k11 (fun _ H => st_start m κ c 1 1 (r := 0) (h := 3) (by decide) (by decide) (refSrc 1 _ 3 c (offK1 c 3)) rfl (semK 1 1) H) ?_
  refine foc_k10 (fun _ H => st_start m κ c 1 0 (r := 0) (h := 4) (by decide) (by decide) (refSrc 0 _ 4 c (offK1 c 4)) rfl (semK 1 0) H) ?_
  refine st_ret c ?_
  refine st_seq c ?_; rw [k0_part16_eq_skeleton]; unfold k0_part16_skel
  refine foc_k11 (fun _ H => st_start m κ c 1 1 (r := 0) (h := 4) (by decide) (by decide) (refSrc 1 _ 4 c (offK1 c 4)) rfl (semK 1 1) H) ?_
  refine foc_k10 (fun _ H => st_start m κ c 1 0 (r := 0) (h := 5) (by decide) (by decide) (refSrc 0 _ 5 c (offK1 c 5)) rfl (semK 1 0) H) ?_
  refine foc_k11 (fun _ H => st_start m κ c 1 1 (r := 0) (h := 5) (by decide) (by decide) (refSrc 1 _ 5 c (offK1 c 5)) rfl (semK 1 1) H) ?_
  refine st_ret c ?_
  refine st_seq c ?_; rw [k0_part17_eq_skeleton]; unfold k0_part17_skel
  refine foc_k10 (fun _ H => st_start m κ c 1 0 (r := 0) (h := 6) (by decide) (by decide) (refSrc 0 _ 6 c (offK1 c 6)) rfl (semK 1 0) H) ?_
  refine foc_k11 (fun _ H => st_start m κ c 1 1 (r := 0) (h := 6) (by decide) (by decide) (refSrc 1 _ 6 c (offK1 c 6)) rfl (semK 1 1) H) ?_
  refine foc_k10 (fun _ H => st_start m κ c 1 0 (r := 0) (h := 7) (by decide) (by decide) (refSrc 0 _ 7 c (offK1 c 7)) rfl (semK 1 0) H) ?_
  refine foc_k10 (fun _ H => turn (KF_KW m c 1 0 0 _) H) ?_
  refine st_ret c ?_
  refine st_seq c ?_; rw [k0_part18_eq_skeleton]; unfold k0_part18_skel
  refine foc_k11 (fun _ H => st_start m κ c 1 1 (r := 0) (h := 7) (by decide) (by decide) (refSrc 1 _ 7 c (offK1 c 7)) rfl (semK 1 1) H) ?_
  refine foc_k11 (fun _ H => turn (KF_KW m c 1 1 0 _) H) ?_
  refine foc_k00 (fun _ H => st_waitK m κ c 0 0 (r := 0) (h := 0) (by decide) (by decide) (by decide) (semK 0 0) (by exact rfl) H) ?_
  refine foc_k01 (fun _ H => st_waitK m κ c 0 1 (r := 0) (h := 0) (by decide) (by decide) (by decide) (semK 0 1) (by exact rfl) H) ?_
  refine st_ret c ?_
  refine st_seq c ?_; rw [k0_part19_eq_skeleton]; unfold k0_part19_skel
  refine foc_k00 (fun _ H => st_waitK m κ c 0 0 (r := 0) (h := 1) (by decide) (by decide) (by decide) (semK 0 0) (by exact rfl) H) ?_
  refine foc_k01 (fun _ H => st_waitK m κ c 0 1 (r := 0) (h := 1) (by decide) (by decide) (by decide) (semK 0 1) (by exact rfl) H) ?_
  refine foc_k00 (fun _ H => st_waitK m κ c 0 0 (r := 0) (h := 2) (by decide) (by decide) (by decide) (semK 0 0) (by exact rfl) H) ?_
  refine st_ret c ?_
  refine st_seq c ?_; rw [k0_part20_eq_skeleton]; unfold k0_part20_skel
  refine foc_k01 (fun _ H => st_waitK m κ c 0 1 (r := 0) (h := 2) (by decide) (by decide) (by decide) (semK 0 1) (by exact rfl) H) ?_
  refine foc_k00 (fun _ H => st_waitK m κ c 0 0 (r := 0) (h := 3) (by decide) (by decide) (by decide) (semK 0 0) (by exact rfl) H) ?_
  refine foc_k01 (fun _ H => st_waitK m κ c 0 1 (r := 0) (h := 3) (by decide) (by decide) (by decide) (semK 0 1) (by exact rfl) H) ?_
  refine st_ret c ?_
  refine st_seq c ?_; rw [k0_part21_eq_skeleton]; unfold k0_part21_skel
  refine foc_k00 (fun _ H => st_waitK m κ c 0 0 (r := 0) (h := 4) (by decide) (by decide) (by decide) (semK 0 0) (by exact rfl) H) ?_
  refine foc_k01 (fun _ H => st_waitK m κ c 0 1 (r := 0) (h := 4) (by decide) (by decide) (by decide) (semK 0 1) (by exact rfl) H) ?_
  refine foc_k00 (fun _ H => st_waitK m κ c 0 0 (r := 0) (h := 5) (by decide) (by decide) (by decide) (semK 0 0) (by exact rfl) H) ?_
  refine st_ret c ?_
  refine st_seq c ?_; rw [k0_part22_eq_skeleton]; unfold k0_part22_skel
  refine foc_k01 (fun _ H => st_waitK m κ c 0 1 (r := 0) (h := 5) (by decide) (by decide) (by decide) (semK 0 1) (by exact rfl) H) ?_
  refine foc_k00 (fun _ H => st_waitK m κ c 0 0 (r := 0) (h := 6) (by decide) (by decide) (by decide) (semK 0 0) (by exact rfl) H) ?_
  refine foc_k01 (fun _ H => st_waitK m κ c 0 1 (r := 0) (h := 6) (by decide) (by decide) (by decide) (semK 0 1) (by exact rfl) H) ?_
  refine st_ret c ?_
  refine st_seq c ?_; rw [k0_part23_eq_skeleton]; unfold k0_part23_skel
  refine foc_k00 (fun _ H => st_waitK7 m κ c 0 0 (r := 0) (by decide) (by decide) (semK 0 0) (by exact rfl) H) ?_
  refine foc_k01 (fun _ H => st_waitK7 m κ c 0 1 (r := 0) (by decide) (by decide) (semK 0 1) (by exact rfl) H) ?_
  refine foc_k00 (fun _ H => st_loadK m κ c 0 0 (r := 0) (h := 0) (by decide) (by decide) H) ?_
  refine foc_k01 (fun _ H => st_loadK m κ c 0 1 (r := 0) (h := 0) (by decide) (by decide) H) ?_
  refine st_ret c ?_
  refine st_seq c ?_; rw [k0_part24_eq_skeleton]; unfold k0_part24_skel
  refine foc_k00 (fun _ H => st_loadK m κ c 0 0 (r := 0) (h := 1) (by decide) (by decide) H) ?_
  refine foc_k01 (fun _ H => st_loadK m κ c 0 1 (r := 0) (h := 1) (by decide) (by decide) H) ?_
  refine foc_k00 (fun _ H => st_loadK m κ c 0 0 (r := 0) (h := 2) (by decide) (by decide) H) ?_
  refine foc_k01 (fun _ H => st_loadK m κ c 0 1 (r := 0) (h := 2) (by decide) (by decide) H) ?_
  refine st_ret c ?_
  refine st_seq c ?_; rw [k0_part25_eq_skeleton]; unfold k0_part25_skel
  refine foc_k00 (fun _ H => st_loadK m κ c 0 0 (r := 0) (h := 3) (by decide) (by decide) H) ?_
  refine foc_k01 (fun _ H => st_loadK m κ c 0 1 (r := 0) (h := 3) (by decide) (by decide) H) ?_
  refine foc_k00 (fun _ H => st_loadK m κ c 0 0 (r := 0) (h := 4) (by decide) (by decide) H) ?_
  refine foc_k01 (fun _ H => st_loadK m κ c 0 1 (r := 0) (h := 4) (by decide) (by decide) H) ?_
  refine st_ret c ?_
  refine st_seq c ?_; rw [k0_part26_eq_skeleton]; unfold k0_part26_skel
  refine foc_k00 (fun _ H => st_loadK m κ c 0 0 (r := 0) (h := 5) (by decide) (by decide) H) ?_
  refine foc_k01 (fun _ H => st_loadK m κ c 0 1 (r := 0) (h := 5) (by decide) (by decide) H) ?_
  refine foc_k00 (fun _ H => st_loadK m κ c 0 0 (r := 0) (h := 6) (by decide) (by decide) H) ?_
  refine st_ret c ?_
  refine st_seq c ?_; rw [k0_part27_eq_skeleton]; unfold k0_part27_skel
  refine foc_k01 (fun _ H => st_loadK m κ c 0 1 (r := 0) (h := 6) (by decide) (by decide) H) ?_
  refine foc_k00 (fun _ H => st_loadK m κ c 0 0 (r := 0) (h := 7) (by decide) (by decide) H) ?_
  refine foc_k00 (fun _ H => turn (KL_KF m c 0 0) H) ?_
  refine foc_k01 (fun _ H => st_loadK m κ c 0 1 (r := 0) (h := 7) (by decide) (by decide) H) ?_
  refine foc_k01 (fun _ H => turn (KL_KF m c 0 1) H) ?_
  refine st_ret c ?_
  refine st_seq c ?_; rw [k0_part28_eq_skeleton]; unfold k0_part28_skel
  refine focV_ps (fun _ H => st_loadBlk m κ c (q := 0) (by decide) H) (fun _ => ?_)
  refine foc_ps (fun _ H => st_storeBlk m κ c (q := 0) (by decide) (by exact rfl) (by rw [← pVal0]; unfold pRaw0; rfl) H) ?_
  refine foc_ps (fun _ H => st_condSend m κ c (j := 0) (q := 1) (by decide) (by decide) (condX c 0) (fun h => ⟨_, _, _, _, _, _, _, _, _, rfl, Fin.ext (devX c 0), refChunk _ (offXd c 0), refSlot _ (offXc c 0), semX0 _ (offXa c 0), semX1 _ (offXb c 0)⟩) (fun _ => rfl) H) ?_
  refine foc_ps (fun _ H => st_condSend m κ c (j := 1) (q := 1) (by decide) (by decide) (condX c 1) (fun h => ⟨_, _, _, _, _, _, _, _, _, rfl, Fin.ext (devX c 1), refChunk _ (offXd c 1), refSlot _ (offXc c 1), semX0 _ (offXa c 1), semX1 _ (offXb c 1)⟩) (fun _ => rfl) H) ?_
  refine st_ret c ?_
  refine st_seq c ?_; rw [k0_part29_eq_skeleton]; unfold k0_part29_skel
  refine foc_ps (fun _ H => st_condSend m κ c (j := 2) (q := 1) (by decide) (by decide) (condX c 2) (fun h => ⟨_, _, _, _, _, _, _, _, _, rfl, Fin.ext (devX c 2), refChunk _ (offXd c 2), refSlot _ (offXc c 2), semX0 _ (offXa c 2), semX1 _ (offXb c 2)⟩) (fun _ => rfl) H) ?_
  refine foc_ps (fun _ H => st_condSend m κ c (j := 3) (q := 1) (by decide) (by decide) (condX c 3) (fun h => ⟨_, _, _, _, _, _, _, _, _, rfl, Fin.ext (devX c 3), refChunk _ (offXd c 3), refSlot _ (offXc c 3), semX0 _ (offXa c 3), semX1 _ (offXb c 3)⟩) (fun _ => rfl) H) ?_
  refine st_ret c ?_
  refine st_seq c ?_; rw [k0_part30_eq_skeleton]; unfold k0_part30_skel
  refine foc_k00 (fun _ H => st_start m κ c 0 0 (r := 1) (h := 0) (by decide) (by decide) (refSrc 0 _ 0 c (offK2 c 0)) rfl (semK 0 0) H) ?_
  refine foc_k01 (fun _ H => st_start m κ c 0 1 (r := 1) (h := 0) (by decide) (by decide) (refSrc 1 _ 0 c (offK2 c 0)) rfl (semK 0 1) H) ?_
  refine foc_k00 (fun _ H => st_start m κ c 0 0 (r := 1) (h := 1) (by decide) (by decide) (refSrc 0 _ 1 c (offK2 c 1)) rfl (semK 0 0) H) ?_
  refine st_ret c ?_
  refine st_seq c ?_; rw [k0_part31_eq_skeleton]; unfold k0_part31_skel
  refine foc_k01 (fun _ H => st_start m κ c 0 1 (r := 1) (h := 1) (by decide) (by decide) (refSrc 1 _ 1 c (offK2 c 1)) rfl (semK 0 1) H) ?_
  refine foc_k00 (fun _ H => st_start m κ c 0 0 (r := 1) (h := 2) (by decide) (by decide) (refSrc 0 _ 2 c (offK2 c 2)) rfl (semK 0 0) H) ?_
  refine foc_k01 (fun _ H => st_start m κ c 0 1 (r := 1) (h := 2) (by decide) (by decide) (refSrc 1 _ 2 c (offK2 c 2)) rfl (semK 0 1) H) ?_
  refine st_ret c ?_
  refine st_seq c ?_; rw [k0_part32_eq_skeleton]; unfold k0_part32_skel
  refine foc_k00 (fun _ H => st_start m κ c 0 0 (r := 1) (h := 3) (by decide) (by decide) (refSrc 0 _ 3 c (offK2 c 3)) rfl (semK 0 0) H) ?_
  refine foc_k01 (fun _ H => st_start m κ c 0 1 (r := 1) (h := 3) (by decide) (by decide) (refSrc 1 _ 3 c (offK2 c 3)) rfl (semK 0 1) H) ?_
  refine foc_k00 (fun _ H => st_start m κ c 0 0 (r := 1) (h := 4) (by decide) (by decide) (refSrc 0 _ 4 c (offK2 c 4)) rfl (semK 0 0) H) ?_
  refine st_ret c ?_
  refine st_seq c ?_; rw [k0_part33_eq_skeleton]; unfold k0_part33_skel
  refine foc_k01 (fun _ H => st_start m κ c 0 1 (r := 1) (h := 4) (by decide) (by decide) (refSrc 1 _ 4 c (offK2 c 4)) rfl (semK 0 1) H) ?_
  refine foc_k00 (fun _ H => st_start m κ c 0 0 (r := 1) (h := 5) (by decide) (by decide) (refSrc 0 _ 5 c (offK2 c 5)) rfl (semK 0 0) H) ?_
  refine foc_k01 (fun _ H => st_start m κ c 0 1 (r := 1) (h := 5) (by decide) (by decide) (refSrc 1 _ 5 c (offK2 c 5)) rfl (semK 0 1) H) ?_
  refine st_ret c ?_
  refine st_seq c ?_; rw [k0_part34_eq_skeleton]; unfold k0_part34_skel
  refine foc_k00 (fun _ H => st_start m κ c 0 0 (r := 1) (h := 6) (by decide) (by decide) (refSrc 0 _ 6 c (offK2 c 6)) rfl (semK 0 0) H) ?_
  refine foc_k01 (fun _ H => st_start m κ c 0 1 (r := 1) (h := 6) (by decide) (by decide) (refSrc 1 _ 6 c (offK2 c 6)) rfl (semK 0 1) H) ?_
  refine foc_k00 (fun _ H => st_start m κ c 0 0 (r := 1) (h := 7) (by decide) (by decide) (refSrc 0 _ 7 c (offK2 c 7)) rfl (semK 0 0) H) ?_
  refine foc_k00 (fun _ H => turn (KF_KW m c 0 0 1 _) H) ?_
  refine st_ret c ?_
  refine st_seq c ?_; rw [k0_part35_eq_skeleton]; unfold k0_part35_skel
  refine foc_k01 (fun _ H => st_start m κ c 0 1 (r := 1) (h := 7) (by decide) (by decide) (refSrc 1 _ 7 c (offK2 c 7)) rfl (semK 0 1) H) ?_
  refine foc_k01 (fun _ H => turn (KF_KW m c 0 1 1 _) H) ?_
  refine foc_k10 (fun _ H => st_waitK m κ c 1 0 (r := 0) (h := 0) (by decide) (by decide) (by decide) (semK 1 0) (by exact rfl) H) ?_
  refine foc_k11 (fun _ H => st_waitK m κ c 1 1 (r := 0) (h := 0) (by decide) (by decide) (by decide) (semK 1 1) (by exact rfl) H) ?_
  refine st_ret c ?_
  refine st_seq c ?_; rw [k0_part36_eq_skeleton]; unfold k0_part36_skel
  refine foc_k10 (fun _ H => st_waitK m κ c 1 0 (r := 0) (h := 1) (by decide) (by decide) (by decide) (semK 1 0) (by exact rfl) H) ?_
  refine foc_k11 (fun _ H => st_waitK m κ c 1 1 (r := 0) (h := 1) (by decide) (by decide) (by decide) (semK 1 1) (by exact rfl) H) ?_
  refine foc_k10 (fun _ H => st_waitK m κ c 1 0 (r := 0) (h := 2) (by decide) (by decide) (by decide) (semK 1 0) (by exact rfl) H) ?_
  refine st_ret c ?_
  refine st_seq c ?_; rw [k0_part37_eq_skeleton]; unfold k0_part37_skel
  refine foc_k11 (fun _ H => st_waitK m κ c 1 1 (r := 0) (h := 2) (by decide) (by decide) (by decide) (semK 1 1) (by exact rfl) H) ?_
  refine foc_k10 (fun _ H => st_waitK m κ c 1 0 (r := 0) (h := 3) (by decide) (by decide) (by decide) (semK 1 0) (by exact rfl) H) ?_
  refine foc_k11 (fun _ H => st_waitK m κ c 1 1 (r := 0) (h := 3) (by decide) (by decide) (by decide) (semK 1 1) (by exact rfl) H) ?_
  refine st_ret c ?_
  refine st_seq c ?_; rw [k0_part38_eq_skeleton]; unfold k0_part38_skel
  refine foc_k10 (fun _ H => st_waitK m κ c 1 0 (r := 0) (h := 4) (by decide) (by decide) (by decide) (semK 1 0) (by exact rfl) H) ?_
  refine foc_k11 (fun _ H => st_waitK m κ c 1 1 (r := 0) (h := 4) (by decide) (by decide) (by decide) (semK 1 1) (by exact rfl) H) ?_
  refine foc_k10 (fun _ H => st_waitK m κ c 1 0 (r := 0) (h := 5) (by decide) (by decide) (by decide) (semK 1 0) (by exact rfl) H) ?_
  refine st_ret c ?_
  refine st_seq c ?_; rw [k0_part39_eq_skeleton]; unfold k0_part39_skel
  refine foc_k11 (fun _ H => st_waitK m κ c 1 1 (r := 0) (h := 5) (by decide) (by decide) (by decide) (semK 1 1) (by exact rfl) H) ?_
  refine foc_k10 (fun _ H => st_waitK m κ c 1 0 (r := 0) (h := 6) (by decide) (by decide) (by decide) (semK 1 0) (by exact rfl) H) ?_
  refine foc_k11 (fun _ H => st_waitK m κ c 1 1 (r := 0) (h := 6) (by decide) (by decide) (by decide) (semK 1 1) (by exact rfl) H) ?_
  refine st_ret c ?_
  refine st_seq c ?_; rw [k0_part40_eq_skeleton]; unfold k0_part40_skel
  refine foc_k10 (fun _ H => st_waitK7 m κ c 1 0 (r := 0) (by decide) (by decide) (semK 1 0) (by exact rfl) H) ?_
  refine foc_k11 (fun _ H => st_waitK7 m κ c 1 1 (r := 0) (by decide) (by decide) (semK 1 1) (by exact rfl) H) ?_
  refine foc_k10 (fun _ H => st_loadK m κ c 1 0 (r := 0) (h := 0) (by decide) (by decide) H) ?_
  refine foc_k11 (fun _ H => st_loadK m κ c 1 1 (r := 0) (h := 0) (by decide) (by decide) H) ?_
  refine st_ret c ?_
  refine st_seq c ?_; rw [k0_part41_eq_skeleton]; unfold k0_part41_skel
  refine foc_k10 (fun _ H => st_loadK m κ c 1 0 (r := 0) (h := 1) (by decide) (by decide) H) ?_
  refine foc_k11 (fun _ H => st_loadK m κ c 1 1 (r := 0) (h := 1) (by decide) (by decide) H) ?_
  refine foc_k10 (fun _ H => st_loadK m κ c 1 0 (r := 0) (h := 2) (by decide) (by decide) H) ?_
  refine foc_k11 (fun _ H => st_loadK m κ c 1 1 (r := 0) (h := 2) (by decide) (by decide) H) ?_
  refine st_ret c ?_
  refine st_seq c ?_; rw [k0_part42_eq_skeleton]; unfold k0_part42_skel
  refine foc_k10 (fun _ H => st_loadK m κ c 1 0 (r := 0) (h := 3) (by decide) (by decide) H) ?_
  refine foc_k11 (fun _ H => st_loadK m κ c 1 1 (r := 0) (h := 3) (by decide) (by decide) H) ?_
  refine foc_k10 (fun _ H => st_loadK m κ c 1 0 (r := 0) (h := 4) (by decide) (by decide) H) ?_
  refine foc_k11 (fun _ H => st_loadK m κ c 1 1 (r := 0) (h := 4) (by decide) (by decide) H) ?_
  refine st_ret c ?_
  refine st_seq c ?_; rw [k0_part43_eq_skeleton]; unfold k0_part43_skel
  refine foc_k10 (fun _ H => st_loadK m κ c 1 0 (r := 0) (h := 5) (by decide) (by decide) H) ?_
  refine foc_k11 (fun _ H => st_loadK m κ c 1 1 (r := 0) (h := 5) (by decide) (by decide) H) ?_
  refine foc_k10 (fun _ H => st_loadK m κ c 1 0 (r := 0) (h := 6) (by decide) (by decide) H) ?_
  refine foc_k11 (fun _ H => st_loadK m κ c 1 1 (r := 0) (h := 6) (by decide) (by decide) H) ?_
  refine st_ret c ?_
  refine st_seq c ?_; rw [k0_part44_eq_skeleton]; unfold k0_part44_skel
  refine foc_k10 (fun _ H => st_loadK m κ c 1 0 (r := 0) (h := 7) (by decide) (by decide) H) ?_
  refine foc_k10 (fun _ H => turn (KL_KF m c 1 0) H) ?_
  refine foc_k11 (fun _ H => st_loadK m κ c 1 1 (r := 0) (h := 7) (by decide) (by decide) H) ?_
  refine foc_k11 (fun _ H => turn (KL_KF m c 1 1) H) ?_
  refine focV_ps (fun _ H => st_loadBlk m κ c (q := 1) (by decide) H) (fun _ => ?_)
  refine st_ret c ?_
  refine st_seq c ?_; rw [k0_part45_eq_skeleton]; unfold k0_part45_skel
  refine foc_ps (fun _ H => st_storeBlk m κ c (q := 1) (by decide) (by exact rfl) (by rw [← pVal1]; unfold pRaw1; rfl) H) ?_
  refine foc_ps (fun _ H => st_condSend m κ c (j := 4) (q := 2) (by decide) (by decide) (condX c 4) (fun h => ⟨_, _, _, _, _, _, _, _, _, rfl, Fin.ext (devX c 4), refChunk _ (offXd c 4), refSlot _ (offXc c 4), semX0 _ (offXa c 4), semX1 _ (offXb c 4)⟩) (fun _ => rfl) H) ?_
  refine foc_ps (fun _ H => st_condSend m κ c (j := 5) (q := 2) (by decide) (by decide) (condX c 5) (fun h => ⟨_, _, _, _, _, _, _, _, _, rfl, Fin.ext (devX c 5), refChunk _ (offXd c 5), refSlot _ (offXc c 5), semX0 _ (offXa c 5), semX1 _ (offXb c 5)⟩) (fun _ => rfl) H) ?_
  refine st_ret c ?_
  refine st_seq c ?_; rw [k0_part46_eq_skeleton]; unfold k0_part46_skel
  refine foc_ps (fun _ H => st_condSend m κ c (j := 6) (q := 2) (by decide) (by decide) (condX c 6) (fun h => ⟨_, _, _, _, _, _, _, _, _, rfl, Fin.ext (devX c 6), refChunk _ (offXd c 6), refSlot _ (offXc c 6), semX0 _ (offXa c 6), semX1 _ (offXb c 6)⟩) (fun _ => rfl) H) ?_
  refine foc_ps (fun _ H => st_condSend m κ c (j := 7) (q := 2) (by decide) (by decide) (condX c 7) (fun h => ⟨_, _, _, _, _, _, _, _, _, rfl, Fin.ext (devX c 7), refChunk _ (offXd c 7), refSlot _ (offXc c 7), semX0 _ (offXa c 7), semX1 _ (offXb c 7)⟩) (fun _ => rfl) H) ?_
  refine st_ret c ?_
  refine st_seq c ?_; rw [k0_part47_eq_skeleton]; unfold k0_part47_skel
  refine foc_k10 (fun _ H => st_start m κ c 1 0 (r := 1) (h := 0) (by decide) (by decide) (refSrc 0 _ 0 c (offK3 c 0)) rfl (semK 1 0) H) ?_
  refine foc_k11 (fun _ H => st_start m κ c 1 1 (r := 1) (h := 0) (by decide) (by decide) (refSrc 1 _ 0 c (offK3 c 0)) rfl (semK 1 1) H) ?_
  refine foc_k10 (fun _ H => st_start m κ c 1 0 (r := 1) (h := 1) (by decide) (by decide) (refSrc 0 _ 1 c (offK3 c 1)) rfl (semK 1 0) H) ?_
  refine st_ret c ?_
  refine st_seq c ?_; rw [k0_part48_eq_skeleton]; unfold k0_part48_skel
  refine foc_k11 (fun _ H => st_start m κ c 1 1 (r := 1) (h := 1) (by decide) (by decide) (refSrc 1 _ 1 c (offK3 c 1)) rfl (semK 1 1) H) ?_
  refine foc_k10 (fun _ H => st_start m κ c 1 0 (r := 1) (h := 2) (by decide) (by decide) (refSrc 0 _ 2 c (offK3 c 2)) rfl (semK 1 0) H) ?_
  refine foc_k11 (fun _ H => st_start m κ c 1 1 (r := 1) (h := 2) (by decide) (by decide) (refSrc 1 _ 2 c (offK3 c 2)) rfl (semK 1 1) H) ?_
  refine st_ret c ?_
  refine st_seq c ?_; rw [k0_part49_eq_skeleton]; unfold k0_part49_skel
  refine foc_k10 (fun _ H => st_start m κ c 1 0 (r := 1) (h := 3) (by decide) (by decide) (refSrc 0 _ 3 c (offK3 c 3)) rfl (semK 1 0) H) ?_
  refine foc_k11 (fun _ H => st_start m κ c 1 1 (r := 1) (h := 3) (by decide) (by decide) (refSrc 1 _ 3 c (offK3 c 3)) rfl (semK 1 1) H) ?_
  refine foc_k10 (fun _ H => st_start m κ c 1 0 (r := 1) (h := 4) (by decide) (by decide) (refSrc 0 _ 4 c (offK3 c 4)) rfl (semK 1 0) H) ?_
  refine st_ret c ?_
  refine st_seq c ?_; rw [k0_part50_eq_skeleton]; unfold k0_part50_skel
  refine foc_k11 (fun _ H => st_start m κ c 1 1 (r := 1) (h := 4) (by decide) (by decide) (refSrc 1 _ 4 c (offK3 c 4)) rfl (semK 1 1) H) ?_
  refine foc_k10 (fun _ H => st_start m κ c 1 0 (r := 1) (h := 5) (by decide) (by decide) (refSrc 0 _ 5 c (offK3 c 5)) rfl (semK 1 0) H) ?_
  refine foc_k11 (fun _ H => st_start m κ c 1 1 (r := 1) (h := 5) (by decide) (by decide) (refSrc 1 _ 5 c (offK3 c 5)) rfl (semK 1 1) H) ?_
  refine st_ret c ?_
  refine st_seq c ?_; rw [k0_part51_eq_skeleton]; unfold k0_part51_skel
  refine foc_k10 (fun _ H => st_start m κ c 1 0 (r := 1) (h := 6) (by decide) (by decide) (refSrc 0 _ 6 c (offK3 c 6)) rfl (semK 1 0) H) ?_
  refine foc_k11 (fun _ H => st_start m κ c 1 1 (r := 1) (h := 6) (by decide) (by decide) (refSrc 1 _ 6 c (offK3 c 6)) rfl (semK 1 1) H) ?_
  refine foc_k10 (fun _ H => st_start m κ c 1 0 (r := 1) (h := 7) (by decide) (by decide) (refSrc 0 _ 7 c (offK3 c 7)) rfl (semK 1 0) H) ?_
  refine foc_k10 (fun _ H => turn (KF_KW m c 1 0 1 _) H) ?_
  refine st_ret c ?_
  refine st_seq c ?_; rw [k0_part52_eq_skeleton]; unfold k0_part52_skel
  refine foc_k11 (fun _ H => st_start m κ c 1 1 (r := 1) (h := 7) (by decide) (by decide) (refSrc 1 _ 7 c (offK3 c 7)) rfl (semK 1 1) H) ?_
  refine foc_k11 (fun _ H => turn (KF_KW m c 1 1 1 _) H) ?_
  refine foc_k00 (fun _ H => st_waitK m κ c 0 0 (r := 1) (h := 0) (by decide) (by decide) (by decide) (semK 0 0) (by exact rfl) H) ?_
  refine foc_k01 (fun _ H => st_waitK m κ c 0 1 (r := 1) (h := 0) (by decide) (by decide) (by decide) (semK 0 1) (by exact rfl) H) ?_
  refine st_ret c ?_
  refine st_seq c ?_; rw [k0_part53_eq_skeleton]; unfold k0_part53_skel
  refine foc_k00 (fun _ H => st_waitK m κ c 0 0 (r := 1) (h := 1) (by decide) (by decide) (by decide) (semK 0 0) (by exact rfl) H) ?_
  refine foc_k01 (fun _ H => st_waitK m κ c 0 1 (r := 1) (h := 1) (by decide) (by decide) (by decide) (semK 0 1) (by exact rfl) H) ?_
  refine foc_k00 (fun _ H => st_waitK m κ c 0 0 (r := 1) (h := 2) (by decide) (by decide) (by decide) (semK 0 0) (by exact rfl) H) ?_
  refine st_ret c ?_
  refine st_seq c ?_; rw [k0_part54_eq_skeleton]; unfold k0_part54_skel
  refine foc_k01 (fun _ H => st_waitK m κ c 0 1 (r := 1) (h := 2) (by decide) (by decide) (by decide) (semK 0 1) (by exact rfl) H) ?_
  refine foc_k00 (fun _ H => st_waitK m κ c 0 0 (r := 1) (h := 3) (by decide) (by decide) (by decide) (semK 0 0) (by exact rfl) H) ?_
  refine foc_k01 (fun _ H => st_waitK m κ c 0 1 (r := 1) (h := 3) (by decide) (by decide) (by decide) (semK 0 1) (by exact rfl) H) ?_
  refine st_ret c ?_
  refine st_seq c ?_; rw [k0_part55_eq_skeleton]; unfold k0_part55_skel
  refine foc_k00 (fun _ H => st_waitK m κ c 0 0 (r := 1) (h := 4) (by decide) (by decide) (by decide) (semK 0 0) (by exact rfl) H) ?_
  refine foc_k01 (fun _ H => st_waitK m κ c 0 1 (r := 1) (h := 4) (by decide) (by decide) (by decide) (semK 0 1) (by exact rfl) H) ?_
  refine foc_k00 (fun _ H => st_waitK m κ c 0 0 (r := 1) (h := 5) (by decide) (by decide) (by decide) (semK 0 0) (by exact rfl) H) ?_
  refine st_ret c ?_
  refine st_seq c ?_; rw [k0_part56_eq_skeleton]; unfold k0_part56_skel
  refine foc_k01 (fun _ H => st_waitK m κ c 0 1 (r := 1) (h := 5) (by decide) (by decide) (by decide) (semK 0 1) (by exact rfl) H) ?_
  refine foc_k00 (fun _ H => st_waitK m κ c 0 0 (r := 1) (h := 6) (by decide) (by decide) (by decide) (semK 0 0) (by exact rfl) H) ?_
  refine foc_k01 (fun _ H => st_waitK m κ c 0 1 (r := 1) (h := 6) (by decide) (by decide) (by decide) (semK 0 1) (by exact rfl) H) ?_
  refine st_ret c ?_
  refine st_seq c ?_; rw [k0_part57_eq_skeleton]; unfold k0_part57_skel
  refine foc_k00 (fun _ H => st_waitK7 m κ c 0 0 (r := 1) (by decide) (by decide) (semK 0 0) (by exact rfl) H) ?_
  refine foc_k01 (fun _ H => st_waitK7 m κ c 0 1 (r := 1) (by decide) (by decide) (semK 0 1) (by exact rfl) H) ?_
  refine foc_k00 (fun _ H => st_loadK m κ c 0 0 (r := 1) (h := 0) (by decide) (by decide) H) ?_
  refine foc_k01 (fun _ H => st_loadK m κ c 0 1 (r := 1) (h := 0) (by decide) (by decide) H) ?_
  refine st_ret c ?_
  refine st_seq c ?_; rw [k0_part58_eq_skeleton]; unfold k0_part58_skel
  refine foc_k00 (fun _ H => st_loadK m κ c 0 0 (r := 1) (h := 1) (by decide) (by decide) H) ?_
  refine foc_k01 (fun _ H => st_loadK m κ c 0 1 (r := 1) (h := 1) (by decide) (by decide) H) ?_
  refine foc_k00 (fun _ H => st_loadK m κ c 0 0 (r := 1) (h := 2) (by decide) (by decide) H) ?_
  refine foc_k01 (fun _ H => st_loadK m κ c 0 1 (r := 1) (h := 2) (by decide) (by decide) H) ?_
  refine st_ret c ?_
  refine st_seq c ?_; rw [k0_part59_eq_skeleton]; unfold k0_part59_skel
  refine foc_k00 (fun _ H => st_loadK m κ c 0 0 (r := 1) (h := 3) (by decide) (by decide) H) ?_
  refine foc_k01 (fun _ H => st_loadK m κ c 0 1 (r := 1) (h := 3) (by decide) (by decide) H) ?_
  refine foc_k00 (fun _ H => st_loadK m κ c 0 0 (r := 1) (h := 4) (by decide) (by decide) H) ?_
  refine foc_k01 (fun _ H => st_loadK m κ c 0 1 (r := 1) (h := 4) (by decide) (by decide) H) ?_
  refine st_ret c ?_
  refine st_seq c ?_; rw [k0_part60_eq_skeleton]; unfold k0_part60_skel
  refine foc_k00 (fun _ H => st_loadK m κ c 0 0 (r := 1) (h := 5) (by decide) (by decide) H) ?_
  refine foc_k01 (fun _ H => st_loadK m κ c 0 1 (r := 1) (h := 5) (by decide) (by decide) H) ?_
  refine foc_k00 (fun _ H => st_loadK m κ c 0 0 (r := 1) (h := 6) (by decide) (by decide) H) ?_
  refine foc_k01 (fun _ H => st_loadK m κ c 0 1 (r := 1) (h := 6) (by decide) (by decide) H) ?_
  refine st_ret c ?_
  refine st_ret c ?_
  refine st_seq c ?_; rw [k0_part112_eq_skeleton]; unfold k0_part112_skel
  refine st_seq c ?_; rw [k0_part61_eq_skeleton]; unfold k0_part61_skel
  refine foc_k00 (fun _ H => st_loadK m κ c 0 0 (r := 1) (h := 7) (by decide) (by decide) H) ?_
  refine foc_k01 (fun _ H => st_loadK m κ c 0 1 (r := 1) (h := 7) (by decide) (by decide) H) ?_
  refine focV_ps (fun _ H => st_loadBlk m κ c (q := 2) (by decide) H) (fun _ => ?_)
  refine foc_ps (fun _ H => st_storeBlk m κ c (q := 2) (by decide) (by exact rfl) (by rw [← pVal2]; unfold pRaw2; rfl) H) ?_
  refine st_ret c ?_
  refine st_seq c ?_; rw [k0_part62_eq_skeleton]; unfold k0_part62_skel
  refine foc_ps (fun _ H => st_condSend m κ c (j := 8) (q := 3) (by decide) (by decide) (condX c 8) (fun h => ⟨_, _, _, _, _, _, _, _, _, rfl, Fin.ext (devX c 8), refChunk _ (offXd c 8), refSlot _ (offXc c 8), semX0 _ (offXa c 8), semX1 _ (offXb c 8)⟩) (fun _ => rfl) H) ?_
  refine foc_ps (fun _ H => st_condSend m κ c (j := 9) (q := 3) (by decide) (by decide) (condX c 9) (fun h => ⟨_, _, _, _, _, _, _, _, _, rfl, Fin.ext (devX c 9), refChunk _ (offXd c 9), refSlot _ (offXc c 9), semX0 _ (offXa c 9), semX1 _ (offXb c 9)⟩) (fun _ => rfl) H) ?_
  refine st_ret c ?_
  refine st_seq c ?_; rw [k0_part63_eq_skeleton]; unfold k0_part63_skel
  refine foc_ps (fun _ H => st_condSend m κ c (j := 10) (q := 3) (by decide) (by decide) (condX c 10) (fun h => ⟨_, _, _, _, _, _, _, _, _, rfl, Fin.ext (devX c 10), refChunk _ (offXd c 10), refSlot _ (offXc c 10), semX0 _ (offXa c 10), semX1 _ (offXb c 10)⟩) (fun _ => rfl) H) ?_
  refine foc_ps (fun _ H => st_condSend m κ c (j := 11) (q := 3) (by decide) (by decide) (condX c 11) (fun h => ⟨_, _, _, _, _, _, _, _, _, rfl, Fin.ext (devX c 11), refChunk _ (offXd c 11), refSlot _ (offXc c 11), semX0 _ (offXa c 11), semX1 _ (offXb c 11)⟩) (fun _ => rfl) H) ?_
  refine foc_k10 (fun _ H => st_waitK m κ c 1 0 (r := 1) (h := 0) (by decide) (by decide) (by decide) (semK 1 0) (by exact rfl) H) ?_
  refine st_ret c ?_
  refine st_seq c ?_; rw [k0_part64_eq_skeleton]; unfold k0_part64_skel
  refine foc_k11 (fun _ H => st_waitK m κ c 1 1 (r := 1) (h := 0) (by decide) (by decide) (by decide) (semK 1 1) (by exact rfl) H) ?_
  refine foc_k10 (fun _ H => st_waitK m κ c 1 0 (r := 1) (h := 1) (by decide) (by decide) (by decide) (semK 1 0) (by exact rfl) H) ?_
  refine foc_k11 (fun _ H => st_waitK m κ c 1 1 (r := 1) (h := 1) (by decide) (by decide) (by decide) (semK 1 1) (by exact rfl) H) ?_
  refine st_ret c ?_
  refine st_seq c ?_; rw [k0_part65_eq_skeleton]; unfold k0_part65_skel
  refine foc_k10 (fun _ H => st_waitK m κ c 1 0 (r := 1) (h := 2) (by decide) (by decide) (by decide) (semK 1 0) (by exact rfl) H) ?_
  refine foc_k11 (fun _ H => st_waitK m κ c 1 1 (r := 1) (h := 2) (by decide) (by decide) (by decide) (semK 1 1) (by exact rfl) H) ?_
  refine foc_k10 (fun _ H => st_waitK m κ c 1 0 (r := 1) (h := 3) (by decide) (by decide) (by decide) (semK 1 0) (by exact rfl) H) ?_
  refine st_ret c ?_
  refine st_seq c ?_; rw [k0_part66_eq_skeleton]; unfold k0_part66_skel
  refine foc_k11 (fun _ H => st_waitK m κ c 1 1 (r := 1) (h := 3) (by decide) (by decide) (by decide) (semK 1 1) (by exact rfl) H) ?_
  refine foc_k10 (fun _ H => st_waitK m κ c 1 0 (r := 1) (h := 4) (by decide) (by decide) (by decide) (semK 1 0) (by exact rfl) H) ?_
  refine foc_k11 (fun _ H => st_waitK m κ c 1 1 (r := 1) (h := 4) (by decide) (by decide) (by decide) (semK 1 1) (by exact rfl) H) ?_
  refine st_ret c ?_
  refine st_seq c ?_; rw [k0_part67_eq_skeleton]; unfold k0_part67_skel
  refine foc_k10 (fun _ H => st_waitK m κ c 1 0 (r := 1) (h := 5) (by decide) (by decide) (by decide) (semK 1 0) (by exact rfl) H) ?_
  refine foc_k11 (fun _ H => st_waitK m κ c 1 1 (r := 1) (h := 5) (by decide) (by decide) (by decide) (semK 1 1) (by exact rfl) H) ?_
  refine foc_k10 (fun _ H => st_waitK m κ c 1 0 (r := 1) (h := 6) (by decide) (by decide) (by decide) (semK 1 0) (by exact rfl) H) ?_
  refine st_ret c ?_
  refine st_seq c ?_; rw [k0_part68_eq_skeleton]; unfold k0_part68_skel
  refine foc_k11 (fun _ H => st_waitK m κ c 1 1 (r := 1) (h := 6) (by decide) (by decide) (by decide) (semK 1 1) (by exact rfl) H) ?_
  refine foc_k10 (fun _ H => st_waitK7 m κ c 1 0 (r := 1) (by decide) (by decide) (semK 1 0) (by exact rfl) H) ?_
  refine foc_k11 (fun _ H => st_waitK7 m κ c 1 1 (r := 1) (by decide) (by decide) (semK 1 1) (by exact rfl) H) ?_
  refine st_ret c ?_
  refine st_seq c ?_; rw [k0_part69_eq_skeleton]; unfold k0_part69_skel
  refine foc_k10 (fun _ H => st_loadK m κ c 1 0 (r := 1) (h := 0) (by decide) (by decide) H) ?_
  refine foc_k11 (fun _ H => st_loadK m κ c 1 1 (r := 1) (h := 0) (by decide) (by decide) H) ?_
  refine foc_k10 (fun _ H => st_loadK m κ c 1 0 (r := 1) (h := 1) (by decide) (by decide) H) ?_
  refine foc_k11 (fun _ H => st_loadK m κ c 1 1 (r := 1) (h := 1) (by decide) (by decide) H) ?_
  refine st_ret c ?_
  refine st_seq c ?_; rw [k0_part70_eq_skeleton]; unfold k0_part70_skel
  refine foc_k10 (fun _ H => st_loadK m κ c 1 0 (r := 1) (h := 2) (by decide) (by decide) H) ?_
  refine foc_k11 (fun _ H => st_loadK m κ c 1 1 (r := 1) (h := 2) (by decide) (by decide) H) ?_
  refine foc_k10 (fun _ H => st_loadK m κ c 1 0 (r := 1) (h := 3) (by decide) (by decide) H) ?_
  refine foc_k11 (fun _ H => st_loadK m κ c 1 1 (r := 1) (h := 3) (by decide) (by decide) H) ?_
  refine st_ret c ?_
  refine st_seq c ?_; rw [k0_part71_eq_skeleton]; unfold k0_part71_skel
  refine foc_k10 (fun _ H => st_loadK m κ c 1 0 (r := 1) (h := 4) (by decide) (by decide) H) ?_
  refine foc_k11 (fun _ H => st_loadK m κ c 1 1 (r := 1) (h := 4) (by decide) (by decide) H) ?_
  refine foc_k10 (fun _ H => st_loadK m κ c 1 0 (r := 1) (h := 5) (by decide) (by decide) H) ?_
  refine foc_k11 (fun _ H => st_loadK m κ c 1 1 (r := 1) (h := 5) (by decide) (by decide) H) ?_
  refine st_ret c ?_
  refine st_seq c ?_; rw [k0_part72_eq_skeleton]; unfold k0_part72_skel
  refine foc_k10 (fun _ H => st_loadK m κ c 1 0 (r := 1) (h := 6) (by decide) (by decide) H) ?_
  refine foc_k11 (fun _ H => st_loadK m κ c 1 1 (r := 1) (h := 6) (by decide) (by decide) H) ?_
  refine foc_k10 (fun _ H => st_loadK m κ c 1 0 (r := 1) (h := 7) (by decide) (by decide) H) ?_
  refine st_ret c ?_
  refine st_seq c ?_; rw [k0_part73_eq_skeleton]; unfold k0_part73_skel
  refine foc_k11 (fun _ H => st_loadK m κ c 1 1 (r := 1) (h := 7) (by decide) (by decide) H) ?_
  refine focV_ps (fun _ H => st_loadBlk m κ c (q := 3) (by decide) H) (fun _ => ?_)
  refine foc_ps (fun _ H => st_storeBlk m κ c (q := 3) (by decide) (by exact rfl) (by rw [← pVal3]; unfold pRaw3; rfl) H) ?_
  refine foc_ps (fun _ H => st_condSend m κ c (j := 12) (q := 4) (by decide) (by decide) (condX c 12) (fun h => ⟨_, _, _, _, _, _, _, _, _, rfl, Fin.ext (devX c 12), refChunk _ (offXd c 12), refSlot _ (offXc c 12), semX0 _ (offXa c 12), semX1 _ (offXb c 12)⟩) (fun _ => rfl) H) ?_
  refine st_ret c ?_
  refine st_seq c ?_; rw [k0_part74_eq_skeleton]; unfold k0_part74_skel
  refine foc_ps (fun _ H => st_condSend m κ c (j := 13) (q := 4) (by decide) (by decide) (condX c 13) (fun h => ⟨_, _, _, _, _, _, _, _, _, rfl, Fin.ext (devX c 13), refChunk _ (offXd c 13), refSlot _ (offXc c 13), semX0 _ (offXa c 13), semX1 _ (offXb c 13)⟩) (fun _ => rfl) H) ?_
  refine foc_ps (fun _ H => st_condSend m κ c (j := 14) (q := 4) (by decide) (by decide) (condX c 14) (fun h => ⟨_, _, _, _, _, _, _, _, _, rfl, Fin.ext (devX c 14), refChunk _ (offXd c 14), refSlot _ (offXc c 14), semX0 _ (offXa c 14), semX1 _ (offXb c 14)⟩) (fun _ => rfl) H) ?_
  refine st_ret c ?_
  refine st_seq c ?_; rw [k0_part75_eq_skeleton]; unfold k0_part75_skel
  refine foc_ps (fun _ H => st_condSend m κ c (j := 15) (q := 4) (by decide) (by decide) (condX c 15) (fun h => ⟨_, _, _, _, _, _, _, _, _, rfl, Fin.ext (devX c 15), refChunk _ (offXd c 15), refSlot _ (offXc c 15), semX0 _ (offXa c 15), semX1 _ (offXb c 15)⟩) (fun _ => rfl) H) ?_
  refine foc_ps (fun _ H => turn (PS_KS m c) H) ?_
  refine foc_ps (fun _ H => st_loadOwn m κ c (offOwn c) H) ?_
  refine foc_rw (fun _ H => st_waitR m κ c (o := 1) (by decide) (by decide) (semX1 _ (offR c 0)) (by exact rfl) H) ?_
  refine foc_rw (fun _ H => st_loadR m κ c (o := 1) (by decide) (offRv c 0) H) ?_
  refine st_ret c ?_
  refine st_seq c ?_; rw [k0_part76_eq_skeleton]; unfold k0_part76_skel
  refine foc_rw (fun _ H => st_waitR m κ c (o := 2) (by decide) (by decide) (semX1 _ (offR c 1)) (by exact rfl) H) ?_
  refine foc_rw (fun _ H => st_loadR m κ c (o := 2) (by decide) (offRv c 1) H) ?_
  refine st_ret c ?_
  refine st_seq c ?_; rw [k0_part77_eq_skeleton]; unfold k0_part77_skel
  refine foc_rw (fun _ H => st_waitR m κ c (o := 3) (by decide) (by decide) (semX1 _ (offR c 2)) (by exact rfl) H) ?_
  refine foc_rw (fun _ H => st_loadR m κ c (o := 3) (by decide) (offRv c 2) H) ?_
  refine foc_rw (fun _ H => st_waitR m κ c (o := 4) (by decide) (by decide) (semX1 _ (offR c 3)) (by exact rfl) H) ?_
  refine foc_rw (fun _ H => st_loadR m κ c (o := 4) (by decide) (offRv c 3) H) ?_
  refine st_ret c ?_
  refine st_seq c ?_; rw [k0_part78_eq_skeleton]; unfold k0_part78_skel
  refine foc_rw (fun _ H => st_waitR m κ c (o := 5) (by decide) (by decide) (semX1 _ (offR c 4)) (by exact rfl) H) ?_
  refine foc_rw (fun _ H => st_loadR m κ c (o := 5) (by decide) (offRv c 4) H) ?_
  refine st_ret c ?_
  refine st_seq c ?_; rw [k0_part79_eq_skeleton]; unfold k0_part79_skel
  refine foc_rw (fun _ H => st_waitR m κ c (o := 6) (by decide) (by decide) (semX1 _ (offR c 5)) (by exact rfl) H) ?_
  refine foc_rw (fun _ H => st_loadR m κ c (o := 6) (by decide) (offRv c 5) H) ?_
  refine foc_rw (fun _ H => st_waitR m κ c (o := 7) (by decide) (by decide) (semX1 _ (offR c 6)) (by exact rfl) H) ?_
  refine foc_rw (fun _ H => st_loadR m κ c (o := 7) (by decide) (offRv c 6) H) ?_
  refine st_ret c ?_
  refine st_seq c ?_; rw [k0_part80_eq_skeleton]; unfold k0_part80_skel
  refine foc_rw (fun _ H => st_waitR m κ c (o := 8) (by decide) (by decide) (semX1 _ (offR c 7)) (by exact rfl) H) ?_
  refine foc_rw (fun _ H => st_loadR m κ c (o := 8) (by decide) (offRv c 7) H) ?_
  refine st_ret c ?_
  refine st_seq c ?_; rw [k0_part81_eq_skeleton]; unfold k0_part81_skel
  refine foc_rw (fun _ H => st_waitR m κ c (o := 9) (by decide) (by decide) (semX1 _ (offR c 8)) (by exact rfl) H) ?_
  refine foc_rw (fun _ H => st_loadR m κ c (o := 9) (by decide) (offRv c 8) H) ?_
  refine foc_rw (fun _ H => st_waitR m κ c (o := 10) (by decide) (by decide) (semX1 _ (offR c 9)) (by exact rfl) H) ?_
  refine foc_rw (fun _ H => st_loadR m κ c (o := 10) (by decide) (offRv c 9) H) ?_
  refine st_ret c ?_
  refine st_seq c ?_; rw [k0_part82_eq_skeleton]; unfold k0_part82_skel
  refine foc_rw (fun _ H => st_waitR m κ c (o := 11) (by decide) (by decide) (semX1 _ (offR c 10)) (by exact rfl) H) ?_
  refine foc_rw (fun _ H => st_loadR m κ c (o := 11) (by decide) (offRv c 10) H) ?_
  refine foc_rw (fun _ H => st_waitR m κ c (o := 12) (by decide) (by decide) (semX1 _ (offR c 11)) (by exact rfl) H) ?_
  refine st_ret c ?_
  refine st_seq c ?_; rw [k0_part83_eq_skeleton]; unfold k0_part83_skel
  refine foc_rw (fun _ H => st_loadR m κ c (o := 12) (by decide) (offRv c 11) H) ?_
  refine foc_rw (fun _ H => st_waitR m κ c (o := 13) (by decide) (by decide) (semX1 _ (offR c 12)) (by exact rfl) H) ?_
  refine foc_rw (fun _ H => st_loadR m κ c (o := 13) (by decide) (offRv c 12) H) ?_
  refine st_ret c ?_
  refine st_seq c ?_; rw [k0_part84_eq_skeleton]; unfold k0_part84_skel
  refine foc_rw (fun _ H => st_waitR m κ c (o := 14) (by decide) (by decide) (semX1 _ (offR c 13)) (by exact rfl) H) ?_
  refine foc_rw (fun _ H => st_loadR m κ c (o := 14) (by decide) (offRv c 13) H) ?_
  refine foc_rw (fun _ H => st_waitR m κ c (o := 15) (by decide) (by decide) (semX1 _ (offR c 14)) (by exact rfl) H) ?_
  refine foc_rw (fun _ H => st_loadR m κ c (o := 15) (by decide) (offRv c 14) H) ?_
  refine st_ret c ?_
  refine st_seq c ?_; rw [k0_part85_eq_skeleton]; unfold k0_part85_skel
  refine focV_gs (fun _ H => st_loadG c (offOwn c) H) (fun _ => ?_)
  refine foc_gs (fun _ H => st_storeG m c (offOwn c) (by unfold gBlk gRaw; rfl) H) ?_
  refine foc_gs (fun _ H => st_sendG m κ c (o := 1) (by decide) (by decide) (Fin.ext (devG c 0)) (refRows c (offRows c)) (refRows c (offRows c)) (semX2 _ (offR c 0)) (semX3 _ (offRecv c)) H) ?_
  refine st_ret c ?_
  refine st_seq c ?_; rw [k0_part86_eq_skeleton]; unfold k0_part86_skel
  refine foc_gs (fun _ H => st_sendG m κ c (o := 2) (by decide) (by decide) (Fin.ext (devG c 1)) (refRows c (offRows c)) (refRows c (offRows c)) (semX2 _ (offR c 1)) (semX3 _ (offRecv c)) H) ?_
  refine foc_gs (fun _ H => st_sendG m κ c (o := 3) (by decide) (by decide) (Fin.ext (devG c 2)) (refRows c (offRows c)) (refRows c (offRows c)) (semX2 _ (offR c 2)) (semX3 _ (offRecv c)) H) ?_
  refine st_ret c ?_
  refine st_seq c ?_; rw [k0_part87_eq_skeleton]; unfold k0_part87_skel
  refine foc_gs (fun _ H => st_sendG m κ c (o := 4) (by decide) (by decide) (Fin.ext (devG c 3)) (refRows c (offRows c)) (refRows c (offRows c)) (semX2 _ (offR c 3)) (semX3 _ (offRecv c)) H) ?_
  refine st_ret c ?_
  refine st_seq c ?_; rw [k0_part88_eq_skeleton]; unfold k0_part88_skel
  refine foc_gs (fun _ H => st_sendG m κ c (o := 5) (by decide) (by decide) (Fin.ext (devG c 4)) (refRows c (offRows c)) (refRows c (offRows c)) (semX2 _ (offR c 4)) (semX3 _ (offRecv c)) H) ?_
  refine foc_gs (fun _ H => st_sendG m κ c (o := 6) (by decide) (by decide) (Fin.ext (devG c 5)) (refRows c (offRows c)) (refRows c (offRows c)) (semX2 _ (offR c 5)) (semX3 _ (offRecv c)) H) ?_
  refine st_ret c ?_
  refine st_seq c ?_; rw [k0_part89_eq_skeleton]; unfold k0_part89_skel
  refine foc_gs (fun _ H => st_sendG m κ c (o := 7) (by decide) (by decide) (Fin.ext (devG c 6)) (refRows c (offRows c)) (refRows c (offRows c)) (semX2 _ (offR c 6)) (semX3 _ (offRecv c)) H) ?_
  refine foc_gs (fun _ H => st_sendG m κ c (o := 8) (by decide) (by decide) (Fin.ext (devG c 7)) (refRows c (offRows c)) (refRows c (offRows c)) (semX2 _ (offR c 7)) (semX3 _ (offRecv c)) H) ?_
  refine st_ret c ?_
  refine st_seq c ?_; rw [k0_part90_eq_skeleton]; unfold k0_part90_skel
  refine foc_gs (fun _ H => st_sendG m κ c (o := 9) (by decide) (by decide) (Fin.ext (devG c 8)) (refRows c (offRows c)) (refRows c (offRows c)) (semX2 _ (offR c 8)) (semX3 _ (offRecv c)) H) ?_
  refine st_ret c ?_
  refine st_seq c ?_; rw [k0_part91_eq_skeleton]; unfold k0_part91_skel
  refine foc_gs (fun _ H => st_sendG m κ c (o := 10) (by decide) (by decide) (Fin.ext (devG c 9)) (refRows c (offRows c)) (refRows c (offRows c)) (semX2 _ (offR c 9)) (semX3 _ (offRecv c)) H) ?_
  refine foc_gs (fun _ H => st_sendG m κ c (o := 11) (by decide) (by decide) (Fin.ext (devG c 10)) (refRows c (offRows c)) (refRows c (offRows c)) (semX2 _ (offR c 10)) (semX3 _ (offRecv c)) H) ?_
  refine st_ret c ?_
  refine st_seq c ?_; rw [k0_part92_eq_skeleton]; unfold k0_part92_skel
  refine foc_gs (fun _ H => st_sendG m κ c (o := 12) (by decide) (by decide) (Fin.ext (devG c 11)) (refRows c (offRows c)) (refRows c (offRows c)) (semX2 _ (offR c 11)) (semX3 _ (offRecv c)) H) ?_
  refine foc_gs (fun _ H => st_sendG m κ c (o := 13) (by decide) (by decide) (Fin.ext (devG c 12)) (refRows c (offRows c)) (refRows c (offRows c)) (semX2 _ (offR c 12)) (semX3 _ (offRecv c)) H) ?_
  refine st_ret c ?_
  refine st_seq c ?_; rw [k0_part93_eq_skeleton]; unfold k0_part93_skel
  refine foc_gs (fun _ H => st_sendG m κ c (o := 14) (by decide) (by decide) (Fin.ext (devG c 13)) (refRows c (offRows c)) (refRows c (offRows c)) (semX2 _ (offR c 13)) (semX3 _ (offRecv c)) H) ?_
  refine foc_gs (fun _ H => st_sendG m κ c (o := 15) (by decide) (by decide) (Fin.ext (devG c 14)) (refRows c (offRows c)) (refRows c (offRows c)) (semX2 _ (offR c 14)) (semX3 _ (offRecv c)) H) ?_
  refine st_ret c ?_
  refine st_seq c ?_; rw [k0_part94_eq_skeleton]; unfold k0_part94_skel
  refine foc_gw (fun _ H => st_waitG m κ c (o := 1) (by decide) (by decide) (semX3 _ (offR c 0)) (by exact rfl) H) ?_
  refine st_ret c ?_
  refine st_seq c ?_; rw [k0_part95_eq_skeleton]; unfold k0_part95_skel
  refine foc_gw (fun _ H => st_waitG m κ c (o := 2) (by decide) (by decide) (semX3 _ (offR c 1)) (by exact rfl) H) ?_
  refine foc_gw (fun _ H => st_waitG m κ c (o := 3) (by decide) (by decide) (semX3 _ (offR c 2)) (by exact rfl) H) ?_
  refine st_ret c ?_
  refine st_seq c ?_; rw [k0_part96_eq_skeleton]; unfold k0_part96_skel
  refine foc_gw (fun _ H => st_waitG m κ c (o := 4) (by decide) (by decide) (semX3 _ (offR c 3)) (by exact rfl) H) ?_
  refine foc_gw (fun _ H => st_waitG m κ c (o := 5) (by decide) (by decide) (semX3 _ (offR c 4)) (by exact rfl) H) ?_
  refine st_ret c ?_
  refine st_seq c ?_; rw [k0_part97_eq_skeleton]; unfold k0_part97_skel
  refine foc_gw (fun _ H => st_waitG m κ c (o := 6) (by decide) (by decide) (semX3 _ (offR c 5)) (by exact rfl) H) ?_
  refine foc_gw (fun _ H => st_waitG m κ c (o := 7) (by decide) (by decide) (semX3 _ (offR c 6)) (by exact rfl) H) ?_
  refine st_ret c ?_
  refine st_seq c ?_; rw [k0_part98_eq_skeleton]; unfold k0_part98_skel
  refine foc_gw (fun _ H => st_waitG m κ c (o := 8) (by decide) (by decide) (semX3 _ (offR c 7)) (by exact rfl) H) ?_
  refine foc_gw (fun _ H => st_waitG m κ c (o := 9) (by decide) (by decide) (semX3 _ (offR c 8)) (by exact rfl) H) ?_
  refine st_ret c ?_
  refine st_seq c ?_; rw [k0_part99_eq_skeleton]; unfold k0_part99_skel
  refine foc_gw (fun _ H => st_waitG m κ c (o := 10) (by decide) (by decide) (semX3 _ (offR c 9)) (by exact rfl) H) ?_
  refine foc_gw (fun _ H => st_waitG m κ c (o := 11) (by decide) (by decide) (semX3 _ (offR c 10)) (by exact rfl) H) ?_
  refine st_ret c ?_
  refine st_seq c ?_; rw [k0_part100_eq_skeleton]; unfold k0_part100_skel
  refine foc_gw (fun _ H => st_waitG m κ c (o := 12) (by decide) (by decide) (semX3 _ (offR c 11)) (by exact rfl) H) ?_
  refine st_ret c ?_
  refine st_seq c ?_; rw [k0_part101_eq_skeleton]; unfold k0_part101_skel
  refine foc_gw (fun _ H => st_waitG m κ c (o := 13) (by decide) (by decide) (semX3 _ (offR c 12)) (by exact rfl) H) ?_
  refine foc_gw (fun _ H => st_waitG m κ c (o := 14) (by decide) (by decide) (semX3 _ (offR c 13)) (by exact rfl) H) ?_
  refine st_ret c ?_
  refine st_seq c ?_; rw [k0_part102_eq_skeleton]; unfold k0_part102_skel
  refine foc_gw (fun _ H => st_waitG m κ c (o := 15) (by decide) (by decide) (semX3 _ (offR c 14)) (by exact rfl) H) ?_
  refine turn_GX m c ?_
  refine foc_gw (fun _ H => st_loadGX m c H) ?_
  refine focV_xs (fun _ H => st_loadOut m c H) (fun _ => ?_)
  refine foc_xs (fun _ H => st_storeOut m c (by unfold outAt; rfl) H) ?_
  refine foc_ps (fun _ H => st_condWait m κ c (t := 0) (by decide) (condW c 0) (fun h => ⟨_, _, _, _, _, rfl, semX0 0 rfl, by exact rfl⟩) (fun _ => rfl) H) ?_
  refine foc_ps (fun _ H => st_condWait m κ c (t := 1) (by decide) (condW c 1) (fun h => ⟨_, _, _, _, _, rfl, semX0 1 rfl, by exact rfl⟩) (fun _ => rfl) H) ?_
  refine foc_ps (fun _ H => st_condWait m κ c (t := 2) (by decide) (condW c 2) (fun h => ⟨_, _, _, _, _, rfl, semX0 2 rfl, by exact rfl⟩) (fun _ => rfl) H) ?_
  refine foc_ps (fun _ H => st_condWait m κ c (t := 3) (by decide) (condW c 3) (fun h => ⟨_, _, _, _, _, rfl, semX0 3 rfl, by exact rfl⟩) (fun _ => rfl) H) ?_
  refine foc_ps (fun _ H => st_condWait m κ c (t := 4) (by decide) (condW c 4) (fun h => ⟨_, _, _, _, _, rfl, semX0 4 rfl, by exact rfl⟩) (fun _ => rfl) H) ?_
  refine foc_ps (fun _ H => st_condWait m κ c (t := 5) (by decide) (condW c 5) (fun h => ⟨_, _, _, _, _, rfl, semX0 5 rfl, by exact rfl⟩) (fun _ => rfl) H) ?_
  refine st_ret c ?_
  refine st_seq c ?_; rw [k0_part103_eq_skeleton]; unfold k0_part103_skel
  refine foc_ps (fun _ H => st_condWait m κ c (t := 6) (by decide) (condW c 6) (fun h => ⟨_, _, _, _, _, rfl, semX0 6 rfl, by exact rfl⟩) (fun _ => rfl) H) ?_
  refine foc_ps (fun _ H => st_condWait m κ c (t := 7) (by decide) (condW c 7) (fun h => ⟨_, _, _, _, _, rfl, semX0 7 rfl, by exact rfl⟩) (fun _ => rfl) H) ?_
  refine foc_ps (fun _ H => st_condWait m κ c (t := 8) (by decide) (condW c 8) (fun h => ⟨_, _, _, _, _, rfl, semX0 8 rfl, by exact rfl⟩) (fun _ => rfl) H) ?_
  refine foc_ps (fun _ H => st_condWait m κ c (t := 9) (by decide) (condW c 9) (fun h => ⟨_, _, _, _, _, rfl, semX0 9 rfl, by exact rfl⟩) (fun _ => rfl) H) ?_
  refine foc_ps (fun _ H => st_condWait m κ c (t := 10) (by decide) (condW c 10) (fun h => ⟨_, _, _, _, _, rfl, semX0 10 rfl, by exact rfl⟩) (fun _ => rfl) H) ?_
  refine foc_ps (fun _ H => st_condWait m κ c (t := 11) (by decide) (condW c 11) (fun h => ⟨_, _, _, _, _, rfl, semX0 11 rfl, by exact rfl⟩) (fun _ => rfl) H) ?_
  refine foc_ps (fun _ H => st_condWait m κ c (t := 12) (by decide) (condW c 12) (fun h => ⟨_, _, _, _, _, rfl, semX0 12 rfl, by exact rfl⟩) (fun _ => rfl) H) ?_
  refine foc_ps (fun _ H => st_condWait m κ c (t := 13) (by decide) (condW c 13) (fun h => ⟨_, _, _, _, _, rfl, semX0 13 rfl, by exact rfl⟩) (fun _ => rfl) H) ?_
  refine foc_ps (fun _ H => st_condWait m κ c (t := 14) (by decide) (condW c 14) (fun h => ⟨_, _, _, _, _, rfl, semX0 14 rfl, by exact rfl⟩) (fun _ => rfl) H) ?_
  refine foc_ps (fun _ H => st_condWait m κ c (t := 15) (by decide) (condW c 15) (fun h => ⟨_, _, _, _, _, rfl, semX0 15 rfl, by exact rfl⟩) (fun _ => rfl) H) ?_
  refine st_ret c ?_
  refine st_seq c ?_; rw [k0_part104_eq_skeleton]; unfold k0_part104_skel
  refine foc_gs (fun _ H => st_waitL m κ c (o := 1) (by decide) (by decide) (semX2 _ (offR c 0)) (by exact rfl) H) ?_
  refine foc_gs (fun _ H => st_waitL m κ c (o := 2) (by decide) (by decide) (semX2 _ (offR c 1)) (by exact rfl) H) ?_
  refine st_ret c ?_
  refine st_seq c ?_; rw [k0_part105_eq_skeleton]; unfold k0_part105_skel
  refine foc_gs (fun _ H => st_waitL m κ c (o := 3) (by decide) (by decide) (semX2 _ (offR c 2)) (by exact rfl) H) ?_
  refine foc_gs (fun _ H => st_waitL m κ c (o := 4) (by decide) (by decide) (semX2 _ (offR c 3)) (by exact rfl) H) ?_
  refine st_ret c ?_
  refine st_seq c ?_; rw [k0_part106_eq_skeleton]; unfold k0_part106_skel
  refine foc_gs (fun _ H => st_waitL m κ c (o := 5) (by decide) (by decide) (semX2 _ (offR c 4)) (by exact rfl) H) ?_
  refine foc_gs (fun _ H => st_waitL m κ c (o := 6) (by decide) (by decide) (semX2 _ (offR c 5)) (by exact rfl) H) ?_
  refine st_ret c ?_
  refine st_seq c ?_; rw [k0_part107_eq_skeleton]; unfold k0_part107_skel
  refine foc_gs (fun _ H => st_waitL m κ c (o := 7) (by decide) (by decide) (semX2 _ (offR c 6)) (by exact rfl) H) ?_
  refine foc_gs (fun _ H => st_waitL m κ c (o := 8) (by decide) (by decide) (semX2 _ (offR c 7)) (by exact rfl) H) ?_
  refine st_ret c ?_
  refine st_seq c ?_; rw [k0_part108_eq_skeleton]; unfold k0_part108_skel
  refine foc_gs (fun _ H => st_waitL m κ c (o := 9) (by decide) (by decide) (semX2 _ (offR c 8)) (by exact rfl) H) ?_
  refine foc_gs (fun _ H => st_waitL m κ c (o := 10) (by decide) (by decide) (semX2 _ (offR c 9)) (by exact rfl) H) ?_
  refine st_ret c ?_
  refine st_seq c ?_; rw [k0_part109_eq_skeleton]; unfold k0_part109_skel
  refine foc_gs (fun _ H => st_waitL m κ c (o := 11) (by decide) (by decide) (semX2 _ (offR c 10)) (by exact rfl) H) ?_
  refine foc_gs (fun _ H => st_waitL m κ c (o := 12) (by decide) (by decide) (semX2 _ (offR c 11)) (by exact rfl) H) ?_
  refine st_ret c ?_
  refine st_seq c ?_; rw [k0_part110_eq_skeleton]; unfold k0_part110_skel
  refine foc_gs (fun _ H => st_waitL m κ c (o := 13) (by decide) (by decide) (semX2 _ (offR c 12)) (by exact rfl) H) ?_
  refine foc_gs (fun _ H => st_waitL m κ c (o := 14) (by decide) (by decide) (semX2 _ (offR c 13)) (by exact rfl) H) ?_
  refine st_ret c ?_
  refine st_ret c ?_
  refine foc_gs (fun _ H => st_waitL m κ c (o := 15) (by decide) (by decide) (semX2 _ (offR c 14)) (by exact rfl) H) ?_
  exact st_ret c (ent_refl _)

end Cert.KProof

end
-- ==== Proof.Launch.lean ====
/-
The launch: the region around the body, what each device starts and ends with, and the run of the whole program.
-/
module

public import proofs.«01_k».proof.Proof.Ends
public import proofs.«01_k».proof.Proof.Body
public import Idealize.ShloMosaic.Lib.Pipeline.CollectiveSegs

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

def start (c : Dev nD) : sProp 𝕄 := iprop(G' m c ∗ levAts L lv ∗ Creds c ∗ Args m c)
def Φ₀ (c : Dev nD) : sProp 𝕄 := iprop(start m c ∗ Scr c)
def Φ₁ (c : Dev nD) : sProp 𝕄 := iprop(Args m c ∗ Scr c ∗ bigSep Finset.univ (fun i : CI => semVal (cell c i) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wqstg m c
    | ⟨2, _⟩ => wostg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 4)).fetch t = true := by rw [show t = t0_0 from fin_N0 t]; rfl
theorem fetch_1 (t : Fin cfg0.N) : (cfg0.win (1 : Fin 4)).fetch t = true := by rw [show t = t0_0 from fin_N0 t]; rfl
theorem fetch_2 (t : Fin cfg0.N) : (cfg0.win (2 : Fin 4)).fetch t = true := by rw [show t = t0_0 from fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f, ⌜f = X⌝ ∗ (c : Thread nD τ).loc b ↦{fullShare} f) := by
  unfold owns
  simp only [Memref.view_whole, View.read_whole, View.set_whole]

/-- A staging buffer at contents `X`. -/
abbrev stg (c : Dev nD) (b : Ref sig .tc) (X : b.ty.Contents (Elt F)) : sProp 𝕄 := iprop(∃ f, ⌜f = X⌝ ∗ (c : Thread nD τ).loc b ↦{fullShare} f)

abbrev tp : Fin cfg0.N := t0_0

def bodyPre' (c : Dev nD) : sProp 𝕄 :=
  iprop(Φ₀ m c ∗ (dats m ρ 0 c).owesAt () tp.castSucc
    ∗ (∃ d, stg c cc0_stg0_0 ((dats m ρ 0 c).before (0 : Fin 4) tp d))
    ∗ (∃ d, stg c cc0_stg1_0 ((dats m ρ 0 c).before (1 : Fin 4) tp d))
    ∗ (∃ d, stg c cc0_stg2_0 ((dats m ρ 0 c).before (2 : Fin 4) tp d))
    ∗ (∃ d, stg c cc0_stg3_0 ((dats m ρ 0 c).before (3 : Fin 4) tp d)))
def bodyPost (c : Dev nD) : sProp 𝕄 :=
  iprop(Φ₁ m c ∗ (dats m ρ 0 c).owesAt () tp.succ
    ∗ stg c cc0_stg0_0 (xstg m c) ∗ stg c cc0_stg1_0 (wqstg m c) ∗ stg c cc0_stg2_0 (wostg m c) ∗ stg c cc0_stg3_0 (outAt m c))

/-- The kernel's body at this program's buffers. -/
abbrev theBody : Prog (TpuEff nD τ sig (Elt F) Λ₀ .tc) PUnit :=
  cc0_body (F := F) xM (Memref.isWhole_whole _) wqM (Memref.isWhole_whole _) k5M (Memref.isWhole_whole _) v5M (Memref.isWhole_whole _) woM (Memref.isWhole_whole _) oM (Memref.isWhole_whole _)
      kM (Memref.isWhole_whole _) vM (Memref.isWhole_whole _) pM (Memref.isWhole_whole _) rM (Memref.isWhole_whole _) gM (Memref.isWhole_whole _) cc0_scratch5 cc0_scratch6 cc0_scratch7 cc0_scratch8 cc0_scratch9

/-- What a device has when the body returns. -/
def Done (c : Dev nD) : sProp 𝕄 := iprop(Ow c 16 16 16 ∗ XSo m c ∗ Args m c ∗ Scr c ∗ bigSep Finset.univ (fun i : CI => semVal (cell c i) 0))

theorem body_run (κ : Dev nD × CI → ℕ) (c : Dev nD) : iprop(Pers m κ ∗ Ow c 1 0 1 ∗ Lin c ∗ Creds c ∗ XS m c ∗ Args m c ∗ Scr c) ⊢ WP c (theBody (F := F)) (fun _ => Done m c) :=
  ent_trans (enter m κ c) (ent_trans (body_steps m κ c (Zc m c) _ _ _ _ _ _ _ _ _ _ _)
    (ent_trans (wp_mono _ _ _ fun _ => leave m κ c) (wp_fupd _ _ _ _ _)))

theorem post_intro (c : Dev nD) : Done m c ⊢ bodyPost m ρ c := by
  unfold Done bodyPost Φ₁ Dat.owesAt Pipeline.owesWithin XSo xsCore Ow
  rw [show (dats m ρ 0 c).owed tp.succ = 0 from rfl, ← oAll_end c]
  iintro ⟨⟨%W', HO⟩, ⟨H3, H0, H1, H2⟩, HA, HS, Hz⟩
  isplitl [HA HS Hz]
  · isplitl [HA]; · iexact HA
    isplitl [HS] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The body from what the region hands it to what it hands back. -/
theorem sound_body (c : Dev nD) : bodyPre' m ρ c ⊢ WP c (theBody (F := F)) (fun _ => bodyPost m ρ c) := by
  unfold bodyPre' Φ₀ start G' Dat.owesAt Pipeline.owesWithin
  iintro ⟨⟨⟨⟨%κ, HR, HL⟩, Hlev, HC, HA⟩, HS⟩, ⟨%W, -, HO⟩, ⟨%d0, %f0, %e0, H0⟩, ⟨%d1, %f1, %e1, H1⟩, ⟨%d2, %f2, %e2, H2⟩, ⟨%d3, %f3, -, H3⟩⟩
  have e0' : f0 = xstg m c := by rw [e0]; unfold Dat.before; rw [if_pos (fetch_0 tp)]; rfl
  have e1' : f1 = wqstg m c := by rw [e1]; unfold Dat.before; rw [if_pos (fetch_1 tp)]; rfl
  have e2' : f2 = wostg m c := by rw [e2]; unfold Dat.before; rw [if_pos (fetch_2 tp)]; rfl
  subst e0' e1' e2'
  iapply (ent_trans (body_run m κ c) (wp_mono _ _ _ fun _ => post_intro m ρ c))
  unfold Pers Recs Ow XS xsCore
  icases HR with ⟨Ha, Hb⟩
  isplitl [Ha Hb Hlev]
  · isplitl [Ha]; · iexact Ha
    isplitl [Hb] <;> iassumption
  isplitl [HO]; · iexists W; iexact HO
  isplitl [HL]; · iexact HL
  isplitl [HC]; · iexact HC
  isplitl [H0 H1 H2 H3]
  · isplitl [H3]; · iexists f3; iexact H3
    isplitl [H0]; · iexact H0
    isplitl [H1] <;> iassumption
  isplitl [HA] <;> iassumption

set_option maxRecDepth 4000 in
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_whole_eq]
  exact sound_body m ρ c

/-! ## The launch -/

theorem share_eq (c : Dev nD) (w : Fin cfg0.W) : (dats m ρ 0 c).share w = fullShare := by unfold Dat.share; split <;> rfl

theorem own_disj : ∀ (i : (Fin 2 × Fin 2) ⊕ (Fin 4 × Fin 16)) (w : Fin cfg0.W) (s : Fin (cfg0.spec w).nbuf), osem i ≠ .dma ((cfg0.win w).sem s) := by decide +kernel
theorem own_scoped : ∀ i : (Fin 2 × Fin 2) ⊕ (Fin 4 × Fin 16), (osem i).isScoped .tc = true := by decide +kernel
theorem ownSemFacts : Pipeline.OwnSemFacts cfg0.spec osem :=
  ⟨own_scoped, fun i j h => Sum.inr_injective (semOf_inj h), own_disj⟩

theorem stage_lv : ∀ (c : Dev nD) (w : Fin cfg0.W) (s : Fin (cfg0.spec w).nbuf), lv ((c : Thread nD τ), .dma ((cfg0.win w).sem s)) () = 0 := by decide +kernel

theorem waits (c : Dev nD) : (levAts L lv : sProp 𝕄) ⊢ Pipeline.cellsWaits cfgs (dats m ρ) () 0 c :=
  Pipeline.cellsWaits_intro cfgs (dats m ρ) () 0 c fun w s t => by
    have hl := stage_lv c w s
    rcases t with ⟨_ | _, ht⟩
    · exact mayWait c _ 1 0 1 0 (le_of_eq hl) (fun _ => by decide) (fun _ => by decide) (fun _ => by decide)
    · have h := mayWait (F := F) c (.dma ((cfg0.win w).sem s)) 16 16 16 0 (le_of_eq hl) (fun _ => by decide) (fun _ => by decide) (fun _ => by decide)
      rw [oAll_end c] at h; exact h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HA, Hlev, Hcr, -, HG⟩
  ihave Hc := (creds (F := F) c) $$ Hcr
  imodintro
  unfold start Args
  isplitl
  · isplitl [HG]; · iexact HG
    isplitl [Hlev]; · iexact Hlev
    isplitl [Hc]; · iexact Hc
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

/-- What is left of a device's holdings at the exit. -/
def Left (c : Dev nD) : sProp 𝕄 := iprop(Args m c ∗ unscopedSems0 c)

theorem phi1_exit (c : Dev nD) :
    (dats m ρ 0 c).Φ (Fin.last cfg0.N) ⊢ iprop(Left m c ∗ Pipeline.ownSems0 osem c ∗ Pipeline.scopedRest cfg0.spec c) := by
  rw [show (dats m ρ 0 c).Φ (Fin.last cfg0.N) = Φ₁ m c from rfl, scopedRest0_eq]
  unfold Φ₁ Scr Left
  rw [← sems_eq c]
  iintro ⟨HA, HS, Hu, Ho⟩
  isplitl [HA Hu]
  · isplitl [HA] <;> iassumption
  isplitl [Ho]; · iexact Ho
  iexact HS

/-! ## The run -/

def finalA (c : Dev nD) (w : Fin cfg0.W) : Buf (Elt F) ((cfg0.win w).arr.view.loc (c : Thread nD τ)) := (dats m ρ 0 c).arrAt w cfg0.N

/-- The arrays of keys and values are as they were, and the semaphores that outlive the region are at zero. -/
def QY (c : Dev nD) (s : MemSt nD τ sig (Elt F)) : Prop :=
  (s.mem ((c : Thread nD τ).loc main_arg2) = m ((c : Thread nD τ).loc main_arg2) ∧ s.mem ((c : Thread nD τ).loc main_arg3) = m ((c : Thread nD τ).loc main_arg3))
    ∧ ∀ sm : SemLoc sig, sm.isScoped .tc = false → s.sem ((c.tc : Thread nD τ), sm) = 0

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

set_option maxRecDepth 8000 in
/-- Every weakly fair execution from any memory with zero counters terminates, with each device's result array at the
computed contents, its arguments unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := Left m) (Z := fun _ => iprop(emp))
    (hX := start_intro m ρ) (hin := phi0_intro m ρ) (hout := phi1_exit m ρ)
    (QY := QY m)
    (hY := fun c s' => by
      unfold Left Args
      iintro ⟨⟨⟨H2, H3⟩, Hu⟩, -, HSI⟩
      icombine HSI H2 gives %h2
      icombine HSI H3 gives %h3
      imod (Pipeline.unscopedSems0_read (X := unscopedSems0 c) (c := c) fupd_intro s') $$ [Hu HSI] with ⟨%hs, HSI⟩
      · isplitl [Hu] <;> iassumption
      imodintro
      isplitr
      · ipureintro; exact ⟨⟨Buf.eq_of_forall_mem_univ h2, Buf.eq_of_forall_mem_univ h3⟩, hs⟩
      iexact HSI)
    (hQ := fun _ h hs => ⟨fun c => ⟨(h c).1, (h c).2.2.1⟩, sem_eq_zero hs fun c => (h c).2.2.2⟩)

theorem finalA_in (c : Dev nD) (w : Fin cfg0.W) (hw : (cfg0.win w).isOut = false) : finalA m ρ c w = m ((cfg0.win w).arr.view.loc (c : Thread nD τ)) :=
  (dats (F := F) m ρ 0 c).arrAt_in w hw _

end Cert.KProof

end
-- ==== Proof.Frames.lean ====
/-
What each program leaves unchanged, and that it ends with every semaphore at zero.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The run of the kernel, with each device's result and its arguments unchanged. -/
theorem run_args {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = finalA m ρ c (3 : Fin 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 (3 : Fin 4),
      ((h.1 c).1 (0 : Fin 4)).trans (finalA_in m ρ c (0 : Fin 4) rfl), ((h.1 c).1 (1 : Fin 4)).trans (finalA_in m ρ c (1 : Fin 4) rfl),
      (h.1 c).2.1, (h.1 c).2.2, ((h.1 c).1 (2 : Fin 4)).trans (finalA_in m ρ c (2 : Fin 4) rfl)⟩, h.2⟩) (run_main m ρ)

/-- The run, its arguments unchanged and its semaphores at zero. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_args m ρ)

theorem frame_kernelIdeal : Cert.quiescent_KernelIdeal := fun m ρ _ => run_frame (F := Ideal) m ρ

/-- The two programs have the same text, so the same kernels. -/
theorem kernels_eq {F : FTy → Type} [FloatOps F] : Cert.Kernel.defs₀ (F := F) = Cert.KernelIdeal.defs₀ (F := F) := by
  refine congrArg Defs.onTc ?_
  funext l a
  match l, a with
  | ⟨0, _⟩, (t, s) => rfl

theorem tables_eq {F : FTy → Type} [FloatOps F] : Cert.Kernel.defs (F := F) = Cert.KernelIdeal.defs (F := F) :=
  congrArg (Pipeline.defs _) kernels_eq

theorem frame_kernel : Cert.quiescent_Kernel := by
  intro m ρ _
  rw [tables_eq]
  exact run_frame (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof

end
-- ==== Proof.Head.lean ====
/-
What one head of attention computes of one block of queries, and what one block's partial product is: the same
for the four blocks, although the body's pieces are cut differently in each.
-/
module

public import proofs.«01_k».proof.Proof.Proto
public import Idealize.ShloMosaic.Lib.Pointwise

@[expose] public section

set_option maxRecDepth 16384

noncomputable section

namespace Cert.KProof

open Cert.KernelIdeal Cert.KernelIdeal.Gen

open Idealize.ShloMosaic
open Idealize.ShloMosaic.TcCoe
open Idealize.ShloMosaic.Pointwise

variable {F : FTy → Type} [FloatOps F]

theorem qSlices (qb : Fin 4) (h : Fin 8) : S256x1024.Slices ![64 * qb.val, 128 * h.val] S64x128 := by
  revert qb h; decide

/-- The rows of query block `qb` and the columns of head `h`. -/
def qOfHead (xq : FVec F S256x1024 .bf16) (qb : Fin 4) (h : Fin 8) : FVec F S64x128 .bf16 :=
  extractStridedSlice S64x128 ![64 * qb.val, 128 * h.val] xq (qSlices qb h)

/-- A head's keys (values) as a matrix. -/
def kvMat (k : Vec F S1x1x16x64x128 .f32) : FVec F S1024x128 .bf16 :=
  truncf .bf16 (shapeCast S1024x128 (shapeCast S16x64x128 k shapeCasts_S1x1x16x64x128_S16x64x128) shapeCasts_S16x64x128_S1024x128) bitsLt_bf16_f32

/-- The exponentials of the scores. -/
def headW (q : FVec F S64x128 .bf16) (k : FVec F S1024x128 .bf16) : FVec F S64x1024 .f32 :=
  exp (mulf (matmul dot_S64x128_S1024x128_S64x1024_1_1_0_0_n_n none q k (constant S64x1024 .f32 0x00000000#32))
    (broadcast S64x1024 (Scalar.ofBits .f32 0x3DB504F3#32)))

/-- One head's weighted mean of the values. -/
def headV (q : FVec F S64x128 .bf16) (k v : FVec F S1024x128 .bf16) : FVec F S64x128 .f32 :=
  divf (matmul dot_S64x1024_S1024x128_S64x128_1_0_0_1_n_n none (truncf .bf16 (headW q k) bitsLt_bf16_f32) v (constant S64x128 .f32 0x00000000#32))
    (broadcastTo S64x128 (shapeCast S64x1 (multiReduction .add [1] S64 (headW q k) 0x00000000#32 reduces_S64x1024_S64 (.inl rfl) rfl) shapeCasts_S64_S64x1) broadcasts_S64x1_S64x128)

/-- The product of the eight heads with the device's rows of the output projection. -/
def projV (wo : FVec F S1024x1024 .bf16) (f : Fin 8 → FVec F S64x128 .f32) : FVec F S64x1024 .bf16 :=
  shapeCast S64x1024 (truncf .bf16 (matmul dot_S64x1024_S1024x1024_S64x1024_1_0_0_1_n_n none
    (truncf .bf16 (concatenate S64x1024 1 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
      concatenates_S64x128_S64x128_S64x128_S64x128_S64x128_S64x128_S64x128_S64x128_S64x1024_d1) bitsLt_bf16_f32)
    wo (constant S64x1024 .f32 0x00000000#32)) bitsLt_bf16_f32) shapeCasts_S64x1024_S64x1024

/-- The four blocks' partial products have one form. -/
theorem pRaw_eq (qb : Fin 4) (xq : FVec F S256x1024 .bf16) (wo : FVec F S1024x1024 .bf16) (k v : Fin 8 → Vec F S1x1x16x64x128 .f32) :
    pRaw qb xq wo k v = projV wo (fun h => headV (qOfHead xq qb h) (kvMat (k h)) (kvMat (v h))) := by
  fin_cases qb <;> rfl

end Cert.KProof

end
-- ==== Proof.Read.lean ====
/-
The pieces of the kernel's value, read at an index.
-/
module

public import proofs.«01_k».proof.Proof.Head
public import Idealize.ShloMosaic.Lib.Pointwise

@[expose] public section

set_option maxRecDepth 16384

noncomputable section

namespace Cert.KProof

open Cert.KernelIdeal Cert.KernelIdeal.Gen

open Idealize.ShloMosaic
open Idealize.ShloMosaic.TcCoe
open Idealize.ShloMosaic.Pointwise

/-- The scale of the scores. -/
def scl : EReal := Ideal.ofBits .f32 0x3DB504F3#32

theorem headW_apply (q : FVec Ideal S64x128 .bf16) (k : FVec Ideal S1024x128 .bf16) (r : Fin 64) (j : Fin 1024) :
    headW q k (ix2 r j) = Ideal.exp ((∑ d : Fin 128, q (ix2 r d) * k (ix2 j d)) * scl) := by
  pointwise [headW, scl]

theorem headV_apply (q : FVec Ideal S64x128 .bf16) (k v : FVec Ideal S1024x128 .bf16) (r : Fin 64) (d : Fin 128) :
    headV q k v (ix2 r d) = Ideal.div (∑ j : Fin 1024, headW q k (ix2 r j) * v (ix2 j d)) (∑ j : Fin 1024, headW q k (ix2 r j)) := by
  pointwise [headV]

theorem qOfHead_apply (xq : FVec Ideal S256x1024 .bf16) (qb : Fin 4) (h : Fin 8) (r : Fin 64) (d : Fin 128) :
    qOfHead xq qb h (ix2 r d) = xq (ix2 (⟨64 * qb.val + r.val, by omega⟩ : Fin 256) (⟨h.val * 128 + d.val, by omega⟩ : Fin 1024)) := by
  pointwise [qOfHead, Nat.mul_comm]

theorem kvMat_apply (k : Vec Ideal S1x1x16x64x128 .f32) (a : Fin 16) (b : Fin 64) (d : Fin 128) :
    kvMat k (ix2 (⟨a.val * 64 + b.val, by omega⟩ : Fin 1024) d) = k (ix5 0 0 a b d) := by
  pointwise [kvMat]

/-- The eight heads side by side. -/
theorem heads_apply (f : Fin 8 → FVec Ideal S64x128 .f32) (r : Fin 64) (h : Fin 8) (d : Fin 128)
    (hc : Shape.Concatenates [S64x128, S64x128, S64x128, S64x128, S64x128, S64x128, S64x128, S64x128] S64x1024 1) :
    concatenate S64x1024 1 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩] hc
      (ix2 r (⟨h.val * 128 + d.val, by omega⟩ : Fin 1024)) = f h (ix2 r d) := by
  refine concatenate_ofFn_apply (s₁ := S64x128) 1 f hc rfl 128 rfl _ h ?_ (ix2 r d) ?_ ?_
  · show (h.val * 128 + d.val) / 128 = h.val
    omega
  · show d.val = (h.val * 128 + d.val) % 128
    omega
  · intro b hb
    match b with
    | 0 => rfl
    | 1 => exact absurd rfl hb

theorem projV_apply (wo : FVec Ideal S1024x1024 .bf16) (f : Fin 8 → FVec Ideal S64x128 .f32) (r : Fin 64) (n : Fin 1024) :
    projV wo f (ix2 r n) = ∑ h : Fin 8, ∑ d : Fin 128, f h (ix2 r d) * wo (ix2 (⟨h.val * 128 + d.val, by omega⟩ : Fin 1024) n) := by
  have e : projV wo f (ix2 r n) = ∑ x : Fin 1024, concatenate S64x1024 1 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
      concatenates_S64x128_S64x128_S64x128_S64x128_S64x128_S64x128_S64x128_S64x128_S64x1024_d1 (ix2 r x) * wo (ix2 x n) := by
    pointwise [projV]
  rw [e, Fin.sum_univ_tiles 8 128 rfl]
  exact Finset.sum_congr rfl fun h _ => Finset.sum_congr rfl fun d _ => by rw [heads_apply]

theorem pay1_apply (x : Vec Ideal S1x256x1024 .f32) (w : Vec Ideal S1024x1024 .f32) (i : Fin 256) (n : Fin 1024) :
    k0_pay1 x w (ix2 i n) = ∑ t : Fin 1024, x (ix3 0 i t) * w (ix2 t n) := by
  pointwise [k0_pay1]

theorem pay2_apply (w : Vec Ideal S1024x1024 .f32) (i : Fin 1024) (n : Fin 1024) :
    k0_pay2 w (ix2 i n) = w (ix2 i n) := by
  pointwise [k0_pay2]

theorem pay79_apply (w : Vec Ideal S256x1024 .bf16) (i : Fin 256) (n : Fin 1024) :
    k0_pay79 w (ix3 0 i n) = w (ix2 i n) := by
  pointwise [k0_pay79]

theorem gRaw_apply (p : Vec Ideal S16x1024 .bf16) (r : ℕ → Vec Ideal S1x16x1024 .bf16) (i : Fin 16) (n : Fin 1024) :
    gRaw p r (ix2 i n) = p (ix2 i n) + ∑ o ∈ Finset.Ico 1 16, r o (ix3 0 i n) := by
  simp only [gRaw, k0_pay67, k0_pay68, k0_pay69, k0_pay70, k0_pay71, k0_pay72, k0_pay73, k0_pay74, k0_pay75, k0_pay76, k0_pay77, k0_pay78]
  pointwise
  simp [Finset.sum_Ico_succ_top, add_assoc]

end Cert.KProof

end
-- ==== Proof.Mem.lean ====
/-
What the kernel's buffers hold, read at an index: the fetched keys and values, the received chunks, the gathered rows.
-/
module

public import proofs.«01_k».proof.Proof.Read
public import proofs.«01_k».proof.Proof.Launch
public import Idealize.ShloMosaic.Lib.Pointwise
public import Idealize.ShloMosaic.Lib.ViewIndex

@[expose] public section

set_option maxRecDepth 16384

noncomputable section

namespace Cert.KProof

open Cert.KernelIdeal Cert.KernelIdeal.Gen

open Idealize.ShloMosaic
open Idealize.ShloMosaic.TcCoe
open Idealize.ShloMosaic.Pointwise

variable {F : FTy → Type} [FloatOps F] (m : (ℓ : Loc nD τ sig) → Buf (Elt F) ℓ)

theorem reshape_kv (a : Fin 16) (b : Fin 64) (d : Fin 128) (h : S16x64x128.numel = S1x1x16x64x128.numel) :
    Shape.reshapeEquiv h (ix3 a b d) = (ix5 0 0 a b d : S1x1x16x64x128.Idx) := by
  have e : shapeCast S16x64x128 (fun i : S1x1x16x64x128.Idx => i) shapeCasts_S1x1x16x64x128_S16x64x128 (ix3 a b d) = (ix5 0 0 a b d : S1x1x16x64x128.Idx) := by
    pointwise
  exact e

theorem shapeCasts_src : S16x1x64x1x128.ShapeCasts S16x64x128 := by decide

theorem reshape_src (a : Fin 16) (b : Fin 64) (d : Fin 128) (h : S16x64x128.numel = S16x1x64x1x128.numel) :
    Shape.reshapeEquiv h (ix3 a b d) = (ix5 a 0 b 0 d : S16x1x64x1x128.Idx) := by
  have e : shapeCast S16x64x128 (fun i : S16x1x64x1x128.Idx => i) shapeCasts_src (ix3 a b d) = (ix5 a 0 b 0 d : S16x1x64x1x128.Idx) := by
    pointwise
  exact e

theorem reshape_slot (i : Fin 16) (n : Fin 1024) (h : S16x1024.numel = S1x16x1024.numel) :
    Shape.reshapeEquiv h (ix2 i n) = (ix3 0 i n : S1x16x1024.Idx) := by
  have e : shapeCast S16x1024 (fun i : S1x16x1024.Idx => i) shapeCasts_S1x16x1024_S16x1024 (ix2 i n) = (ix3 0 i n : S1x16x1024.Idx) := by
    pointwise
  exact e

theorem srcR_emb (qb : Fin 4) (h : Fin 8) (c : Fin 16) (a : Fin 16) (b : Fin 64) (d : Fin 128) :
    (srcR qb h c).emb (ix5 a 0 b 0 d : S16x1x64x1x128.Idx) = (ix5 a qb b (⟨8 * c.val + h.val, by omega⟩ : Fin 128) d : S16x4x64x128x128.Idx) := by
  funext x
  match x with
  | 0 => exact Fin.ext (show 0 + 1 * a.val = a.val by omega)
  | 1 => exact Fin.ext (show qb.val + 1 * 0 = qb.val by omega)
  | 2 => exact Fin.ext (show 0 + 1 * b.val = b.val by omega)
  | 3 => exact Fin.ext (show 8 * c.val + h.val + 1 * 0 = 8 * c.val + h.val by omega)
  | 4 => exact Fin.ext (show 0 + 1 * d.val = d.val by omega)

theorem rowR_emb (t i : Fin 16) (n : Fin 1024) :
    (rowR t).emb (ix2 i n : S16x1024.Idx) = (ix2 (⟨16 * t.val + i.val, by omega⟩ : Fin 256) n : S256x1024.Idx) := by
  funext x
  match x with
  | 0 => exact Fin.ext (show 16 * t.val + 1 * i.val = 16 * t.val + i.val by omega)
  | 1 => exact Fin.ext (show 0 + 1 * n.val = n.val by omega)

theorem blkR_emb (q : Fin 4) (r : Fin 64) (n : Fin 1024) :
    (blkR q).emb (ix2 r n : S64x1024.Idx) = (ix2 (⟨64 * q.val + r.val, by omega⟩ : Fin 256) n : S256x1024.Idx) := by
  funext x
  match x with
  | 0 => exact Fin.ext (show 64 * q.val + 1 * r.val = 64 * q.val + r.val by omega)
  | 1 => exact Fin.ext (show 0 + 1 * n.val = n.val by omega)

theorem kvSrc0_read (qb : Fin 4) (h : Fin 8) (c : Dev nD) (a : Fin 16) (b : Fin 64) (d : Fin 128) :
    (kvSrc 0 qb h c).view.read (Elt F) (m ((kvSrc 0 qb h c).view.loc (c : Thread nD τ))) (ix3 a b d)
      = m ((c : Thread nD τ).loc main_arg2) (ix5 a qb b (⟨8 * c.val + h.val, by have h : c.val < 16 := c.isLt; omega⟩ : Fin 128) d : S16x4x64x128x128.Idx) := by
  show m ((c : Thread nD τ).loc main_arg2) ((srcR qb h c).emb (Shape.reshapeEquiv _ (ix3 a b d))) = _
  rw [reshape_src, srcR_emb]

theorem kvSrc1_read (qb : Fin 4) (h : Fin 8) (c : Dev nD) (a : Fin 16) (b : Fin 64) (d : Fin 128) :
    (kvSrc 1 qb h c).view.read (Elt F) (m ((kvSrc 1 qb h c).view.loc (c : Thread nD τ))) (ix3 a b d)
      = m ((c : Thread nD τ).loc main_arg3) (ix5 a qb b (⟨8 * c.val + h.val, by have h : c.val < 16 := c.isLt; omega⟩ : Fin 128) d : S16x4x64x128x128.Idx) := by
  show m ((c : Thread nD τ).loc main_arg3) ((srcR qb h c).emb (Shape.reshapeEquiv _ (ix3 a b d))) = _
  rw [reshape_src, srcR_emb]

/-- A load of what a fetch brought reads the fetched elements. -/
theorem kvVal_read (kv slot : Fin 2) (qb : Fin 4) (c : Dev nD) (h : Fin 8) (a : Fin 16) (b : Fin 64) (d : Fin 128) :
    kvVal m kv slot qb c h (ix5 0 0 a b d) = (kvSrc kv qb h c).view.read (Elt F) (m ((kvSrc kv qb h c).view.loc (c : Thread nD τ))) (ix3 a b d) := by
  have e := View.read_write_reshape (Val := Elt F) ((bufRef kv).access (kvR slot h)) (s' := S16x64x128) squeezes_S1x1x16x64x128_S16x64x128.numel_eq
    (m ((kvDst kv slot h).view.loc (c : Thread nD τ))) ((kvSrc kv qb h c).view.read (Elt F) (m ((kvSrc kv qb h c).view.loc (c : Thread nD τ)))) (ix3 a b d)
  rw [reshape_kv] at e
  exact e

/-- The partial buffer at a row of the block that was stored. -/
theorem pC_at (c : Dev nD) (q : Fin 4) (r : Fin 64) (n : Fin 1024) :
    pC m c q (ix2 (⟨64 * q.val + r.val, by omega⟩ : Fin 256) n : S256x1024.Idx) = pBlk m c q (ix2 r n) := by
  have e := View.write_emb_of_mem (v := pM.access (blkR q)) (Val := Elt F) (m ((pM.access (blkR q)).loc (c : Thread nD τ))) (pBlk m c q)
    (M := Finset.univ) (x := ix2 r n) (Finset.mem_univ _)
  have e2 : (pM.access (blkR q)).emb (ix2 r n) = (ix2 (⟨64 * q.val + r.val, by omega⟩ : Fin 256) n : S256x1024.Idx) := blkR_emb q r n
  rw [e2] at e
  exact e

theorem gC_at (e s : Dev nD) (i : Fin 16) (n : Fin 1024) :
    gC m e s (ix2 (⟨16 * s.val + i.val, by have h : s.val < 16 := s.isLt; omega⟩ : Fin 256) n : S256x1024.Idx) = gBlk m s (ix2 i n) := by
  have h := View.write_emb_of_mem (v := gM.access (rowR s)) (Val := Elt F) (m ((gM.access (rowR s)).loc (e : Thread nD τ))) (gBlk m s)
    (M := Finset.univ) (x := ix2 i n) (Finset.mem_univ _)
  have e2 : (gM.access (rowR s)).emb (ix2 i n) = (ix2 (⟨16 * s.val + i.val, by have h : s.val < 16 := s.isLt; omega⟩ : Fin 256) n : S256x1024.Idx) := rowR_emb s i n
  rw [e2] at h
  exact h

theorem gFull_at (e s : Dev nD) (i : Fin 16) (n : Fin 1024) :
    gFull m e (ix2 (⟨16 * s.val + i.val, by have h : s.val < 16 := s.isLt; omega⟩ : Fin 256) n : S256x1024.Idx) = gBlk m s (ix2 i n) := by
  rw [← gC_at m e s i n]
  have hs : (⟨(16 * s.val + i.val) / 16, by have h : s.val < 16 := s.isLt; omega⟩ : Dev nD) = s := Fin.ext (by show (16 * s.val + i.val) / 16 = s.val; omega)
  show gC m e ⟨(16 * s.val + i.val) / 16, _⟩ _ = _
  rw [hs]

/-- The row inside its query block. -/
def inQ (s : Dev nD) (i : Fin 16) : Fin 64 := ⟨16 * (s.val % 4) + i.val, by omega⟩

theorem pRow_at (c s : Dev nD) (i : Fin 16) (n : Fin 1024) :
    pC m c (qOf s) (ix2 (⟨16 * s.val + i.val, by have h : s.val < 16 := s.isLt; omega⟩ : Fin 256) n : S256x1024.Idx) = pBlk m c (qOf s) (ix2 (inQ s i) n) := by
  have hr : (⟨16 * s.val + i.val, by have h : s.val < 16 := s.isLt; omega⟩ : Fin 256)
      = ⟨64 * (qOf s).val + (inQ s i).val, by have h := (inQ s i).isLt; have h' := (qOf s).isLt; omega⟩ :=
    Fin.ext (by show 16 * s.val + i.val = 64 * (s.val / 4) + (16 * (s.val % 4) + i.val); omega)
  rw [hr]
  exact pC_at m c (qOf s) (inQ s i) n

theorem row_read (t s : Dev nD) (f : Buf (Elt F) (pM.view.loc (s : Thread nD τ))) (i : Fin 16) (n : Fin 1024) :
    (pM.access (rowR t)).read (Elt F) f (ix2 i n) = f (ix2 (⟨16 * t.val + i.val, by have h : t.val < 16 := t.isLt; omega⟩ : Fin 256) n : S256x1024.Idx) := by
  show f ((rowR t).emb (ix2 i n)) = _
  rw [rowR_emb]

theorem ownVal_at (c : Dev nD) (i : Fin 16) (n : Fin 1024) :
    ownVal m c (ix2 i n) = pBlk m c (qOf c) (ix2 (inQ c i) n) := by
  unfold ownVal
  rw [row_read]
  exact pRow_at m c c i n

theorem rVal_at (s c : Dev nD) (i : Fin 16) (n : Fin 1024) :
    rVal m s c (ix3 0 i n) = pBlk m s (qOf c) (ix2 (inQ c i) n) := by
  have e := View.read_write_reshape (Val := Elt F) (rM.access (slotR s)) (s' := S16x1024) squeezes_S1x16x1024_S16x1024.numel_eq
    (m ((rSlot s).view.loc (c : Thread nD τ))) ((pChunk c).view.read (Elt F) (pC m s (qOf c))) (ix2 i n)
  rw [reshape_slot] at e
  have e3 : (pChunk c).view.read (Elt F) (pC m s (qOf c)) (ix2 i n) = _ := row_read c s (pC m s (qOf c)) i n
  unfold rVal rC
  exact e.trans (e3.trans (pRow_at m s c i n))

end Cert.KProof

end
-- ==== Proof.Form.lean ====
/-
The attention's result in closed form, of the whole arrays.
-/
module

public import proofs.«01_k».proof.Proof.Read

@[expose] public section

set_option maxRecDepth 16384

noncomputable section

namespace Cert.KProof

open Idealize.ShloMosaic
open Idealize.ShloMosaic.TcCoe
open Idealize.ShloMosaic.Pointwise

section

variable (X : Fin 256 → Fin 1024 → EReal) (WQ : Fin 1024 → Fin 16384 → EReal) (K V : Fin 16 → Fin 4 → Fin 64 → Fin 128 → Fin 128 → EReal)
  (WO : Fin 16384 → Fin 1024 → EReal)

/-- The key block that a query row attends to. -/
def qbI (i : Fin 256) : Fin 4 := ⟨i.val / 64, by omega⟩
/-- The chunk of a key among the 1024 of a block. -/
def ja (j : Fin 1024) : Fin 16 := ⟨j.val / 64, by omega⟩
/-- The key inside its chunk. -/
def jb (j : Fin 1024) : Fin 64 := ⟨j.val % 64, by omega⟩
/-- Column `d` of head `H`. -/
def col (H d : Fin 128) : Fin 16384 := ⟨H.val * 128 + d.val, by omega⟩

/-- The query of row `i`, head `H`. -/
def qry (i : Fin 256) (H d : Fin 128) : EReal := ∑ t : Fin 1024, X i t * WQ t (col H d)
/-- The scaled score against the key `j` of the row's block. -/
def scr (i : Fin 256) (H : Fin 128) (j : Fin 1024) : EReal := (∑ d : Fin 128, qry X WQ i H d * K (ja j) (qbI i) (jb j) H d) * scl
/-- The weighted mean of the values. -/
def ctx (i : Fin 256) (H d : Fin 128) : EReal :=
  Ideal.div (∑ j : Fin 1024, Ideal.exp (scr X WQ K i H j) * V (ja j) (qbI i) (jb j) H d) (∑ j : Fin 1024, Ideal.exp (scr X WQ K i H j))
/-- The projected result. -/
def att (i : Fin 256) (n : Fin 1024) : EReal := ∑ H : Fin 128, ∑ d : Fin 128, ctx X WQ K V i H d * WO (col H d) n

/-- Head `h` of device `c`. -/
def hd8 (c : Fin 16) (h : Fin 8) : Fin 128 := ⟨8 * c.val + h.val, by omega⟩

theorem att_eq (i : Fin 256) (n : Fin 1024) :
    att X WQ K V WO i n = ∑ c : Fin 16, ∑ h : Fin 8, ∑ d : Fin 128, ctx X WQ K V i (hd8 c h) d * WO (col (hd8 c h) d) n := by
  unfold att
  rw [Fin.sum_univ_tiles 16 8 rfl]
  refine Finset.sum_congr rfl fun c _ => Finset.sum_congr rfl fun h _ => ?_
  rw [show (⟨c.val * 8 + h.val, by omega⟩ : Fin 128) = hd8 c h from Fin.ext (by show c.val * 8 + h.val = 8 * c.val + h.val; omega)]

end

end Cert.KProof

end
-- ==== Proof.KVal.lean ====
/-
The kernel's result in closed form.
-/
module

public import proofs.«01_k».proof.Proof.Mem
public import proofs.«01_k».proof.Proof.Form
public import proofs.«01_k».proof.Proof.Frames
public import proofs.«01_k».proof.Proof.Head

@[expose] public section

set_option maxRecDepth 16384

noncomputable section

namespace Cert.KProof

open Cert.KernelIdeal Cert.KernelIdeal.Gen

open Idealize.ShloMosaic
open Idealize.ShloMosaic.TcCoe
open Idealize.ShloMosaic.Pointwise

section Whole

variable {F : FTy → Type} [FloatOps F] (m : (ℓ : Loc nD τ sig) → Buf (Elt F) ℓ) (ρ : Dev nD → PrngReg)

theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem wqstg_eq (c : Dev nD) : wqstg m c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

theorem wostg_eq (c : Dev nD) : wostg m c = m ((c : Thread nD τ).loc main_arg4) := by
  have hz : (fun a => (win0_2.index (0 : Fin 1)) a * main_arg4.ty.shape.size a) = fun _ => 0 := funext fun a => by fin_cases a <;> decide
  exact Memref.read_access_unit_zero (Elt F) main_arg4 hz (fun a => by fin_cases a <;> decide) _

/-- The result array ends holding the staged result. -/
theorem finalA_out (c : Dev nD) : finalA m ρ c (3 : Fin 4) = outAt m c := by
  have h : (win0_3.blk (0 : Fin 1)).view.read (Elt F) (finalA m ρ c (3 : Fin 4)) = outAt m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  rw [← h]
  exact (Memref.read_access_unit_zero (Elt F) main_v1 hz (fun a => by fin_cases a <;> decide) _).symm

end Whole

theorem peer_sum (s : Fin 16) (f : Fin 16 → EReal) : f s + ∑ o ∈ Finset.Ico 1 16, f (peer s o) = ∑ c : Fin 16, f c := by
  have h0 : f s = f (peer s 0) := congrArg f (Fin.ext (by show s.val = (s.val + 0) % 16; omega))
  rw [h0, ← Finset.sum_eq_sum_Ico_succ_bot (f := fun o => f (peer s o)) (by decide : 0 < 16), ← Finset.range_eq_Ico, Finset.sum_range]
  exact Equiv.sum_comp (Equiv.addLeft s) f

variable (m : (ℓ : Loc nD τ sig) → Buf (Elt Ideal) ℓ)

theorem gBlk_apply (s : Dev nD) (i : Fin 16) (n : Fin 1024) :
    gBlk m s (ix2 i n) = ∑ c : Fin 16, (pBlk m c (qOf s) (ix2 (inQ s i) n) : EReal) := by
  unfold gBlk
  rw [gRaw_apply, ownVal_at, ← peer_sum s]
  congr 1
  exact Finset.sum_congr rfl fun o _ => rVal_at m (peer s o) s i n

theorem kvMat_at (k : Vec Ideal S1x1x16x64x128 .f32) (j : Fin 1024) (d : Fin 128) : kvMat k (ix2 j d) = k (ix5 0 0 (ja j) (jb j) d) := by
  have h := kvMat_apply k (ja j) (jb j) d
  rw [show (⟨(ja j).val * 64 + (jb j).val, by have := (ja j).isLt; have := (jb j).isLt; omega⟩ : Fin 1024) = j from Fin.ext (by show j.val / 64 * 64 + j.val % 64 = j.val; omega)] at h
  exact h

section Closed

variable (X : Fin 256 → Fin 1024 → EReal) (WQ : Fin 1024 → Fin 16384 → EReal) (K V : Fin 16 → Fin 4 → Fin 64 → Fin 128 → Fin 128 → EReal)
  (WO : Fin 16384 → Fin 1024 → EReal)

/-- The devices' arrays are the blocks of the whole ones. -/
structure Blocks : Prop where
  x : ∀ (c : Dev nD) i t, m ((c : Thread nD τ).loc main_arg0) (ix3 0 i t : S1x256x1024.Idx) = X i t
  wq : ∀ (c : Dev nD) (t : Fin 1024) (n : Fin 1024), m ((c : Thread nD τ).loc main_arg1) (ix2 t n : S1024x1024.Idx) = WQ t ⟨1024 * c.val + n.val, by have h : c.val < 16 := c.isLt; omega⟩
  k : ∀ (c : Dev nD) a q b H d, m ((c : Thread nD τ).loc main_arg2) (ix5 a q b H d : S16x4x64x128x128.Idx) = K a q b H d
  v : ∀ (c : Dev nD) a q b H d, m ((c : Thread nD τ).loc main_arg3) (ix5 a q b H d : S16x4x64x128x128.Idx) = V a q b H d
  wo : ∀ (c : Dev nD) (t : Fin 1024) (n : Fin 1024), m ((c : Thread nD τ).loc main_arg4) (ix2 t n : S1024x1024.Idx) = WO ⟨1024 * c.val + t.val, by have h : c.val < 16 := c.isLt; omega⟩ n

variable {m X WQ K V WO} (B : Blocks m X WQ K V WO)

include B

theorem hcol (c : Fin 16) (h : Fin 8) (d : Fin 128) : (⟨1024 * c.val + (h.val * 128 + d.val), by omega⟩ : Fin 16384) = col (hd8 c h) d :=
  Fin.ext (by show 1024 * c.val + (h.val * 128 + d.val) = (8 * c.val + h.val) * 128 + d.val; omega)

theorem q_at (c : Dev nD) (i : Fin 256) (qb : Fin 4) (r : Fin 64) (hi : i.val = 64 * qb.val + r.val) (h : Fin 8) (d : Fin 128) :
    qOfHead (xq m c) qb h (ix2 r d) = qry X WQ i (hd8 c h) d := by
  rw [qOfHead_apply, show (⟨64 * qb.val + r.val, by omega⟩ : Fin 256) = i from Fin.ext hi.symm]
  unfold xq
  rw [pay1_apply, xstg_eq, wqstg_eq]
  unfold qry
  refine Finset.sum_congr rfl fun t _ => ?_
  rw [B.x, B.wq, hcol B]

theorem k_at (c : Dev nD) (i : Fin 256) (qb : Fin 4) (hq : qbI i = qb) (h : Fin 8) (slot : Fin 2) (j : Fin 1024) (d : Fin 128) :
    kvMat (kvVal m 0 slot qb c h) (ix2 j d) = K (ja j) (qbI i) (jb j) (hd8 c h) d := by
  rw [kvMat_at, kvVal_read, kvSrc0_read, hq]
  exact B.k c _ _ _ _ _

theorem v_at (c : Dev nD) (i : Fin 256) (qb : Fin 4) (hq : qbI i = qb) (h : Fin 8) (slot : Fin 2) (j : Fin 1024) (d : Fin 128) :
    kvMat (kvVal m 1 slot qb c h) (ix2 j d) = V (ja j) (qbI i) (jb j) (hd8 c h) d := by
  rw [kvMat_at, kvVal_read, kvSrc1_read, hq]
  exact B.v c _ _ _ _ _

/-- One device's share of a row. -/
theorem pBlk_apply (c : Dev nD) (i : Fin 256) (qb : Fin 4) (r : Fin 64) (hi : i.val = 64 * qb.val + r.val) (n : Fin 1024) :
    pBlk m c qb (ix2 r n) = ∑ h : Fin 8, ∑ d : Fin 128, ctx X WQ K V i (hd8 c h) d * WO (col (hd8 c h) d) n := by
  have hq : qbI i = qb := Fin.ext (by show i.val / 64 = qb.val; omega)
  unfold pBlk
  rw [pRaw_eq, projV_apply]
  refine Finset.sum_congr rfl fun h _ => Finset.sum_congr rfl fun d _ => ?_
  have hs : ∀ j, headW (qOfHead (xq m c) qb h) (kvMat (kvVal m 0 (slotOf qb) qb c h)) (ix2 r j) = Ideal.exp (scr X WQ K i (hd8 c h) j) := fun j => by
    rw [headW_apply]
    unfold scr
    congr 2
    exact Finset.sum_congr rfl fun d _ => by rw [q_at B c i qb r hi, k_at B c i qb hq]
  have hw : wo m c (ix2 (⟨h.val * 128 + d.val, by omega⟩ : Fin 1024) n) = WO (col (hd8 c h) d) n := by
    unfold wo
    rw [pay2_apply, wostg_eq, B.wo, hcol B]
  rw [hw, headV_apply]
  unfold ctx
  congr 2
  · exact Finset.sum_congr rfl fun j _ => by rw [hs, v_at B c i qb hq]
  · exact Finset.sum_congr rfl fun j _ => hs j

/-- The result on every device. -/
theorem outAt_apply (e : Dev nD) (i : Fin 256) (n : Fin 1024) : outAt m e (ix3 0 i n) = att X WQ K V WO i n := by
  unfold outAt
  have hi : i = (⟨16 * (i.val / 16) + i.val % 16, by omega⟩ : Fin 256) := Fin.ext (by show i.val = 16 * (i.val / 16) + i.val % 16; omega)
  have hg := gFull_at m e (⟨i.val / 16, by omega⟩ : Fin 16) (⟨i.val % 16, by omega⟩ : Fin 16) n
  have hg' : gFull m e (ix2 i n : S256x1024.Idx) = gBlk m (⟨i.val / 16, by omega⟩ : Fin 16) (ix2 (⟨i.val % 16, by omega⟩ : Fin 16) n) := by
    rw [← hg]; exact congrArg (fun z : Fin 256 => gFull m e (ix2 z n : S256x1024.Idx)) hi
  refine (pay79_apply _ i n).trans (hg'.trans ((gBlk_apply m _ _ n).trans ?_))
  rw [att_eq]
  exact Finset.sum_congr rfl fun c _ => pBlk_apply B c i _ _ (by show i.val = 64 * (i.val / 16 / 4) + (16 * (i.val / 16 % 4) + i.val % 16); omega) n

end Closed

end Cert.KProof

end
-- ==== Proof.RefMask.lean ====
/-
The mask of the reference, read at an index: a query row sees the keys of the blocks that agree with its own
block modulo four.
-/
module

public import proofs.«01_k».proof.Proof.Gen.ReferenceIdeal
public import proofs.«01_k».proof.Proof.Gen.ReferenceIdeal.Run
public import Idealize.ShloMosaic.Lib.Pointwise
public import Idealize.ShloMosaic.Lib.WordCmp
public import Idealize.ShloMosaic.Lib.IdealHost

@[expose] public section

set_option maxRecDepth 16384

noncomputable section

namespace Cert.KProof.Ref

open Cert.ReferenceIdeal Cert.ReferenceIdeal.Gen

open Idealize.ShloMosaic
open Idealize.ShloMosaic.TcCoe
open Idealize.ShloMosaic.Pointwise

/-- Division by 64, rounded down, as the host computes it. -/
def floorDiv {s : Shape} (hb : S_.BroadcastsInDim s (![] : Fin 0 → Fin s.rank)) (x : IVec s 32) : IVec s 32 :=
  select (andi (cmpi .ne (signi x) (broadcastInDim s ![] hb (signi (id (constantI S_ 32 64#32)))))
      (cmpi .ne (Host.remsi x (broadcastInDim s ![] hb (id (constantI S_ 32 64#32)))) (broadcastInDim s ![] hb (constantI S_ 32 0#32))))
    (subi (Host.divsi x (broadcastInDim s ![] hb (id (constantI S_ 32 64#32)))) (broadcastInDim s ![] hb (constantI S_ 32 1#32)))
    (Host.divsi x (broadcastInDim s ![] hb (id (constantI S_ 32 64#32))))

/-- The divisor four, guarded against zero. -/
def four : IVec S_ 32 := select (cmpi .eq (id (constantI S_ 32 4#32)) (constantI S_ 32 0#32)) (constantI S_ 32 1#32) (id (constantI S_ 32 4#32))

/-- The remainder modulo four, with the divisor's sign, as the host computes it. -/
def modFour {s : Shape} (hb : S_.BroadcastsInDim s (![] : Fin 0 → Fin s.rank)) (x : IVec s 32) : IVec s 32 :=
  select (andi (cmpi .ne (cmpi .slt (Host.remsi x (broadcastInDim s ![] hb four)) (broadcastInDim s ![] hb (constantI S_ 32 0#32)))
        (broadcastInDim s ![] hb (cmpi .slt four (constantI S_ 32 0#32))))
      (cmpi .ne (Host.remsi x (broadcastInDim s ![] hb four)) (broadcastInDim s ![] hb (constantI S_ 32 0#32))))
    (addi (Host.remsi x (broadcastInDim s ![] hb four)) (broadcastInDim s ![] hb four))
    (Host.remsi x (broadcastInDim s ![] hb four))

/-- Each query's block, and each key's. -/
def qBlk : IVec S256 32 := floorDiv bcast_S_S256 (iotaInDim S256 32 0)
def kBlk : IVec S4096 32 := floorDiv bcast_S_S4096 (iotaInDim S4096 32 0)
def qCol : IVec S256x1 32 := broadcastInDim S256x1 ![0] bcast_S256_S256x1_0 qBlk
def kRow : IVec S1x4096 32 := broadcastInDim S1x4096 ![1] bcast_S4096_S1x4096_1 kBlk

/-- The mask. -/
def maskT : IVec S256x4096 1 :=
  ori (cmpi .eq (broadcastInDim S256x4096 ![0, 1] bcast_S256x1_S256x4096_0_1 qCol) (broadcastInDim S256x4096 ![0, 1] bcast_S1x4096_S256x4096_0_1 kRow))
    (cmpi .eq (broadcastInDim S256x4096 ![0, 1] bcast_S1x4096_S256x4096_0_1 (modFour bcast_S_S1x4096 kRow))
      (broadcastInDim S256x4096 ![0, 1] bcast_S256x1_S256x4096_0_1 (modFour bcast_S_S256x1 qCol)))

/-- The two scalar computations. -/
def fd1 (x : BitVec 32) : BitVec 32 := floorDiv (s := S_) (by decide) (fun _ => x) ix0
def mf1 (x : BitVec 32) : BitVec 32 := modFour (s := S_) (by decide) (fun _ => x) ix0

theorem floorDiv_apply {s : Shape} (hb : S_.BroadcastsInDim s (![] : Fin 0 → Fin s.rank)) (x : IVec s 32) (j : s.Idx) :
    floorDiv hb x j = fd1 (x j) := rfl

theorem modFour_apply {s : Shape} (hb : S_.BroadcastsInDim s (![] : Fin 0 → Fin s.rank)) (x : IVec s 32) (j : s.Idx) :
    modFour hb x j = mf1 (x j) := rfl

theorem fd1_eq : ∀ j : Fin 4096, fd1 (BitVec.ofNat 32 j.val) = BitVec.ofNat 32 (j.val / 64) := by decide +kernel
theorem mf1_eq : ∀ j : Fin 64, mf1 (BitVec.ofNat 32 j.val) = BitVec.ofNat 32 (j.val % 4) := by decide +kernel

theorem qCol_apply (i : Fin 256) (z : Fin 1) : qCol (ix2 i z) = BitVec.ofNat 32 (i.val / 64) := by
  have e : qCol (ix2 i z) = fd1 (BitVec.ofNat 32 i.val) := by
    unfold qCol
    pointwise
    exact floorDiv_apply _ _ _
  rw [e]
  exact fd1_eq ⟨i.val, by omega⟩

theorem kRow_apply (z : Fin 1) (j : Fin 4096) : kRow (ix2 z j) = BitVec.ofNat 32 (j.val / 64) := by
  have e : kRow (ix2 z j) = fd1 (BitVec.ofNat 32 j.val) := by
    unfold kRow
    pointwise
    exact floorDiv_apply _ _ _
  rw [e]
  exact fd1_eq j

theorem word_eq : ∀ (a : Fin 4) (b : Fin 64),
    IntOp.ori (IntOp.cmpi .eq (BitVec.ofNat 32 a.val) (BitVec.ofNat 32 b.val)) (IntOp.cmpi .eq (BitVec.ofNat 32 (b.val % 4)) (BitVec.ofNat 32 (a.val % 4)))
      = if b.val % 4 = a.val then 1#1 else 0#1 := by decide +kernel

theorem maskT_apply (i : Fin 256) (j : Fin 4096) :
    maskT (ix2 i j) = if j.val / 64 % 4 = i.val / 64 then 1#1 else 0#1 := by
  have e : maskT (ix2 i j) = IntOp.ori (IntOp.cmpi .eq (qCol (ix2 i 0)) (kRow (ix2 0 j))) (IntOp.cmpi .eq (mf1 (kRow (ix2 0 j))) (mf1 (qCol (ix2 i 0)))) := by
    unfold maskT
    pointwise
    rfl
  have hq := mf1_eq ⟨i.val / 64, by omega⟩
  have hk := mf1_eq ⟨j.val / 64, by omega⟩
  rw [e, qCol_apply, kRow_apply, hq, hk]
  exact word_eq ⟨i.val / 64, by omega⟩ ⟨j.val / 64, by omega⟩

end Cert.KProof.Ref

end
-- ==== Proof.RefStage.lean ====
/-
The reference's result as stages.
-/
module

public import proofs.«01_k».proof.Proof.RefMask

@[expose] public section

set_option maxRecDepth 16384

noncomputable section

namespace Cert.KProof.Ref

open Cert.ReferenceIdeal Cert.ReferenceIdeal.Gen

open Idealize.ShloMosaic
open Idealize.ShloMosaic.TcCoe
open Idealize.ShloMosaic.Pointwise

section

variable {F : FTy → Type} [FloatOps F]

/-- Whether a query row sees any key. -/
def keepT : IVec S256 1 := Host.reduce IntOp.ori maskT (constantI S_ 1 0#1) reducesTo_S256x4096_S256_d1 h_S_

/-- The queries, by head. -/
def queries (x : FVec F S1x256x1024 .f32) (wq : FVec F S1024x16384 .f32) : FVec F S1x256x128x128 .f32 :=
  shapeCast _ (Host.dotGeneral dot_S1x256x1024_S1024x16384_S1x256x16384_2_0_01_1_n_n none x wq) shapeCasts_S1x256x16384_S1x256x128x128

/-- Keys (values) in the order of their positions. -/
def flatKV (k : FVec F S16x4x64x128x128 .f32) : FVec F S1x4096x128x128 .f32 :=
  shapeCast _ k shapeCasts_S16x4x64x128x128_S1x4096x128x128

/-- The scaled scores, minus infinity where masked. -/
def scoresT (q : FVec F S1x256x128x128 .f32) (k : FVec F S1x4096x128x128 .f32) : FVec F S1x128x256x4096 .f32 :=
  select (broadcastInDim S1x128x256x4096 ![0, 1, 2, 3] bcast_S1x1x256x4096_S1x128x256x4096_0_1_2_3 (broadcastInDim S1x1x256x4096 ![2, 3] bcast_S256x4096_S1x1x256x4096_2_3 maskT))
    (mulf (Host.dotGeneral dot_S1x256x128x128_S1x4096x128x128_S1x128x256x4096_3_3_1_1_02_02 none q k)
      (broadcastInDim S1x128x256x4096 ![] bcast_S_S1x128x256x4096 (constant S_ .f32 0x3DB504F3#32)))
    (broadcastInDim S1x128x256x4096 ![] bcast_S_S1x128x256x4096 (id (constant S_ .f32 0xFF800000#32)))

/-- The largest score of a row. -/
def maxT (s : FVec F S1x128x256x4096 .f32) : FVec F S1x128x256 .f32 :=
  Host.reduce FloatOps.maximumf s (constant S_ .f32 0xFF800000#32) reducesTo_S1x128x256x4096_S1x128x256_d3 h_S_

/-- The exponentials of the scores less the row's largest. -/
def expT (s : FVec F S1x128x256x4096 .f32) : FVec F S1x128x256x4096 .f32 :=
  Host.exp (subf s (broadcastInDim S1x128x256x4096 ![0, 1, 2, 3] bcast_S1x128x256x1_S1x128x256x4096_0_1_2_3 (broadcastInDim S1x128x256x1 ![0, 1, 2] bcast_S1x128x256_S1x128x256x1_0_1_2 (maxT s))))

/-- Their sum over a row. -/
def sumT (w : FVec F S1x128x256x4096 .f32) : FVec F S1x128x256x1 .f32 :=
  select (broadcastInDim S1x128x256x1 ![0, 1, 2, 3] bcast_S1x1x256x1_S1x128x256x1_0_1_2_3 (broadcastInDim S1x1x256x1 ![2] bcast_S256_S1x1x256x1_2 keepT))
    (broadcastInDim S1x128x256x1 ![0, 1, 2] bcast_S1x128x256_S1x128x256x1_0_1_2 (Host.reduceAdd w (constant S_ .f32 0x00000000#32) reducesTo_S1x128x256x4096_S1x128x256_d3 h_S_))
    (broadcastInDim S1x128x256x1 ![] bcast_S_S1x128x256x1 (id (constant S_ .f32 0x3F800000#32)))

/-- The weights. -/
def weightsT (w : FVec F S1x128x256x4096 .f32) : FVec F S1x128x256x4096 .f32 :=
  select (broadcastInDim S1x128x256x4096 ![0, 1, 2, 3] bcast_S1x1x256x1_S1x128x256x4096_0_1_2_3 (broadcastInDim S1x1x256x1 ![2] bcast_S256_S1x1x256x1_2 keepT))
    (Host.divf w (broadcastInDim S1x128x256x4096 ![0, 1, 2, 3] bcast_S1x128x256x1_S1x128x256x4096_0_1_2_3 (sumT w)))
    (broadcastInDim S1x128x256x4096 ![] bcast_S_S1x128x256x4096 (id (constant S_ .f32 0x00000000#32)))

/-- The weighted means of the values, and their product with the output projection. -/
def outT (v : FVec F S1x4096x128x128 .f32) (p : FVec F S1x128x256x4096 .f32) (wo : FVec F S16384x1024 .f32) : FVec F S1x256x1024 .f32 :=
  Host.dotGeneral dot_S1x256x16384_S16384x1024_S1x256x1024_2_0_01_1_n_n none
    (shapeCast _ (transpose S1x256x128x128 [0, 3, 1, 2] (Host.dotGeneral dot_S1x4096x128x128_S1x128x256x4096_S1x128x128x256_1_3_3_2_02_01 none v p)
      transposes_S1x128x128x256_S1x256x128x128_0_3_1_2) shapeCasts_S1x256x128x128_S1x256x16384) wo

set_option maxRecDepth 16384 in
/-- The reference's result is these stages in turn. -/
theorem res_eq (m : (ℓ : Loc nD τ sig) → Buf (Elt F) ℓ) (c : Dev nD) :
    Cert.ReferenceIdeal.Value.res_main_v41 m c
      = outT (flatKV (m ((c.tc : Thread nD τ).loc main_arg3)))
          (weightsT (expT (scoresT (queries (m ((c.tc : Thread nD τ).loc main_arg0)) (m ((c.tc : Thread nD τ).loc main_arg1))) (flatKV (m ((c.tc : Thread nD τ).loc main_arg2))))))
          (m ((c.tc : Thread nD τ).loc main_arg4)) := rfl

end

end Cert.KProof.Ref

end
-- ==== Proof.RefVal.lean ====
/-
The reference's stages read at an index.
-/
module

public import proofs.«01_k».proof.Proof.RefStage
public import Idealize.ShloMosaic.Lib.Pointwise
public import Idealize.ShloMosaic.Lib.IdealHost

@[expose] public section

set_option maxRecDepth 16384

noncomputable section

namespace Cert.KProof.Ref

open Cert.ReferenceIdeal Cert.ReferenceIdeal.Gen

open Idealize.ShloMosaic
open Idealize.ShloMosaic.TcCoe
open Idealize.ShloMosaic.Pointwise

theorem ofBits_bot : Ideal.ofBits .f32 0xFF800000#32 = ⊥ := by simp [Ideal.ofBits, Ideal.ieee]

theorem ori_one : ∀ b : BitVec 1, IntOp.ori 1#1 b = 1#1 := by decide

theorem keepT_apply (i : Fin 256) : keepT (ix1 i) = 1#1 := by
  have hx : maskT (ix2 i (⟨i.val / 64 * 64, by omega⟩ : Fin 4096)) = 1#1 := by
    rw [maskT_apply, if_pos (by show i.val / 64 * 64 / 64 % 4 = i.val / 64; omega)]
  unfold keepT
  pointwise
  rw [← Finset.insert_erase (Finset.mem_univ (⟨i.val / 64 * 64, by omega⟩ : Fin 4096)), Finset.fold_insert (Finset.notMem_erase _ _), hx]
  exact ori_one _

theorem queries_apply (x : FVec Ideal S1x256x1024 .f32) (wq : FVec Ideal S1024x16384 .f32) (i : Fin 256) (h d : Fin 128) :
    queries x wq (ix4 0 i h d) = ∑ t : Fin 1024, x (ix3 0 i t) * wq (ix2 t (⟨h.val * 128 + d.val, by omega⟩ : Fin 16384)) := by
  pointwise [queries]

/-- The position of the key `b` of block `q` of chunk `a`. -/
def pos (a : Fin 16) (q : Fin 4) (b : Fin 64) : Fin 4096 := ⟨(a.val * 4 + q.val) * 64 + b.val, by omega⟩

theorem flatKV_apply (k : FVec Ideal S16x4x64x128x128 .f32) (a : Fin 16) (q : Fin 4) (b : Fin 64) (h d : Fin 128) :
    flatKV k (ix4 0 (pos a q b) h d) = k (ix5 a q b h d) := by
  pointwise [flatKV, pos]

theorem scoresT_apply (q : FVec Ideal S1x256x128x128 .f32) (k : FVec Ideal S1x4096x128x128 .f32) (h : Fin 128) (i : Fin 256) (j : Fin 4096) :
    scoresT q k (ix4 0 h i j) = if j.val / 64 % 4 = i.val / 64 then (∑ d : Fin 128, q (ix4 0 i h d) * k (ix4 0 j h d)) * Ideal.ofBits .f32 0x3DB504F3#32 else ⊥ := by
  have h0 : (constant S_ .f32 0xFF800000#32 : FVec Ideal S_ .f32) ix0 = ⊥ := ofBits_bot
  pointwise [scoresT, maskT_apply]
  rw [id_eq, h0]
  by_cases hj : j.val / 64 % 4 = i.val / 64
  · rw [if_pos hj, if_pos hj]; rfl
  · rw [if_neg hj, if_neg hj]; rfl

theorem maxT_apply (s : FVec Ideal S1x128x256x4096 .f32) (h : Fin 128) (i : Fin 256) :
    maxT s (ix3 0 h i) = Finset.univ.fold max ⊥ fun j : Fin 4096 => s (ix4 0 h i j) := by
  pointwise [maxT]
  rw [ofBits_bot]

theorem expT_apply (s : FVec Ideal S1x128x256x4096 .f32) (h : Fin 128) (i : Fin 256) (j : Fin 4096) :
    expT s (ix4 0 h i j) = Ideal.exp (s (ix4 0 h i j) - maxT s (ix3 0 h i)) := by
  pointwise [expT]

theorem weightsT_apply (w : FVec Ideal S1x128x256x4096 .f32) (h : Fin 128) (i : Fin 256) (j : Fin 4096) :
    weightsT w (ix4 0 h i j) = Ideal.div (w (ix4 0 h i j)) (∑ j : Fin 4096, w (ix4 0 h i j)) := by
  pointwise [weightsT, sumT, keepT_apply]

theorem outT_at (v : FVec Ideal S1x4096x128x128 .f32) (p : FVec Ideal S1x128x256x4096 .f32) (wo : FVec Ideal S16384x1024 .f32) (i : Fin 256) (n : Fin 1024) :
    outT v p wo (ix3 0 i n) = ∑ k : Fin 16384, (∑ j : Fin 4096, v (ix4 0 j (⟨k.val / 128, by omega⟩ : Fin 128) (⟨k.val % 128, by omega⟩ : Fin 128)) * p (ix4 0 (⟨k.val / 128, by omega⟩ : Fin 128) i j)) * wo (ix2 k n) := by
  pointwise [outT]

/-- A sum over 16384 as 128 runs of 128. -/
theorem sum_runs (f : Fin 128 → Fin 128 → Fin 16384 → EReal) :
    ∑ k : Fin 16384, f ⟨k.val / 128, by omega⟩ ⟨k.val % 128, by omega⟩ k = ∑ h : Fin 128, ∑ d : Fin 128, f h d ⟨h.val * 128 + d.val, by omega⟩ := by
  rw [Fin.sum_univ_tiles 128 128 rfl]
  refine Finset.sum_congr rfl fun h _ => Finset.sum_congr rfl fun d _ => ?_
  have hh : (⟨(h.val * 128 + d.val) / 128, by omega⟩ : Fin 128) = h := Fin.ext (by show (h.val * 128 + d.val) / 128 = h.val; omega)
  have hd : (⟨(h.val * 128 + d.val) % 128, by omega⟩ : Fin 128) = d := Fin.ext (by show (h.val * 128 + d.val) % 128 = d.val; omega)
  exact congrFun (congr (congrArg f hh) hd) _

theorem outT_apply (v : FVec Ideal S1x4096x128x128 .f32) (p : FVec Ideal S1x128x256x4096 .f32) (wo : FVec Ideal S16384x1024 .f32) (i : Fin 256) (n : Fin 1024) :
    outT v p wo (ix3 0 i n) = ∑ h : Fin 128, ∑ d : Fin 128, (∑ j : Fin 4096, v (ix4 0 j h d) * p (ix4 0 h i j)) * wo (ix2 (⟨h.val * 128 + d.val, by omega⟩ : Fin 16384) n) :=
  (outT_at v p wo i n).trans (sum_runs fun h d k => (∑ j : Fin 4096, v (ix4 0 j h d) * p (ix4 0 h i j)) * wo (ix2 k n))

end Cert.KProof.Ref

end
-- ==== Proof.Softmax.lean ====
/-
A softmax shifted by its largest score, with masked scores at minus infinity, against the unshifted quotient.
-/
module

public import proofs.«01_k».proof.Proof.Read

@[expose] public section

set_option maxRecDepth 16384

noncomputable section

namespace Cert.KProof

open Idealize.ShloMosaic
open Idealize.ShloMosaic.TcCoe
open Idealize.ShloMosaic.Pointwise

theorem ideal_div_coe (a b : ℝ) (hb : b ≠ 0) : Ideal.div (a : EReal) (b : EReal) = ((a / b : ℝ) : EReal) := by
  have h : (b : EReal) ≠ 0 := by exact_mod_cast hb
  rw [Ideal.div, if_neg h, div_eq_mul_inv, EReal.coe_mul, EReal.coe_inv]

/-- Real weights that are not negative come out of a sum, whatever the values. -/
theorem sum_mul_coe {ι : Type*} (s : Finset ι) (f : ι → EReal) (c : ℝ) (hc : 0 ≤ c) :
    ∑ j ∈ s, f j * (c : EReal) = (∑ j ∈ s, f j) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The largest of real scores, some kept, is real. -/
theorem fold_real {ι : Type*} [Fintype ι] (p : ι → Prop) [DecidablePred p] (j0 : ι) (h0 : p j0) (t : ι → ℝ) :
    ∃ M : ℝ, Finset.univ.fold max ⊥ (fun j => if p j then (t j : EReal) else ⊥) = (M : EReal) := by
  have hlo : Finset.univ.fold max ⊥ (fun j => if p j then (t j : EReal) else ⊥) ≠ ⊥ := by
    intro h
    have := (Finset.fold_max_le (s := Finset.univ) (f := fun j => if p j then (t j : EReal) else ⊥) (b := ⊥) ⊥).1 h.le
    have := this.2 j0 (Finset.mem_univ _)
    rw [if_pos h0] at this
    exact EReal.coe_ne_bot _ (le_bot_iff.1 this)
  have hhi : Finset.univ.fold max ⊥ (fun j => if p j then (t j : EReal) else ⊥) ≠ ⊤ := by
    refine ne_of_lt ((Finset.fold_max_lt ⊤).2 ⟨bot_lt_top, fun j _ => ?_⟩)
    split_ifs
    · exact EReal.coe_lt_top _
    · exact bot_lt_top
  exact ⟨_, (EReal.coe_toReal hhi hlo).symm⟩

/-- The weighted mean under the shifted weights is the quotient of unshifted sums over the kept keys. -/
theorem softmax_eq {ι : Type*} [Fintype ι] (p : ι → Prop) [DecidablePred p] (j0 : ι) (h0 : p j0) (t : ι → ℝ) (v : ι → EReal)
    (sc : ι → EReal) (hsc : ∀ j, sc j = if p j then (t j : EReal) else ⊥) (w : ι → EReal)
    (hw : ∀ j, w j = Ideal.exp (sc j - Finset.univ.fold max ⊥ sc)) :
    ∑ j, v j * Ideal.div (w j) (∑ j, w j)
      = Ideal.div (∑ j ∈ Finset.univ.filter p, Ideal.exp (t j : EReal) * v j) (∑ j ∈ Finset.univ.filter p, Ideal.exp (t j : EReal)) := by
  obtain ⟨M, hM⟩ := fold_real p j0 h0 t
  have hw' : ∀ j, w j = ((if p j then Real.exp (t j) * Real.exp (-M) else 0 : ℝ) : EReal) := fun j => by
    rw [hw, show sc = fun j => if p j then (t j : EReal) else ⊥ from funext hsc, hM]
    dsimp only
    by_cases hj : p j
    · rw [if_pos hj, if_pos hj, ← EReal.coe_sub, Ideal.exp_coe, ← Real.exp_add, sub_eq_add_neg]
    · rw [if_neg hj, if_neg hj, EReal.bot_sub]; exact Ideal.exp_bot
  have hD : (∑ j ∈ Finset.univ.filter p, Ideal.exp (t j : EReal)) = ((∑ j ∈ Finset.univ.filter p, Real.exp (t j) : ℝ) : EReal) := by
    rw [coe_sum]; exact Finset.sum_congr rfl fun j _ => Ideal.exp_coe _
  have hpos : 0 < ∑ j ∈ Finset.univ.filter p, Real.exp (t j) :=
    Finset.sum_pos (fun j _ => Real.exp_pos _) ⟨j0, Finset.mem_filter.2 ⟨Finset.mem_univ _, h0⟩⟩
  generalize hDD : (∑ j ∈ Finset.univ.filter p, Real.exp (t j) : ℝ) = D at hD hpos
  have hS : ∑ j, w j = ((D * Real.exp (-M) : ℝ) : EReal) := by
    rw [← hDD, Finset.sum_mul, Finset.sum_filter, coe_sum]
    exact Finset.sum_congr rfl fun j _ => hw' j
  have hwt : ∀ j, Ideal.div (w j) (∑ j, w j) = ((if p j then Real.exp (t j) * D⁻¹ else 0 : ℝ) : EReal) := fun j => by
    rw [hS, hw', ideal_div_coe _ _ (mul_pos hpos (Real.exp_pos _)).ne']
    congr 1
    by_cases hj : p j
    · rw [if_pos hj, if_pos hj, mul_div_mul_right _ _ (Real.exp_pos _).ne', div_eq_mul_inv]
    · rw [if_neg hj, if_neg hj, zero_div]
  have hne : (D : EReal) ≠ 0 := by exact_mod_cast hpos.ne'
  rw [hD, Ideal.div, if_neg hne, ← EReal.coe_inv, ← sum_mul_coe _ _ _ (inv_nonneg.2 hpos.le), Finset.sum_filter]
  refine Finset.sum_congr rfl fun j _ => ?_
  rw [hwt]
  by_cases hj : p j
  · rw [if_pos hj, if_pos hj, Ideal.exp_coe, EReal.coe_mul, mul_comm (v j), mul_assoc, mul_assoc, mul_comm (v j)]
  · rw [if_neg hj, if_neg hj, EReal.coe_zero, mul_zero]

end Cert.KProof

end
-- ==== Proof.RefForm.lean ====
/-
The reference's result in closed form, for finite scores.
-/
module

public import proofs.«01_k».proof.Proof.RefVal
public import proofs.«01_k».proof.Proof.Softmax
public import proofs.«01_k».proof.Proof.Form

@[expose] public section

set_option maxRecDepth 16384

noncomputable section

namespace Cert.KProof.Ref

open Cert.ReferenceIdeal Cert.ReferenceIdeal.Gen

open Idealize.ShloMosaic
open Idealize.ShloMosaic.TcCoe
open Idealize.ShloMosaic.Pointwise

/-- A sum over the keys that row block `q` sees. -/
theorem sum_seen (q : Fin 4) (f : Fin 4096 → EReal) :
    ∑ j ∈ Finset.univ.filter (fun j : Fin 4096 => j.val / 64 % 4 = q.val), f j = ∑ j : Fin 1024, f (pos (ja j) q (jb j)) := by
  refine Finset.sum_bij' (fun j _ => (⟨j.val / 256 * 64 + j.val % 64, by omega⟩ : Fin 1024)) (fun j _ => pos (ja j) q (jb j)) ?_ ?_ ?_ ?_ ?_
  · exact fun j _ => Finset.mem_univ _
  · refine fun j _ => Finset.mem_filter.2 ⟨Finset.mem_univ _, ?_⟩
    show ((j.val / 64 * 4 + q.val) * 64 + j.val % 64) / 64 % 4 = q.val
    omega
  · intro j hj
    have h := (Finset.mem_filter.1 hj).2
    refine Fin.ext ?_
    show ((j.val / 256 * 64 + j.val % 64) / 64 * 4 + q.val) * 64 + (j.val / 256 * 64 + j.val % 64) % 64 = j.val
    omega
  · intro j _
    refine Fin.ext ?_
    show ((j.val / 64 * 4 + q.val) * 64 + j.val % 64) / 256 * 64 + ((j.val / 64 * 4 + q.val) * 64 + j.val % 64) % 64 = j.val
    omega
  · intro j hj
    have h := (Finset.mem_filter.1 hj).2
    congr 1
    refine Fin.ext ?_
    show j.val = ((j.val / 256 * 64 + j.val % 64) / 64 * 4 + q.val) * 64 + (j.val / 256 * 64 + j.val % 64) % 64
    omega

variable (X : Fin 256 → Fin 1024 → EReal) (WQ : Fin 1024 → Fin 16384 → EReal) (K V : Fin 16 → Fin 4 → Fin 64 → Fin 128 → Fin 128 → EReal)
  (WO : Fin 16384 → Fin 1024 → EReal)
variable {x : FVec Ideal S1x256x1024 .f32} {wq : FVec Ideal S1024x16384 .f32} {k v : FVec Ideal S16x4x64x128x128 .f32} {wo : FVec Ideal S16384x1024 .f32}

/-- The reference's result. -/
theorem out_apply (hx : ∀ i t, x (ix3 0 i t) = X i t) (hwq : ∀ t n, wq (ix2 t n) = WQ t n) (hk : ∀ a q b H d, k (ix5 a q b H d) = K a q b H d)
    (hv : ∀ a q b H d, v (ix5 a q b H d) = V a q b H d) (hwo : ∀ t n, wo (ix2 t n) = WO t n)
    (hs : ∀ i H (a : Fin 16) (q : Fin 4) (b : Fin 64), ∃ r : ℝ, (∑ d : Fin 128, qry X WQ i H d * K a q b H d) * scl = (r : EReal)) (i : Fin 256) (n : Fin 1024) :
    outT (flatKV v) (weightsT (expT (scoresT (queries x wq) (flatKV k)))) wo (ix3 0 i n) = att X WQ K V WO i n := by
  rw [outT_apply]
  unfold att
  refine Finset.sum_congr rfl fun H _ => Finset.sum_congr rfl fun d _ => ?_
  rw [hwo]
  congr 1
  have hj : ∀ j : Fin 4096, j = pos ⟨j.val / 256, by omega⟩ ⟨j.val / 64 % 4, by omega⟩ ⟨j.val % 64, by omega⟩ := fun j =>
    Fin.ext (by show j.val = (j.val / 256 * 4 + j.val / 64 % 4) * 64 + j.val % 64; omega)
  have hq : ∀ d, queries x wq (ix4 0 i H d) = qry X WQ i H d := fun d => by
    rw [queries_apply]
    exact Finset.sum_congr rfl fun t _ => by rw [hx, hwq]; rfl
  have hS : ∀ a q b, (∑ d : Fin 128, queries x wq (ix4 0 i H d) * flatKV k (ix4 0 (pos a q b) H d)) = ∑ d : Fin 128, qry X WQ i H d * K a q b H d := fun a q b =>
    Finset.sum_congr rfl fun d _ => by rw [hq, flatKV_apply, hk]
  have ht : ∀ j : Fin 4096, ∃ r : ℝ, (∑ d : Fin 128, queries x wq (ix4 0 i H d) * flatKV k (ix4 0 j H d)) * scl = (r : EReal) := fun j => by
    rw [hj j, hS]; exact hs i H _ _ _
  choose t ht using ht
  have hsc : ∀ j : Fin 4096, scoresT (queries x wq) (flatKV k) (ix4 0 H i j) = if j.val / 64 % 4 = (qbI i).val then (t j : EReal) else ⊥ := fun j => by
    rw [scoresT_apply, ← ht]; rfl
  have hw : ∀ j : Fin 4096, expT (scoresT (queries x wq) (flatKV k)) (ix4 0 H i j)
      = Ideal.exp (scoresT (queries x wq) (flatKV k) (ix4 0 H i j) - Finset.univ.fold max ⊥ fun j : Fin 4096 => scoresT (queries x wq) (flatKV k) (ix4 0 H i j)) := fun j => by
    rw [expT_apply, maxT_apply]
  have key := softmax_eq (fun j : Fin 4096 => j.val / 64 % 4 = (qbI i).val) (pos 0 (qbI i) 0)
    (by show ((0 * 4 + (qbI i).val) * 64 + 0) / 64 % 4 = (qbI i).val; have := (qbI i).isLt; omega) t
    (fun j => flatKV v (ix4 0 j H d)) _ hsc _ hw
  have hsum : (∑ j : Fin 4096, flatKV v (ix4 0 j H d) * weightsT (expT (scoresT (queries x wq) (flatKV k))) (ix4 0 H i j))
      = ∑ j : Fin 4096, flatKV v (ix4 0 j H d) * Ideal.div (expT (scoresT (queries x wq) (flatKV k)) (ix4 0 H i j)) (∑ j : Fin 4096, expT (scoresT (queries x wq) (flatKV k)) (ix4 0 H i j)) :=
    Finset.sum_congr rfl fun j _ => by rw [weightsT_apply]
  have hr : ∀ j : Fin 1024, (t (pos (ja j) (qbI i) (jb j)) : EReal) = scr X WQ K i H j := fun j => by
    rw [← ht, hS]; rfl
  rw [hsum, key, sum_seen, sum_seen]
  unfold ctx
  congr 1
  · exact Finset.sum_congr rfl fun j _ => by rw [hr, flatKV_apply, hv]
  · exact Finset.sum_congr rfl fun j _ => by rw [hr]

/-! ## Finite scores -/

theorem real_mul {x : EReal} (h : ∃ r : ℝ, x = r) {y : EReal} (h' : ∃ r : ℝ, y = r) : ∃ r : ℝ, x * y = r := by
  obtain ⟨a, rfl⟩ := h
  obtain ⟨b, rfl⟩ := h'
  exact ⟨a * b, (EReal.coe_mul a b).symm⟩

theorem real_sum {ι : Type*} (s : Finset ι) (f : ι → EReal) (h : ∀ j, ∃ r : ℝ, f j = r) : ∃ r : ℝ, ∑ j ∈ s, f j = r := by
  choose g hg using h
  exact ⟨∑ j ∈ s, g j, by rw [coe_sum]; exact Finset.sum_congr rfl fun j _ => hg j⟩

theorem scl_real : ∃ r : ℝ, scl = r := by
  show ∃ r : ℝ, Ideal.ieee 8 23 0x3DB504F3#32 = r
  unfold Ideal.ieee
  dsimp only
  rw [if_neg (by decide), if_neg (by decide)]
  exact ⟨_, rfl⟩

theorem scores_real (hx : ∀ i t, ∃ r : ℝ, X i t = r) (hw : ∀ t n, ∃ r : ℝ, WQ t n = r) (hk : ∀ a q b H d, ∃ r : ℝ, K a q b H d = r) (i : Fin 256) (H : Fin 128)
    (a : Fin 16) (q : Fin 4) (b : Fin 64) : ∃ r : ℝ, (∑ d : Fin 128, qry X WQ i H d * K a q b H d) * scl = (r : EReal) :=
  real_mul (real_sum _ _ fun d => real_mul (real_sum _ _ fun t => real_mul (hx i t) (hw t _)) (hk _ _ _ _ _)) scl_real

end Cert.KProof.Ref

end
-- ==== Proof.Algebraic.lean ====
/-
The kernel's value against the reference's, for finite inputs.
-/
module

public import proofs.«01_k».proof.Proof.KVal
public import proofs.«01_k».proof.Proof.RefForm
public import proofs.«01_k».proof.Proof.Frames
public import proofs.«01_k».proof.Defs
public import Idealize.ShloMosaic.Lib.Layout
public import Idealize.ShloMosaic.Lib.ReduceAll
public import Idealize.ShloMosaic.Lib.Decide

@[expose] public section

set_option maxRecDepth 16384

noncomputable section

namespace Cert.KProof

open Cert.KernelIdeal Cert.KernelIdeal.Gen

open Idealize.ShloMosaic
open Idealize.ShloMosaic.TcCoe
open Idealize.ShloMosaic.Pointwise
open Idealize.SL.Sem

/-! ## What the precondition says -/

instance finite_kernel : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S16x4x64x128x128 := by decide
  reducesTo_S16x4x64x128x128_S_d0_1_2_3_4 := by decide

instance finite_reference : Cert.Pre_finite_ReferenceIdeal.Facts where
  bcast_S_S1x256x1024 := by decide
  reducesTo_S1x256x1024_S_d0_1_2 := by decide
  h_S_ := by decide
  bcast_S_S1024x16384 := by decide
  reducesTo_S1024x16384_S_d0_1 := by decide
  bcast_S_S16x4x64x128x128 := by decide
  reducesTo_S16x4x64x128x128_S_d0_1_2_3_4 := by decide

theorem ofBits_top : Ideal.ofBits .f32 0x7F800000#32 = ⊤ := by simp [Ideal.ofBits, Ideal.ieee]

/-- An element whose absolute value is less than infinity is real. -/
theorem real_of_abs (x : EReal) (h : Ideal.cmp .olt (max x (-x)) (Ideal.ofBits .f32 0x7F800000#32) = 1#1) : ∃ r : ℝ, x = r := by
  rw [ofBits_top] at h
  have hlt : max x (-x) < ⊤ := by
    by_contra hn
    simp [Ideal.cmp, hn] at h
  induction x with
  | bot => simp at hlt
  | top => simp at hlt
  | coe r => exact ⟨r, rfl⟩

instance one_index : Subsingleton (⟨0, ![]⟩ : Shape).Idx := ⟨fun a b => funext fun i => i.elim0⟩

theorem finite_args {x : FVec Ideal S1x256x1024 .f32} {w : FVec Ideal S1024x1024 .f32} {k v : FVec Ideal S16x4x64x128x128 .f32} {o : FVec Ideal S1024x1024 .f32}
    (h : Cert.Pre_finite_KernelIdeal.fn (F := Ideal) x w k v o = fun _ => 1#1) :
    (∀ i, ∃ r : ℝ, (x i : EReal) = r) ∧ (∀ i, ∃ r : ℝ, (w i : EReal) = r) ∧ ∀ i, ∃ r : ℝ, (k i : EReal) = r := by
  have h0 : IntOp.andi (IntOp.andi _ _) _ = 1#1 := congrFun h ix0
  obtain ⟨h1, h2⟩ := IntOp.andi_eq_one.1 h0
  obtain ⟨h3, h4⟩ := IntOp.andi_eq_one.1 h1
  exact ⟨fun i => real_of_abs _ (Host.reduce_andi_all _ _ _ _ _ h3 i), fun i => real_of_abs _ (Host.reduce_andi_all _ _ _ _ _ h4 i),
    fun i => real_of_abs _ (Host.reduce_andi_all _ _ _ _ _ h2 i)⟩

/-! ## The devices' blocks of the whole arrays -/

theorem block_cols (c : Fin 16) (v : (⟨2, ![1024, 16384]⟩ : Shape).Idx → EReal) (t n : Fin 1024) :
    Layout.block ⟨2, ![1024, 1024]⟩ ⟨2, ![1024, 16384]⟩ 1 16 c v (by decide) (ix2 t n) = v (ix2 t (⟨1024 * c.val + n.val, by omega⟩ : Fin 16384)) := by
  rw [Layout.block_apply]
  congr 1
  funext a
  match a with
  | 0 => exact Fin.ext (show t.val = t.val from rfl)
  | 1 => exact Fin.ext (show c.val * 1024 + n.val = 1024 * c.val + n.val by omega)

theorem block_rows (c : Fin 16) (v : (⟨2, ![16384, 1024]⟩ : Shape).Idx → EReal) (t n : Fin 1024) :
    Layout.block ⟨2, ![1024, 1024]⟩ ⟨2, ![16384, 1024]⟩ 0 16 c v (by decide) (ix2 t n) = v (ix2 (⟨1024 * c.val + t.val, by omega⟩ : Fin 16384) n) := by
  rw [Layout.block_apply]
  congr 1
  funext a
  match a with
  | 0 => exact Fin.ext (show c.val * 1024 + t.val = 1024 * c.val + t.val by omega)
  | 1 => exact Fin.ext (show n.val = n.val from rfl)

theorem idx3 (j : S1x256x1024.Idx) : ∃ (i : Fin 256) (n : Fin 1024), j = ix3 0 i n := by
  refine ⟨j 1, j 2, funext fun a => ?_⟩
  match a with
  | 0 => exact Fin.ext (by have h : (j 0).val < 1 := (j 0).isLt; show (j 0).val = 0; omega)
  | 1 => rfl
  | 2 => rfl

/-- The result on every device is the reference's. -/
theorem value_eq (m : (ℓ : Loc nD τ sig) → Buf (Elt Ideal) ℓ) (c : Dev nD) (x : FVec Ideal S1x256x1024 .f32) (wq : FVec Ideal ⟨2, ![1024, 16384]⟩ .f32)
    (k v : FVec Ideal S16x4x64x128x128 .f32) (wo : FVec Ideal ⟨2, ![16384, 1024]⟩ .f32)
    (B : Blocks m (fun i t => x (ix3 0 i t)) (fun t n => wq (ix2 t n)) (fun a q b H d => k (ix5 a q b H d)) (fun a q b H d => v (ix5 a q b H d)) (fun t n => wo (ix2 t n)))
    (hx : ∀ i, ∃ r : ℝ, (x i : EReal) = r) (hw : ∀ i, ∃ r : ℝ, (wq i : EReal) = r) (hk : ∀ i, ∃ r : ℝ, (k i : EReal) = r) :
    outAt m c = Ref.outT (Ref.flatKV v) (Ref.weightsT (Ref.expT (Ref.scoresT (Ref.queries x wq) (Ref.flatKV k)))) wo := by
  funext j
  obtain ⟨i, n, rfl⟩ := idx3 j
  exact (outAt_apply B c i n).trans (Ref.out_apply _ _ _ _ _ (fun _ _ => rfl) (fun _ _ => rfl) (fun _ _ _ _ _ => rfl) (fun _ _ _ _ _ => rfl) (fun _ _ => rfl)
    (Ref.scores_real _ _ _ (fun i t => hx _) (fun t n => hw _) (fun a q b H d => hk _)) i n).symm

theorem algebraic : Cert.algebraic_KernelIdeal_ReferenceIdeal_pre_finite_KernelIdeal := by
  intro m g m' g' hpre hag
  have B : Blocks m (fun i t => m' (((0 : Dev Cert.ReferenceIdeal.nD).tc : Thread Cert.ReferenceIdeal.nD Cert.ReferenceIdeal.τ).loc Cert.ReferenceIdeal.main_arg0) (ix3 0 i t : S1x256x1024.Idx))
      (fun t n => m' (((0 : Dev Cert.ReferenceIdeal.nD).tc : Thread Cert.ReferenceIdeal.nD Cert.ReferenceIdeal.τ).loc Cert.ReferenceIdeal.main_arg1) (ix2 t n : (⟨2, ![1024, 16384]⟩ : Shape).Idx))
      (fun a q b H d => m' (((0 : Dev Cert.ReferenceIdeal.nD).tc : Thread Cert.ReferenceIdeal.nD Cert.ReferenceIdeal.τ).loc Cert.ReferenceIdeal.main_arg2) (ix5 a q b H d : S16x4x64x128x128.Idx))
      (fun a q b H d => m' (((0 : Dev Cert.ReferenceIdeal.nD).tc : Thread Cert.ReferenceIdeal.nD Cert.ReferenceIdeal.τ).loc Cert.ReferenceIdeal.main_arg3) (ix5 a q b H d : S16x4x64x128x128.Idx))
      (fun t n => m' (((0 : Dev Cert.ReferenceIdeal.nD).tc : Thread Cert.ReferenceIdeal.nD Cert.ReferenceIdeal.τ).loc Cert.ReferenceIdeal.main_arg4) (ix2 t n : (⟨2, ![16384, 1024]⟩ : Shape).Idx)) :=
    { x := fun c i t => congrFun (hag c).1 (ix3 0 i t)
      wq := fun c t n => (congrFun (hag c).2.1 (ix2 t n)).trans (block_cols c _ t n)
      k := fun c a q b H d => congrFun (hag c).2.2.1 (ix5 a q b H d)
      v := fun c a q b H d => congrFun (hag c).2.2.2.1 (ix5 a q b H d)
      wo := fun c t n => (congrFun (hag c).2.2.2.2 (ix2 t n)).trans (block_rows c _ t n) }
  have hf := fun c => finite_args (hpre c)
  have hx := fun i => (congrFun (hag 0).1 i) ▸ (hf 0).1 i
  have hk := fun i => (congrFun (hag 0).2.2.1 i) ▸ (hf 0).2.2 i
  have hw : ∀ j : (⟨2, ![1024, 16384]⟩ : Shape).Idx, ∃ r : ℝ, @Eq EReal (m' (((0 : Dev Cert.ReferenceIdeal.nD).tc : Thread Cert.ReferenceIdeal.nD Cert.ReferenceIdeal.τ).loc Cert.ReferenceIdeal.main_arg1) j) (r : EReal) := fun j => by
    have h1 : (j 1).val < 16384 := (j 1).isLt
    obtain ⟨r, hr⟩ := (hf ⟨(j 1).val / 1024, by show (j 1).val / 1024 < 16; omega⟩).2.1 (ix2 (j 0) (⟨(j 1).val % 1024, by omega⟩ : Fin 1024))
    refine ⟨r, Eq.trans ?_ ((B.wq ⟨(j 1).val / 1024, by show (j 1).val / 1024 < 16; omega⟩ (j 0) (⟨(j 1).val % 1024, by omega⟩ : Fin 1024)).symm.trans hr)⟩
    refine congrArg _ (funext fun a => ?_)
    match a with
    | 0 => rfl
    | 1 => exact Fin.ext (by show (j 1).val = 1024 * ((j 1).val / 1024) + (j 1).val % 1024; omega)
  refine ⟨Cert.ReferenceIdeal.Value.res_main_v41 m' 0, ?_, ?_⟩
  · refine (θ_run defs _ _).mono (fun r h c => ⟨?_, (h.1 c).2⟩) (run_args (F := Ideal) m g)
    exact (h.1 c).1.trans ((finalA_out m g c).trans ((value_eq m c _ _ _ _ _ B hx hw hk).trans (Ref.res_eq m' 0).symm))
  · exact (θ_run Cert.ReferenceIdeal.defs _ _).mono (fun r h => h 0) (Cert.ReferenceIdeal.Value.run (F := Ideal) m' g')

theorem frame_kernelIdeal_finite : Cert.quiescent_KernelIdeal_pre_finite_KernelIdeal := fun m ρ _ => frame_kernelIdeal m ρ trivial

theorem frame_reference_finite : Cert.quiescent_ReferenceIdeal_pre_finite_ReferenceIdeal := fun m ρ _ => frame_reference m ρ trivial

end Cert.KProof

end
-- ==== Proof.lean ====
/-
The sparse strided attention over sixteen devices: the certificate's claims, from the run of the whole program and
the closed forms of the two programs' results.
-/
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.finite_kernel, Cert.KProof.finite_reference,
  Cert.KProof.frame_kernel, Cert.KProof.frame_kernelIdeal, Cert.KProof.frame_kernelIdeal_finite,
  Cert.KProof.frame_reference, Cert.KProof.frame_reference_finite, trivial, Cert.KProof.algebraic⟩

end Cert.Proof

end
